-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutTwoKernel (m : (ℓ : Loc Cert.OutTwoKernel.nD Cert.OutTwoKernel.τ Cert.OutTwoKernel.sig) → Buf (Elt Bits) ℓ) : Prop :=
  True

def Pre_OutTwoKernelIdeal (m : (ℓ : Loc Cert.OutTwoKernelIdeal.nD Cert.OutTwoKernelIdeal.τ Cert.OutTwoKernelIdeal.sig) → Buf (Elt Ideal) ℓ) : Prop :=
  True

def Pre_OutTwoReferenceIdeal (m : (ℓ : Loc Cert.OutTwoReferenceIdeal.nD Cert.OutTwoReferenceIdeal.τ Cert.OutTwoReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_ctx [hPre_finite_ctx : Cert.Pre_finite_ctx.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_ctx.fn (F := Ideal) (m ((c.tc : Thread Cert.CtxKernelIdeal.nD Cert.CtxKernelIdeal.τ).loc Cert.CtxKernelIdeal.main_arg0))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_ctx [hPre_finite_ctx : Cert.Pre_finite_ctx.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_ctx.fn (F := Ideal) (m ((c.tc : Thread Cert.CtxReferenceIdeal.nD Cert.CtxReferenceIdeal.τ).loc Cert.CtxReferenceIdeal.main_arg0))) = (fun _ => 1#1)

def Pre_CtxQkvKernel (m : (ℓ : Loc Cert.CtxQkvKernel.nD Cert.CtxQkvKernel.τ Cert.CtxQkvKernel.sig) → Buf (Elt Bits) ℓ) : Prop :=
  True

def Pre_CtxQkvKernelIdeal (m : (ℓ : Loc Cert.CtxQkvKernelIdeal.nD Cert.CtxQkvKernelIdeal.τ Cert.CtxQkvKernelIdeal.sig) → Buf (Elt Ideal) ℓ) : Prop :=
  True

def Pre_CtxQkvReferenceIdeal (m : (ℓ : Loc Cert.CtxQkvReferenceIdeal.nD Cert.CtxQkvReferenceIdeal.τ Cert.CtxQkvReferenceIdeal.sig) → Buf (Elt Ideal) ℓ) : Prop :=
  True

def Pre_CtxInKernel (m : (ℓ : Loc Cert.CtxInKernel.nD Cert.CtxInKernel.τ Cert.CtxInKernel.sig) → Buf (Elt Bits) ℓ) : Prop :=
  True

def Pre_CtxInKernelIdeal (m : (ℓ : Loc Cert.CtxInKernelIdeal.nD Cert.CtxInKernelIdeal.τ Cert.CtxInKernelIdeal.sig) → Buf (Elt Ideal) ℓ) : Prop :=
  True

def Pre_CtxInReferenceIdeal (m : (ℓ : Loc Cert.CtxInReferenceIdeal.nD Cert.CtxInReferenceIdeal.τ Cert.CtxInReferenceIdeal.sig) → Buf (Elt Ideal) ℓ) : Prop :=
  True

def Pre_CtxOutKernel (m : (ℓ : Loc Cert.CtxOutKernel.nD Cert.CtxOutKernel.τ Cert.CtxOutKernel.sig) → Buf (Elt Bits) ℓ) : Prop :=
  True

def Pre_CtxOutKernelIdeal (m : (ℓ : Loc Cert.CtxOutKernelIdeal.nD Cert.CtxOutKernelIdeal.τ Cert.CtxOutKernelIdeal.sig) → Buf (Elt Ideal) ℓ) : Prop :=
  True

def Pre_CtxOutReferenceIdeal (m : (ℓ : Loc Cert.CtxOutReferenceIdeal.nD Cert.CtxOutReferenceIdeal.τ Cert.CtxOutReferenceIdeal.sig) → Buf (Elt Ideal) ℓ) : Prop :=
  True

def Pre_CtxOutTwoKernel (m : (ℓ : Loc Cert.CtxOutTwoKernel.nD Cert.CtxOutTwoKernel.τ Cert.CtxOutTwoKernel.sig) → Buf (Elt Bits) ℓ) : Prop :=
  True

def Pre_CtxOutTwoKernelIdeal (m : (ℓ : Loc Cert.CtxOutTwoKernelIdeal.nD Cert.CtxOutTwoKernelIdeal.τ Cert.CtxOutTwoKernelIdeal.sig) → Buf (Elt Ideal) ℓ) : Prop :=
  True

def Pre_CtxOutTwoReferenceIdeal (m : (ℓ : Loc Cert.CtxOutTwoReferenceIdeal.nD Cert.CtxOutTwoReferenceIdeal.τ Cert.CtxOutTwoReferenceIdeal.sig) → Buf (Elt Ideal) ℓ) : Prop :=
  True

def Pre_CtxGateKernel (m : (ℓ : Loc Cert.CtxGateKernel.nD Cert.CtxGateKernel.τ Cert.CtxGateKernel.sig) → Buf (Elt Bits) ℓ) : Prop :=
  True

def Pre_CtxGateKernelIdeal (m : (ℓ : Loc Cert.CtxGateKernelIdeal.nD Cert.CtxGateKernelIdeal.τ Cert.CtxGateKernelIdeal.sig) → Buf (Elt Ideal) ℓ) : Prop :=
  True

def Pre_CtxGateReferenceIdeal (m : (ℓ : Loc Cert.CtxGateReferenceIdeal.nD Cert.CtxGateReferenceIdeal.τ Cert.CtxGateReferenceIdeal.sig) → Buf (Elt Ideal) ℓ) : Prop :=
  True

def Pre_WaveKernel (m : (ℓ : Loc Cert.WaveKernel.nD Cert.WaveKernel.τ Cert.WaveKernel.sig) → Buf (Elt Bits) ℓ) : Prop :=
  True

def Pre_WaveKernelIdeal (m : (ℓ : Loc Cert.WaveKernelIdeal.nD Cert.WaveKernelIdeal.τ Cert.WaveKernelIdeal.sig) → Buf (Elt Ideal) ℓ) : Prop :=
  True

def Pre_WaveReferenceIdeal (m : (ℓ : Loc Cert.WaveReferenceIdeal.nD Cert.WaveReferenceIdeal.τ Cert.WaveReferenceIdeal.sig) → Buf (Elt Ideal) ℓ) : Prop :=
  True

def Pre_CtxWaveKernel (m : (ℓ : Loc Cert.CtxWaveKernel.nD Cert.CtxWaveKernel.τ Cert.CtxWaveKernel.sig) → Buf (Elt Bits) ℓ) : Prop :=
  True

def Pre_CtxWaveKernelIdeal (m : (ℓ : Loc Cert.CtxWaveKernelIdeal.nD Cert.CtxWaveKernelIdeal.τ Cert.CtxWaveKernelIdeal.sig) → Buf (Elt Ideal) ℓ) : Prop :=
  True

def Pre_CtxWaveReferenceIdeal (m : (ℓ : Loc Cert.CtxWaveReferenceIdeal.nD Cert.CtxWaveReferenceIdeal.τ Cert.CtxWaveReferenceIdeal.sig) → Buf (Elt Ideal) ℓ) : Prop :=
  True

def Pre_CtxRealKernel (m : (ℓ : Loc Cert.CtxRealKernel.nD Cert.CtxRealKernel.τ Cert.CtxRealKernel.sig) → Buf (Elt Bits) ℓ) : Prop :=
  True

def Pre_CtxRealKernelIdeal (m : (ℓ : Loc Cert.CtxRealKernelIdeal.nD Cert.CtxRealKernelIdeal.τ Cert.CtxRealKernelIdeal.sig) → Buf (Elt Ideal) ℓ) : Prop :=
  True

def Pre_CtxRealReferenceIdeal (m : (ℓ : Loc Cert.CtxRealReferenceIdeal.nD Cert.CtxRealReferenceIdeal.τ Cert.CtxRealReferenceIdeal.sig) → Buf (Elt Ideal) ℓ) : Prop :=
  True

def Pre_EarlyKernel (m : (ℓ : Loc Cert.EarlyKernel.nD Cert.EarlyKernel.τ Cert.EarlyKernel.sig) → Buf (Elt Bits) ℓ) : Prop :=
  True

def Pre_EarlyKernelIdeal (m : (ℓ : Loc Cert.EarlyKernelIdeal.nD Cert.EarlyKernelIdeal.τ Cert.EarlyKernelIdeal.sig) → Buf (Elt Ideal) ℓ) : Prop :=
  True

def Pre_EarlyReferenceIdeal (m : (ℓ : Loc Cert.EarlyReferenceIdeal.nD Cert.EarlyReferenceIdeal.τ Cert.EarlyReferenceIdeal.sig) → Buf (Elt Ideal) ℓ) : Prop :=
  True

def Pre_LateKernel (m : (ℓ : Loc Cert.LateKernel.nD Cert.LateKernel.τ Cert.LateKernel.sig) → Buf (Elt Bits) ℓ) : Prop :=
  True

def Pre_LateKernelIdeal (m : (ℓ : Loc Cert.LateKernelIdeal.nD Cert.LateKernelIdeal.τ Cert.LateKernelIdeal.sig) → Buf (Elt Ideal) ℓ) : Prop :=
  True

def Pre_LateReferenceIdeal (m : (ℓ : Loc Cert.LateReferenceIdeal.nD Cert.LateReferenceIdeal.τ Cert.LateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutTwoKernel [hOutTwoKernel : Cert.OutTwoKernel.Facts] : Prop :=
  ∀ (m : (ℓ : Loc Cert.OutTwoKernel.nD Cert.OutTwoKernel.τ Cert.OutTwoKernel.sig) → Buf (Elt Bits) ℓ) (g : Dev Cert.OutTwoKernel.nD → PrngReg), Pre_OutTwoKernel m →
    θ_run (Cert.OutTwoKernel.defs (F := Bits)) (onTc (τ := Cert.OutTwoKernel.τ) (Cert.OutTwoKernel.main (F := Bits))) ⟨m, fun _ => 0, g⟩ (fun r => (∀ c : Dev Cert.OutTwoKernel.nD,
      r.2.mem ((c.tc : Thread Cert.OutTwoKernel.nD Cert.OutTwoKernel.τ).loc Cert.OutTwoKernel.main_arg0) = m ((c.tc : Thread Cert.OutTwoKernel.nD Cert.OutTwoKernel.τ).loc Cert.OutTwoKernel.main_arg0)
      ∧ r.2.mem ((c.tc : Thread Cert.OutTwoKernel.nD Cert.OutTwoKernel.τ).loc Cert.OutTwoKernel.main_arg1) = m ((c.tc : Thread Cert.OutTwoKernel.nD Cert.OutTwoKernel.τ).loc Cert.OutTwoKernel.main_arg1)
      ∧ r.2.mem ((c.tc : Thread Cert.OutTwoKernel.nD Cert.OutTwoKernel.τ).loc Cert.OutTwoKernel.main_arg2) = m ((c.tc : Thread Cert.OutTwoKernel.nD Cert.OutTwoKernel.τ).loc Cert.OutTwoKernel.main_arg2)
      ∧ r.2.mem ((c.tc : Thread Cert.OutTwoKernel.nD Cert.OutTwoKernel.τ).loc Cert.OutTwoKernel.main_arg3) = m ((c.tc : Thread Cert.OutTwoKernel.nD Cert.OutTwoKernel.τ).loc Cert.OutTwoKernel.main_arg3)
      ∧ r.2.mem ((c.tc : Thread Cert.OutTwoKernel.nD Cert.OutTwoKernel.τ).loc Cert.OutTwoKernel.main_arg4) = m ((c.tc : Thread Cert.OutTwoKernel.nD Cert.OutTwoKernel.τ).loc Cert.OutTwoKernel.main_arg4))
      ∧ r.2.sem = fun _ => 0)

def quiescent_OutTwoKernelIdeal [hOutTwoKernelIdeal : Cert.OutTwoKernelIdeal.Facts] : Prop :=
  ∀ (m : (ℓ : Loc Cert.OutTwoKernelIdeal.nD Cert.OutTwoKernelIdeal.τ Cert.OutTwoKernelIdeal.sig) → Buf (Elt Ideal) ℓ) (g : Dev Cert.OutTwoKernelIdeal.nD → PrngReg), Pre_OutTwoKernelIdeal m →
    θ_run (Cert.OutTwoKernelIdeal.defs (F := Ideal)) (onTc (τ := Cert.OutTwoKernelIdeal.τ) (Cert.OutTwoKernelIdeal.main (F := Ideal))) ⟨m, fun _ => 0, g⟩ (fun r => (∀ c : Dev Cert.OutTwoKernelIdeal.nD,
      r.2.mem ((c.tc : Thread Cert.OutTwoKernelIdeal.nD Cert.OutTwoKernelIdeal.τ).loc Cert.OutTwoKernelIdeal.main_arg0) = m ((c.tc : Thread Cert.OutTwoKernelIdeal.nD Cert.OutTwoKernelIdeal.τ).loc Cert.OutTwoKernelIdeal.main_arg0)
      ∧ r.2.mem ((c.tc : Thread Cert.OutTwoKernelIdeal.nD Cert.OutTwoKernelIdeal.τ).loc Cert.OutTwoKernelIdeal.main_arg1) = m ((c.tc : Thread Cert.OutTwoKernelIdeal.nD Cert.OutTwoKernelIdeal.τ).loc Cert.OutTwoKernelIdeal.main_arg1)
      ∧ r.2.mem ((c.tc : Thread Cert.OutTwoKernelIdeal.nD Cert.OutTwoKernelIdeal.τ).loc Cert.OutTwoKernelIdeal.main_arg2) = m ((c.tc : Thread Cert.OutTwoKernelIdeal.nD Cert.OutTwoKernelIdeal.τ).loc Cert.OutTwoKernelIdeal.main_arg2)
      ∧ r.2.mem ((c.tc : Thread Cert.OutTwoKernelIdeal.nD Cert.OutTwoKernelIdeal.τ).loc Cert.OutTwoKernelIdeal.main_arg3) = m ((c.tc : Thread Cert.OutTwoKernelIdeal.nD Cert.OutTwoKernelIdeal.τ).loc Cert.OutTwoKernelIdeal.main_arg3)
      ∧ r.2.mem ((c.tc : Thread Cert.OutTwoKernelIdeal.nD Cert.OutTwoKernelIdeal.τ).loc Cert.OutTwoKernelIdeal.main_arg4) = m ((c.tc : Thread Cert.OutTwoKernelIdeal.nD Cert.OutTwoKernelIdeal.τ).loc Cert.OutTwoKernelIdeal.main_arg4))
      ∧ r.2.sem = fun _ => 0)

def quiescent_OutTwoReferenceIdeal [hOutTwoReferenceIdeal : Cert.OutTwoReferenceIdeal.Facts] : Prop :=
  ∀ (m : (ℓ : Loc Cert.OutTwoReferenceIdeal.nD Cert.OutTwoReferenceIdeal.τ Cert.OutTwoReferenceIdeal.sig) → Buf (Elt Ideal) ℓ) (g : Dev Cert.OutTwoReferenceIdeal.nD → PrngReg), Pre_OutTwoReferenceIdeal m →
    θ_run (Cert.OutTwoReferenceIdeal.defs (F := Ideal)) (onTc (τ := Cert.OutTwoReferenceIdeal.τ) (Cert.OutTwoReferenceIdeal.main (F := Ideal))) ⟨m, fun _ => 0, g⟩ (fun r => (∀ c : Dev Cert.OutTwoReferenceIdeal.nD,
      r.2.mem ((c.tc : Thread Cert.OutTwoReferenceIdeal.nD Cert.OutTwoReferenceIdeal.τ).loc Cert.OutTwoReferenceIdeal.main_arg0) = m ((c.tc : Thread Cert.OutTwoReferenceIdeal.nD Cert.OutTwoReferenceIdeal.τ).loc Cert.OutTwoReferenceIdeal.main_arg0)
      ∧ r.2.mem ((c.tc : Thread Cert.OutTwoReferenceIdeal.nD Cert.OutTwoReferenceIdeal.τ).loc Cert.OutTwoReferenceIdeal.main_arg1) = m ((c.tc : Thread Cert.OutTwoReferenceIdeal.nD Cert.OutTwoReferenceIdeal.τ).loc Cert.OutTwoReferenceIdeal.main_arg1)
      ∧ r.2.mem ((c.tc : Thread Cert.OutTwoReferenceIdeal.nD Cert.OutTwoReferenceIdeal.τ).loc Cert.OutTwoReferenceIdeal.main_arg2) = m ((c.tc : Thread Cert.OutTwoReferenceIdeal.nD Cert.OutTwoReferenceIdeal.τ).loc Cert.OutTwoReferenceIdeal.main_arg2)
      ∧ r.2.mem ((c.tc : Thread Cert.OutTwoReferenceIdeal.nD Cert.OutTwoReferenceIdeal.τ).loc Cert.OutTwoReferenceIdeal.main_arg3) = m ((c.tc : Thread Cert.OutTwoReferenceIdeal.nD Cert.OutTwoReferenceIdeal.τ).loc Cert.OutTwoReferenceIdeal.main_arg3)
      ∧ r.2.mem ((c.tc : Thread Cert.OutTwoReferenceIdeal.nD Cert.OutTwoReferenceIdeal.τ).loc Cert.OutTwoReferenceIdeal.main_arg4) = m ((c.tc : Thread Cert.OutTwoReferenceIdeal.nD Cert.OutTwoReferenceIdeal.τ).loc Cert.OutTwoReferenceIdeal.main_arg4))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ r.2.sem = fun _ => 0)

def quiescent_CtxKernelIdeal_pre_finite_ctx [hCtxKernelIdeal : Cert.CtxKernelIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_ctx m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_CtxReferenceIdeal_pre_finite_ctx [hCtxReferenceIdeal : Cert.CtxReferenceIdeal.Facts] [hPre_finite_ctx : Cert.Pre_finite_ctx.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_ctx m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_CtxQkvKernel [hCtxQkvKernel : Cert.CtxQkvKernel.Facts] : Prop :=
  ∀ (m : (ℓ : Loc Cert.CtxQkvKernel.nD Cert.CtxQkvKernel.τ Cert.CtxQkvKernel.sig) → Buf (Elt Bits) ℓ) (g : Dev Cert.CtxQkvKernel.nD → PrngReg), Pre_CtxQkvKernel m →
    θ_run (Cert.CtxQkvKernel.defs (F := Bits)) (onTc (τ := Cert.CtxQkvKernel.τ) (Cert.CtxQkvKernel.main (F := Bits))) ⟨m, fun _ => 0, g⟩ (fun r => (∀ c : Dev Cert.CtxQkvKernel.nD,
      r.2.mem ((c.tc : Thread Cert.CtxQkvKernel.nD Cert.CtxQkvKernel.τ).loc Cert.CtxQkvKernel.main_arg0) = m ((c.tc : Thread Cert.CtxQkvKernel.nD Cert.CtxQkvKernel.τ).loc Cert.CtxQkvKernel.main_arg0)
      ∧ r.2.mem ((c.tc : Thread Cert.CtxQkvKernel.nD Cert.CtxQkvKernel.τ).loc Cert.CtxQkvKernel.main_arg1) = m ((c.tc : Thread Cert.CtxQkvKernel.nD Cert.CtxQkvKernel.τ).loc Cert.CtxQkvKernel.main_arg1)
      ∧ r.2.mem ((c.tc : Thread Cert.CtxQkvKernel.nD Cert.CtxQkvKernel.τ).loc Cert.CtxQkvKernel.main_arg2) = m ((c.tc : Thread Cert.CtxQkvKernel.nD Cert.CtxQkvKernel.τ).loc Cert.CtxQkvKernel.main_arg2)
      ∧ r.2.mem ((c.tc : Thread Cert.CtxQkvKernel.nD Cert.CtxQkvKernel.τ).loc Cert.CtxQkvKernel.main_arg3) = m ((c.tc : Thread Cert.CtxQkvKernel.nD Cert.CtxQkvKernel.τ).loc Cert.CtxQkvKernel.main_arg3)
      ∧ r.2.mem ((c.tc : Thread Cert.CtxQkvKernel.nD Cert.CtxQkvKernel.τ).loc Cert.CtxQkvKernel.main_arg4) = m ((c.tc : Thread Cert.CtxQkvKernel.nD Cert.CtxQkvKernel.τ).loc Cert.CtxQkvKernel.main_arg4))
      ∧ r.2.sem = fun _ => 0)

def quiescent_CtxQkvKernelIdeal [hCtxQkvKernelIdeal : Cert.CtxQkvKernelIdeal.Facts] : Prop :=
  ∀ (m : (ℓ : Loc Cert.CtxQkvKernelIdeal.nD Cert.CtxQkvKernelIdeal.τ Cert.CtxQkvKernelIdeal.sig) → Buf (Elt Ideal) ℓ) (g : Dev Cert.CtxQkvKernelIdeal.nD → PrngReg), Pre_CtxQkvKernelIdeal m →
    θ_run (Cert.CtxQkvKernelIdeal.defs (F := Ideal)) (onTc (τ := Cert.CtxQkvKernelIdeal.τ) (Cert.CtxQkvKernelIdeal.main (F := Ideal))) ⟨m, fun _ => 0, g⟩ (fun r => (∀ c : Dev Cert.CtxQkvKernelIdeal.nD,
      r.2.mem ((c.tc : Thread Cert.CtxQkvKernelIdeal.nD Cert.CtxQkvKernelIdeal.τ).loc Cert.CtxQkvKernelIdeal.main_arg0) = m ((c.tc : Thread Cert.CtxQkvKernelIdeal.nD Cert.CtxQkvKernelIdeal.τ).loc Cert.CtxQkvKernelIdeal.main_arg0)
      ∧ r.2.mem ((c.tc : Thread Cert.CtxQkvKernelIdeal.nD Cert.CtxQkvKernelIdeal.τ).loc Cert.CtxQkvKernelIdeal.main_arg1) = m ((c.tc : Thread Cert.CtxQkvKernelIdeal.nD Cert.CtxQkvKernelIdeal.τ).loc Cert.CtxQkvKernelIdeal.main_arg1)
      ∧ r.2.mem ((c.tc : Thread Cert.CtxQkvKernelIdeal.nD Cert.CtxQkvKernelIdeal.τ).loc Cert.CtxQkvKernelIdeal.main_arg2) = m ((c.tc : Thread Cert.CtxQkvKernelIdeal.nD Cert.CtxQkvKernelIdeal.τ).loc Cert.CtxQkvKernelIdeal.main_arg2)
      ∧ r.2.mem ((c.tc : Thread Cert.CtxQkvKernelIdeal.nD Cert.CtxQkvKernelIdeal.τ).loc Cert.CtxQkvKernelIdeal.main_arg3) = m ((c.tc : Thread Cert.CtxQkvKernelIdeal.nD Cert.CtxQkvKernelIdeal.τ).loc Cert.CtxQkvKernelIdeal.main_arg3)
      ∧ r.2.mem ((c.tc : Thread Cert.CtxQkvKernelIdeal.nD Cert.CtxQkvKernelIdeal.τ).loc Cert.CtxQkvKernelIdeal.main_arg4) = m ((c.tc : Thread Cert.CtxQkvKernelIdeal.nD Cert.CtxQkvKernelIdeal.τ).loc Cert.CtxQkvKernelIdeal.main_arg4))
      ∧ r.2.sem = fun _ => 0)

def quiescent_CtxQkvReferenceIdeal [hCtxQkvReferenceIdeal : Cert.CtxQkvReferenceIdeal.Facts] : Prop :=
  ∀ (m : (ℓ : Loc Cert.CtxQkvReferenceIdeal.nD Cert.CtxQkvReferenceIdeal.τ Cert.CtxQkvReferenceIdeal.sig) → Buf (Elt Ideal) ℓ) (g : Dev Cert.CtxQkvReferenceIdeal.nD → PrngReg), Pre_CtxQkvReferenceIdeal m →
    θ_run (Cert.CtxQkvReferenceIdeal.defs (F := Ideal)) (onTc (τ := Cert.CtxQkvReferenceIdeal.τ) (Cert.CtxQkvReferenceIdeal.main (F := Ideal))) ⟨m, fun _ => 0, g⟩ (fun r => (∀ c : Dev Cert.CtxQkvReferenceIdeal.nD,
      r.2.mem ((c.tc : Thread Cert.CtxQkvReferenceIdeal.nD Cert.CtxQkvReferenceIdeal.τ).loc Cert.CtxQkvReferenceIdeal.main_arg0) = m ((c.tc : Thread Cert.CtxQkvReferenceIdeal.nD Cert.CtxQkvReferenceIdeal.τ).loc Cert.CtxQkvReferenceIdeal.main_arg0)
      ∧ r.2.mem ((c.tc : Thread Cert.CtxQkvReferenceIdeal.nD Cert.CtxQkvReferenceIdeal.τ).loc Cert.CtxQkvReferenceIdeal.main_arg1) = m ((c.tc : Thread Cert.CtxQkvReferenceIdeal.nD Cert.CtxQkvReferenceIdeal.τ).loc Cert.CtxQkvReferenceIdeal.main_arg1)
      ∧ r.2.mem ((c.tc : Thread Cert.CtxQkvReferenceIdeal.nD Cert.CtxQkvReferenceIdeal.τ).loc Cert.CtxQkvReferenceIdeal.main_arg2) = m ((c.tc : Thread Cert.CtxQkvReferenceIdeal.nD Cert.CtxQkvReferenceIdeal.τ).loc Cert.CtxQkvReferenceIdeal.main_arg2)
      ∧ r.2.mem ((c.tc : Thread Cert.CtxQkvReferenceIdeal.nD Cert.CtxQkvReferenceIdeal.τ).loc Cert.CtxQkvReferenceIdeal.main_arg3) = m ((c.tc : Thread Cert.CtxQkvReferenceIdeal.nD Cert.CtxQkvReferenceIdeal.τ).loc Cert.CtxQkvReferenceIdeal.main_arg3)
      ∧ r.2.mem ((c.tc : Thread Cert.CtxQkvReferenceIdeal.nD Cert.CtxQkvReferenceIdeal.τ).loc Cert.CtxQkvReferenceIdeal.main_arg4) = m ((c.tc : Thread Cert.CtxQkvReferenceIdeal.nD Cert.CtxQkvReferenceIdeal.τ).loc Cert.CtxQkvReferenceIdeal.main_arg4))
      ∧ r.2.sem = fun _ => 0)

def quiescent_CtxInKernel [hCtxInKernel : Cert.CtxInKernel.Facts] : Prop :=
  ∀ (m : (ℓ : Loc Cert.CtxInKernel.nD Cert.CtxInKernel.τ Cert.CtxInKernel.sig) → Buf (Elt Bits) ℓ) (g : Dev Cert.CtxInKernel.nD → PrngReg), Pre_CtxInKernel m →
    θ_run (Cert.CtxInKernel.defs (F := Bits)) (onTc (τ := Cert.CtxInKernel.τ) (Cert.CtxInKernel.main (F := Bits))) ⟨m, fun _ => 0, g⟩ (fun r => (∀ c : Dev Cert.CtxInKernel.nD,
      r.2.mem ((c.tc : Thread Cert.CtxInKernel.nD Cert.CtxInKernel.τ).loc Cert.CtxInKernel.main_arg0) = m ((c.tc : Thread Cert.CtxInKernel.nD Cert.CtxInKernel.τ).loc Cert.CtxInKernel.main_arg0)
      ∧ r.2.mem ((c.tc : Thread Cert.CtxInKernel.nD Cert.CtxInKernel.τ).loc Cert.CtxInKernel.main_arg1) = m ((c.tc : Thread Cert.CtxInKernel.nD Cert.CtxInKernel.τ).loc Cert.CtxInKernel.main_arg1)
      ∧ r.2.mem ((c.tc : Thread Cert.CtxInKernel.nD Cert.CtxInKernel.τ).loc Cert.CtxInKernel.main_arg2) = m ((c.tc : Thread Cert.CtxInKernel.nD Cert.CtxInKernel.τ).loc Cert.CtxInKernel.main_arg2)
      ∧ r.2.mem ((c.tc : Thread Cert.CtxInKernel.nD Cert.CtxInKernel.τ).loc Cert.CtxInKernel.main_arg3) = m ((c.tc : Thread Cert.CtxInKernel.nD Cert.CtxInKernel.τ).loc Cert.CtxInKernel.main_arg3)
      ∧ r.2.mem ((c.tc : Thread Cert.CtxInKernel.nD Cert.CtxInKernel.τ).loc Cert.CtxInKernel.main_arg4) = m ((c.tc : Thread Cert.CtxInKernel.nD Cert.CtxInKernel.τ).loc Cert.CtxInKernel.main_arg4))
      ∧ r.2.sem = fun _ => 0)

def quiescent_CtxInKernelIdeal [hCtxInKernelIdeal : Cert.CtxInKernelIdeal.Facts] : Prop :=
  ∀ (m : (ℓ : Loc Cert.CtxInKernelIdeal.nD Cert.CtxInKernelIdeal.τ Cert.CtxInKernelIdeal.sig) → Buf (Elt Ideal) ℓ) (g : Dev Cert.CtxInKernelIdeal.nD → PrngReg), Pre_CtxInKernelIdeal m →
    θ_run (Cert.CtxInKernelIdeal.defs (F := Ideal)) (onTc (τ := Cert.CtxInKernelIdeal.τ) (Cert.CtxInKernelIdeal.main (F := Ideal))) ⟨m, fun _ => 0, g⟩ (fun r => (∀ c : Dev Cert.CtxInKernelIdeal.nD,
      r.2.mem ((c.tc : Thread Cert.CtxInKernelIdeal.nD Cert.CtxInKernelIdeal.τ).loc Cert.CtxInKernelIdeal.main_arg0) = m ((c.tc : Thread Cert.CtxInKernelIdeal.nD Cert.CtxInKernelIdeal.τ).loc Cert.CtxInKernelIdeal.main_arg0)
      ∧ r.2.mem ((c.tc : Thread Cert.CtxInKernelIdeal.nD Cert.CtxInKernelIdeal.τ).loc Cert.CtxInKernelIdeal.main_arg1) = m ((c.tc : Thread Cert.CtxInKernelIdeal.nD Cert.CtxInKernelIdeal.τ).loc Cert.CtxInKernelIdeal.main_arg1)
      ∧ r.2.mem ((c.tc : Thread Cert.CtxInKernelIdeal.nD Cert.CtxInKernelIdeal.τ).loc Cert.CtxInKernelIdeal.main_arg2) = m ((c.tc : Thread Cert.CtxInKernelIdeal.nD Cert.CtxInKernelIdeal.τ).loc Cert.CtxInKernelIdeal.main_arg2)
      ∧ r.2.mem ((c.tc : Thread Cert.CtxInKernelIdeal.nD Cert.CtxInKernelIdeal.τ).loc Cert.CtxInKernelIdeal.main_arg3) = m ((c.tc : Thread Cert.CtxInKernelIdeal.nD Cert.CtxInKernelIdeal.τ).loc Cert.CtxInKernelIdeal.main_arg3)
      ∧ r.2.mem ((c.tc : Thread Cert.CtxInKernelIdeal.nD Cert.CtxInKernelIdeal.τ).loc Cert.CtxInKernelIdeal.main_arg4) = m ((c.tc : Thread Cert.CtxInKernelIdeal.nD Cert.CtxInKernelIdeal.τ).loc Cert.CtxInKernelIdeal.main_arg4))
      ∧ r.2.sem = fun _ => 0)

def quiescent_CtxInReferenceIdeal [hCtxInReferenceIdeal : Cert.CtxInReferenceIdeal.Facts] : Prop :=
  ∀ (m : (ℓ : Loc Cert.CtxInReferenceIdeal.nD Cert.CtxInReferenceIdeal.τ Cert.CtxInReferenceIdeal.sig) → Buf (Elt Ideal) ℓ) (g : Dev Cert.CtxInReferenceIdeal.nD → PrngReg), Pre_CtxInReferenceIdeal m →
    θ_run (Cert.CtxInReferenceIdeal.defs (F := Ideal)) (onTc (τ := Cert.CtxInReferenceIdeal.τ) (Cert.CtxInReferenceIdeal.main (F := Ideal))) ⟨m, fun _ => 0, g⟩ (fun r => (∀ c : Dev Cert.CtxInReferenceIdeal.nD,
      r.2.mem ((c.tc : Thread Cert.CtxInReferenceIdeal.nD Cert.CtxInReferenceIdeal.τ).loc Cert.CtxInReferenceIdeal.main_arg0) = m ((c.tc : Thread Cert.CtxInReferenceIdeal.nD Cert.CtxInReferenceIdeal.τ).loc Cert.CtxInReferenceIdeal.main_arg0)
      ∧ r.2.mem ((c.tc : Thread Cert.CtxInReferenceIdeal.nD Cert.CtxInReferenceIdeal.τ).loc Cert.CtxInReferenceIdeal.main_arg1) = m ((c.tc : Thread Cert.CtxInReferenceIdeal.nD Cert.CtxInReferenceIdeal.τ).loc Cert.CtxInReferenceIdeal.main_arg1)
      ∧ r.2.mem ((c.tc : Thread Cert.CtxInReferenceIdeal.nD Cert.CtxInReferenceIdeal.τ).loc Cert.CtxInReferenceIdeal.main_arg2) = m ((c.tc : Thread Cert.CtxInReferenceIdeal.nD Cert.CtxInReferenceIdeal.τ).loc Cert.CtxInReferenceIdeal.main_arg2)
      ∧ r.2.mem ((c.tc : Thread Cert.CtxInReferenceIdeal.nD Cert.CtxInReferenceIdeal.τ).loc Cert.CtxInReferenceIdeal.main_arg3) = m ((c.tc : Thread Cert.CtxInReferenceIdeal.nD Cert.CtxInReferenceIdeal.τ).loc Cert.CtxInReferenceIdeal.main_arg3)
      ∧ r.2.mem ((c.tc : Thread Cert.CtxInReferenceIdeal.nD Cert.CtxInReferenceIdeal.τ).loc Cert.CtxInReferenceIdeal.main_arg4) = m ((c.tc : Thread Cert.CtxInReferenceIdeal.nD Cert.CtxInReferenceIdeal.τ).loc Cert.CtxInReferenceIdeal.main_arg4))
      ∧ r.2.sem = fun _ => 0)

def quiescent_CtxOutKernel [hCtxOutKernel : Cert.CtxOutKernel.Facts] : Prop :=
  ∀ (m : (ℓ : Loc Cert.CtxOutKernel.nD Cert.CtxOutKernel.τ Cert.CtxOutKernel.sig) → Buf (Elt Bits) ℓ) (g : Dev Cert.CtxOutKernel.nD → PrngReg), Pre_CtxOutKernel m →
    θ_run (Cert.CtxOutKernel.defs (F := Bits)) (onTc (τ := Cert.CtxOutKernel.τ) (Cert.CtxOutKernel.main (F := Bits))) ⟨m, fun _ => 0, g⟩ (fun r => (∀ c : Dev Cert.CtxOutKernel.nD,
      r.2.mem ((c.tc : Thread Cert.CtxOutKernel.nD Cert.CtxOutKernel.τ).loc Cert.CtxOutKernel.main_arg0) = m ((c.tc : Thread Cert.CtxOutKernel.nD Cert.CtxOutKernel.τ).loc Cert.CtxOutKernel.main_arg0)
      ∧ r.2.mem ((c.tc : Thread Cert.CtxOutKernel.nD Cert.CtxOutKernel.τ).loc Cert.CtxOutKernel.main_arg1) = m ((c.tc : Thread Cert.CtxOutKernel.nD Cert.CtxOutKernel.τ).loc Cert.CtxOutKernel.main_arg1)
      ∧ r.2.mem ((c.tc : Thread Cert.CtxOutKernel.nD Cert.CtxOutKernel.τ).loc Cert.CtxOutKernel.main_arg2) = m ((c.tc : Thread Cert.CtxOutKernel.nD Cert.CtxOutKernel.τ).loc Cert.CtxOutKernel.main_arg2)
      ∧ r.2.mem ((c.tc : Thread Cert.CtxOutKernel.nD Cert.CtxOutKernel.τ).loc Cert.CtxOutKernel.main_arg3) = m ((c.tc : Thread Cert.CtxOutKernel.nD Cert.CtxOutKernel.τ).loc Cert.CtxOutKernel.main_arg3))
      ∧ r.2.sem = fun _ => 0)

def quiescent_CtxOutKernelIdeal [hCtxOutKernelIdeal : Cert.CtxOutKernelIdeal.Facts] : Prop :=
  ∀ (m : (ℓ : Loc Cert.CtxOutKernelIdeal.nD Cert.CtxOutKernelIdeal.τ Cert.CtxOutKernelIdeal.sig) → Buf (Elt Ideal) ℓ) (g : Dev Cert.CtxOutKernelIdeal.nD → PrngReg), Pre_CtxOutKernelIdeal m →
    θ_run (Cert.CtxOutKernelIdeal.defs (F := Ideal)) (onTc (τ := Cert.CtxOutKernelIdeal.τ) (Cert.CtxOutKernelIdeal.main (F := Ideal))) ⟨m, fun _ => 0, g⟩ (fun r => (∀ c : Dev Cert.CtxOutKernelIdeal.nD,
      r.2.mem ((c.tc : Thread Cert.CtxOutKernelIdeal.nD Cert.CtxOutKernelIdeal.τ).loc Cert.CtxOutKernelIdeal.main_arg0) = m ((c.tc : Thread Cert.CtxOutKernelIdeal.nD Cert.CtxOutKernelIdeal.τ).loc Cert.CtxOutKernelIdeal.main_arg0)
      ∧ r.2.mem ((c.tc : Thread Cert.CtxOutKernelIdeal.nD Cert.CtxOutKernelIdeal.τ).loc Cert.CtxOutKernelIdeal.main_arg1) = m ((c.tc : Thread Cert.CtxOutKernelIdeal.nD Cert.CtxOutKernelIdeal.τ).loc Cert.CtxOutKernelIdeal.main_arg1)
      ∧ r.2.mem ((c.tc : Thread Cert.CtxOutKernelIdeal.nD Cert.CtxOutKernelIdeal.τ).loc Cert.CtxOutKernelIdeal.main_arg2) = m ((c.tc : Thread Cert.CtxOutKernelIdeal.nD Cert.CtxOutKernelIdeal.τ).loc Cert.CtxOutKernelIdeal.main_arg2)
      ∧ r.2.mem ((c.tc : Thread Cert.CtxOutKernelIdeal.nD Cert.CtxOutKernelIdeal.τ).loc Cert.CtxOutKernelIdeal.main_arg3) = m ((c.tc : Thread Cert.CtxOutKernelIdeal.nD Cert.CtxOutKernelIdeal.τ).loc Cert.CtxOutKernelIdeal.main_arg3))
      ∧ r.2.sem = fun _ => 0)

def quiescent_CtxOutReferenceIdeal [hCtxOutReferenceIdeal : Cert.CtxOutReferenceIdeal.Facts] : Prop :=
  ∀ (m : (ℓ : Loc Cert.CtxOutReferenceIdeal.nD Cert.CtxOutReferenceIdeal.τ Cert.CtxOutReferenceIdeal.sig) → Buf (Elt Ideal) ℓ) (g : Dev Cert.CtxOutReferenceIdeal.nD → PrngReg), Pre_CtxOutReferenceIdeal m →
    θ_run (Cert.CtxOutReferenceIdeal.defs (F := Ideal)) (onTc (τ := Cert.CtxOutReferenceIdeal.τ) (Cert.CtxOutReferenceIdeal.main (F := Ideal))) ⟨m, fun _ => 0, g⟩ (fun r => (∀ c : Dev Cert.CtxOutReferenceIdeal.nD,
      r.2.mem ((c.tc : Thread Cert.CtxOutReferenceIdeal.nD Cert.CtxOutReferenceIdeal.τ).loc Cert.CtxOutReferenceIdeal.main_arg0) = m ((c.tc : Thread Cert.CtxOutReferenceIdeal.nD Cert.CtxOutReferenceIdeal.τ).loc Cert.CtxOutReferenceIdeal.main_arg0)
      ∧ r.2.mem ((c.tc : Thread Cert.CtxOutReferenceIdeal.nD Cert.CtxOutReferenceIdeal.τ).loc Cert.CtxOutReferenceIdeal.main_arg1) = m ((c.tc : Thread Cert.CtxOutReferenceIdeal.nD Cert.CtxOutReferenceIdeal.τ).loc Cert.CtxOutReferenceIdeal.main_arg1)
      ∧ r.2.mem ((c.tc : Thread Cert.CtxOutReferenceIdeal.nD Cert.CtxOutReferenceIdeal.τ).loc Cert.CtxOutReferenceIdeal.main_arg2) = m ((c.tc : Thread Cert.CtxOutReferenceIdeal.nD Cert.CtxOutReferenceIdeal.τ).loc Cert.CtxOutReferenceIdeal.main_arg2)
      ∧ r.2.mem ((c.tc : Thread Cert.CtxOutReferenceIdeal.nD Cert.CtxOutReferenceIdeal.τ).loc Cert.CtxOutReferenceIdeal.main_arg3) = m ((c.tc : Thread Cert.CtxOutReferenceIdeal.nD Cert.CtxOutReferenceIdeal.τ).loc Cert.CtxOutReferenceIdeal.main_arg3))
      ∧ r.2.sem = fun _ => 0)

def quiescent_CtxOutTwoKernel [hCtxOutTwoKernel : Cert.CtxOutTwoKernel.Facts] : Prop :=
  ∀ (m : (ℓ : Loc Cert.CtxOutTwoKernel.nD Cert.CtxOutTwoKernel.τ Cert.CtxOutTwoKernel.sig) → Buf (Elt Bits) ℓ) (g : Dev Cert.CtxOutTwoKernel.nD → PrngReg), Pre_CtxOutTwoKernel m →
    θ_run (Cert.CtxOutTwoKernel.defs (F := Bits)) (onTc (τ := Cert.CtxOutTwoKernel.τ) (Cert.CtxOutTwoKernel.main (F := Bits))) ⟨m, fun _ => 0, g⟩ (fun r => (∀ c : Dev Cert.CtxOutTwoKernel.nD,
      r.2.mem ((c.tc : Thread Cert.CtxOutTwoKernel.nD Cert.CtxOutTwoKernel.τ).loc Cert.CtxOutTwoKernel.main_arg0) = m ((c.tc : Thread Cert.CtxOutTwoKernel.nD Cert.CtxOutTwoKernel.τ).loc Cert.CtxOutTwoKernel.main_arg0)
      ∧ r.2.mem ((c.tc : Thread Cert.CtxOutTwoKernel.nD Cert.CtxOutTwoKernel.τ).loc Cert.CtxOutTwoKernel.main_arg1) = m ((c.tc : Thread Cert.CtxOutTwoKernel.nD Cert.CtxOutTwoKernel.τ).loc Cert.CtxOutTwoKernel.main_arg1)
      ∧ r.2.mem ((c.tc : Thread Cert.CtxOutTwoKernel.nD Cert.CtxOutTwoKernel.τ).loc Cert.CtxOutTwoKernel.main_arg2) = m ((c.tc : Thread Cert.CtxOutTwoKernel.nD Cert.CtxOutTwoKernel.τ).loc Cert.CtxOutTwoKernel.main_arg2)
      ∧ r.2.mem ((c.tc : Thread Cert.CtxOutTwoKernel.nD Cert.CtxOutTwoKernel.τ).loc Cert.CtxOutTwoKernel.main_arg3) = m ((c.tc : Thread Cert.CtxOutTwoKernel.nD Cert.CtxOutTwoKernel.τ).loc Cert.CtxOutTwoKernel.main_arg3)
      ∧ r.2.mem ((c.tc : Thread Cert.CtxOutTwoKernel.nD Cert.CtxOutTwoKernel.τ).loc Cert.CtxOutTwoKernel.main_arg4) = m ((c.tc : Thread Cert.CtxOutTwoKernel.nD Cert.CtxOutTwoKernel.τ).loc Cert.CtxOutTwoKernel.main_arg4))
      ∧ r.2.sem = fun _ => 0)

def quiescent_CtxOutTwoKernelIdeal [hCtxOutTwoKernelIdeal : Cert.CtxOutTwoKernelIdeal.Facts] : Prop :=
  ∀ (m : (ℓ : Loc Cert.CtxOutTwoKernelIdeal.nD Cert.CtxOutTwoKernelIdeal.τ Cert.CtxOutTwoKernelIdeal.sig) → Buf (Elt Ideal) ℓ) (g : Dev Cert.CtxOutTwoKernelIdeal.nD → PrngReg), Pre_CtxOutTwoKernelIdeal m →
    θ_run (Cert.CtxOutTwoKernelIdeal.defs (F := Ideal)) (onTc (τ := Cert.CtxOutTwoKernelIdeal.τ) (Cert.CtxOutTwoKernelIdeal.main (F := Ideal))) ⟨m, fun _ => 0, g⟩ (fun r => (∀ c : Dev Cert.CtxOutTwoKernelIdeal.nD,
      r.2.mem ((c.tc : Thread Cert.CtxOutTwoKernelIdeal.nD Cert.CtxOutTwoKernelIdeal.τ).loc Cert.CtxOutTwoKernelIdeal.main_arg0) = m ((c.tc : Thread Cert.CtxOutTwoKernelIdeal.nD Cert.CtxOutTwoKernelIdeal.τ).loc Cert.CtxOutTwoKernelIdeal.main_arg0)
      ∧ r.2.mem ((c.tc : Thread Cert.CtxOutTwoKernelIdeal.nD Cert.CtxOutTwoKernelIdeal.τ).loc Cert.CtxOutTwoKernelIdeal.main_arg1) = m ((c.tc : Thread Cert.CtxOutTwoKernelIdeal.nD Cert.CtxOutTwoKernelIdeal.τ).loc Cert.CtxOutTwoKernelIdeal.main_arg1)
      ∧ r.2.mem ((c.tc : Thread Cert.CtxOutTwoKernelIdeal.nD Cert.CtxOutTwoKernelIdeal.τ).loc Cert.CtxOutTwoKernelIdeal.main_arg2) = m ((c.tc : Thread Cert.CtxOutTwoKernelIdeal.nD Cert.CtxOutTwoKernelIdeal.τ).loc Cert.CtxOutTwoKernelIdeal.main_arg2)
      ∧ r.2.mem ((c.tc : Thread Cert.CtxOutTwoKernelIdeal.nD Cert.CtxOutTwoKernelIdeal.τ).loc Cert.CtxOutTwoKernelIdeal.main_arg3) = m ((c.tc : Thread Cert.CtxOutTwoKernelIdeal.nD Cert.CtxOutTwoKernelIdeal.τ).loc Cert.CtxOutTwoKernelIdeal.main_arg3)
      ∧ r.2.mem ((c.tc : Thread Cert.CtxOutTwoKernelIdeal.nD Cert.CtxOutTwoKernelIdeal.τ).loc Cert.CtxOutTwoKernelIdeal.main_arg4) = m ((c.tc : Thread Cert.CtxOutTwoKernelIdeal.nD Cert.CtxOutTwoKernelIdeal.τ).loc Cert.CtxOutTwoKernelIdeal.main_arg4))
      ∧ r.2.sem = fun _ => 0)

def quiescent_CtxOutTwoReferenceIdeal [hCtxOutTwoReferenceIdeal : Cert.CtxOutTwoReferenceIdeal.Facts] : Prop :=
  ∀ (m : (ℓ : Loc Cert.CtxOutTwoReferenceIdeal.nD Cert.CtxOutTwoReferenceIdeal.τ Cert.CtxOutTwoReferenceIdeal.sig) → Buf (Elt Ideal) ℓ) (g : Dev Cert.CtxOutTwoReferenceIdeal.nD → PrngReg), Pre_CtxOutTwoReferenceIdeal m →
    θ_run (Cert.CtxOutTwoReferenceIdeal.defs (F := Ideal)) (onTc (τ := Cert.CtxOutTwoReferenceIdeal.τ) (Cert.CtxOutTwoReferenceIdeal.main (F := Ideal))) ⟨m, fun _ => 0, g⟩ (fun r => (∀ c : Dev Cert.CtxOutTwoReferenceIdeal.nD,
      r.2.mem ((c.tc : Thread Cert.CtxOutTwoReferenceIdeal.nD Cert.CtxOutTwoReferenceIdeal.τ).loc Cert.CtxOutTwoReferenceIdeal.main_arg0) = m ((c.tc : Thread Cert.CtxOutTwoReferenceIdeal.nD Cert.CtxOutTwoReferenceIdeal.τ).loc Cert.CtxOutTwoReferenceIdeal.main_arg0)
      ∧ r.2.mem ((c.tc : Thread Cert.CtxOutTwoReferenceIdeal.nD Cert.CtxOutTwoReferenceIdeal.τ).loc Cert.CtxOutTwoReferenceIdeal.main_arg1) = m ((c.tc : Thread Cert.CtxOutTwoReferenceIdeal.nD Cert.CtxOutTwoReferenceIdeal.τ).loc Cert.CtxOutTwoReferenceIdeal.main_arg1)
      ∧ r.2.mem ((c.tc : Thread Cert.CtxOutTwoReferenceIdeal.nD Cert.CtxOutTwoReferenceIdeal.τ).loc Cert.CtxOutTwoReferenceIdeal.main_arg2) = m ((c.tc : Thread Cert.CtxOutTwoReferenceIdeal.nD Cert.CtxOutTwoReferenceIdeal.τ).loc Cert.CtxOutTwoReferenceIdeal.main_arg2)
      ∧ r.2.mem ((c.tc : Thread Cert.CtxOutTwoReferenceIdeal.nD Cert.CtxOutTwoReferenceIdeal.τ).loc Cert.CtxOutTwoReferenceIdeal.main_arg3) = m ((c.tc : Thread Cert.CtxOutTwoReferenceIdeal.nD Cert.CtxOutTwoReferenceIdeal.τ).loc Cert.CtxOutTwoReferenceIdeal.main_arg3)
      ∧ r.2.mem ((c.tc : Thread Cert.CtxOutTwoReferenceIdeal.nD Cert.CtxOutTwoReferenceIdeal.τ).loc Cert.CtxOutTwoReferenceIdeal.main_arg4) = m ((c.tc : Thread Cert.CtxOutTwoReferenceIdeal.nD Cert.CtxOutTwoReferenceIdeal.τ).loc Cert.CtxOutTwoReferenceIdeal.main_arg4))
      ∧ r.2.sem = fun _ => 0)

def quiescent_CtxGateKernel [hCtxGateKernel : Cert.CtxGateKernel.Facts] : Prop :=
  ∀ (m : (ℓ : Loc Cert.CtxGateKernel.nD Cert.CtxGateKernel.τ Cert.CtxGateKernel.sig) → Buf (Elt Bits) ℓ) (g : Dev Cert.CtxGateKernel.nD → PrngReg), Pre_CtxGateKernel m →
    θ_run (Cert.CtxGateKernel.defs (F := Bits)) (onTc (τ := Cert.CtxGateKernel.τ) (Cert.CtxGateKernel.main (F := Bits))) ⟨m, fun _ => 0, g⟩ (fun r => (∀ c : Dev Cert.CtxGateKernel.nD,
      r.2.mem ((c.tc : Thread Cert.CtxGateKernel.nD Cert.CtxGateKernel.τ).loc Cert.CtxGateKernel.main_arg0) = m ((c.tc : Thread Cert.CtxGateKernel.nD Cert.CtxGateKernel.τ).loc Cert.CtxGateKernel.main_arg0)
      ∧ r.2.mem ((c.tc : Thread Cert.CtxGateKernel.nD Cert.CtxGateKernel.τ).loc Cert.CtxGateKernel.main_arg1) = m ((c.tc : Thread Cert.CtxGateKernel.nD Cert.CtxGateKernel.τ).loc Cert.CtxGateKernel.main_arg1)
      ∧ r.2.mem ((c.tc : Thread Cert.CtxGateKernel.nD Cert.CtxGateKernel.τ).loc Cert.CtxGateKernel.main_arg2) = m ((c.tc : Thread Cert.CtxGateKernel.nD Cert.CtxGateKernel.τ).loc Cert.CtxGateKernel.main_arg2)
      ∧ r.2.mem ((c.tc : Thread Cert.CtxGateKernel.nD Cert.CtxGateKernel.τ).loc Cert.CtxGateKernel.main_arg3) = m ((c.tc : Thread Cert.CtxGateKernel.nD Cert.CtxGateKernel.τ).loc Cert.CtxGateKernel.main_arg3))
      ∧ r.2.sem = fun _ => 0)

def quiescent_CtxGateKernelIdeal [hCtxGateKernelIdeal : Cert.CtxGateKernelIdeal.Facts] : Prop :=
  ∀ (m : (ℓ : Loc Cert.CtxGateKernelIdeal.nD Cert.CtxGateKernelIdeal.τ Cert.CtxGateKernelIdeal.sig) → Buf (Elt Ideal) ℓ) (g : Dev Cert.CtxGateKernelIdeal.nD → PrngReg), Pre_CtxGateKernelIdeal m →
    θ_run (Cert.CtxGateKernelIdeal.defs (F := Ideal)) (onTc (τ := Cert.CtxGateKernelIdeal.τ) (Cert.CtxGateKernelIdeal.main (F := Ideal))) ⟨m, fun _ => 0, g⟩ (fun r => (∀ c : Dev Cert.CtxGateKernelIdeal.nD,
      r.2.mem ((c.tc : Thread Cert.CtxGateKernelIdeal.nD Cert.CtxGateKernelIdeal.τ).loc Cert.CtxGateKernelIdeal.main_arg0) = m ((c.tc : Thread Cert.CtxGateKernelIdeal.nD Cert.CtxGateKernelIdeal.τ).loc Cert.CtxGateKernelIdeal.main_arg0)
      ∧ r.2.mem ((c.tc : Thread Cert.CtxGateKernelIdeal.nD Cert.CtxGateKernelIdeal.τ).loc Cert.CtxGateKernelIdeal.main_arg1) = m ((c.tc : Thread Cert.CtxGateKernelIdeal.nD Cert.CtxGateKernelIdeal.τ).loc Cert.CtxGateKernelIdeal.main_arg1)
      ∧ r.2.mem ((c.tc : Thread Cert.CtxGateKernelIdeal.nD Cert.CtxGateKernelIdeal.τ).loc Cert.CtxGateKernelIdeal.main_arg2) = m ((c.tc : Thread Cert.CtxGateKernelIdeal.nD Cert.CtxGateKernelIdeal.τ).loc Cert.CtxGateKernelIdeal.main_arg2)
      ∧ r.2.mem ((c.tc : Thread Cert.CtxGateKernelIdeal.nD Cert.CtxGateKernelIdeal.τ).loc Cert.CtxGateKernelIdeal.main_arg3) = m ((c.tc : Thread Cert.CtxGateKernelIdeal.nD Cert.CtxGateKernelIdeal.τ).loc Cert.CtxGateKernelIdeal.main_arg3))
      ∧ r.2.sem = fun _ => 0)

def quiescent_CtxGateReferenceIdeal [hCtxGateReferenceIdeal : Cert.CtxGateReferenceIdeal.Facts] : Prop :=
  ∀ (m : (ℓ : Loc Cert.CtxGateReferenceIdeal.nD Cert.CtxGateReferenceIdeal.τ Cert.CtxGateReferenceIdeal.sig) → Buf (Elt Ideal) ℓ) (g : Dev Cert.CtxGateReferenceIdeal.nD → PrngReg), Pre_CtxGateReferenceIdeal m →
    θ_run (Cert.CtxGateReferenceIdeal.defs (F := Ideal)) (onTc (τ := Cert.CtxGateReferenceIdeal.τ) (Cert.CtxGateReferenceIdeal.main (F := Ideal))) ⟨m, fun _ => 0, g⟩ (fun r => (∀ c : Dev Cert.CtxGateReferenceIdeal.nD,
      r.2.mem ((c.tc : Thread Cert.CtxGateReferenceIdeal.nD Cert.CtxGateReferenceIdeal.τ).loc Cert.CtxGateReferenceIdeal.main_arg0) = m ((c.tc : Thread Cert.CtxGateReferenceIdeal.nD Cert.CtxGateReferenceIdeal.τ).loc Cert.CtxGateReferenceIdeal.main_arg0)
      ∧ r.2.mem ((c.tc : Thread Cert.CtxGateReferenceIdeal.nD Cert.CtxGateReferenceIdeal.τ).loc Cert.CtxGateReferenceIdeal.main_arg1) = m ((c.tc : Thread Cert.CtxGateReferenceIdeal.nD Cert.CtxGateReferenceIdeal.τ).loc Cert.CtxGateReferenceIdeal.main_arg1)
      ∧ r.2.mem ((c.tc : Thread Cert.CtxGateReferenceIdeal.nD Cert.CtxGateReferenceIdeal.τ).loc Cert.CtxGateReferenceIdeal.main_arg2) = m ((c.tc : Thread Cert.CtxGateReferenceIdeal.nD Cert.CtxGateReferenceIdeal.τ).loc Cert.CtxGateReferenceIdeal.main_arg2)
      ∧ r.2.mem ((c.tc : Thread Cert.CtxGateReferenceIdeal.nD Cert.CtxGateReferenceIdeal.τ).loc Cert.CtxGateReferenceIdeal.main_arg3) = m ((c.tc : Thread Cert.CtxGateReferenceIdeal.nD Cert.CtxGateReferenceIdeal.τ).loc Cert.CtxGateReferenceIdeal.main_arg3))
      ∧ r.2.sem = fun _ => 0)

def quiescent_WaveKernel [hWaveKernel : Cert.WaveKernel.Facts] : Prop :=
  ∀ (m : (ℓ : Loc Cert.WaveKernel.nD Cert.WaveKernel.τ Cert.WaveKernel.sig) → Buf (Elt Bits) ℓ) (g : Dev Cert.WaveKernel.nD → PrngReg), Pre_WaveKernel m →
    θ_run (Cert.WaveKernel.defs (F := Bits)) (onTc (τ := Cert.WaveKernel.τ) (Cert.WaveKernel.main (F := Bits))) ⟨m, fun _ => 0, g⟩ (fun r => (∀ c : Dev Cert.WaveKernel.nD,
      r.2.mem ((c.tc : Thread Cert.WaveKernel.nD Cert.WaveKernel.τ).loc Cert.WaveKernel.main_arg0) = m ((c.tc : Thread Cert.WaveKernel.nD Cert.WaveKernel.τ).loc Cert.WaveKernel.main_arg0))
      ∧ r.2.sem = fun _ => 0)

def quiescent_WaveKernelIdeal [hWaveKernelIdeal : Cert.WaveKernelIdeal.Facts] : Prop :=
  ∀ (m : (ℓ : Loc Cert.WaveKernelIdeal.nD Cert.WaveKernelIdeal.τ Cert.WaveKernelIdeal.sig) → Buf (Elt Ideal) ℓ) (g : Dev Cert.WaveKernelIdeal.nD → PrngReg), Pre_WaveKernelIdeal m →
    θ_run (Cert.WaveKernelIdeal.defs (F := Ideal)) (onTc (τ := Cert.WaveKernelIdeal.τ) (Cert.WaveKernelIdeal.main (F := Ideal))) ⟨m, fun _ => 0, g⟩ (fun r => (∀ c : Dev Cert.WaveKernelIdeal.nD,
      r.2.mem ((c.tc : Thread Cert.WaveKernelIdeal.nD Cert.WaveKernelIdeal.τ).loc Cert.WaveKernelIdeal.main_arg0) = m ((c.tc : Thread Cert.WaveKernelIdeal.nD Cert.WaveKernelIdeal.τ).loc Cert.WaveKernelIdeal.main_arg0))
      ∧ r.2.sem = fun _ => 0)

def quiescent_WaveReferenceIdeal [hWaveReferenceIdeal : Cert.WaveReferenceIdeal.Facts] : Prop :=
  ∀ (m : (ℓ : Loc Cert.WaveReferenceIdeal.nD Cert.WaveReferenceIdeal.τ Cert.WaveReferenceIdeal.sig) → Buf (Elt Ideal) ℓ) (g : Dev Cert.WaveReferenceIdeal.nD → PrngReg), Pre_WaveReferenceIdeal m →
    θ_run (Cert.WaveReferenceIdeal.defs (F := Ideal)) (onTc (τ := Cert.WaveReferenceIdeal.τ) (Cert.WaveReferenceIdeal.main (F := Ideal))) ⟨m, fun _ => 0, g⟩ (fun r => (∀ c : Dev Cert.WaveReferenceIdeal.nD,
      r.2.mem ((c.tc : Thread Cert.WaveReferenceIdeal.nD Cert.WaveReferenceIdeal.τ).loc Cert.WaveReferenceIdeal.main_arg0) = m ((c.tc : Thread Cert.WaveReferenceIdeal.nD Cert.WaveReferenceIdeal.τ).loc Cert.WaveReferenceIdeal.main_arg0))
      ∧ r.2.sem = fun _ => 0)

def quiescent_CtxWaveKernel [hCtxWaveKernel : Cert.CtxWaveKernel.Facts] : Prop :=
  ∀ (m : (ℓ : Loc Cert.CtxWaveKernel.nD Cert.CtxWaveKernel.τ Cert.CtxWaveKernel.sig) → Buf (Elt Bits) ℓ) (g : Dev Cert.CtxWaveKernel.nD → PrngReg), Pre_CtxWaveKernel m →
    θ_run (Cert.CtxWaveKernel.defs (F := Bits)) (onTc (τ := Cert.CtxWaveKernel.τ) (Cert.CtxWaveKernel.main (F := Bits))) ⟨m, fun _ => 0, g⟩ (fun r => (∀ c : Dev Cert.CtxWaveKernel.nD,
      r.2.mem ((c.tc : Thread Cert.CtxWaveKernel.nD Cert.CtxWaveKernel.τ).loc Cert.CtxWaveKernel.main_arg0) = m ((c.tc : Thread Cert.CtxWaveKernel.nD Cert.CtxWaveKernel.τ).loc Cert.CtxWaveKernel.main_arg0))
      ∧ r.2.sem = fun _ => 0)

def quiescent_CtxWaveKernelIdeal [hCtxWaveKernelIdeal : Cert.CtxWaveKernelIdeal.Facts] : Prop :=
  ∀ (m : (ℓ : Loc Cert.CtxWaveKernelIdeal.nD Cert.CtxWaveKernelIdeal.τ Cert.CtxWaveKernelIdeal.sig) → Buf (Elt Ideal) ℓ) (g : Dev Cert.CtxWaveKernelIdeal.nD → PrngReg), Pre_CtxWaveKernelIdeal m →
    θ_run (Cert.CtxWaveKernelIdeal.defs (F := Ideal)) (onTc (τ := Cert.CtxWaveKernelIdeal.τ) (Cert.CtxWaveKernelIdeal.main (F := Ideal))) ⟨m, fun _ => 0, g⟩ (fun r => (∀ c : Dev Cert.CtxWaveKernelIdeal.nD,
      r.2.mem ((c.tc : Thread Cert.CtxWaveKernelIdeal.nD Cert.CtxWaveKernelIdeal.τ).loc Cert.CtxWaveKernelIdeal.main_arg0) = m ((c.tc : Thread Cert.CtxWaveKernelIdeal.nD Cert.CtxWaveKernelIdeal.τ).loc Cert.CtxWaveKernelIdeal.main_arg0))
      ∧ r.2.sem = fun _ => 0)

def quiescent_CtxWaveReferenceIdeal [hCtxWaveReferenceIdeal : Cert.CtxWaveReferenceIdeal.Facts] : Prop :=
  ∀ (m : (ℓ : Loc Cert.CtxWaveReferenceIdeal.nD Cert.CtxWaveReferenceIdeal.τ Cert.CtxWaveReferenceIdeal.sig) → Buf (Elt Ideal) ℓ) (g : Dev Cert.CtxWaveReferenceIdeal.nD → PrngReg), Pre_CtxWaveReferenceIdeal m →
    θ_run (Cert.CtxWaveReferenceIdeal.defs (F := Ideal)) (onTc (τ := Cert.CtxWaveReferenceIdeal.τ) (Cert.CtxWaveReferenceIdeal.main (F := Ideal))) ⟨m, fun _ => 0, g⟩ (fun r => (∀ c : Dev Cert.CtxWaveReferenceIdeal.nD,
      r.2.mem ((c.tc : Thread Cert.CtxWaveReferenceIdeal.nD Cert.CtxWaveReferenceIdeal.τ).loc Cert.CtxWaveReferenceIdeal.main_arg0) = m ((c.tc : Thread Cert.CtxWaveReferenceIdeal.nD Cert.CtxWaveReferenceIdeal.τ).loc Cert.CtxWaveReferenceIdeal.main_arg0))
      ∧ r.2.sem = fun _ => 0)

def quiescent_CtxRealKernel [hCtxRealKernel : Cert.CtxRealKernel.Facts] : Prop :=
  ∀ (m : (ℓ : Loc Cert.CtxRealKernel.nD Cert.CtxRealKernel.τ Cert.CtxRealKernel.sig) → Buf (Elt Bits) ℓ) (g : Dev Cert.CtxRealKernel.nD → PrngReg), Pre_CtxRealKernel m →
    θ_run (Cert.CtxRealKernel.defs (F := Bits)) (onTc (τ := Cert.CtxRealKernel.τ) (Cert.CtxRealKernel.main (F := Bits))) ⟨m, fun _ => 0, g⟩ (fun r => (∀ c : Dev Cert.CtxRealKernel.nD,
      r.2.mem ((c.tc : Thread Cert.CtxRealKernel.nD Cert.CtxRealKernel.τ).loc Cert.CtxRealKernel.main_arg0) = m ((c.tc : Thread Cert.CtxRealKernel.nD Cert.CtxRealKernel.τ).loc Cert.CtxRealKernel.main_arg0))
      ∧ r.2.sem = fun _ => 0)

def quiescent_CtxRealKernelIdeal [hCtxRealKernelIdeal : Cert.CtxRealKernelIdeal.Facts] : Prop :=
  ∀ (m : (ℓ : Loc Cert.CtxRealKernelIdeal.nD Cert.CtxRealKernelIdeal.τ Cert.CtxRealKernelIdeal.sig) → Buf (Elt Ideal) ℓ) (g : Dev Cert.CtxRealKernelIdeal.nD → PrngReg), Pre_CtxRealKernelIdeal m →
    θ_run (Cert.CtxRealKernelIdeal.defs (F := Ideal)) (onTc (τ := Cert.CtxRealKernelIdeal.τ) (Cert.CtxRealKernelIdeal.main (F := Ideal))) ⟨m, fun _ => 0, g⟩ (fun r => (∀ c : Dev Cert.CtxRealKernelIdeal.nD,
      r.2.mem ((c.tc : Thread Cert.CtxRealKernelIdeal.nD Cert.CtxRealKernelIdeal.τ).loc Cert.CtxRealKernelIdeal.main_arg0) = m ((c.tc : Thread Cert.CtxRealKernelIdeal.nD Cert.CtxRealKernelIdeal.τ).loc Cert.CtxRealKernelIdeal.main_arg0))
      ∧ r.2.sem = fun _ => 0)

def quiescent_CtxRealReferenceIdeal [hCtxRealReferenceIdeal : Cert.CtxRealReferenceIdeal.Facts] : Prop :=
  ∀ (m : (ℓ : Loc Cert.CtxRealReferenceIdeal.nD Cert.CtxRealReferenceIdeal.τ Cert.CtxRealReferenceIdeal.sig) → Buf (Elt Ideal) ℓ) (g : Dev Cert.CtxRealReferenceIdeal.nD → PrngReg), Pre_CtxRealReferenceIdeal m →
    θ_run (Cert.CtxRealReferenceIdeal.defs (F := Ideal)) (onTc (τ := Cert.CtxRealReferenceIdeal.τ) (Cert.CtxRealReferenceIdeal.main (F := Ideal))) ⟨m, fun _ => 0, g⟩ (fun r => (∀ c : Dev Cert.CtxRealReferenceIdeal.nD,
      r.2.mem ((c.tc : Thread Cert.CtxRealReferenceIdeal.nD Cert.CtxRealReferenceIdeal.τ).loc Cert.CtxRealReferenceIdeal.main_arg0) = m ((c.tc : Thread Cert.CtxRealReferenceIdeal.nD Cert.CtxRealReferenceIdeal.τ).loc Cert.CtxRealReferenceIdeal.main_arg0))
      ∧ r.2.sem = fun _ => 0)

def quiescent_EarlyKernel [hEarlyKernel : Cert.EarlyKernel.Facts] : Prop :=
  ∀ (m : (ℓ : Loc Cert.EarlyKernel.nD Cert.EarlyKernel.τ Cert.EarlyKernel.sig) → Buf (Elt Bits) ℓ) (g : Dev Cert.EarlyKernel.nD → PrngReg), Pre_EarlyKernel m →
    θ_run (Cert.EarlyKernel.defs (F := Bits)) (onTc (τ := Cert.EarlyKernel.τ) (Cert.EarlyKernel.main (F := Bits))) ⟨m, fun _ => 0, g⟩ (fun r => (∀ c : Dev Cert.EarlyKernel.nD,
      r.2.mem ((c.tc : Thread Cert.EarlyKernel.nD Cert.EarlyKernel.τ).loc Cert.EarlyKernel.main_arg0) = m ((c.tc : Thread Cert.EarlyKernel.nD Cert.EarlyKernel.τ).loc Cert.EarlyKernel.main_arg0))
      ∧ r.2.sem = fun _ => 0)

def quiescent_EarlyKernelIdeal [hEarlyKernelIdeal : Cert.EarlyKernelIdeal.Facts] : Prop :=
  ∀ (m : (ℓ : Loc Cert.EarlyKernelIdeal.nD Cert.EarlyKernelIdeal.τ Cert.EarlyKernelIdeal.sig) → Buf (Elt Ideal) ℓ) (g : Dev Cert.EarlyKernelIdeal.nD → PrngReg), Pre_EarlyKernelIdeal m →
    θ_run (Cert.EarlyKernelIdeal.defs (F := Ideal)) (onTc (τ := Cert.EarlyKernelIdeal.τ) (Cert.EarlyKernelIdeal.main (F := Ideal))) ⟨m, fun _ => 0, g⟩ (fun r => (∀ c : Dev Cert.EarlyKernelIdeal.nD,
      r.2.mem ((c.tc : Thread Cert.EarlyKernelIdeal.nD Cert.EarlyKernelIdeal.τ).loc Cert.EarlyKernelIdeal.main_arg0) = m ((c.tc : Thread Cert.EarlyKernelIdeal.nD Cert.EarlyKernelIdeal.τ).loc Cert.EarlyKernelIdeal.main_arg0))
      ∧ r.2.sem = fun _ => 0)

def quiescent_EarlyReferenceIdeal [hEarlyReferenceIdeal : Cert.EarlyReferenceIdeal.Facts] : Prop :=
  ∀ (m : (ℓ : Loc Cert.EarlyReferenceIdeal.nD Cert.EarlyReferenceIdeal.τ Cert.EarlyReferenceIdeal.sig) → Buf (Elt Ideal) ℓ) (g : Dev Cert.EarlyReferenceIdeal.nD → PrngReg), Pre_EarlyReferenceIdeal m →
    θ_run (Cert.EarlyReferenceIdeal.defs (F := Ideal)) (onTc (τ := Cert.EarlyReferenceIdeal.τ) (Cert.EarlyReferenceIdeal.main (F := Ideal))) ⟨m, fun _ => 0, g⟩ (fun r => (∀ c : Dev Cert.EarlyReferenceIdeal.nD,
      r.2.mem ((c.tc : Thread Cert.EarlyReferenceIdeal.nD Cert.EarlyReferenceIdeal.τ).loc Cert.EarlyReferenceIdeal.main_arg0) = m ((c.tc : Thread Cert.EarlyReferenceIdeal.nD Cert.EarlyReferenceIdeal.τ).loc Cert.EarlyReferenceIdeal.main_arg0))
      ∧ r.2.sem = fun _ => 0)

def quiescent_LateKernel [hLateKernel : Cert.LateKernel.Facts] : Prop :=
  ∀ (m : (ℓ : Loc Cert.LateKernel.nD Cert.LateKernel.τ Cert.LateKernel.sig) → Buf (Elt Bits) ℓ) (g : Dev Cert.LateKernel.nD → PrngReg), Pre_LateKernel m →
    θ_run (Cert.LateKernel.defs (F := Bits)) (onTc (τ := Cert.LateKernel.τ) (Cert.LateKernel.main (F := Bits))) ⟨m, fun _ => 0, g⟩ (fun r => (∀ c : Dev Cert.LateKernel.nD,
      r.2.mem ((c.tc : Thread Cert.LateKernel.nD Cert.LateKernel.τ).loc Cert.LateKernel.main_arg0) = m ((c.tc : Thread Cert.LateKernel.nD Cert.LateKernel.τ).loc Cert.LateKernel.main_arg0))
      ∧ r.2.sem = fun _ => 0)

def quiescent_LateKernelIdeal [hLateKernelIdeal : Cert.LateKernelIdeal.Facts] : Prop :=
  ∀ (m : (ℓ : Loc Cert.LateKernelIdeal.nD Cert.LateKernelIdeal.τ Cert.LateKernelIdeal.sig) → Buf (Elt Ideal) ℓ) (g : Dev Cert.LateKernelIdeal.nD → PrngReg), Pre_LateKernelIdeal m →
    θ_run (Cert.LateKernelIdeal.defs (F := Ideal)) (onTc (τ := Cert.LateKernelIdeal.τ) (Cert.LateKernelIdeal.main (F := Ideal))) ⟨m, fun _ => 0, g⟩ (fun r => (∀ c : Dev Cert.LateKernelIdeal.nD,
      r.2.mem ((c.tc : Thread Cert.LateKernelIdeal.nD Cert.LateKernelIdeal.τ).loc Cert.LateKernelIdeal.main_arg0) = m ((c.tc : Thread Cert.LateKernelIdeal.nD Cert.LateKernelIdeal.τ).loc Cert.LateKernelIdeal.main_arg0))
      ∧ r.2.sem = fun _ => 0)

def quiescent_LateReferenceIdeal [hLateReferenceIdeal : Cert.LateReferenceIdeal.Facts] : Prop :=
  ∀ (m : (ℓ : Loc Cert.LateReferenceIdeal.nD Cert.LateReferenceIdeal.τ Cert.LateReferenceIdeal.sig) → Buf (Elt Ideal) ℓ) (g : Dev Cert.LateReferenceIdeal.nD → PrngReg), Pre_LateReferenceIdeal m →
    θ_run (Cert.LateReferenceIdeal.defs (F := Ideal)) (onTc (τ := Cert.LateReferenceIdeal.τ) (Cert.LateReferenceIdeal.main (F := Ideal))) ⟨m, fun _ => 0, g⟩ (fun r => (∀ c : Dev Cert.LateReferenceIdeal.nD,
      r.2.mem ((c.tc : Thread Cert.LateReferenceIdeal.nD Cert.LateReferenceIdeal.τ).loc Cert.LateReferenceIdeal.main_arg0) = m ((c.tc : Thread Cert.LateReferenceIdeal.nD Cert.LateReferenceIdeal.τ).loc Cert.LateReferenceIdeal.main_arg0))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) →
    ∃ (v0 : (c : Dev Cert.QkvKernelIdeal.nD) → Buf (Elt Ideal) ((c.tc : Thread Cert.QkvKernelIdeal.nD Cert.QkvKernelIdeal.τ).loc Cert.QkvKernelIdeal.main_v6)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v6) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v26) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v12_0)) (v1 : (c : Dev Cert.InKernelIdeal.nD) → Buf (Elt Ideal) ((c.tc : Thread Cert.InKernelIdeal.nD Cert.InKernelIdeal.τ).loc Cert.InKernelIdeal.main_v12_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v12_0) = v0 c
          ∧ r.2.mem ((c.tc : Thread Cert.InKernelIdeal.nD Cert.InKernelIdeal.τ).loc Cert.InKernelIdeal.main_v12_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v29) = v0 c
          ∧ r.2.mem ((c.tc : Thread Cert.InReferenceIdeal.nD Cert.InReferenceIdeal.τ).loc Cert.InReferenceIdeal.main_v30) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OutTwoKernel_OutTwoKernelIdeal : Prop :=
  True

def algebraic_OutTwoKernelIdeal_OutTwoReferenceIdeal [hOutTwoKernelIdeal : Cert.OutTwoKernelIdeal.Facts] [hOutTwoReferenceIdeal : Cert.OutTwoReferenceIdeal.Facts] : Prop :=
  ∀ (m : (ℓ : Loc Cert.OutTwoKernelIdeal.nD Cert.OutTwoKernelIdeal.τ Cert.OutTwoKernelIdeal.sig) → Buf (Elt Ideal) ℓ) (g : Dev Cert.OutTwoKernelIdeal.nD → PrngReg)
    (m' : (ℓ : Loc Cert.OutTwoReferenceIdeal.nD Cert.OutTwoReferenceIdeal.τ Cert.OutTwoReferenceIdeal.sig) → Buf (Elt Ideal) ℓ) (g' : Dev Cert.OutTwoReferenceIdeal.nD → PrngReg), Pre_OutTwoKernelIdeal m →
    (∀ c : Dev Cert.OutTwoKernelIdeal.nD,
      m' ((c.tc : Thread Cert.OutTwoReferenceIdeal.nD Cert.OutTwoReferenceIdeal.τ).loc Cert.OutTwoReferenceIdeal.main_arg0) = m ((c.tc : Thread Cert.OutTwoKernelIdeal.nD Cert.OutTwoKernelIdeal.τ).loc Cert.OutTwoKernelIdeal.main_arg0)
      ∧ m' ((c.tc : Thread Cert.OutTwoReferenceIdeal.nD Cert.OutTwoReferenceIdeal.τ).loc Cert.OutTwoReferenceIdeal.main_arg1) = m ((c.tc : Thread Cert.OutTwoKernelIdeal.nD Cert.OutTwoKernelIdeal.τ).loc Cert.OutTwoKernelIdeal.main_arg1)
      ∧ m' ((c.tc : Thread Cert.OutTwoReferenceIdeal.nD Cert.OutTwoReferenceIdeal.τ).loc Cert.OutTwoReferenceIdeal.main_arg2) = m ((c.tc : Thread Cert.OutTwoKernelIdeal.nD Cert.OutTwoKernelIdeal.τ).loc Cert.OutTwoKernelIdeal.main_arg2)
      ∧ m' ((c.tc : Thread Cert.OutTwoReferenceIdeal.nD Cert.OutTwoReferenceIdeal.τ).loc Cert.OutTwoReferenceIdeal.main_arg3) = m ((c.tc : Thread Cert.OutTwoKernelIdeal.nD Cert.OutTwoKernelIdeal.τ).loc Cert.OutTwoKernelIdeal.main_arg3)
      ∧ m' ((c.tc : Thread Cert.OutTwoReferenceIdeal.nD Cert.OutTwoReferenceIdeal.τ).loc Cert.OutTwoReferenceIdeal.main_arg4) = m ((c.tc : Thread Cert.OutTwoKernelIdeal.nD Cert.OutTwoKernelIdeal.τ).loc Cert.OutTwoKernelIdeal.main_arg4)) →
    ∃ (v0 : (c : Dev Cert.OutTwoKernelIdeal.nD) → Buf (Elt Ideal) ((c.tc : Thread Cert.OutTwoKernelIdeal.nD Cert.OutTwoKernelIdeal.τ).loc Cert.OutTwoKernelIdeal.main_v1)),
      θ_run (Cert.OutTwoKernelIdeal.defs (F := Ideal)) (onTc (τ := Cert.OutTwoKernelIdeal.τ) (Cert.OutTwoKernelIdeal.main (F := Ideal))) ⟨m, fun _ => 0, g⟩ (fun r => ∀ c : Dev Cert.OutTwoKernelIdeal.nD,
          r.2.mem ((c.tc : Thread Cert.OutTwoKernelIdeal.nD Cert.OutTwoKernelIdeal.τ).loc Cert.OutTwoKernelIdeal.main_v1) = v0 c
          ∧ r.2.mem ((c.tc : Thread Cert.OutTwoKernelIdeal.nD Cert.OutTwoKernelIdeal.τ).loc Cert.OutTwoKernelIdeal.main_arg0) = m ((c.tc : Thread Cert.OutTwoKernelIdeal.nD Cert.OutTwoKernelIdeal.τ).loc Cert.OutTwoKernelIdeal.main_arg0)
          ∧ r.2.mem ((c.tc : Thread Cert.OutTwoKernelIdeal.nD Cert.OutTwoKernelIdeal.τ).loc Cert.OutTwoKernelIdeal.main_arg1) = m ((c.tc : Thread Cert.OutTwoKernelIdeal.nD Cert.OutTwoKernelIdeal.τ).loc Cert.OutTwoKernelIdeal.main_arg1)
          ∧ r.2.mem ((c.tc : Thread Cert.OutTwoKernelIdeal.nD Cert.OutTwoKernelIdeal.τ).loc Cert.OutTwoKernelIdeal.main_arg2) = m ((c.tc : Thread Cert.OutTwoKernelIdeal.nD Cert.OutTwoKernelIdeal.τ).loc Cert.OutTwoKernelIdeal.main_arg2)
          ∧ r.2.mem ((c.tc : Thread Cert.OutTwoKernelIdeal.nD Cert.OutTwoKernelIdeal.τ).loc Cert.OutTwoKernelIdeal.main_arg3) = m ((c.tc : Thread Cert.OutTwoKernelIdeal.nD Cert.OutTwoKernelIdeal.τ).loc Cert.OutTwoKernelIdeal.main_arg3)
          ∧ r.2.mem ((c.tc : Thread Cert.OutTwoKernelIdeal.nD Cert.OutTwoKernelIdeal.τ).loc Cert.OutTwoKernelIdeal.main_arg4) = m ((c.tc : Thread Cert.OutTwoKernelIdeal.nD Cert.OutTwoKernelIdeal.τ).loc Cert.OutTwoKernelIdeal.main_arg4))
      ∧ θ_run (Cert.OutTwoReferenceIdeal.defs (F := Ideal)) (onTc (τ := Cert.OutTwoReferenceIdeal.τ) (Cert.OutTwoReferenceIdeal.main (F := Ideal))) ⟨m', fun _ => 0, g'⟩ (fun r => ∀ c : Dev Cert.OutTwoReferenceIdeal.nD,
          r.2.mem ((c.tc : Thread Cert.OutTwoReferenceIdeal.nD Cert.OutTwoReferenceIdeal.τ).loc Cert.OutTwoReferenceIdeal.main_v5) = v0 c
          ∧ r.2.mem ((c.tc : Thread Cert.OutTwoReferenceIdeal.nD Cert.OutTwoReferenceIdeal.τ).loc Cert.OutTwoReferenceIdeal.main_arg0) = m' ((c.tc : Thread Cert.OutTwoReferenceIdeal.nD Cert.OutTwoReferenceIdeal.τ).loc Cert.OutTwoReferenceIdeal.main_arg0)
          ∧ r.2.mem ((c.tc : Thread Cert.OutTwoReferenceIdeal.nD Cert.OutTwoReferenceIdeal.τ).loc Cert.OutTwoReferenceIdeal.main_arg1) = m' ((c.tc : Thread Cert.OutTwoReferenceIdeal.nD Cert.OutTwoReferenceIdeal.τ).loc Cert.OutTwoReferenceIdeal.main_arg1)
          ∧ r.2.mem ((c.tc : Thread Cert.OutTwoReferenceIdeal.nD Cert.OutTwoReferenceIdeal.τ).loc Cert.OutTwoReferenceIdeal.main_arg2) = m' ((c.tc : Thread Cert.OutTwoReferenceIdeal.nD Cert.OutTwoReferenceIdeal.τ).loc Cert.OutTwoReferenceIdeal.main_arg2)
          ∧ r.2.mem ((c.tc : Thread Cert.OutTwoReferenceIdeal.nD Cert.OutTwoReferenceIdeal.τ).loc Cert.OutTwoReferenceIdeal.main_arg3) = m' ((c.tc : Thread Cert.OutTwoReferenceIdeal.nD Cert.OutTwoReferenceIdeal.τ).loc Cert.OutTwoReferenceIdeal.main_arg3)
          ∧ r.2.mem ((c.tc : Thread Cert.OutTwoReferenceIdeal.nD Cert.OutTwoReferenceIdeal.τ).loc Cert.OutTwoReferenceIdeal.main_arg4) = m' ((c.tc : Thread Cert.OutTwoReferenceIdeal.nD Cert.OutTwoReferenceIdeal.τ).loc Cert.OutTwoReferenceIdeal.main_arg4))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)) →
    ∃ (v0 : (c : Dev Cert.FinalKernelIdeal.nD) → Buf (Elt Ideal) ((c.tc : Thread Cert.FinalKernelIdeal.nD Cert.FinalKernelIdeal.τ).loc Cert.FinalKernelIdeal.main_v1)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v1) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v12) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v1) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v20) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)) →
    ∃ (v0 : (c : Dev Cert.AdaKernelIdeal.nD) → Buf (Elt Ideal) ((c.tc : Thread Cert.AdaKernelIdeal.nD Cert.AdaKernelIdeal.τ).loc Cert.AdaKernelIdeal.main_v4)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v4) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v8) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_CtxKernel_CtxKernelIdeal : Prop :=
  True

def algebraic_CtxKernelIdeal_CtxReferenceIdeal_pre_finite_ctx [hCtxKernelIdeal : Cert.CtxKernelIdeal.Facts] [hCtxReferenceIdeal : Cert.CtxReferenceIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_ctx m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)) →
    ∃ (v0 : (c : Dev Cert.CtxKernelIdeal.nD) → Buf (Elt Ideal) ((c.tc : Thread Cert.CtxKernelIdeal.nD Cert.CtxKernelIdeal.τ).loc Cert.CtxKernelIdeal.main_v0)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v0) = v0 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v22) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0))

def preserves_CtxQkvKernel_CtxQkvKernelIdeal : Prop :=
  True

def algebraic_CtxQkvKernelIdeal_CtxQkvReferenceIdeal [hCtxQkvKernelIdeal : Cert.CtxQkvKernelIdeal.Facts] [hCtxQkvReferenceIdeal : Cert.CtxQkvReferenceIdeal.Facts] : Prop :=
  ∀ (m : (ℓ : Loc Cert.CtxQkvKernelIdeal.nD Cert.CtxQkvKernelIdeal.τ Cert.CtxQkvKernelIdeal.sig) → Buf (Elt Ideal) ℓ) (g : Dev Cert.CtxQkvKernelIdeal.nD → PrngReg)
    (m' : (ℓ : Loc Cert.CtxQkvReferenceIdeal.nD Cert.CtxQkvReferenceIdeal.τ Cert.CtxQkvReferenceIdeal.sig) → Buf (Elt Ideal) ℓ) (g' : Dev Cert.CtxQkvReferenceIdeal.nD → PrngReg), Pre_CtxQkvKernelIdeal m →
    (∀ c : Dev Cert.CtxQkvKernelIdeal.nD,
      m' ((c.tc : Thread Cert.CtxQkvReferenceIdeal.nD Cert.CtxQkvReferenceIdeal.τ).loc Cert.CtxQkvReferenceIdeal.main_arg0) = m ((c.tc : Thread Cert.CtxQkvKernelIdeal.nD Cert.CtxQkvKernelIdeal.τ).loc Cert.CtxQkvKernelIdeal.main_arg0)
      ∧ m' ((c.tc : Thread Cert.CtxQkvReferenceIdeal.nD Cert.CtxQkvReferenceIdeal.τ).loc Cert.CtxQkvReferenceIdeal.main_arg1) = m ((c.tc : Thread Cert.CtxQkvKernelIdeal.nD Cert.CtxQkvKernelIdeal.τ).loc Cert.CtxQkvKernelIdeal.main_arg1)
      ∧ m' ((c.tc : Thread Cert.CtxQkvReferenceIdeal.nD Cert.CtxQkvReferenceIdeal.τ).loc Cert.CtxQkvReferenceIdeal.main_arg2) = m ((c.tc : Thread Cert.CtxQkvKernelIdeal.nD Cert.CtxQkvKernelIdeal.τ).loc Cert.CtxQkvKernelIdeal.main_arg2)
      ∧ m' ((c.tc : Thread Cert.CtxQkvReferenceIdeal.nD Cert.CtxQkvReferenceIdeal.τ).loc Cert.CtxQkvReferenceIdeal.main_arg3) = m ((c.tc : Thread Cert.CtxQkvKernelIdeal.nD Cert.CtxQkvKernelIdeal.τ).loc Cert.CtxQkvKernelIdeal.main_arg3)
      ∧ m' ((c.tc : Thread Cert.CtxQkvReferenceIdeal.nD Cert.CtxQkvReferenceIdeal.τ).loc Cert.CtxQkvReferenceIdeal.main_arg4) = m ((c.tc : Thread Cert.CtxQkvKernelIdeal.nD Cert.CtxQkvKernelIdeal.τ).loc Cert.CtxQkvKernelIdeal.main_arg4)) →
    ∃ (v0 : (c : Dev Cert.CtxQkvKernelIdeal.nD) → Buf (Elt Ideal) ((c.tc : Thread Cert.CtxQkvKernelIdeal.nD Cert.CtxQkvKernelIdeal.τ).loc Cert.CtxQkvKernelIdeal.main_v6)),
      θ_run (Cert.CtxQkvKernelIdeal.defs (F := Ideal)) (onTc (τ := Cert.CtxQkvKernelIdeal.τ) (Cert.CtxQkvKernelIdeal.main (F := Ideal))) ⟨m, fun _ => 0, g⟩ (fun r => ∀ c : Dev Cert.CtxQkvKernelIdeal.nD,
          r.2.mem ((c.tc : Thread Cert.CtxQkvKernelIdeal.nD Cert.CtxQkvKernelIdeal.τ).loc Cert.CtxQkvKernelIdeal.main_v6) = v0 c
          ∧ r.2.mem ((c.tc : Thread Cert.CtxQkvKernelIdeal.nD Cert.CtxQkvKernelIdeal.τ).loc Cert.CtxQkvKernelIdeal.main_arg0) = m ((c.tc : Thread Cert.CtxQkvKernelIdeal.nD Cert.CtxQkvKernelIdeal.τ).loc Cert.CtxQkvKernelIdeal.main_arg0)
          ∧ r.2.mem ((c.tc : Thread Cert.CtxQkvKernelIdeal.nD Cert.CtxQkvKernelIdeal.τ).loc Cert.CtxQkvKernelIdeal.main_arg1) = m ((c.tc : Thread Cert.CtxQkvKernelIdeal.nD Cert.CtxQkvKernelIdeal.τ).loc Cert.CtxQkvKernelIdeal.main_arg1)
          ∧ r.2.mem ((c.tc : Thread Cert.CtxQkvKernelIdeal.nD Cert.CtxQkvKernelIdeal.τ).loc Cert.CtxQkvKernelIdeal.main_arg2) = m ((c.tc : Thread Cert.CtxQkvKernelIdeal.nD Cert.CtxQkvKernelIdeal.τ).loc Cert.CtxQkvKernelIdeal.main_arg2)
          ∧ r.2.mem ((c.tc : Thread Cert.CtxQkvKernelIdeal.nD Cert.CtxQkvKernelIdeal.τ).loc Cert.CtxQkvKernelIdeal.main_arg3) = m ((c.tc : Thread Cert.CtxQkvKernelIdeal.nD Cert.CtxQkvKernelIdeal.τ).loc Cert.CtxQkvKernelIdeal.main_arg3)
          ∧ r.2.mem ((c.tc : Thread Cert.CtxQkvKernelIdeal.nD Cert.CtxQkvKernelIdeal.τ).loc Cert.CtxQkvKernelIdeal.main_arg4) = m ((c.tc : Thread Cert.CtxQkvKernelIdeal.nD Cert.CtxQkvKernelIdeal.τ).loc Cert.CtxQkvKernelIdeal.main_arg4))
      ∧ θ_run (Cert.CtxQkvReferenceIdeal.defs (F := Ideal)) (onTc (τ := Cert.CtxQkvReferenceIdeal.τ) (Cert.CtxQkvReferenceIdeal.main (F := Ideal))) ⟨m', fun _ => 0, g'⟩ (fun r => ∀ c : Dev Cert.CtxQkvReferenceIdeal.nD,
          r.2.mem ((c.tc : Thread Cert.CtxQkvReferenceIdeal.nD Cert.CtxQkvReferenceIdeal.τ).loc Cert.CtxQkvReferenceIdeal.main_v26) = v0 c
          ∧ r.2.mem ((c.tc : Thread Cert.CtxQkvReferenceIdeal.nD Cert.CtxQkvReferenceIdeal.τ).loc Cert.CtxQkvReferenceIdeal.main_arg0) = m' ((c.tc : Thread Cert.CtxQkvReferenceIdeal.nD Cert.CtxQkvReferenceIdeal.τ).loc Cert.CtxQkvReferenceIdeal.main_arg0)
          ∧ r.2.mem ((c.tc : Thread Cert.CtxQkvReferenceIdeal.nD Cert.CtxQkvReferenceIdeal.τ).loc Cert.CtxQkvReferenceIdeal.main_arg1) = m' ((c.tc : Thread Cert.CtxQkvReferenceIdeal.nD Cert.CtxQkvReferenceIdeal.τ).loc Cert.CtxQkvReferenceIdeal.main_arg1)
          ∧ r.2.mem ((c.tc : Thread Cert.CtxQkvReferenceIdeal.nD Cert.CtxQkvReferenceIdeal.τ).loc Cert.CtxQkvReferenceIdeal.main_arg2) = m' ((c.tc : Thread Cert.CtxQkvReferenceIdeal.nD Cert.CtxQkvReferenceIdeal.τ).loc Cert.CtxQkvReferenceIdeal.main_arg2)
          ∧ r.2.mem ((c.tc : Thread Cert.CtxQkvReferenceIdeal.nD Cert.CtxQkvReferenceIdeal.τ).loc Cert.CtxQkvReferenceIdeal.main_arg3) = m' ((c.tc : Thread Cert.CtxQkvReferenceIdeal.nD Cert.CtxQkvReferenceIdeal.τ).loc Cert.CtxQkvReferenceIdeal.main_arg3)
          ∧ r.2.mem ((c.tc : Thread Cert.CtxQkvReferenceIdeal.nD Cert.CtxQkvReferenceIdeal.τ).loc Cert.CtxQkvReferenceIdeal.main_arg4) = m' ((c.tc : Thread Cert.CtxQkvReferenceIdeal.nD Cert.CtxQkvReferenceIdeal.τ).loc Cert.CtxQkvReferenceIdeal.main_arg4))

def preserves_CtxInKernel_CtxInKernelIdeal : Prop :=
  True

def algebraic_CtxInKernelIdeal_CtxInReferenceIdeal [hCtxInKernelIdeal : Cert.CtxInKernelIdeal.Facts] [hCtxInReferenceIdeal : Cert.CtxInReferenceIdeal.Facts] : Prop :=
  ∀ (m : (ℓ : Loc Cert.CtxInKernelIdeal.nD Cert.CtxInKernelIdeal.τ Cert.CtxInKernelIdeal.sig) → Buf (Elt Ideal) ℓ) (g : Dev Cert.CtxInKernelIdeal.nD → PrngReg)
    (m' : (ℓ : Loc Cert.CtxInReferenceIdeal.nD Cert.CtxInReferenceIdeal.τ Cert.CtxInReferenceIdeal.sig) → Buf (Elt Ideal) ℓ) (g' : Dev Cert.CtxInReferenceIdeal.nD → PrngReg), Pre_CtxInKernelIdeal m →
    (∀ c : Dev Cert.CtxInKernelIdeal.nD,
      m' ((c.tc : Thread Cert.CtxInReferenceIdeal.nD Cert.CtxInReferenceIdeal.τ).loc Cert.CtxInReferenceIdeal.main_arg0) = m ((c.tc : Thread Cert.CtxInKernelIdeal.nD Cert.CtxInKernelIdeal.τ).loc Cert.CtxInKernelIdeal.main_arg0)
      ∧ m' ((c.tc : Thread Cert.CtxInReferenceIdeal.nD Cert.CtxInReferenceIdeal.τ).loc Cert.CtxInReferenceIdeal.main_arg1) = m ((c.tc : Thread Cert.CtxInKernelIdeal.nD Cert.CtxInKernelIdeal.τ).loc Cert.CtxInKernelIdeal.main_arg1)
      ∧ m' ((c.tc : Thread Cert.CtxInReferenceIdeal.nD Cert.CtxInReferenceIdeal.τ).loc Cert.CtxInReferenceIdeal.main_arg2) = m ((c.tc : Thread Cert.CtxInKernelIdeal.nD Cert.CtxInKernelIdeal.τ).loc Cert.CtxInKernelIdeal.main_arg2)
      ∧ m' ((c.tc : Thread Cert.CtxInReferenceIdeal.nD Cert.CtxInReferenceIdeal.τ).loc Cert.CtxInReferenceIdeal.main_arg3) = m ((c.tc : Thread Cert.CtxInKernelIdeal.nD Cert.CtxInKernelIdeal.τ).loc Cert.CtxInKernelIdeal.main_arg3)
      ∧ m' ((c.tc : Thread Cert.CtxInReferenceIdeal.nD Cert.CtxInReferenceIdeal.τ).loc Cert.CtxInReferenceIdeal.main_arg4) = m ((c.tc : Thread Cert.CtxInKernelIdeal.nD Cert.CtxInKernelIdeal.τ).loc Cert.CtxInKernelIdeal.main_arg4)) →
    ∃ (v0 : (c : Dev Cert.CtxInKernelIdeal.nD) → Buf (Elt Ideal) ((c.tc : Thread Cert.CtxInKernelIdeal.nD Cert.CtxInKernelIdeal.τ).loc Cert.CtxInKernelIdeal.main_v12_0)) (v1 : (c : Dev Cert.CtxInKernelIdeal.nD) → Buf (Elt Ideal) ((c.tc : Thread Cert.CtxInKernelIdeal.nD Cert.CtxInKernelIdeal.τ).loc Cert.CtxInKernelIdeal.main_v12_1)),
      θ_run (Cert.CtxInKernelIdeal.defs (F := Ideal)) (onTc (τ := Cert.CtxInKernelIdeal.τ) (Cert.CtxInKernelIdeal.main (F := Ideal))) ⟨m, fun _ => 0, g⟩ (fun r => ∀ c : Dev Cert.CtxInKernelIdeal.nD,
          r.2.mem ((c.tc : Thread Cert.CtxInKernelIdeal.nD Cert.CtxInKernelIdeal.τ).loc Cert.CtxInKernelIdeal.main_v12_0) = v0 c
          ∧ r.2.mem ((c.tc : Thread Cert.CtxInKernelIdeal.nD Cert.CtxInKernelIdeal.τ).loc Cert.CtxInKernelIdeal.main_v12_1) = v1 c
          ∧ r.2.mem ((c.tc : Thread Cert.CtxInKernelIdeal.nD Cert.CtxInKernelIdeal.τ).loc Cert.CtxInKernelIdeal.main_arg0) = m ((c.tc : Thread Cert.CtxInKernelIdeal.nD Cert.CtxInKernelIdeal.τ).loc Cert.CtxInKernelIdeal.main_arg0)
          ∧ r.2.mem ((c.tc : Thread Cert.CtxInKernelIdeal.nD Cert.CtxInKernelIdeal.τ).loc Cert.CtxInKernelIdeal.main_arg1) = m ((c.tc : Thread Cert.CtxInKernelIdeal.nD Cert.CtxInKernelIdeal.τ).loc Cert.CtxInKernelIdeal.main_arg1)
          ∧ r.2.mem ((c.tc : Thread Cert.CtxInKernelIdeal.nD Cert.CtxInKernelIdeal.τ).loc Cert.CtxInKernelIdeal.main_arg2) = m ((c.tc : Thread Cert.CtxInKernelIdeal.nD Cert.CtxInKernelIdeal.τ).loc Cert.CtxInKernelIdeal.main_arg2)
          ∧ r.2.mem ((c.tc : Thread Cert.CtxInKernelIdeal.nD Cert.CtxInKernelIdeal.τ).loc Cert.CtxInKernelIdeal.main_arg3) = m ((c.tc : Thread Cert.CtxInKernelIdeal.nD Cert.CtxInKernelIdeal.τ).loc Cert.CtxInKernelIdeal.main_arg3)
          ∧ r.2.mem ((c.tc : Thread Cert.CtxInKernelIdeal.nD Cert.CtxInKernelIdeal.τ).loc Cert.CtxInKernelIdeal.main_arg4) = m ((c.tc : Thread Cert.CtxInKernelIdeal.nD Cert.CtxInKernelIdeal.τ).loc Cert.CtxInKernelIdeal.main_arg4))
      ∧ θ_run (Cert.CtxInReferenceIdeal.defs (F := Ideal)) (onTc (τ := Cert.CtxInReferenceIdeal.τ) (Cert.CtxInReferenceIdeal.main (F := Ideal))) ⟨m', fun _ => 0, g'⟩ (fun r => ∀ c : Dev Cert.CtxInReferenceIdeal.nD,
          r.2.mem ((c.tc : Thread Cert.CtxInReferenceIdeal.nD Cert.CtxInReferenceIdeal.τ).loc Cert.CtxInReferenceIdeal.main_v29) = v0 c
          ∧ r.2.mem ((c.tc : Thread Cert.CtxInReferenceIdeal.nD Cert.CtxInReferenceIdeal.τ).loc Cert.CtxInReferenceIdeal.main_v30) = v1 c
          ∧ r.2.mem ((c.tc : Thread Cert.CtxInReferenceIdeal.nD Cert.CtxInReferenceIdeal.τ).loc Cert.CtxInReferenceIdeal.main_arg0) = m' ((c.tc : Thread Cert.CtxInReferenceIdeal.nD Cert.CtxInReferenceIdeal.τ).loc Cert.CtxInReferenceIdeal.main_arg0)
          ∧ r.2.mem ((c.tc : Thread Cert.CtxInReferenceIdeal.nD Cert.CtxInReferenceIdeal.τ).loc Cert.CtxInReferenceIdeal.main_arg1) = m' ((c.tc : Thread Cert.CtxInReferenceIdeal.nD Cert.CtxInReferenceIdeal.τ).loc Cert.CtxInReferenceIdeal.main_arg1)
          ∧ r.2.mem ((c.tc : Thread Cert.CtxInReferenceIdeal.nD Cert.CtxInReferenceIdeal.τ).loc Cert.CtxInReferenceIdeal.main_arg2) = m' ((c.tc : Thread Cert.CtxInReferenceIdeal.nD Cert.CtxInReferenceIdeal.τ).loc Cert.CtxInReferenceIdeal.main_arg2)
          ∧ r.2.mem ((c.tc : Thread Cert.CtxInReferenceIdeal.nD Cert.CtxInReferenceIdeal.τ).loc Cert.CtxInReferenceIdeal.main_arg3) = m' ((c.tc : Thread Cert.CtxInReferenceIdeal.nD Cert.CtxInReferenceIdeal.τ).loc Cert.CtxInReferenceIdeal.main_arg3)
          ∧ r.2.mem ((c.tc : Thread Cert.CtxInReferenceIdeal.nD Cert.CtxInReferenceIdeal.τ).loc Cert.CtxInReferenceIdeal.main_arg4) = m' ((c.tc : Thread Cert.CtxInReferenceIdeal.nD Cert.CtxInReferenceIdeal.τ).loc Cert.CtxInReferenceIdeal.main_arg4))

def preserves_CtxOutKernel_CtxOutKernelIdeal : Prop :=
  True

def algebraic_CtxOutKernelIdeal_CtxOutReferenceIdeal [hCtxOutKernelIdeal : Cert.CtxOutKernelIdeal.Facts] [hCtxOutReferenceIdeal : Cert.CtxOutReferenceIdeal.Facts] : Prop :=
  ∀ (m : (ℓ : Loc Cert.CtxOutKernelIdeal.nD Cert.CtxOutKernelIdeal.τ Cert.CtxOutKernelIdeal.sig) → Buf (Elt Ideal) ℓ) (g : Dev Cert.CtxOutKernelIdeal.nD → PrngReg)
    (m' : (ℓ : Loc Cert.CtxOutReferenceIdeal.nD Cert.CtxOutReferenceIdeal.τ Cert.CtxOutReferenceIdeal.sig) → Buf (Elt Ideal) ℓ) (g' : Dev Cert.CtxOutReferenceIdeal.nD → PrngReg), Pre_CtxOutKernelIdeal m →
    (∀ c : Dev Cert.CtxOutKernelIdeal.nD,
      m' ((c.tc : Thread Cert.CtxOutReferenceIdeal.nD Cert.CtxOutReferenceIdeal.τ).loc Cert.CtxOutReferenceIdeal.main_arg0) = m ((c.tc : Thread Cert.CtxOutKernelIdeal.nD Cert.CtxOutKernelIdeal.τ).loc Cert.CtxOutKernelIdeal.main_arg0)
      ∧ m' ((c.tc : Thread Cert.CtxOutReferenceIdeal.nD Cert.CtxOutReferenceIdeal.τ).loc Cert.CtxOutReferenceIdeal.main_arg1) = m ((c.tc : Thread Cert.CtxOutKernelIdeal.nD Cert.CtxOutKernelIdeal.τ).loc Cert.CtxOutKernelIdeal.main_arg1)
      ∧ m' ((c.tc : Thread Cert.CtxOutReferenceIdeal.nD Cert.CtxOutReferenceIdeal.τ).loc Cert.CtxOutReferenceIdeal.main_arg2) = m ((c.tc : Thread Cert.CtxOutKernelIdeal.nD Cert.CtxOutKernelIdeal.τ).loc Cert.CtxOutKernelIdeal.main_arg2)
      ∧ m' ((c.tc : Thread Cert.CtxOutReferenceIdeal.nD Cert.CtxOutReferenceIdeal.τ).loc Cert.CtxOutReferenceIdeal.main_arg3) = m ((c.tc : Thread Cert.CtxOutKernelIdeal.nD Cert.CtxOutKernelIdeal.τ).loc Cert.CtxOutKernelIdeal.main_arg3)) →
    ∃ (v0 : (c : Dev Cert.CtxOutKernelIdeal.nD) → Buf (Elt Ideal) ((c.tc : Thread Cert.CtxOutKernelIdeal.nD Cert.CtxOutKernelIdeal.τ).loc Cert.CtxOutKernelIdeal.main_v1)),
      θ_run (Cert.CtxOutKernelIdeal.defs (F := Ideal)) (onTc (τ := Cert.CtxOutKernelIdeal.τ) (Cert.CtxOutKernelIdeal.main (F := Ideal))) ⟨m, fun _ => 0, g⟩ (fun r => ∀ c : Dev Cert.CtxOutKernelIdeal.nD,
          r.2.mem ((c.tc : Thread Cert.CtxOutKernelIdeal.nD Cert.CtxOutKernelIdeal.τ).loc Cert.CtxOutKernelIdeal.main_v1) = v0 c
          ∧ r.2.mem ((c.tc : Thread Cert.CtxOutKernelIdeal.nD Cert.CtxOutKernelIdeal.τ).loc Cert.CtxOutKernelIdeal.main_arg0) = m ((c.tc : Thread Cert.CtxOutKernelIdeal.nD Cert.CtxOutKernelIdeal.τ).loc Cert.CtxOutKernelIdeal.main_arg0)
          ∧ r.2.mem ((c.tc : Thread Cert.CtxOutKernelIdeal.nD Cert.CtxOutKernelIdeal.τ).loc Cert.CtxOutKernelIdeal.main_arg1) = m ((c.tc : Thread Cert.CtxOutKernelIdeal.nD Cert.CtxOutKernelIdeal.τ).loc Cert.CtxOutKernelIdeal.main_arg1)
          ∧ r.2.mem ((c.tc : Thread Cert.CtxOutKernelIdeal.nD Cert.CtxOutKernelIdeal.τ).loc Cert.CtxOutKernelIdeal.main_arg2) = m ((c.tc : Thread Cert.CtxOutKernelIdeal.nD Cert.CtxOutKernelIdeal.τ).loc Cert.CtxOutKernelIdeal.main_arg2)
          ∧ r.2.mem ((c.tc : Thread Cert.CtxOutKernelIdeal.nD Cert.CtxOutKernelIdeal.τ).loc Cert.CtxOutKernelIdeal.main_arg3) = m ((c.tc : Thread Cert.CtxOutKernelIdeal.nD Cert.CtxOutKernelIdeal.τ).loc Cert.CtxOutKernelIdeal.main_arg3))
      ∧ θ_run (Cert.CtxOutReferenceIdeal.defs (F := Ideal)) (onTc (τ := Cert.CtxOutReferenceIdeal.τ) (Cert.CtxOutReferenceIdeal.main (F := Ideal))) ⟨m', fun _ => 0, g'⟩ (fun r => ∀ c : Dev Cert.CtxOutReferenceIdeal.nD,
          r.2.mem ((c.tc : Thread Cert.CtxOutReferenceIdeal.nD Cert.CtxOutReferenceIdeal.τ).loc Cert.CtxOutReferenceIdeal.main_v4) = v0 c
          ∧ r.2.mem ((c.tc : Thread Cert.CtxOutReferenceIdeal.nD Cert.CtxOutReferenceIdeal.τ).loc Cert.CtxOutReferenceIdeal.main_arg0) = m' ((c.tc : Thread Cert.CtxOutReferenceIdeal.nD Cert.CtxOutReferenceIdeal.τ).loc Cert.CtxOutReferenceIdeal.main_arg0)
          ∧ r.2.mem ((c.tc : Thread Cert.CtxOutReferenceIdeal.nD Cert.CtxOutReferenceIdeal.τ).loc Cert.CtxOutReferenceIdeal.main_arg1) = m' ((c.tc : Thread Cert.CtxOutReferenceIdeal.nD Cert.CtxOutReferenceIdeal.τ).loc Cert.CtxOutReferenceIdeal.main_arg1)
          ∧ r.2.mem ((c.tc : Thread Cert.CtxOutReferenceIdeal.nD Cert.CtxOutReferenceIdeal.τ).loc Cert.CtxOutReferenceIdeal.main_arg2) = m' ((c.tc : Thread Cert.CtxOutReferenceIdeal.nD Cert.CtxOutReferenceIdeal.τ).loc Cert.CtxOutReferenceIdeal.main_arg2)
          ∧ r.2.mem ((c.tc : Thread Cert.CtxOutReferenceIdeal.nD Cert.CtxOutReferenceIdeal.τ).loc Cert.CtxOutReferenceIdeal.main_arg3) = m' ((c.tc : Thread Cert.CtxOutReferenceIdeal.nD Cert.CtxOutReferenceIdeal.τ).loc Cert.CtxOutReferenceIdeal.main_arg3))

def preserves_CtxOutTwoKernel_CtxOutTwoKernelIdeal : Prop :=
  True

def algebraic_CtxOutTwoKernelIdeal_CtxOutTwoReferenceIdeal [hCtxOutTwoKernelIdeal : Cert.CtxOutTwoKernelIdeal.Facts] [hCtxOutTwoReferenceIdeal : Cert.CtxOutTwoReferenceIdeal.Facts] : Prop :=
  ∀ (m : (ℓ : Loc Cert.CtxOutTwoKernelIdeal.nD Cert.CtxOutTwoKernelIdeal.τ Cert.CtxOutTwoKernelIdeal.sig) → Buf (Elt Ideal) ℓ) (g : Dev Cert.CtxOutTwoKernelIdeal.nD → PrngReg)
    (m' : (ℓ : Loc Cert.CtxOutTwoReferenceIdeal.nD Cert.CtxOutTwoReferenceIdeal.τ Cert.CtxOutTwoReferenceIdeal.sig) → Buf (Elt Ideal) ℓ) (g' : Dev Cert.CtxOutTwoReferenceIdeal.nD → PrngReg), Pre_CtxOutTwoKernelIdeal m →
    (∀ c : Dev Cert.CtxOutTwoKernelIdeal.nD,
      m' ((c.tc : Thread Cert.CtxOutTwoReferenceIdeal.nD Cert.CtxOutTwoReferenceIdeal.τ).loc Cert.CtxOutTwoReferenceIdeal.main_arg0) = m ((c.tc : Thread Cert.CtxOutTwoKernelIdeal.nD Cert.CtxOutTwoKernelIdeal.τ).loc Cert.CtxOutTwoKernelIdeal.main_arg0)
      ∧ m' ((c.tc : Thread Cert.CtxOutTwoReferenceIdeal.nD Cert.CtxOutTwoReferenceIdeal.τ).loc Cert.CtxOutTwoReferenceIdeal.main_arg1) = m ((c.tc : Thread Cert.CtxOutTwoKernelIdeal.nD Cert.CtxOutTwoKernelIdeal.τ).loc Cert.CtxOutTwoKernelIdeal.main_arg1)
      ∧ m' ((c.tc : Thread Cert.CtxOutTwoReferenceIdeal.nD Cert.CtxOutTwoReferenceIdeal.τ).loc Cert.CtxOutTwoReferenceIdeal.main_arg2) = m ((c.tc : Thread Cert.CtxOutTwoKernelIdeal.nD Cert.CtxOutTwoKernelIdeal.τ).loc Cert.CtxOutTwoKernelIdeal.main_arg2)
      ∧ m' ((c.tc : Thread Cert.CtxOutTwoReferenceIdeal.nD Cert.CtxOutTwoReferenceIdeal.τ).loc Cert.CtxOutTwoReferenceIdeal.main_arg3) = m ((c.tc : Thread Cert.CtxOutTwoKernelIdeal.nD Cert.CtxOutTwoKernelIdeal.τ).loc Cert.CtxOutTwoKernelIdeal.main_arg3)
      ∧ m' ((c.tc : Thread Cert.CtxOutTwoReferenceIdeal.nD Cert.CtxOutTwoReferenceIdeal.τ).loc Cert.CtxOutTwoReferenceIdeal.main_arg4) = m ((c.tc : Thread Cert.CtxOutTwoKernelIdeal.nD Cert.CtxOutTwoKernelIdeal.τ).loc Cert.CtxOutTwoKernelIdeal.main_arg4)) →
    ∃ (v0 : (c : Dev Cert.CtxOutTwoKernelIdeal.nD) → Buf (Elt Ideal) ((c.tc : Thread Cert.CtxOutTwoKernelIdeal.nD Cert.CtxOutTwoKernelIdeal.τ).loc Cert.CtxOutTwoKernelIdeal.main_v1)),
      θ_run (Cert.CtxOutTwoKernelIdeal.defs (F := Ideal)) (onTc (τ := Cert.CtxOutTwoKernelIdeal.τ) (Cert.CtxOutTwoKernelIdeal.main (F := Ideal))) ⟨m, fun _ => 0, g⟩ (fun r => ∀ c : Dev Cert.CtxOutTwoKernelIdeal.nD,
          r.2.mem ((c.tc : Thread Cert.CtxOutTwoKernelIdeal.nD Cert.CtxOutTwoKernelIdeal.τ).loc Cert.CtxOutTwoKernelIdeal.main_v1) = v0 c
          ∧ r.2.mem ((c.tc : Thread Cert.CtxOutTwoKernelIdeal.nD Cert.CtxOutTwoKernelIdeal.τ).loc Cert.CtxOutTwoKernelIdeal.main_arg0) = m ((c.tc : Thread Cert.CtxOutTwoKernelIdeal.nD Cert.CtxOutTwoKernelIdeal.τ).loc Cert.CtxOutTwoKernelIdeal.main_arg0)
          ∧ r.2.mem ((c.tc : Thread Cert.CtxOutTwoKernelIdeal.nD Cert.CtxOutTwoKernelIdeal.τ).loc Cert.CtxOutTwoKernelIdeal.main_arg1) = m ((c.tc : Thread Cert.CtxOutTwoKernelIdeal.nD Cert.CtxOutTwoKernelIdeal.τ).loc Cert.CtxOutTwoKernelIdeal.main_arg1)
          ∧ r.2.mem ((c.tc : Thread Cert.CtxOutTwoKernelIdeal.nD Cert.CtxOutTwoKernelIdeal.τ).loc Cert.CtxOutTwoKernelIdeal.main_arg2) = m ((c.tc : Thread Cert.CtxOutTwoKernelIdeal.nD Cert.CtxOutTwoKernelIdeal.τ).loc Cert.CtxOutTwoKernelIdeal.main_arg2)
          ∧ r.2.mem ((c.tc : Thread Cert.CtxOutTwoKernelIdeal.nD Cert.CtxOutTwoKernelIdeal.τ).loc Cert.CtxOutTwoKernelIdeal.main_arg3) = m ((c.tc : Thread Cert.CtxOutTwoKernelIdeal.nD Cert.CtxOutTwoKernelIdeal.τ).loc Cert.CtxOutTwoKernelIdeal.main_arg3)
          ∧ r.2.mem ((c.tc : Thread Cert.CtxOutTwoKernelIdeal.nD Cert.CtxOutTwoKernelIdeal.τ).loc Cert.CtxOutTwoKernelIdeal.main_arg4) = m ((c.tc : Thread Cert.CtxOutTwoKernelIdeal.nD Cert.CtxOutTwoKernelIdeal.τ).loc Cert.CtxOutTwoKernelIdeal.main_arg4))
      ∧ θ_run (Cert.CtxOutTwoReferenceIdeal.defs (F := Ideal)) (onTc (τ := Cert.CtxOutTwoReferenceIdeal.τ) (Cert.CtxOutTwoReferenceIdeal.main (F := Ideal))) ⟨m', fun _ => 0, g'⟩ (fun r => ∀ c : Dev Cert.CtxOutTwoReferenceIdeal.nD,
          r.2.mem ((c.tc : Thread Cert.CtxOutTwoReferenceIdeal.nD Cert.CtxOutTwoReferenceIdeal.τ).loc Cert.CtxOutTwoReferenceIdeal.main_v5) = v0 c
          ∧ r.2.mem ((c.tc : Thread Cert.CtxOutTwoReferenceIdeal.nD Cert.CtxOutTwoReferenceIdeal.τ).loc Cert.CtxOutTwoReferenceIdeal.main_arg0) = m' ((c.tc : Thread Cert.CtxOutTwoReferenceIdeal.nD Cert.CtxOutTwoReferenceIdeal.τ).loc Cert.CtxOutTwoReferenceIdeal.main_arg0)
          ∧ r.2.mem ((c.tc : Thread Cert.CtxOutTwoReferenceIdeal.nD Cert.CtxOutTwoReferenceIdeal.τ).loc Cert.CtxOutTwoReferenceIdeal.main_arg1) = m' ((c.tc : Thread Cert.CtxOutTwoReferenceIdeal.nD Cert.CtxOutTwoReferenceIdeal.τ).loc Cert.CtxOutTwoReferenceIdeal.main_arg1)
          ∧ r.2.mem ((c.tc : Thread Cert.CtxOutTwoReferenceIdeal.nD Cert.CtxOutTwoReferenceIdeal.τ).loc Cert.CtxOutTwoReferenceIdeal.main_arg2) = m' ((c.tc : Thread Cert.CtxOutTwoReferenceIdeal.nD Cert.CtxOutTwoReferenceIdeal.τ).loc Cert.CtxOutTwoReferenceIdeal.main_arg2)
          ∧ r.2.mem ((c.tc : Thread Cert.CtxOutTwoReferenceIdeal.nD Cert.CtxOutTwoReferenceIdeal.τ).loc Cert.CtxOutTwoReferenceIdeal.main_arg3) = m' ((c.tc : Thread Cert.CtxOutTwoReferenceIdeal.nD Cert.CtxOutTwoReferenceIdeal.τ).loc Cert.CtxOutTwoReferenceIdeal.main_arg3)
          ∧ r.2.mem ((c.tc : Thread Cert.CtxOutTwoReferenceIdeal.nD Cert.CtxOutTwoReferenceIdeal.τ).loc Cert.CtxOutTwoReferenceIdeal.main_arg4) = m' ((c.tc : Thread Cert.CtxOutTwoReferenceIdeal.nD Cert.CtxOutTwoReferenceIdeal.τ).loc Cert.CtxOutTwoReferenceIdeal.main_arg4))

def preserves_CtxGateKernel_CtxGateKernelIdeal : Prop :=
  True

def algebraic_CtxGateKernelIdeal_CtxGateReferenceIdeal [hCtxGateKernelIdeal : Cert.CtxGateKernelIdeal.Facts] [hCtxGateReferenceIdeal : Cert.CtxGateReferenceIdeal.Facts] : Prop :=
  ∀ (m : (ℓ : Loc Cert.CtxGateKernelIdeal.nD Cert.CtxGateKernelIdeal.τ Cert.CtxGateKernelIdeal.sig) → Buf (Elt Ideal) ℓ) (g : Dev Cert.CtxGateKernelIdeal.nD → PrngReg)
    (m' : (ℓ : Loc Cert.CtxGateReferenceIdeal.nD Cert.CtxGateReferenceIdeal.τ Cert.CtxGateReferenceIdeal.sig) → Buf (Elt Ideal) ℓ) (g' : Dev Cert.CtxGateReferenceIdeal.nD → PrngReg), Pre_CtxGateKernelIdeal m →
    (∀ c : Dev Cert.CtxGateKernelIdeal.nD,
      m' ((c.tc : Thread Cert.CtxGateReferenceIdeal.nD Cert.CtxGateReferenceIdeal.τ).loc Cert.CtxGateReferenceIdeal.main_arg0) = m ((c.tc : Thread Cert.CtxGateKernelIdeal.nD Cert.CtxGateKernelIdeal.τ).loc Cert.CtxGateKernelIdeal.main_arg0)
      ∧ m' ((c.tc : Thread Cert.CtxGateReferenceIdeal.nD Cert.CtxGateReferenceIdeal.τ).loc Cert.CtxGateReferenceIdeal.main_arg1) = m ((c.tc : Thread Cert.CtxGateKernelIdeal.nD Cert.CtxGateKernelIdeal.τ).loc Cert.CtxGateKernelIdeal.main_arg1)
      ∧ m' ((c.tc : Thread Cert.CtxGateReferenceIdeal.nD Cert.CtxGateReferenceIdeal.τ).loc Cert.CtxGateReferenceIdeal.main_arg2) = m ((c.tc : Thread Cert.CtxGateKernelIdeal.nD Cert.CtxGateKernelIdeal.τ).loc Cert.CtxGateKernelIdeal.main_arg2)
      ∧ m' ((c.tc : Thread Cert.CtxGateReferenceIdeal.nD Cert.CtxGateReferenceIdeal.τ).loc Cert.CtxGateReferenceIdeal.main_arg3) = m ((c.tc : Thread Cert.CtxGateKernelIdeal.nD Cert.CtxGateKernelIdeal.τ).loc Cert.CtxGateKernelIdeal.main_arg3)) →
    ∃ (v0 : (c : Dev Cert.CtxGateKernelIdeal.nD) → Buf (Elt Ideal) ((c.tc : Thread Cert.CtxGateKernelIdeal.nD Cert.CtxGateKernelIdeal.τ).loc Cert.CtxGateKernelIdeal.main_v1)),
      θ_run (Cert.CtxGateKernelIdeal.defs (F := Ideal)) (onTc (τ := Cert.CtxGateKernelIdeal.τ) (Cert.CtxGateKernelIdeal.main (F := Ideal))) ⟨m, fun _ => 0, g⟩ (fun r => ∀ c : Dev Cert.CtxGateKernelIdeal.nD,
          r.2.mem ((c.tc : Thread Cert.CtxGateKernelIdeal.nD Cert.CtxGateKernelIdeal.τ).loc Cert.CtxGateKernelIdeal.main_v1) = v0 c
          ∧ r.2.mem ((c.tc : Thread Cert.CtxGateKernelIdeal.nD Cert.CtxGateKernelIdeal.τ).loc Cert.CtxGateKernelIdeal.main_arg0) = m ((c.tc : Thread Cert.CtxGateKernelIdeal.nD Cert.CtxGateKernelIdeal.τ).loc Cert.CtxGateKernelIdeal.main_arg0)
          ∧ r.2.mem ((c.tc : Thread Cert.CtxGateKernelIdeal.nD Cert.CtxGateKernelIdeal.τ).loc Cert.CtxGateKernelIdeal.main_arg1) = m ((c.tc : Thread Cert.CtxGateKernelIdeal.nD Cert.CtxGateKernelIdeal.τ).loc Cert.CtxGateKernelIdeal.main_arg1)
          ∧ r.2.mem ((c.tc : Thread Cert.CtxGateKernelIdeal.nD Cert.CtxGateKernelIdeal.τ).loc Cert.CtxGateKernelIdeal.main_arg2) = m ((c.tc : Thread Cert.CtxGateKernelIdeal.nD Cert.CtxGateKernelIdeal.τ).loc Cert.CtxGateKernelIdeal.main_arg2)
          ∧ r.2.mem ((c.tc : Thread Cert.CtxGateKernelIdeal.nD Cert.CtxGateKernelIdeal.τ).loc Cert.CtxGateKernelIdeal.main_arg3) = m ((c.tc : Thread Cert.CtxGateKernelIdeal.nD Cert.CtxGateKernelIdeal.τ).loc Cert.CtxGateKernelIdeal.main_arg3))
      ∧ θ_run (Cert.CtxGateReferenceIdeal.defs (F := Ideal)) (onTc (τ := Cert.CtxGateReferenceIdeal.τ) (Cert.CtxGateReferenceIdeal.main (F := Ideal))) ⟨m', fun _ => 0, g'⟩ (fun r => ∀ c : Dev Cert.CtxGateReferenceIdeal.nD,
          r.2.mem ((c.tc : Thread Cert.CtxGateReferenceIdeal.nD Cert.CtxGateReferenceIdeal.τ).loc Cert.CtxGateReferenceIdeal.main_v20) = v0 c
          ∧ r.2.mem ((c.tc : Thread Cert.CtxGateReferenceIdeal.nD Cert.CtxGateReferenceIdeal.τ).loc Cert.CtxGateReferenceIdeal.main_arg0) = m' ((c.tc : Thread Cert.CtxGateReferenceIdeal.nD Cert.CtxGateReferenceIdeal.τ).loc Cert.CtxGateReferenceIdeal.main_arg0)
          ∧ r.2.mem ((c.tc : Thread Cert.CtxGateReferenceIdeal.nD Cert.CtxGateReferenceIdeal.τ).loc Cert.CtxGateReferenceIdeal.main_arg1) = m' ((c.tc : Thread Cert.CtxGateReferenceIdeal.nD Cert.CtxGateReferenceIdeal.τ).loc Cert.CtxGateReferenceIdeal.main_arg1)
          ∧ r.2.mem ((c.tc : Thread Cert.CtxGateReferenceIdeal.nD Cert.CtxGateReferenceIdeal.τ).loc Cert.CtxGateReferenceIdeal.main_arg2) = m' ((c.tc : Thread Cert.CtxGateReferenceIdeal.nD Cert.CtxGateReferenceIdeal.τ).loc Cert.CtxGateReferenceIdeal.main_arg2)
          ∧ r.2.mem ((c.tc : Thread Cert.CtxGateReferenceIdeal.nD Cert.CtxGateReferenceIdeal.τ).loc Cert.CtxGateReferenceIdeal.main_arg3) = m' ((c.tc : Thread Cert.CtxGateReferenceIdeal.nD Cert.CtxGateReferenceIdeal.τ).loc Cert.CtxGateReferenceIdeal.main_arg3))

def preserves_WaveKernel_WaveKernelIdeal : Prop :=
  True

def algebraic_WaveKernelIdeal_WaveReferenceIdeal [hWaveKernelIdeal : Cert.WaveKernelIdeal.Facts] [hWaveReferenceIdeal : Cert.WaveReferenceIdeal.Facts] : Prop :=
  ∀ (m : (ℓ : Loc Cert.WaveKernelIdeal.nD Cert.WaveKernelIdeal.τ Cert.WaveKernelIdeal.sig) → Buf (Elt Ideal) ℓ) (g : Dev Cert.WaveKernelIdeal.nD → PrngReg)
    (m' : (ℓ : Loc Cert.WaveReferenceIdeal.nD Cert.WaveReferenceIdeal.τ Cert.WaveReferenceIdeal.sig) → Buf (Elt Ideal) ℓ) (g' : Dev Cert.WaveReferenceIdeal.nD → PrngReg), Pre_WaveKernelIdeal m →
    (∀ c : Dev Cert.WaveKernelIdeal.nD,
      m' ((c.tc : Thread Cert.WaveReferenceIdeal.nD Cert.WaveReferenceIdeal.τ).loc Cert.WaveReferenceIdeal.main_arg0) = m ((c.tc : Thread Cert.WaveKernelIdeal.nD Cert.WaveKernelIdeal.τ).loc Cert.WaveKernelIdeal.main_arg0)) →
    ∃ (v0 : (c : Dev Cert.WaveKernelIdeal.nD) → Buf (Elt Ideal) ((c.tc : Thread Cert.WaveKernelIdeal.nD Cert.WaveKernelIdeal.τ).loc Cert.WaveKernelIdeal.main_v18)),
      θ_run (Cert.WaveKernelIdeal.defs (F := Ideal)) (onTc (τ := Cert.WaveKernelIdeal.τ) (Cert.WaveKernelIdeal.main (F := Ideal))) ⟨m, fun _ => 0, g⟩ (fun r => ∀ c : Dev Cert.WaveKernelIdeal.nD,
          r.2.mem ((c.tc : Thread Cert.WaveKernelIdeal.nD Cert.WaveKernelIdeal.τ).loc Cert.WaveKernelIdeal.main_v18) = v0 c
          ∧ r.2.mem ((c.tc : Thread Cert.WaveKernelIdeal.nD Cert.WaveKernelIdeal.τ).loc Cert.WaveKernelIdeal.main_arg0) = m ((c.tc : Thread Cert.WaveKernelIdeal.nD Cert.WaveKernelIdeal.τ).loc Cert.WaveKernelIdeal.main_arg0))
      ∧ θ_run (Cert.WaveReferenceIdeal.defs (F := Ideal)) (onTc (τ := Cert.WaveReferenceIdeal.τ) (Cert.WaveReferenceIdeal.main (F := Ideal))) ⟨m', fun _ => 0, g'⟩ (fun r => ∀ c : Dev Cert.WaveReferenceIdeal.nD,
          r.2.mem ((c.tc : Thread Cert.WaveReferenceIdeal.nD Cert.WaveReferenceIdeal.τ).loc Cert.WaveReferenceIdeal.main_v22) = v0 c
          ∧ r.2.mem ((c.tc : Thread Cert.WaveReferenceIdeal.nD Cert.WaveReferenceIdeal.τ).loc Cert.WaveReferenceIdeal.main_arg0) = m' ((c.tc : Thread Cert.WaveReferenceIdeal.nD Cert.WaveReferenceIdeal.τ).loc Cert.WaveReferenceIdeal.main_arg0))

def preserves_CtxWaveKernel_CtxWaveKernelIdeal : Prop :=
  True

def algebraic_CtxWaveKernelIdeal_CtxWaveReferenceIdeal [hCtxWaveKernelIdeal : Cert.CtxWaveKernelIdeal.Facts] [hCtxWaveReferenceIdeal : Cert.CtxWaveReferenceIdeal.Facts] : Prop :=
  ∀ (m : (ℓ : Loc Cert.CtxWaveKernelIdeal.nD Cert.CtxWaveKernelIdeal.τ Cert.CtxWaveKernelIdeal.sig) → Buf (Elt Ideal) ℓ) (g : Dev Cert.CtxWaveKernelIdeal.nD → PrngReg)
    (m' : (ℓ : Loc Cert.CtxWaveReferenceIdeal.nD Cert.CtxWaveReferenceIdeal.τ Cert.CtxWaveReferenceIdeal.sig) → Buf (Elt Ideal) ℓ) (g' : Dev Cert.CtxWaveReferenceIdeal.nD → PrngReg), Pre_CtxWaveKernelIdeal m →
    (∀ c : Dev Cert.CtxWaveKernelIdeal.nD,
      m' ((c.tc : Thread Cert.CtxWaveReferenceIdeal.nD Cert.CtxWaveReferenceIdeal.τ).loc Cert.CtxWaveReferenceIdeal.main_arg0) = m ((c.tc : Thread Cert.CtxWaveKernelIdeal.nD Cert.CtxWaveKernelIdeal.τ).loc Cert.CtxWaveKernelIdeal.main_arg0)) →
    ∃ (v0 : (c : Dev Cert.CtxWaveKernelIdeal.nD) → Buf (Elt Ideal) ((c.tc : Thread Cert.CtxWaveKernelIdeal.nD Cert.CtxWaveKernelIdeal.τ).loc Cert.CtxWaveKernelIdeal.main_v18)),
      θ_run (Cert.CtxWaveKernelIdeal.defs (F := Ideal)) (onTc (τ := Cert.CtxWaveKernelIdeal.τ) (Cert.CtxWaveKernelIdeal.main (F := Ideal))) ⟨m, fun _ => 0, g⟩ (fun r => ∀ c : Dev Cert.CtxWaveKernelIdeal.nD,
          r.2.mem ((c.tc : Thread Cert.CtxWaveKernelIdeal.nD Cert.CtxWaveKernelIdeal.τ).loc Cert.CtxWaveKernelIdeal.main_v18) = v0 c
          ∧ r.2.mem ((c.tc : Thread Cert.CtxWaveKernelIdeal.nD Cert.CtxWaveKernelIdeal.τ).loc Cert.CtxWaveKernelIdeal.main_arg0) = m ((c.tc : Thread Cert.CtxWaveKernelIdeal.nD Cert.CtxWaveKernelIdeal.τ).loc Cert.CtxWaveKernelIdeal.main_arg0))
      ∧ θ_run (Cert.CtxWaveReferenceIdeal.defs (F := Ideal)) (onTc (τ := Cert.CtxWaveReferenceIdeal.τ) (Cert.CtxWaveReferenceIdeal.main (F := Ideal))) ⟨m', fun _ => 0, g'⟩ (fun r => ∀ c : Dev Cert.CtxWaveReferenceIdeal.nD,
          r.2.mem ((c.tc : Thread Cert.CtxWaveReferenceIdeal.nD Cert.CtxWaveReferenceIdeal.τ).loc Cert.CtxWaveReferenceIdeal.main_v22) = v0 c
          ∧ r.2.mem ((c.tc : Thread Cert.CtxWaveReferenceIdeal.nD Cert.CtxWaveReferenceIdeal.τ).loc Cert.CtxWaveReferenceIdeal.main_arg0) = m' ((c.tc : Thread Cert.CtxWaveReferenceIdeal.nD Cert.CtxWaveReferenceIdeal.τ).loc Cert.CtxWaveReferenceIdeal.main_arg0))

def preserves_CtxRealKernel_CtxRealKernelIdeal : Prop :=
  True

def algebraic_CtxRealKernelIdeal_CtxRealReferenceIdeal [hCtxRealKernelIdeal : Cert.CtxRealKernelIdeal.Facts] [hCtxRealReferenceIdeal : Cert.CtxRealReferenceIdeal.Facts] : Prop :=
  ∀ (m : (ℓ : Loc Cert.CtxRealKernelIdeal.nD Cert.CtxRealKernelIdeal.τ Cert.CtxRealKernelIdeal.sig) → Buf (Elt Ideal) ℓ) (g : Dev Cert.CtxRealKernelIdeal.nD → PrngReg)
    (m' : (ℓ : Loc Cert.CtxRealReferenceIdeal.nD Cert.CtxRealReferenceIdeal.τ Cert.CtxRealReferenceIdeal.sig) → Buf (Elt Ideal) ℓ) (g' : Dev Cert.CtxRealReferenceIdeal.nD → PrngReg), Pre_CtxRealKernelIdeal m →
    (∀ c : Dev Cert.CtxRealKernelIdeal.nD,
      m' ((c.tc : Thread Cert.CtxRealReferenceIdeal.nD Cert.CtxRealReferenceIdeal.τ).loc Cert.CtxRealReferenceIdeal.main_arg0) = m ((c.tc : Thread Cert.CtxRealKernelIdeal.nD Cert.CtxRealKernelIdeal.τ).loc Cert.CtxRealKernelIdeal.main_arg0)) →
    ∃ (v0 : (c : Dev Cert.CtxRealKernelIdeal.nD) → Buf (Elt Ideal) ((c.tc : Thread Cert.CtxRealKernelIdeal.nD Cert.CtxRealKernelIdeal.τ).loc Cert.CtxRealKernelIdeal.main_v17)),
      θ_run (Cert.CtxRealKernelIdeal.defs (F := Ideal)) (onTc (τ := Cert.CtxRealKernelIdeal.τ) (Cert.CtxRealKernelIdeal.main (F := Ideal))) ⟨m, fun _ => 0, g⟩ (fun r => ∀ c : Dev Cert.CtxRealKernelIdeal.nD,
          r.2.mem ((c.tc : Thread Cert.CtxRealKernelIdeal.nD Cert.CtxRealKernelIdeal.τ).loc Cert.CtxRealKernelIdeal.main_v17) = v0 c
          ∧ r.2.mem ((c.tc : Thread Cert.CtxRealKernelIdeal.nD Cert.CtxRealKernelIdeal.τ).loc Cert.CtxRealKernelIdeal.main_arg0) = m ((c.tc : Thread Cert.CtxRealKernelIdeal.nD Cert.CtxRealKernelIdeal.τ).loc Cert.CtxRealKernelIdeal.main_arg0))
      ∧ θ_run (Cert.CtxRealReferenceIdeal.defs (F := Ideal)) (onTc (τ := Cert.CtxRealReferenceIdeal.τ) (Cert.CtxRealReferenceIdeal.main (F := Ideal))) ⟨m', fun _ => 0, g'⟩ (fun r => ∀ c : Dev Cert.CtxRealReferenceIdeal.nD,
          r.2.mem ((c.tc : Thread Cert.CtxRealReferenceIdeal.nD Cert.CtxRealReferenceIdeal.τ).loc Cert.CtxRealReferenceIdeal.main_v25) = v0 c
          ∧ r.2.mem ((c.tc : Thread Cert.CtxRealReferenceIdeal.nD Cert.CtxRealReferenceIdeal.τ).loc Cert.CtxRealReferenceIdeal.main_arg0) = m' ((c.tc : Thread Cert.CtxRealReferenceIdeal.nD Cert.CtxRealReferenceIdeal.τ).loc Cert.CtxRealReferenceIdeal.main_arg0))

def preserves_EarlyKernel_EarlyKernelIdeal : Prop :=
  True

def algebraic_EarlyKernelIdeal_EarlyReferenceIdeal [hEarlyKernelIdeal : Cert.EarlyKernelIdeal.Facts] [hEarlyReferenceIdeal : Cert.EarlyReferenceIdeal.Facts] : Prop :=
  ∀ (m : (ℓ : Loc Cert.EarlyKernelIdeal.nD Cert.EarlyKernelIdeal.τ Cert.EarlyKernelIdeal.sig) → Buf (Elt Ideal) ℓ) (g : Dev Cert.EarlyKernelIdeal.nD → PrngReg)
    (m' : (ℓ : Loc Cert.EarlyReferenceIdeal.nD Cert.EarlyReferenceIdeal.τ Cert.EarlyReferenceIdeal.sig) → Buf (Elt Ideal) ℓ) (g' : Dev Cert.EarlyReferenceIdeal.nD → PrngReg), Pre_EarlyKernelIdeal m →
    (∀ c : Dev Cert.EarlyKernelIdeal.nD,
      m' ((c.tc : Thread Cert.EarlyReferenceIdeal.nD Cert.EarlyReferenceIdeal.τ).loc Cert.EarlyReferenceIdeal.main_arg0) = m ((c.tc : Thread Cert.EarlyKernelIdeal.nD Cert.EarlyKernelIdeal.τ).loc Cert.EarlyKernelIdeal.main_arg0)) →
    ∃ (v0 : (c : Dev Cert.EarlyKernelIdeal.nD) → Buf (Elt Ideal) ((c.tc : Thread Cert.EarlyKernelIdeal.nD Cert.EarlyKernelIdeal.τ).loc Cert.EarlyKernelIdeal.main_v39)),
      θ_run (Cert.EarlyKernelIdeal.defs (F := Ideal)) (onTc (τ := Cert.EarlyKernelIdeal.τ) (Cert.EarlyKernelIdeal.main (F := Ideal))) ⟨m, fun _ => 0, g⟩ (fun r => ∀ c : Dev Cert.EarlyKernelIdeal.nD,
          r.2.mem ((c.tc : Thread Cert.EarlyKernelIdeal.nD Cert.EarlyKernelIdeal.τ).loc Cert.EarlyKernelIdeal.main_v39) = v0 c
          ∧ r.2.mem ((c.tc : Thread Cert.EarlyKernelIdeal.nD Cert.EarlyKernelIdeal.τ).loc Cert.EarlyKernelIdeal.main_arg0) = m ((c.tc : Thread Cert.EarlyKernelIdeal.nD Cert.EarlyKernelIdeal.τ).loc Cert.EarlyKernelIdeal.main_arg0))
      ∧ θ_run (Cert.EarlyReferenceIdeal.defs (F := Ideal)) (onTc (τ := Cert.EarlyReferenceIdeal.τ) (Cert.EarlyReferenceIdeal.main (F := Ideal))) ⟨m', fun _ => 0, g'⟩ (fun r => ∀ c : Dev Cert.EarlyReferenceIdeal.nD,
          r.2.mem ((c.tc : Thread Cert.EarlyReferenceIdeal.nD Cert.EarlyReferenceIdeal.τ).loc Cert.EarlyReferenceIdeal.main_v59) = v0 c
          ∧ r.2.mem ((c.tc : Thread Cert.EarlyReferenceIdeal.nD Cert.EarlyReferenceIdeal.τ).loc Cert.EarlyReferenceIdeal.main_arg0) = m' ((c.tc : Thread Cert.EarlyReferenceIdeal.nD Cert.EarlyReferenceIdeal.τ).loc Cert.EarlyReferenceIdeal.main_arg0))

def preserves_LateKernel_LateKernelIdeal : Prop :=
  True

def algebraic_LateKernelIdeal_LateReferenceIdeal [hLateKernelIdeal : Cert.LateKernelIdeal.Facts] [hLateReferenceIdeal : Cert.LateReferenceIdeal.Facts] : Prop :=
  ∀ (m : (ℓ : Loc Cert.LateKernelIdeal.nD Cert.LateKernelIdeal.τ Cert.LateKernelIdeal.sig) → Buf (Elt Ideal) ℓ) (g : Dev Cert.LateKernelIdeal.nD → PrngReg)
    (m' : (ℓ : Loc Cert.LateReferenceIdeal.nD Cert.LateReferenceIdeal.τ Cert.LateReferenceIdeal.sig) → Buf (Elt Ideal) ℓ) (g' : Dev Cert.LateReferenceIdeal.nD → PrngReg), Pre_LateKernelIdeal m →
    (∀ c : Dev Cert.LateKernelIdeal.nD,
      m' ((c.tc : Thread Cert.LateReferenceIdeal.nD Cert.LateReferenceIdeal.τ).loc Cert.LateReferenceIdeal.main_arg0) = m ((c.tc : Thread Cert.LateKernelIdeal.nD Cert.LateKernelIdeal.τ).loc Cert.LateKernelIdeal.main_arg0)) →
    ∃ (v0 : (c : Dev Cert.LateKernelIdeal.nD) → Buf (Elt Ideal) ((c.tc : Thread Cert.LateKernelIdeal.nD Cert.LateKernelIdeal.τ).loc Cert.LateKernelIdeal.main_v17)),
      θ_run (Cert.LateKernelIdeal.defs (F := Ideal)) (onTc (τ := Cert.LateKernelIdeal.τ) (Cert.LateKernelIdeal.main (F := Ideal))) ⟨m, fun _ => 0, g⟩ (fun r => ∀ c : Dev Cert.LateKernelIdeal.nD,
          r.2.mem ((c.tc : Thread Cert.LateKernelIdeal.nD Cert.LateKernelIdeal.τ).loc Cert.LateKernelIdeal.main_v17) = v0 c
          ∧ r.2.mem ((c.tc : Thread Cert.LateKernelIdeal.nD Cert.LateKernelIdeal.τ).loc Cert.LateKernelIdeal.main_arg0) = m ((c.tc : Thread Cert.LateKernelIdeal.nD Cert.LateKernelIdeal.τ).loc Cert.LateKernelIdeal.main_arg0))
      ∧ θ_run (Cert.LateReferenceIdeal.defs (F := Ideal)) (onTc (τ := Cert.LateReferenceIdeal.τ) (Cert.LateReferenceIdeal.main (F := Ideal))) ⟨m', fun _ => 0, g'⟩ (fun r => ∀ c : Dev Cert.LateReferenceIdeal.nD,
          r.2.mem ((c.tc : Thread Cert.LateReferenceIdeal.nD Cert.LateReferenceIdeal.τ).loc Cert.LateReferenceIdeal.main_v24) = v0 c
          ∧ r.2.mem ((c.tc : Thread Cert.LateReferenceIdeal.nD Cert.LateReferenceIdeal.τ).loc Cert.LateReferenceIdeal.main_arg0) = m' ((c.tc : Thread Cert.LateReferenceIdeal.nD Cert.LateReferenceIdeal.τ).loc Cert.LateReferenceIdeal.main_arg0))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hOutTwoKernel : Cert.OutTwoKernel.Facts) (hOutTwoKernelIdeal : Cert.OutTwoKernelIdeal.Facts) (hOutTwoReferenceIdeal : Cert.OutTwoReferenceIdeal.Facts) (hFinalKernel : Cert.FinalKernel.Facts) (hFinalKernelIdeal : Cert.FinalKernelIdeal.Facts) (hFinalReferenceIdeal : Cert.FinalReferenceIdeal.Facts) (hGateKernel : Cert.GateKernel.Facts) (hGateKernelIdeal : Cert.GateKernelIdeal.Facts) (hGateReferenceIdeal : Cert.GateReferenceIdeal.Facts) (hAdaKernel : Cert.AdaKernel.Facts) (hAdaKernelIdeal : Cert.AdaKernelIdeal.Facts) (hAdaReferenceIdeal : Cert.AdaReferenceIdeal.Facts) (hCtxKernel : Cert.CtxKernel.Facts) (hCtxKernelIdeal : Cert.CtxKernelIdeal.Facts) (hCtxReferenceIdeal : Cert.CtxReferenceIdeal.Facts) (hCtxQkvKernel : Cert.CtxQkvKernel.Facts) (hCtxQkvKernelIdeal : Cert.CtxQkvKernelIdeal.Facts) (hCtxQkvReferenceIdeal : Cert.CtxQkvReferenceIdeal.Facts) (hCtxInKernel : Cert.CtxInKernel.Facts) (hCtxInKernelIdeal : Cert.CtxInKernelIdeal.Facts) (hCtxInReferenceIdeal : Cert.CtxInReferenceIdeal.Facts) (hCtxOutKernel : Cert.CtxOutKernel.Facts) (hCtxOutKernelIdeal : Cert.CtxOutKernelIdeal.Facts) (hCtxOutReferenceIdeal : Cert.CtxOutReferenceIdeal.Facts) (hCtxOutTwoKernel : Cert.CtxOutTwoKernel.Facts) (hCtxOutTwoKernelIdeal : Cert.CtxOutTwoKernelIdeal.Facts) (hCtxOutTwoReferenceIdeal : Cert.CtxOutTwoReferenceIdeal.Facts) (hCtxGateKernel : Cert.CtxGateKernel.Facts) (hCtxGateKernelIdeal : Cert.CtxGateKernelIdeal.Facts) (hCtxGateReferenceIdeal : Cert.CtxGateReferenceIdeal.Facts) (hWaveKernel : Cert.WaveKernel.Facts) (hWaveKernelIdeal : Cert.WaveKernelIdeal.Facts) (hWaveReferenceIdeal : Cert.WaveReferenceIdeal.Facts) (hCtxWaveKernel : Cert.CtxWaveKernel.Facts) (hCtxWaveKernelIdeal : Cert.CtxWaveKernelIdeal.Facts) (hCtxWaveReferenceIdeal : Cert.CtxWaveReferenceIdeal.Facts) (hCtxRealKernel : Cert.CtxRealKernel.Facts) (hCtxRealKernelIdeal : Cert.CtxRealKernelIdeal.Facts) (hCtxRealReferenceIdeal : Cert.CtxRealReferenceIdeal.Facts) (hEarlyKernel : Cert.EarlyKernel.Facts) (hEarlyKernelIdeal : Cert.EarlyKernelIdeal.Facts) (hEarlyReferenceIdeal : Cert.EarlyReferenceIdeal.Facts) (hLateKernel : Cert.LateKernel.Facts) (hLateKernelIdeal : Cert.LateKernelIdeal.Facts) (hLateReferenceIdeal : Cert.LateReferenceIdeal.Facts) (hPre_all_finite : Cert.Pre_all_finite.Facts) (hPre_finite_ctx : Cert.Pre_finite_ctx.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutTwoKernel (hOutTwoKernel := hOutTwoKernel)
    ∧ quiescent_OutTwoKernelIdeal (hOutTwoKernelIdeal := hOutTwoKernelIdeal)
    ∧ quiescent_OutTwoReferenceIdeal (hOutTwoReferenceIdeal := hOutTwoReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_CtxKernel (hCtxKernel := hCtxKernel)
    ∧ quiescent_CtxKernelIdeal (hCtxKernelIdeal := hCtxKernelIdeal)
    ∧ quiescent_CtxKernelIdeal_pre_finite_ctx (hCtxKernelIdeal := hCtxKernelIdeal) (hPre_finite_ctx := hPre_finite_ctx)
    ∧ quiescent_CtxReferenceIdeal (hCtxReferenceIdeal := hCtxReferenceIdeal)
    ∧ quiescent_CtxReferenceIdeal_pre_finite_ctx (hCtxReferenceIdeal := hCtxReferenceIdeal) (hPre_finite_ctx := hPre_finite_ctx)
    ∧ quiescent_CtxQkvKernel (hCtxQkvKernel := hCtxQkvKernel)
    ∧ quiescent_CtxQkvKernelIdeal (hCtxQkvKernelIdeal := hCtxQkvKernelIdeal)
    ∧ quiescent_CtxQkvReferenceIdeal (hCtxQkvReferenceIdeal := hCtxQkvReferenceIdeal)
    ∧ quiescent_CtxInKernel (hCtxInKernel := hCtxInKernel)
    ∧ quiescent_CtxInKernelIdeal (hCtxInKernelIdeal := hCtxInKernelIdeal)
    ∧ quiescent_CtxInReferenceIdeal (hCtxInReferenceIdeal := hCtxInReferenceIdeal)
    ∧ quiescent_CtxOutKernel (hCtxOutKernel := hCtxOutKernel)
    ∧ quiescent_CtxOutKernelIdeal (hCtxOutKernelIdeal := hCtxOutKernelIdeal)
    ∧ quiescent_CtxOutReferenceIdeal (hCtxOutReferenceIdeal := hCtxOutReferenceIdeal)
    ∧ quiescent_CtxOutTwoKernel (hCtxOutTwoKernel := hCtxOutTwoKernel)
    ∧ quiescent_CtxOutTwoKernelIdeal (hCtxOutTwoKernelIdeal := hCtxOutTwoKernelIdeal)
    ∧ quiescent_CtxOutTwoReferenceIdeal (hCtxOutTwoReferenceIdeal := hCtxOutTwoReferenceIdeal)
    ∧ quiescent_CtxGateKernel (hCtxGateKernel := hCtxGateKernel)
    ∧ quiescent_CtxGateKernelIdeal (hCtxGateKernelIdeal := hCtxGateKernelIdeal)
    ∧ quiescent_CtxGateReferenceIdeal (hCtxGateReferenceIdeal := hCtxGateReferenceIdeal)
    ∧ quiescent_WaveKernel (hWaveKernel := hWaveKernel)
    ∧ quiescent_WaveKernelIdeal (hWaveKernelIdeal := hWaveKernelIdeal)
    ∧ quiescent_WaveReferenceIdeal (hWaveReferenceIdeal := hWaveReferenceIdeal)
    ∧ quiescent_CtxWaveKernel (hCtxWaveKernel := hCtxWaveKernel)
    ∧ quiescent_CtxWaveKernelIdeal (hCtxWaveKernelIdeal := hCtxWaveKernelIdeal)
    ∧ quiescent_CtxWaveReferenceIdeal (hCtxWaveReferenceIdeal := hCtxWaveReferenceIdeal)
    ∧ quiescent_CtxRealKernel (hCtxRealKernel := hCtxRealKernel)
    ∧ quiescent_CtxRealKernelIdeal (hCtxRealKernelIdeal := hCtxRealKernelIdeal)
    ∧ quiescent_CtxRealReferenceIdeal (hCtxRealReferenceIdeal := hCtxRealReferenceIdeal)
    ∧ quiescent_EarlyKernel (hEarlyKernel := hEarlyKernel)
    ∧ quiescent_EarlyKernelIdeal (hEarlyKernelIdeal := hEarlyKernelIdeal)
    ∧ quiescent_EarlyReferenceIdeal (hEarlyReferenceIdeal := hEarlyReferenceIdeal)
    ∧ quiescent_LateKernel (hLateKernel := hLateKernel)
    ∧ quiescent_LateKernelIdeal (hLateKernelIdeal := hLateKernelIdeal)
    ∧ quiescent_LateReferenceIdeal (hLateReferenceIdeal := hLateReferenceIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_QkvKernel_QkvKernelIdeal
    ∧ algebraic_QkvKernelIdeal_QkvReferenceIdeal (hQkvKernelIdeal := hQkvKernelIdeal) (hQkvReferenceIdeal := hQkvReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutTwoKernel_OutTwoKernelIdeal
    ∧ algebraic_OutTwoKernelIdeal_OutTwoReferenceIdeal (hOutTwoKernelIdeal := hOutTwoKernelIdeal) (hOutTwoReferenceIdeal := hOutTwoReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_GateKernel_GateKernelIdeal
    ∧ algebraic_GateKernelIdeal_GateReferenceIdeal (hGateKernelIdeal := hGateKernelIdeal) (hGateReferenceIdeal := hGateReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_CtxKernel_CtxKernelIdeal
    ∧ algebraic_CtxKernelIdeal_CtxReferenceIdeal_pre_finite_ctx (hCtxKernelIdeal := hCtxKernelIdeal) (hCtxReferenceIdeal := hCtxReferenceIdeal) (hPre_finite_ctx := hPre_finite_ctx)
    ∧ preserves_CtxQkvKernel_CtxQkvKernelIdeal
    ∧ algebraic_CtxQkvKernelIdeal_CtxQkvReferenceIdeal (hCtxQkvKernelIdeal := hCtxQkvKernelIdeal) (hCtxQkvReferenceIdeal := hCtxQkvReferenceIdeal)
    ∧ preserves_CtxInKernel_CtxInKernelIdeal
    ∧ algebraic_CtxInKernelIdeal_CtxInReferenceIdeal (hCtxInKernelIdeal := hCtxInKernelIdeal) (hCtxInReferenceIdeal := hCtxInReferenceIdeal)
    ∧ preserves_CtxOutKernel_CtxOutKernelIdeal
    ∧ algebraic_CtxOutKernelIdeal_CtxOutReferenceIdeal (hCtxOutKernelIdeal := hCtxOutKernelIdeal) (hCtxOutReferenceIdeal := hCtxOutReferenceIdeal)
    ∧ preserves_CtxOutTwoKernel_CtxOutTwoKernelIdeal
    ∧ algebraic_CtxOutTwoKernelIdeal_CtxOutTwoReferenceIdeal (hCtxOutTwoKernelIdeal := hCtxOutTwoKernelIdeal) (hCtxOutTwoReferenceIdeal := hCtxOutTwoReferenceIdeal)
    ∧ preserves_CtxGateKernel_CtxGateKernelIdeal
    ∧ algebraic_CtxGateKernelIdeal_CtxGateReferenceIdeal (hCtxGateKernelIdeal := hCtxGateKernelIdeal) (hCtxGateReferenceIdeal := hCtxGateReferenceIdeal)
    ∧ preserves_WaveKernel_WaveKernelIdeal
    ∧ algebraic_WaveKernelIdeal_WaveReferenceIdeal (hWaveKernelIdeal := hWaveKernelIdeal) (hWaveReferenceIdeal := hWaveReferenceIdeal)
    ∧ preserves_CtxWaveKernel_CtxWaveKernelIdeal
    ∧ algebraic_CtxWaveKernelIdeal_CtxWaveReferenceIdeal (hCtxWaveKernelIdeal := hCtxWaveKernelIdeal) (hCtxWaveReferenceIdeal := hCtxWaveReferenceIdeal)
    ∧ preserves_CtxRealKernel_CtxRealKernelIdeal
    ∧ algebraic_CtxRealKernelIdeal_CtxRealReferenceIdeal (hCtxRealKernelIdeal := hCtxRealKernelIdeal) (hCtxRealReferenceIdeal := hCtxRealReferenceIdeal)
    ∧ preserves_EarlyKernel_EarlyKernelIdeal
    ∧ algebraic_EarlyKernelIdeal_EarlyReferenceIdeal (hEarlyKernelIdeal := hEarlyKernelIdeal) (hEarlyReferenceIdeal := hEarlyReferenceIdeal)
    ∧ preserves_LateKernel_LateKernelIdeal
    ∧ algebraic_LateKernelIdeal_LateReferenceIdeal (hLateKernelIdeal := hLateKernelIdeal) (hLateReferenceIdeal := hLateReferenceIdeal)
-- ==== Pre_all_finite.lean ====
abbrev S4x8192x6144 : Shape := ⟨3, ![4, 8192, 6144]⟩
abbrev S4x256x6144 : Shape := ⟨3, ![4, 256, 6144]⟩
abbrev S16x15x31 : Shape := ⟨3, ![16, 15, 31]⟩
abbrev S_ : Shape := ⟨0, ![]⟩

class Facts : Prop where
  bitsLt_bf16_f32 : FTy.bits .bf16 < FTy.bits .f32
  bcast_S_S4x8192x6144 : S_.BroadcastsInDim S4x8192x6144 (![] : Fin 0 → Fin S4x8192x6144.rank)
  reducesTo_S4x8192x6144_S_d0_1_2 : S4x8192x6144.ReducesTo [0, 1, 2] S_
  h_S_ : 0 < S_.numel
  bcast_S_S4x256x6144 : S_.BroadcastsInDim S4x256x6144 (![] : Fin 0 → Fin S4x256x6144.rank)
  reducesTo_S4x256x6144_S_d0_1_2 : S4x256x6144.ReducesTo [0, 1, 2] S_
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S4x8192x6144 .bf16) (main_arg1 : FVec F S4x256x6144 .bf16) (main_arg2 : FVec F S16x15x31 .f32) : IVec S_ 1 :=
  let main_v0 : FVec F S4x8192x6144 .f32 := (extf .f32 · bitsLt_bf16_f32) main_arg0
  let main_v1 : FVec F S4x8192x6144 .f32 := Host.absf main_v0
  let main_cst : FVec F S_ .f32 := constant S_ .f32 0x7F800000#32
  let main_v2 : FVec F S4x8192x6144 .f32 := broadcastInDim S4x8192x6144 ![] bcast_S_S4x8192x6144 main_cst
  let main_v3 : IVec S4x8192x6144 1 := cmpf .olt main_v1 main_v2
  let main_c : IVec S_ 1 := constantI S_ 1 1#1
  let main_v4 : IVec S_ 1 := (fun x v => Host.reduce IntOp.andi x v reducesTo_S4x8192x6144_S_d0_1_2 h_S_) main_v3 main_c
  let main_v5 : FVec F S4x256x6144 .f32 := (extf .f32 · bitsLt_bf16_f32) main_arg1
  let main_v6 : FVec F S4x256x6144 .f32 := Host.absf main_v5
  let main_cst_0 : FVec F S_ .f32 := constant S_ .f32 0x7F800000#32
  let main_v7 : FVec F S4x256x6144 .f32 := broadcastInDim S4x256x6144 ![] bcast_S_S4x256x6144 main_cst_0
  let main_v8 : IVec S4x256x6144 1 := cmpf .olt main_v6 main_v7
  let main_c_1 : IVec S_ 1 := constantI S_ 1 1#1
  let main_v9 : IVec S_ 1 := (fun x v => Host.reduce IntOp.andi x v reducesTo_S4x256x6144_S_d0_1_2 h_S_) main_v8 main_c_1
  let main_v10 : IVec S_ 1 := andi main_v4 main_v9
  let main_v11 : FVec F S16x15x31 .f32 := Host.absf main_arg2
  let main_cst_2 : FVec F S_ .f32 := constant S_ .f32 0x7F800000#32
  let main_v12 : FVec F S16x15x31 .f32 := broadcastInDim S16x15x31 ![] bcast_S_S16x15x31 main_cst_2
  let main_v13 : IVec S16x15x31 1 := cmpf .olt main_v11 main_v12
  let main_c_3 : IVec S_ 1 := constantI S_ 1 1#1
  let main_v14 : IVec S_ 1 := (fun x v => Host.reduce IntOp.andi x v reducesTo_S16x15x31_S_d0_1_2 h_S_) main_v13 main_c_3
  let main_v15 : IVec S_ 1 := andi main_v10 main_v14
  main_v15
-- ==== Pre_finite_ctx.lean ====
abbrev S4x256x6144 : Shape := ⟨3, ![4, 256, 6144]⟩
abbrev S_ : Shape := ⟨0, ![]⟩

class Facts : Prop where
  bitsLt_bf16_f32 : FTy.bits .bf16 < FTy.bits .f32
  bcast_S_S4x256x6144 : S_.BroadcastsInDim S4x256x6144 (![] : Fin 0 → Fin S4x256x6144.rank)
  reducesTo_S4x256x6144_S_d0_1_2 : S4x256x6144.ReducesTo [0, 1, 2] S_
  h_S_ : 0 < S_.numel

variable [Facts]

def fn {F : FTy → Type} [FloatOps F] (main_arg0 : FVec F S4x256x6144 .bf16) : IVec S_ 1 :=
  let main_v0 : FVec F S4x256x6144 .f32 := (extf .f32 · bitsLt_bf16_f32) main_arg0
  let main_v1 : FVec F S4x256x6144 .f32 := Host.absf main_v0
  let main_cst : FVec F S_ .f32 := constant S_ .f32 0x7F800000#32
  let main_v2 : FVec F S4x256x6144 .f32 := broadcastInDim S4x256x6144 ![] bcast_S_S4x256x6144 main_cst
  let main_v3 : IVec S4x256x6144 1 := cmpf .olt main_v1 main_v2
  let main_c : IVec S_ 1 := constantI S_ 1 1#1
  let main_v4 : IVec S_ 1 := (fun x v => Host.reduce IntOp.andi x v reducesTo_S4x256x6144_S_d0_1_2 h_S_) main_v3 main_c
  main_v4
-- ==== Kernel.lean ====
abbrev S4x8192x6144 : Shape := ⟨3, ![4, 8192, 6144]⟩
abbrev S4x256x6144 : Shape := ⟨3, ![4, 256, 6144]⟩
abbrev S16x15x31 : Shape := ⟨3, ![16, 15, 31]⟩
abbrev S4 : Shape := ⟨1, ![4]⟩
abbrev S_ : Shape := ⟨0, ![]⟩
abbrev S12 : Shape := ⟨1, ![12]⟩
abbrev S1x12 : Shape := ⟨2, ![1, 12]⟩
abbrev S4x1 : Shape := ⟨2, ![4, 1]⟩
abbrev S4x12 : Shape := ⟨2, ![4, 12]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S4x12x1 : Shape := ⟨3, ![4, 12, 1]⟩
abbrev S16x4x12x31 : Shape := ⟨4, ![16, 4, 12, 31]⟩
abbrev S64x64x1 : Shape := ⟨3, ![64, 64, 1]⟩
abbrev S16x4x12x64x64 : Shape := ⟨5, ![16, 4, 12, 64, 64]⟩
abbrev S16x4x64x12x64 : Shape := ⟨5, ![16, 4, 64, 12, 64]⟩
abbrev S4x1x12x1 : Shape := ⟨4, ![4, 1, 12, 1]⟩
abbrev S1x64x1x64 : Shape := ⟨4, ![1, 64, 1, 64]⟩
abbrev S4x64x12x64 : Shape := ⟨4, ![4, 64, 12, 64]⟩
abbrev S1x4x64x12x64 : Shape := ⟨5, ![1, 4, 64, 12, 64]⟩
abbrev S16x256x768 : Shape := ⟨3, ![16, 256, 768]⟩
abbrev S1x16x256x768 : Shape := ⟨4, ![1, 16, 256, 768]⟩
abbrev S3x16x256x768 : Shape := ⟨4, ![3, 16, 256, 768]⟩
abbrev S4x8192x2048 : Shape := ⟨3, ![4, 8192, 2048]⟩
abbrev S1x256x1024 : Shape := ⟨3, ![1, 256, 1024]⟩
abbrev S1x8x256x768 : Shape := ⟨4, ![1, 8, 256, 768]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 335
  | .vmem => 22
  | .smem => 0
  | _ => 0

abbrev hbmTy0_0 (i : Nat) : BufTy := match i % 128 with
  | 0 => ⟨S4x8192x6144, .bf16⟩
  | 1 => ⟨S4x256x6144, .bf16⟩
  | 2 => ⟨S16x15x31, .f32⟩
  | 3 => ⟨S4, .i32⟩
  | 4 => ⟨S_, .i32⟩
  | 5 => ⟨S4, .i32⟩
  | 6 => ⟨S4, .i32⟩
  | 7 => ⟨S_, .i32⟩
  | 8 => ⟨S4, .i32⟩
  | 9 => ⟨S4, .i32⟩
  | 10 => ⟨S_, .i32⟩
  | 11 => ⟨S_, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S12, .i32⟩
  | 19 => ⟨S_, .i32⟩
  | 20 => ⟨S12, .i32⟩
  | 21 => ⟨S12, .i32⟩
  | 22 => ⟨S1x12, .i32⟩
  | 23 => ⟨S4x1, .i32⟩
  | 24 => ⟨S4x12, .i32⟩
  | 25 => ⟨S4x12, .i32⟩
  | 26 => ⟨S4x12, .i1⟩
  | 27 => ⟨S1x12, .i32⟩
  | 28 => ⟨S4x1, .i32⟩
  | 29 => ⟨S_, .i32⟩
  | 30 => ⟨S4x1, .i32⟩
  | 31 => ⟨S4x1, .i32⟩
  | 32 => ⟨S4x12, .i32⟩
  | 33 => ⟨S4x12, .i32⟩
  | 34 => ⟨S4x12, .i1⟩
  | 35 => ⟨S4x12, .i1⟩
  | 36 => ⟨S1x12, .i32⟩
  | 37 => ⟨S4x1, .i32⟩
  | 38 => ⟨S4x12, .i32⟩
  | 39 => ⟨S4x12, .i32⟩
  | 40 => ⟨S4x12, .i32⟩
  | 41 => ⟨S_, .i32⟩
  | 42 => ⟨S4x12, .i32⟩
  | 43 => ⟨S4x12, .i32⟩
  | 44 => ⟨S_, .i32⟩
  | 45 => ⟨S_, .i32⟩
  | 46 => ⟨S_, .i32⟩
  | 47 => ⟨S4x12, .i32⟩
  | 48 => ⟨S4x12, .i32⟩
  | 49 => ⟨S_, .i32⟩
  | 50 => ⟨S4x12, .i32⟩
  | 51 => ⟨S4x12, .i32⟩
  | 52 => ⟨S64, .i32⟩
  | 53 => ⟨S_, .i32⟩
  | 54 => ⟨S64, .i32⟩
  | 55 => ⟨S64, .i32⟩
  | 56 => ⟨S_, .i32⟩
  | 57 => ⟨S_, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S64, .i32⟩
  | 65 => ⟨S1x64, .i32⟩
  | 66 => ⟨S64x1, .i32⟩
  | 67 => ⟨S64x64, .i32⟩
  | 68 => ⟨S64x64, .i32⟩
  | 69 => ⟨S64x64, .i1⟩
  | 70 => ⟨S1x64, .i32⟩
  | 71 => ⟨S64x1, .i32⟩
  | 72 => ⟨S_, .i32⟩
  | 73 => ⟨S64x1, .i32⟩
  | 74 => ⟨S64x1, .i32⟩
  | 75 => ⟨S64x64, .i32⟩
  | 76 => ⟨S64x64, .i32⟩
  | 77 => ⟨S64x64, .i1⟩
  | 78 => ⟨S64x64, .i1⟩
  | 79 => ⟨S1x64, .i32⟩
  | 80 => ⟨S64x1, .i32⟩
  | 81 => ⟨S64x64, .i32⟩
  | 82 => ⟨S64x64, .i32⟩
  | 83 => ⟨S64x64, .i32⟩
  | 84 => ⟨S_, .i32⟩
  | 85 => ⟨S64x64, .i32⟩
  | 86 => ⟨S64x64, .i32⟩
  | 87 => ⟨S_, .i32⟩
  | 88 => ⟨S_, .i32⟩
  | 89 => ⟨S_, .i32⟩
  | 90 => ⟨S64x64, .i32⟩
  | 91 => ⟨S64x64, .i32⟩
  | 92 => ⟨S_, .i32⟩
  | 93 => ⟨S64x64, .i32⟩
  | 94 => ⟨S64x64, .i32⟩
  | 95 => ⟨S4x12x1, .i32⟩
  | 96 => ⟨S16x4x12x31, .f32⟩
  | 97 => ⟨S64x64x1, .i32⟩
  | 98 => ⟨S16x4x12x64x64, .f32⟩
  | 99 => ⟨S16x4x64x12x64, .f32⟩
  | 100 => ⟨S4x1x12x1, .i1⟩
  | 101 => ⟨S1x64x1x64, .i1⟩
  | 102 => ⟨S4x64x12x64, .i1⟩
  | 103 => ⟨S4x64x12x64, .i1⟩
  | 104 => ⟨S4x64x12x64, .i1⟩
  | 105 => ⟨S1x4x64x12x64, .i1⟩
  | 106 => ⟨S_, .f32⟩
  | 107 => ⟨S_, .f32⟩
  | 108 => ⟨S16x4x64x12x64, .i1⟩
  | 109 => ⟨S16x4x64x12x64, .f32⟩
  | 110 => ⟨S16x4x64x12x64, .f32⟩
  | 111 => ⟨S16x256x768, .f32⟩
  | 112 => ⟨S4, .i32⟩
  | 113 => ⟨S_, .i32⟩
  | 114 => ⟨S4, .i32⟩
  | 115 => ⟨S4, .i32⟩
  | 116 => ⟨S_, .i32⟩
  | 117 => ⟨S4, .i32⟩
  | 118 => ⟨S4, .i32⟩
  | 119 => ⟨S_, .i32⟩
  | 120 => ⟨S_, .i32⟩
  | 121 => ⟨S_, .i32⟩
  | 122 => ⟨S4, .i32⟩
  | 123 => ⟨S4, .i32⟩
  | 124 => ⟨S_, .i32⟩
  | 125 => ⟨S4, .i32⟩
  | 126 => ⟨S4, .i32⟩
  | 127 => ⟨S12, .i32⟩
  | _ => ⟨S4x8192x6144, .bf16⟩

abbrev hbmTy0_1 (i : Nat) : BufTy := match i % 128 with
  | 0 => ⟨S_, .i32⟩
  | 1 => ⟨S12, .i32⟩
  | 2 => ⟨S12, .i32⟩
  | 3 => ⟨S1x12, .i32⟩
  | 4 => ⟨S4x1, .i32⟩
  | 5 => ⟨S4x12, .i32⟩
  | 6 => ⟨S4x12, .i32⟩
  | 7 => ⟨S4x12, .i1⟩
  | 8 => ⟨S1x12, .i32⟩
  | 9 => ⟨S4x1, .i32⟩
  | 10 => ⟨S_, .i32⟩
  | 11 => ⟨S4x1, .i32⟩
  | 12 => ⟨S4x1, .i32⟩
  | 13 => ⟨S4x12, .i32⟩
  | 14 => ⟨S4x12, .i32⟩
  | 15 => ⟨S4x12, .i1⟩
  | 16 => ⟨S4x12, .i1⟩
  | 17 => ⟨S1x12, .i32⟩
  | 18 => ⟨S4x1, .i32⟩
  | 19 => ⟨S4x12, .i32⟩
  | 20 => ⟨S4x12, .i32⟩
  | 21 => ⟨S4x12, .i32⟩
  | 22 => ⟨S_, .i32⟩
  | 23 => ⟨S4x12, .i32⟩
  | 24 => ⟨S4x12, .i32⟩
  | 25 => ⟨S_, .i32⟩
  | 26 => ⟨S_, .i32⟩
  | 27 => ⟨S_, .i32⟩
  | 28 => ⟨S4x12, .i32⟩
  | 29 => ⟨S4x12, .i32⟩
  | 30 => ⟨S_, .i32⟩
  | 31 => ⟨S4x12, .i32⟩
  | 32 => ⟨S4x12, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64, .i32⟩
  | 46 => ⟨S1x64, .i32⟩
  | 47 => ⟨S64x1, .i32⟩
  | 48 => ⟨S64x64, .i32⟩
  | 49 => ⟨S64x64, .i32⟩
  | 50 => ⟨S64x64, .i1⟩
  | 51 => ⟨S1x64, .i32⟩
  | 52 => ⟨S64x1, .i32⟩
  | 53 => ⟨S_, .i32⟩
  | 54 => ⟨S64x1, .i32⟩
  | 55 => ⟨S64x1, .i32⟩
  | 56 => ⟨S64x64, .i32⟩
  | 57 => ⟨S64x64, .i32⟩
  | 58 => ⟨S64x64, .i1⟩
  | 59 => ⟨S64x64, .i1⟩
  | 60 => ⟨S1x64, .i32⟩
  | 61 => ⟨S64x1, .i32⟩
  | 62 => ⟨S64x64, .i32⟩
  | 63 => ⟨S64x64, .i32⟩
  | 64 => ⟨S64x64, .i32⟩
  | 65 => ⟨S_, .i32⟩
  | 66 => ⟨S64x64, .i32⟩
  | 67 => ⟨S64x64, .i32⟩
  | 68 => ⟨S_, .i32⟩
  | 69 => ⟨S_, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S4x12x1, .i32⟩
  | 77 => ⟨S16x4x12x31, .f32⟩
  | 78 => ⟨S64x64x1, .i32⟩
  | 79 => ⟨S16x4x12x64x64, .f32⟩
  | 80 => ⟨S16x4x64x12x64, .f32⟩
  | 81 => ⟨S4x1x12x1, .i1⟩
  | 82 => ⟨S1x64x1x64, .i1⟩
  | 83 => ⟨S4x64x12x64, .i1⟩
  | 84 => ⟨S4x64x12x64, .i1⟩
  | 85 => ⟨S4x64x12x64, .i1⟩
  | 86 => ⟨S1x4x64x12x64, .i1⟩
  | 87 => ⟨S_, .f32⟩
  | 88 => ⟨S_, .f32⟩
  | 89 => ⟨S16x4x64x12x64, .i1⟩
  | 90 => ⟨S16x4x64x12x64, .f32⟩
  | 91 => ⟨S16x4x64x12x64, .f32⟩
  | 92 => ⟨S16x256x768, .f32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S_, .i32⟩
  | 101 => ⟨S_, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S12, .i32⟩
  | 109 => ⟨S_, .i32⟩
  | 110 => ⟨S12, .i32⟩
  | 111 => ⟨S12, .i32⟩
  | 112 => ⟨S1x12, .i32⟩
  | 113 => ⟨S4x1, .i32⟩
  | 114 => ⟨S4x12, .i32⟩
  | 115 => ⟨S4x12, .i32⟩
  | 116 => ⟨S4x12, .i1⟩
  | 117 => ⟨S1x12, .i32⟩
  | 118 => ⟨S4x1, .i32⟩
  | 119 => ⟨S_, .i32⟩
  | 120 => ⟨S4x1, .i32⟩
  | 121 => ⟨S4x1, .i32⟩
  | 122 => ⟨S4x12, .i32⟩
  | 123 => ⟨S4x12, .i32⟩
  | 124 => ⟨S4x12, .i1⟩
  | 125 => ⟨S4x12, .i1⟩
  | 126 => ⟨S1x12, .i32⟩
  | 127 => ⟨S4x1, .i32⟩
  | _ => ⟨S4x8192x6144, .bf16⟩

abbrev hbmTy0_2 (i : Nat) : BufTy := match i % 128 with
  | 0 => ⟨S4x12, .i32⟩
  | 1 => ⟨S4x12, .i32⟩
  | 2 => ⟨S4x12, .i32⟩
  | 3 => ⟨S_, .i32⟩
  | 4 => ⟨S4x12, .i32⟩
  | 5 => ⟨S4x12, .i32⟩
  | 6 => ⟨S_, .i32⟩
  | 7 => ⟨S_, .i32⟩
  | 8 => ⟨S_, .i32⟩
  | 9 => ⟨S4x12, .i32⟩
  | 10 => ⟨S4x12, .i32⟩
  | 11 => ⟨S_, .i32⟩
  | 12 => ⟨S4x12, .i32⟩
  | 13 => ⟨S4x12, .i32⟩
  | 14 => ⟨S64, .i32⟩
  | 15 => ⟨S_, .i32⟩
  | 16 => ⟨S64, .i32⟩
  | 17 => ⟨S64, .i32⟩
  | 18 => ⟨S_, .i32⟩
  | 19 => ⟨S_, .i32⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S64, .i32⟩
  | 27 => ⟨S1x64, .i32⟩
  | 28 => ⟨S64x1, .i32⟩
  | 29 => ⟨S64x64, .i32⟩
  | 30 => ⟨S64x64, .i32⟩
  | 31 => ⟨S64x64, .i1⟩
  | 32 => ⟨S1x64, .i32⟩
  | 33 => ⟨S64x1, .i32⟩
  | 34 => ⟨S_, .i32⟩
  | 35 => ⟨S64x1, .i32⟩
  | 36 => ⟨S64x1, .i32⟩
  | 37 => ⟨S64x64, .i32⟩
  | 38 => ⟨S64x64, .i32⟩
  | 39 => ⟨S64x64, .i1⟩
  | 40 => ⟨S64x64, .i1⟩
  | 41 => ⟨S1x64, .i32⟩
  | 42 => ⟨S64x1, .i32⟩
  | 43 => ⟨S64x64, .i32⟩
  | 44 => ⟨S64x64, .i32⟩
  | 45 => ⟨S64x64, .i32⟩
  | 46 => ⟨S_, .i32⟩
  | 47 => ⟨S64x64, .i32⟩
  | 48 => ⟨S64x64, .i32⟩
  | 49 => ⟨S_, .i32⟩
  | 50 => ⟨S_, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S4x12x1, .i32⟩
  | 58 => ⟨S16x4x12x31, .f32⟩
  | 59 => ⟨S64x64x1, .i32⟩
  | 60 => ⟨S16x4x12x64x64, .f32⟩
  | 61 => ⟨S16x4x64x12x64, .f32⟩
  | 62 => ⟨S4x1x12x1, .i1⟩
  | 63 => ⟨S1x64x1x64, .i1⟩
  | 64 => ⟨S4x64x12x64, .i1⟩
  | 65 => ⟨S4x64x12x64, .i1⟩
  | 66 => ⟨S4x64x12x64, .i1⟩
  | 67 => ⟨S1x4x64x12x64, .i1⟩
  | 68 => ⟨S_, .f32⟩
  | 69 => ⟨S_, .f32⟩
  | 70 => ⟨S16x4x64x12x64, .i1⟩
  | 71 => ⟨S16x4x64x12x64, .f32⟩
  | 72 => ⟨S16x4x64x12x64, .f32⟩
  | 73 => ⟨S16x256x768, .f32⟩
  | 74 => ⟨S1x16x256x768, .f32⟩
  | 75 => ⟨S1x16x256x768, .f32⟩
  | 76 => ⟨S1x16x256x768, .f32⟩
  | 77 => ⟨S3x16x256x768, .f32⟩
  | 78 => ⟨S4x8192x2048, .bf16⟩
  | _ => ⟨S4x8192x6144, .bf16⟩

abbrev hbmTy (i : Nat) : BufTy := match i / 128 with
  | 0 => hbmTy0_0 i
  | 1 => hbmTy0_1 i
  | 2 => hbmTy0_2 i
  | _ => ⟨S4x8192x6144, .bf16⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x8x256x768, .f32⟩
  | .local _ .vmem, ⟨19, _⟩ => ⟨S1x8x256x768, .f32⟩
  | .local _ .vmem, ⟨20, _⟩ => ⟨S1x256x1024, .bf16⟩
  | .local _ .vmem, ⟨21, _⟩ => ⟨S1x256x1024, .bf16⟩
  | _, _ => ⟨S4x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_c_7 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_c_10 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v55 : Ref sig .tc := ⟨.hbm, 94, rfl⟩
abbrev main_call4_v0 : Ref sig .tc := ⟨.hbm, 95, rfl⟩
abbrev main_v56 : Ref sig .tc := ⟨.hbm, 96, rfl⟩
abbrev main_call5_v0 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_15 : Ref sig .tc := ⟨.hbm, 113, rfl⟩
abbrev main_v68 : Ref sig .tc := ⟨.hbm, 114, rfl⟩
abbrev main_v69 : Ref sig .tc := ⟨.hbm, 115, rfl⟩
abbrev main_c_16 : Ref sig .tc := ⟨.hbm, 116, rfl⟩
abbrev main_v70 : Ref sig .tc := ⟨.hbm, 117, rfl⟩
abbrev main_v71 : Ref sig .tc := ⟨.hbm, 118, rfl⟩
abbrev main_c_17 : Ref sig .tc := ⟨.hbm, 119, rfl⟩
abbrev main_c_18 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_v72 : Ref sig .tc := ⟨.hbm, 126, rfl⟩
abbrev main_v73 : Ref sig .tc := ⟨.hbm, 127, rfl⟩
abbrev main_c_19 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_20 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_21 : Ref sig .tc := ⟨.hbm, 150, rfl⟩
abbrev main_v94 : Ref sig .tc := ⟨.hbm, 151, rfl⟩
abbrev main_v95 : Ref sig .tc := ⟨.hbm, 152, rfl⟩
abbrev main_c_22 : Ref sig .tc := ⟨.hbm, 153, rfl⟩
abbrev main_c_23 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_v96 : Ref sig .tc := ⟨.hbm, 160, rfl⟩
abbrev main_v97 : Ref sig .tc := ⟨.hbm, 161, rfl⟩
abbrev main_c_24 : Ref sig .tc := ⟨.hbm, 162, rfl⟩
abbrev main_v98 : Ref sig .tc := ⟨.hbm, 163, rfl⟩
abbrev main_v99 : Ref sig .tc := ⟨.hbm, 164, rfl⟩
abbrev main_c_25 : Ref sig .tc := ⟨.hbm, 165, rfl⟩
abbrev main_c_26 : Ref sig .tc := ⟨.hbm, 166, rfl⟩
abbrev main_call9_v0 : Ref sig .tc := ⟨.hbm, 167, rfl⟩
abbrev main_call9_v1 : Ref sig .tc := ⟨.hbm, 168, rfl⟩
abbrev main_call9_v2 : Ref sig .tc := ⟨.hbm, 169, rfl⟩
abbrev main_call9_v3 : Ref sig .tc := ⟨.hbm, 170, rfl⟩
abbrev main_call9_v4 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_c_27 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_c_28 : Ref sig .tc := ⟨.hbm, 193, rfl⟩
abbrev main_v120 : Ref sig .tc := ⟨.hbm, 194, rfl⟩
abbrev main_v121 : Ref sig .tc := ⟨.hbm, 195, rfl⟩
abbrev main_c_29 : Ref sig .tc := ⟨.hbm, 196, rfl⟩
abbrev main_c_30 : Ref sig .tc := ⟨.hbm, 197, rfl⟩
abbrev main_call10_v0 : Ref sig .tc := ⟨.hbm, 198, rfl⟩
abbrev main_call10_v1 : Ref sig .tc := ⟨.hbm, 199, rfl⟩
abbrev main_call10_v2 : Ref sig .tc := ⟨.hbm, 200, rfl⟩
abbrev main_call10_v3 : Ref sig .tc := ⟨.hbm, 201, rfl⟩
abbrev main_call10_v4 : Ref sig .tc := ⟨.hbm, 202, rfl⟩
abbrev main_v122 : Ref sig .tc := ⟨.hbm, 203, rfl⟩
abbrev main_call11_v0 : Ref sig .tc := ⟨.hbm, 204, rfl⟩
abbrev main_v123 : Ref sig .tc := ⟨.hbm, 205, rfl⟩
abbrev main_call12_v0 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_cst_31 : Ref sig .tc := ⟨.hbm, 215, rfl⟩
abbrev main_call13_v0 : Ref sig .tc := ⟨.hbm, 216, rfl⟩
abbrev main_call13_v1 : Ref sig .tc := ⟨.hbm, 217, rfl⟩
abbrev main_call13_v2 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_c_32 : Ref sig .tc := ⟨.hbm, 222, rfl⟩
abbrev main_v135 : Ref sig .tc := ⟨.hbm, 223, rfl⟩
abbrev main_v136 : Ref sig .tc := ⟨.hbm, 224, rfl⟩
abbrev main_c_33 : Ref sig .tc := ⟨.hbm, 225, rfl⟩
abbrev main_v137 : Ref sig .tc := ⟨.hbm, 226, rfl⟩
abbrev main_v138 : Ref sig .tc := ⟨.hbm, 227, rfl⟩
abbrev main_c_34 : Ref sig .tc := ⟨.hbm, 228, rfl⟩
abbrev main_c_35 : Ref sig .tc := ⟨.hbm, 229, rfl⟩
abbrev main_call14_v0 : Ref sig .tc := ⟨.hbm, 230, rfl⟩
abbrev main_call14_v1 : Ref sig .tc := ⟨.hbm, 231, rfl⟩
abbrev main_call14_v2 : Ref sig .tc := ⟨.hbm, 232, rfl⟩
abbrev main_call14_v3 : Ref sig .tc := ⟨.hbm, 233, rfl⟩
abbrev main_call14_v4 : Ref sig .tc := ⟨.hbm, 234, rfl⟩
abbrev main_v139 : Ref sig .tc := ⟨.hbm, 235, rfl⟩
abbrev main_v140 : Ref sig .tc := ⟨.hbm, 236, rfl⟩
abbrev main_c_36 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_c_37 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_c_38 : Ref sig .tc := ⟨.hbm, 259, rfl⟩
abbrev main_v161 : Ref sig .tc := ⟨.hbm, 260, rfl⟩
abbrev main_v162 : Ref sig .tc := ⟨.hbm, 261, rfl⟩
abbrev main_c_39 : Ref sig .tc := ⟨.hbm, 262, rfl⟩
abbrev main_c_40 : Ref sig .tc := ⟨.hbm, 263, rfl⟩
abbrev main_call15_v0 : Ref sig .tc := ⟨.hbm, 264, rfl⟩
abbrev main_call15_v1 : Ref sig .tc := ⟨.hbm, 265, rfl⟩
abbrev main_call15_v2 : Ref sig .tc := ⟨.hbm, 266, rfl⟩
abbrev main_call15_v3 : Ref sig .tc := ⟨.hbm, 267, rfl⟩
abbrev main_call15_v4 : Ref sig .tc := ⟨.hbm, 268, rfl⟩
abbrev main_v163 : Ref sig .tc := ⟨.hbm, 269, rfl⟩
abbrev main_v164 : Ref sig .tc := ⟨.hbm, 270, rfl⟩
abbrev main_c_41 : Ref sig .tc := ⟨.hbm, 271, rfl⟩
abbrev main_v165 : Ref sig .tc := ⟨.hbm, 272, rfl⟩
abbrev main_v166 : Ref sig .tc := ⟨.hbm, 273, rfl⟩
abbrev main_c_42 : Ref sig .tc := ⟨.hbm, 274, rfl⟩
abbrev main_c_43 : Ref sig .tc := ⟨.hbm, 275, rfl⟩
abbrev main_call16_v0 : Ref sig .tc := ⟨.hbm, 276, rfl⟩
abbrev main_call16_v1 : Ref sig .tc := ⟨.hbm, 277, rfl⟩
abbrev main_call16_v2 : Ref sig .tc := ⟨.hbm, 278, rfl⟩
abbrev main_call16_v3 : Ref sig .tc := ⟨.hbm, 279, rfl⟩
abbrev main_call16_v4 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_c_44 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_c_45 : Ref sig .tc := ⟨.hbm, 302, rfl⟩
abbrev main_v187 : Ref sig .tc := ⟨.hbm, 303, rfl⟩
abbrev main_v188 : Ref sig .tc := ⟨.hbm, 304, rfl⟩
abbrev main_c_46 : Ref sig .tc := ⟨.hbm, 305, rfl⟩
abbrev main_c_47 : Ref sig .tc := ⟨.hbm, 306, rfl⟩
abbrev main_call17_v0 : Ref sig .tc := ⟨.hbm, 307, rfl⟩
abbrev main_call17_v1 : Ref sig .tc := ⟨.hbm, 308, rfl⟩
abbrev main_call17_v2 : Ref sig .tc := ⟨.hbm, 309, rfl⟩
abbrev main_call17_v3 : Ref sig .tc := ⟨.hbm, 310, rfl⟩
abbrev main_call17_v4 : Ref sig .tc := ⟨.hbm, 311, rfl⟩
abbrev main_v189 : Ref sig .tc := ⟨.hbm, 312, rfl⟩
abbrev main_call18_v0 : Ref sig .tc := ⟨.hbm, 313, rfl⟩
abbrev main_v190 : Ref sig .tc := ⟨.hbm, 314, rfl⟩
abbrev main_call19_v0 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_cst_48 : Ref sig .tc := ⟨.hbm, 324, rfl⟩
abbrev main_call20_v0 : Ref sig .tc := ⟨.hbm, 325, rfl⟩
abbrev main_call20_v1 : Ref sig .tc := ⟨.hbm, 326, rfl⟩
abbrev main_call20_v2 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c0_i32_0 : BitVec 32 := 0#32
  let v3 : BitVec 32 := Scalar.addi v2 c0_i32_0
  let c2_i32 : BitVec 32 := 2#32
  let v4 : BitVec 32 := Scalar.addi c2_i32 arg0
  let c0_i32_1 : BitVec 32 := 0#32
  ![arg1.toNat, v3.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c1_i32_0 : BitVec 32 := 1#32
  let v3 : BitVec 32 := Scalar.addi v2 c1_i32_0
  let c2_i32 : BitVec 32 := 2#32
  let v4 : BitVec 32 := Scalar.addi c2_i32 arg0
  let c0_i32_1 : BitVec 32 := 0#32
  ![arg1.toNat, v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c2_i32 : BitVec 32 := 2#32
  let v3 : BitVec 32 := Scalar.addi v2 c2_i32
  let c2_i32_0 : BitVec 32 := 2#32
  let v4 : BitVec 32 := Scalar.addi c2_i32_0 arg0
  let c0_i32_1 : BitVec 32 := 0#32
  ![arg1.toNat, v3.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c0_i32_0 : BitVec 32 := 0#32
  let v3 : BitVec 32 := Scalar.addi v2 c0_i32_0
  let c4_i32 : BitVec 32 := 4#32
  let v4 : BitVec 32 := Scalar.addi c4_i32 arg0
  let c0_i32_1 : BitVec 32 := 0#32
  ![arg1.toNat, v3.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c1_i32_0 : BitVec 32 := 1#32
  let v3 : BitVec 32 := Scalar.addi v2 c1_i32_0
  let c4_i32 : BitVec 32 := 4#32
  let v4 : BitVec 32 := Scalar.addi c4_i32 arg0
  let c0_i32_1 : BitVec 32 := 0#32
  ![arg1.toNat, v3.toNat, v4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c29_i32 : BitVec 32 := 29#32
  let v1 : BitVec 32 := Scalar.maxsi c0_i32 v0
  let v2 : BitVec 32 := Scalar.minsi c29_i32 v1
  let c2_i32 : BitVec 32 := 2#32
  let v3 : BitVec 32 := Scalar.addi v2 c2_i32
  let c4_i32 : BitVec 32 := 4#32
  let v4 : BitVec 32 := Scalar.addi c4_i32 arg0
  let c0_i32_0 : BitVec 32 := 0#32
  ![arg1.toNat, v3.toNat, v4.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c31_i32 : BitVec 32 := 31#32
  let v1 : BitVec 1 := Scalar.cmpi .eq arg2 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S4x8192x6144 : Shape := ⟨3, ![4, 8192, 6144]⟩
abbrev S4x256x6144 : Shape := ⟨3, ![4, 256, 6144]⟩
abbrev S16x15x31 : Shape := ⟨3, ![16, 15, 31]⟩
abbrev S4x8192x2048 : Shape := ⟨3, ![4, 8192, 2048]⟩
abbrev S4x256x2048 : Shape := ⟨3, ![4, 256, 2048]⟩
abbrev S4x256x16x128 : Shape := ⟨4, ![4, 256, 16, 128]⟩
abbrev S4x128x64x16x128 : Shape := ⟨5, ![4, 128, 64, 16, 128]⟩
abbrev S128 : Shape := ⟨1, ![128]⟩
abbrev S_ : Shape := ⟨0, ![]⟩
abbrev S64 : Shape := ⟨1, ![64]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x8x1 : Shape := ⟨3, ![128, 8, 1]⟩
abbrev S4x128x8x64x16x128 : Shape := ⟨6, ![4, 128, 8, 64, 16, 128]⟩
abbrev S64x16x1 : Shape := ⟨3, ![64, 16, 1]⟩
abbrev S4x128x8x64x16x16x128 : Shape := ⟨7, ![4, 128, 8, 64, 16, 16, 128]⟩
abbrev S16x15x64x16 : Shape := ⟨4, ![16, 15, 64, 16]⟩
abbrev S16x128x8x64x16 : Shape := ⟨5, ![16, 128, 8, 64, 16]⟩
abbrev S128x16x64x8x16 : Shape := ⟨5, ![128, 16, 64, 8, 16]⟩
abbrev S4x128x16x64x8x16 : Shape := ⟨6, ![4, 128, 16, 64, 8, 16]⟩
abbrev S1x128x16x64x8x16 : Shape := ⟨6, ![1, 128, 16, 64, 8, 16]⟩
abbrev S4x16x256x128x64 : Shape := ⟨5, ![4, 16, 256, 128, 64]⟩
abbrev S4x128x16x64x256 : Shape := ⟨5, ![4, 128, 16, 64, 256]⟩
abbrev S4x128x16x64x128 : Shape := ⟨5, ![4, 128, 16, 64, 128]⟩
abbrev S4x128x16x64x384 : Shape := ⟨5, ![4, 128, 16, 64, 384]⟩
abbrev S4x128x16x64 : Shape := ⟨4, ![4, 128, 16, 64]⟩
abbrev S4x128x16x64x1 : Shape := ⟨5, ![4, 128, 16, 64, 1]⟩
abbrev S4x16x128x128x64 : Shape := ⟨5, ![4, 16, 128, 128, 64]⟩

abbrev nBuf : Space → Nat
  | .hbm => 110
  | .vmem => 0
  | .smem => 0
  | _ => 0

abbrev bufTy : (tb : Table) → Fin (tcTables nBuf tb) → BufTy
  | .hbm, ⟨0, _⟩ => ⟨S4x8192x6144, .bf16⟩
  | .hbm, ⟨1, _⟩ => ⟨S4x256x6144, .bf16⟩
  | .hbm, ⟨2, _⟩ => ⟨S16x15x31, .f32⟩
  | .hbm, ⟨3, _⟩ => ⟨S4x8192x6144, .f32⟩
  | .hbm, ⟨4, _⟩ => ⟨S4x256x6144, .f32⟩
  | .hbm, ⟨5, _⟩ => ⟨S4x8192x2048, .f32⟩
  | .hbm, ⟨6, _⟩ => ⟨S4x8192x2048, .f32⟩
  | .hbm, ⟨7, _⟩ => ⟨S4x8192x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x16x128, .f32⟩
  | .hbm, ⟨12, _⟩ => ⟨S4x256x16x128, .f32⟩
  | .hbm, ⟨13, _⟩ => ⟨S4x128x64x16x128, .f32⟩
  | .hbm, ⟨14, _⟩ => ⟨S4x128x64x16x128, .f32⟩
  | .hbm, ⟨15, _⟩ => ⟨S4x128x64x16x128, .f32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S128x1, .i32⟩
  | .hbm, ⟨41, _⟩ => ⟨S8, .i32⟩
  | .hbm, ⟨42, _⟩ => ⟨S1x8, .i32⟩
  | .hbm, ⟨43, _⟩ => ⟨S128x8, .i32⟩
  | .hbm, ⟨44, _⟩ => ⟨S128x8, .i32⟩
  | .hbm, ⟨45, _⟩ => ⟨S128x8, .i32⟩
  | .hbm, ⟨46, _⟩ => ⟨S64x1, .i32⟩
  | .hbm, ⟨47, _⟩ => ⟨S16, .i32⟩
  | .hbm, ⟨48, _⟩ => ⟨S1x16, .i32⟩
  | .hbm, ⟨49, _⟩ => ⟨S64x16, .i32⟩
  | .hbm, ⟨50, _⟩ => ⟨S64x16, .i32⟩
  | .hbm, ⟨51, _⟩ => ⟨S64x16, .i32⟩
  | .hbm, ⟨52, _⟩ => ⟨S128, .i32⟩
  | .hbm, ⟨53, _⟩ => ⟨S128x1, .i32⟩
  | .hbm, ⟨54, _⟩ => ⟨S128x8, .i32⟩
  | .hbm, ⟨55, _⟩ => ⟨S128x8, .i32⟩
  | .hbm, ⟨56, _⟩ => ⟨S_, .i32⟩
  | .hbm, ⟨57, _⟩ => ⟨S128x8, .i32⟩
  | .hbm, ⟨58, _⟩ => ⟨S128x8, .i32⟩
  | .hbm, ⟨59, _⟩ => ⟨S64, .i32⟩
  | .hbm, ⟨60, _⟩ => ⟨S64x1, .i32⟩
  | .hbm, ⟨61, _⟩ => ⟨S64x16, .i32⟩
  | .hbm, ⟨62, _⟩ => ⟨S64x16, .i32⟩
  | .hbm, ⟨63, _⟩ => ⟨S_, .i32⟩
  | .hbm, ⟨64, _⟩ => ⟨S64x16, .i32⟩
  | .hbm, ⟨65, _⟩ => ⟨S64x16, .i32⟩
  | .hbm, ⟨66, _⟩ => ⟨S128x8x1, .i32⟩
  | .hbm, ⟨67, _⟩ => ⟨S4x128x8x64x16x128, .f32⟩
  | .hbm, ⟨68, _⟩ => ⟨S64x16x1, .i32⟩
  | .hbm, ⟨69, _⟩ => ⟨S4x128x8x64x16x16x128, .f32⟩
  | .hbm, ⟨70, _⟩ => ⟨S128x8x1, .i32⟩
  | .hbm, ⟨71, _⟩ => ⟨S4x128x8x64x16x128, .f32⟩
  | .hbm, ⟨72, _⟩ => ⟨S64x16x1, .i32⟩
  | .hbm, ⟨73, _⟩ => ⟨S4x128x8x64x16x16x128, .f32⟩
  | .hbm, ⟨74, _⟩ => ⟨S64x16x1, .i32⟩
  | .hbm, ⟨75, _⟩ => ⟨S16x15x64x16, .f32⟩
  | .hbm, ⟨76, _⟩ => ⟨S128x8x1, .i32⟩
  | .hbm, ⟨77, _⟩ => ⟨S16x128x8x64x16, .f32⟩
  | .hbm, ⟨78, _⟩ => ⟨S128x16x64x8x16, .f32⟩
  | .hbm, ⟨79, _⟩ => ⟨S4x128x16x64x8x16, .f32⟩
  | .hbm, ⟨80, _⟩ => ⟨S1x128x16x64x8x16, .f32⟩
  | .hbm, ⟨81, _⟩ => ⟨S4x128x16x64x8x16, .f32⟩
  | .hbm, ⟨82, _⟩ => ⟨S4x128x16x64x8x16, .f32⟩
  | .hbm, ⟨83, _⟩ => ⟨S4x16x256x128x64, .f32⟩
  | .hbm, ⟨84, _⟩ => ⟨S4x128x16x64x256, .f32⟩
  | .hbm, ⟨85, _⟩ => ⟨S4x128x16x64x128, .f32⟩
  | .hbm, ⟨86, _⟩ => ⟨S4x128x16x64x384, .f32⟩
  | .hbm, ⟨87, _⟩ => ⟨S_, .f32⟩
  | .hbm, ⟨88, _⟩ => ⟨S4x128x16x64, .f32⟩
  | .hbm, ⟨89, _⟩ => ⟨S_, .f32⟩
  | .hbm, ⟨90, _⟩ => ⟨S4x128x16x64, .f32⟩
  | .hbm, ⟨91, _⟩ => ⟨S4x128x16x64, .f32⟩
  | .hbm, ⟨92, _⟩ => ⟨S4x128x16x64x1, .f32⟩
  | .hbm, ⟨93, _⟩ => ⟨S4x128x16x64x384, .f32⟩
  | .hbm, ⟨94, _⟩ => ⟨S4x128x16x64x384, .f32⟩
  | .hbm, ⟨95, _⟩ => ⟨S4x128x16x64x384, .f32⟩
  | .hbm, ⟨96, _⟩ => ⟨S_, .f32⟩
  | .hbm, ⟨97, _⟩ => ⟨S4x128x16x64, .f32⟩
  | .hbm, ⟨98, _⟩ => ⟨S4x128x16x64x1, .f32⟩
  | .hbm, ⟨99, _⟩ => ⟨S4x128x16x64x384, .f32⟩
  | .hbm, ⟨100, _⟩ => ⟨S4x128x16x64x384, .f32⟩
  | .hbm, ⟨101, _⟩ => ⟨S4x128x16x64x128, .f32⟩
  | .hbm, ⟨102, _⟩ => ⟨S4x128x16x64x8x16, .f32⟩
  | .hbm, ⟨103, _⟩ => ⟨S4x128x16x64x256, .f32⟩
  | .hbm, ⟨104, _⟩ => ⟨S4x128x64x16x128, .f32⟩
  | .hbm, ⟨105, _⟩ => ⟨S4x16x128x128x64, .f32⟩
  | .hbm, ⟨106, _⟩ => ⟨S4x128x64x16x128, .f32⟩
  | .hbm, ⟨107, _⟩ => ⟨S4x128x64x16x128, .f32⟩
  | .hbm, ⟨108, _⟩ => ⟨S4x8192x2048, .f32⟩
  | .hbm, ⟨109, _⟩ => ⟨S4x8192x2048, .bf16⟩
  | _, _ => ⟨S4x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_call2_v0 : Ref sig .tc := ⟨.hbm, 66, rfl⟩
abbrev main_v45 : Ref sig .tc := ⟨.hbm, 67, rfl⟩
abbrev main_call3_v0 : Ref sig .tc := ⟨.hbm, 68, rfl⟩
abbrev main_v46 : Ref sig .tc := ⟨.hbm, 69, rfl⟩
abbrev main_call4_v0 : Ref sig .tc := ⟨.hbm, 70, rfl⟩
abbrev main_v47 : Ref sig .tc := ⟨.hbm, 71, rfl⟩
abbrev main_call5_v0 : Ref sig .tc := ⟨.hbm, 72, rfl⟩
abbrev main_v48 : Ref sig .tc := ⟨.hbm, 73, rfl⟩
abbrev main_call6_v0 : Ref sig .tc := ⟨.hbm, 74, rfl⟩
abbrev main_v49 : Ref sig .tc := ⟨.hbm, 75, rfl⟩
abbrev main_call7_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== QkvKernel.lean ====
abbrev S4x8192x2048 : Shape := ⟨3, ![4, 8192, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4096 : Shape := ⟨1, ![4096]⟩
abbrev S6144 : Shape := ⟨1, ![6144]⟩
abbrev S1x2048 : Shape := ⟨2, ![1, 2048]⟩
abbrev S1x6144 : Shape := ⟨2, ![1, 6144]⟩
abbrev S4x8192x6144 : Shape := ⟨3, ![4, 8192, 6144]⟩
abbrev S1x1024x2048 : Shape := ⟨3, ![1, 1024, 2048]⟩
abbrev S1x1x2048 : Shape := ⟨3, ![1, 1, 2048]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S6144, .f32⟩
  | .hbm, ⟨10, _⟩ => ⟨S2048x6144, .bf16⟩
  | .hbm, ⟨11, _⟩ => ⟨S1x2048, .f32⟩
  | .hbm, ⟨12, _⟩ => ⟨S1x6144, .f32⟩
  | .hbm, ⟨13, _⟩ => ⟨S4x8192x6144, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== QkvKernelIdeal.lean ====
abbrev S4x8192x2048 : Shape := ⟨3, ![4, 8192, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4096 : Shape := ⟨1, ![4096]⟩
abbrev S6144 : Shape := ⟨1, ![6144]⟩
abbrev S1x2048 : Shape := ⟨2, ![1, 2048]⟩
abbrev S1x6144 : Shape := ⟨2, ![1, 6144]⟩
abbrev S4x8192x6144 : Shape := ⟨3, ![4, 8192, 6144]⟩
abbrev S1x1024x2048 : Shape := ⟨3, ![1, 1024, 2048]⟩
abbrev S1x1x2048 : Shape := ⟨3, ![1, 1, 2048]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S6144, .f32⟩
  | .hbm, ⟨10, _⟩ => ⟨S2048x6144, .bf16⟩
  | .hbm, ⟨11, _⟩ => ⟨S1x2048, .f32⟩
  | .hbm, ⟨12, _⟩ => ⟨S1x6144, .f32⟩
  | .hbm, ⟨13, _⟩ => ⟨S4x8192x6144, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== QkvReferenceIdeal.lean ====
abbrev S4x8192x2048 : Shape := ⟨3, ![4, 8192, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x6144 : Shape := ⟨3, ![4, 8192, 6144]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x6144, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192x2048, .f32⟩
  | .hbm, ⟨34, _⟩ => ⟨S4x8192x2048, .f32⟩
  | .hbm, ⟨35, _⟩ => ⟨S4x8192x6144, .f32⟩
  | .hbm, ⟨36, _⟩ => ⟨S4x8192x6144, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== InKernel.lean ====
abbrev S4x8192x2048 : Shape := ⟨3, ![4, 8192, 2048]⟩
abbrev S2048 : Shape := ⟨1, ![2048]⟩
abbrev S4x1x2048 : Shape := ⟨3, ![4, 1, 2048]⟩
abbrev S2048x4128 : Shape := ⟨2, ![2048, 4128]⟩
abbrev S2048x3072 : Shape := ⟨2, ![2048, 3072]⟩
abbrev S2048x1024 : Shape := ⟨2, ![2048, 1024]⟩
abbrev S2048x4096 : Shape := ⟨2, ![2048, 4096]⟩
abbrev S2048x32 : Shape := ⟨2, ![2048, 32]⟩
abbrev S_ : Shape := ⟨0, ![]⟩
abbrev S2048x128 : Shape := ⟨2, ![2048, 128]⟩
abbrev S512 : Shape := ⟨1, ![512]⟩
abbrev S3584 : Shape := ⟨1, ![3584]⟩
abbrev S4096 : Shape := ⟨1, ![4096]⟩
abbrev S1x2048 : Shape := ⟨2, ![1, 2048]⟩
abbrev S1x4096 : Shape := ⟨2, ![1, 4096]⟩
abbrev S4x8192x4096 : Shape := ⟨3, ![4, 8192, 4096]⟩
abbrev S4x8192x128 : Shape := ⟨3, ![4, 8192, 128]⟩
abbrev S1x1024x2048 : Shape := ⟨3, ![1, 1024, 2048]⟩
abbrev S1x1x2048 : Shape := ⟨3, ![1, 1, 2048]⟩
abbrev S2048x2048 : Shape := ⟨2, ![2048, 2048]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4128, .f32⟩
  | .hbm, ⟨5, _⟩ => ⟨S2048x3072, .f32⟩
  | .hbm, ⟨6, _⟩ => ⟨S2048x1024, .f32⟩
  | .hbm, ⟨7, _⟩ => ⟨S2048x4096, .f32⟩
  | .hbm, ⟨8, _⟩ => ⟨S2048x4096, .bf16⟩
  | .hbm, ⟨9, _⟩ => ⟨S2048x32, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S3584, .f32⟩
  | .hbm, ⟨18, _⟩ => ⟨S4096, .f32⟩
  | .hbm, ⟨19, _⟩ => ⟨S1x2048, .f32⟩
  | .hbm, ⟨20, _⟩ => ⟨S1x4096, .f32⟩
  | .hbm, ⟨21, _⟩ => ⟨S4x8192x4096, .bf16⟩
  | .hbm, ⟨22, _⟩ => ⟨S4x8192x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S2048x128, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1x1024x128, .f32⟩
  | .local _ .vmem, ⟨15, _⟩ => ⟨S1x1024x128, .f32⟩
  | .local _ .vmem, ⟨16, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== InKernelIdeal.lean ====
abbrev S4x8192x2048 : Shape := ⟨3, ![4, 8192, 2048]⟩
abbrev S2048 : Shape := ⟨1, ![2048]⟩
abbrev S4x1x2048 : Shape := ⟨3, ![4, 1, 2048]⟩
abbrev S2048x4128 : Shape := ⟨2, ![2048, 4128]⟩
abbrev S2048x3072 : Shape := ⟨2, ![2048, 3072]⟩
abbrev S2048x1024 : Shape := ⟨2, ![2048, 1024]⟩
abbrev S2048x4096 : Shape := ⟨2, ![2048, 4096]⟩
abbrev S2048x32 : Shape := ⟨2, ![2048, 32]⟩
abbrev S_ : Shape := ⟨0, ![]⟩
abbrev S2048x128 : Shape := ⟨2, ![2048, 128]⟩
abbrev S512 : Shape := ⟨1, ![512]⟩
abbrev S3584 : Shape := ⟨1, ![3584]⟩
abbrev S4096 : Shape := ⟨1, ![4096]⟩
abbrev S1x2048 : Shape := ⟨2, ![1, 2048]⟩
abbrev S1x4096 : Shape := ⟨2, ![1, 4096]⟩
abbrev S4x8192x4096 : Shape := ⟨3, ![4, 8192, 4096]⟩
abbrev S4x8192x128 : Shape := ⟨3, ![4, 8192, 128]⟩
abbrev S1x1024x2048 : Shape := ⟨3, ![1, 1024, 2048]⟩
abbrev S1x1x2048 : Shape := ⟨3, ![1, 1, 2048]⟩
abbrev S2048x2048 : Shape := ⟨2, ![2048, 2048]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4128, .f32⟩
  | .hbm, ⟨5, _⟩ => ⟨S2048x3072, .f32⟩
  | .hbm, ⟨6, _⟩ => ⟨S2048x1024, .f32⟩
  | .hbm, ⟨7, _⟩ => ⟨S2048x4096, .f32⟩
  | .hbm, ⟨8, _⟩ => ⟨S2048x4096, .bf16⟩
  | .hbm, ⟨9, _⟩ => ⟨S2048x32, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S3584, .f32⟩
  | .hbm, ⟨18, _⟩ => ⟨S4096, .f32⟩
  | .hbm, ⟨19, _⟩ => ⟨S1x2048, .f32⟩
  | .hbm, ⟨20, _⟩ => ⟨S1x4096, .f32⟩
  | .hbm, ⟨21, _⟩ => ⟨S4x8192x4096, .bf16⟩
  | .hbm, ⟨22, _⟩ => ⟨S4x8192x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S2048x128, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1x1024x128, .f32⟩
  | .local _ .vmem, ⟨15, _⟩ => ⟨S1x1024x128, .f32⟩
  | .local _ .vmem, ⟨16, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== InReferenceIdeal.lean ====
abbrev S4x8192x2048 : Shape := ⟨3, ![4, 8192, 2048]⟩
abbrev S2048 : Shape := ⟨1, ![2048]⟩
abbrev S4x1x2048 : Shape := ⟨3, ![4, 1, 2048]⟩
abbrev S2048x4128 : Shape := ⟨2, ![2048, 4128]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x4128 : Shape := ⟨3, ![4, 8192, 4128]⟩
abbrev S4x8192x512 : Shape := ⟨3, ![4, 8192, 512]⟩
abbrev S4x8192x1024 : Shape := ⟨3, ![4, 8192, 1024]⟩
abbrev S4x8192x32 : Shape := ⟨3, ![4, 8192, 32]⟩
abbrev S4x8192x4096 : Shape := ⟨3, ![4, 8192, 4096]⟩
abbrev S4x8192x128 : Shape := ⟨3, ![4, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4128, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x4128, .f32⟩
  | .hbm, ⟨29, _⟩ => ⟨S4x8192x512, .f32⟩
  | .hbm, ⟨30, _⟩ => ⟨S4x8192x512, .f32⟩
  | .hbm, ⟨31, _⟩ => ⟨S4x8192x1024, .f32⟩
  | .hbm, ⟨32, _⟩ => ⟨S4x8192x1024, .f32⟩
  | .hbm, ⟨33, _⟩ => ⟨S4x8192x32, .f32⟩
  | .hbm, ⟨34, _⟩ => ⟨S4x8192x1024, .f32⟩
  | .hbm, ⟨35, _⟩ => ⟨S_, .f32⟩
  | .hbm, ⟨36, _⟩ => ⟨S4x8192x512, .f32⟩
  | .hbm, ⟨37, _⟩ => ⟨S4x8192x512, .f32⟩
  | .hbm, ⟨38, _⟩ => ⟨S4x8192x4096, .f32⟩
  | .hbm, ⟨39, _⟩ => ⟨S4x8192x4096, .bf16⟩
  | .hbm, ⟨40, _⟩ => ⟨S_, .i32⟩
  | .hbm, ⟨41, _⟩ => ⟨S_, .f32⟩
  | .hbm, ⟨42, _⟩ => ⟨S4x8192x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutKernel.lean ====
abbrev S4x8192x2048 : Shape := ⟨3, ![4, 8192, 2048]⟩
abbrev S2048x2048 : Shape := ⟨2, ![2048, 2048]⟩
abbrev S4x1x2048 : Shape := ⟨3, ![4, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .f32⟩
  | .hbm, ⟨2, _⟩ => ⟨S4x8192x2048, .f32⟩
  | .hbm, ⟨3, _⟩ => ⟨S4x1x2048, .f32⟩
  | .hbm, ⟨4, _⟩ => ⟨S2048x2048, .bf16⟩
  | .hbm, ⟨5, _⟩ => ⟨S4x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .f32⟩
  | .local _ .vmem, ⟨8, _⟩ => ⟨S1x512x2048, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutKernelIdeal.lean ====
abbrev S4x8192x2048 : Shape := ⟨3, ![4, 8192, 2048]⟩
abbrev S2048x2048 : Shape := ⟨2, ![2048, 2048]⟩
abbrev S4x1x2048 : Shape := ⟨3, ![4, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .f32⟩
  | .hbm, ⟨2, _⟩ => ⟨S4x8192x2048, .f32⟩
  | .hbm, ⟨3, _⟩ => ⟨S4x1x2048, .f32⟩
  | .hbm, ⟨4, _⟩ => ⟨S2048x2048, .bf16⟩
  | .hbm, ⟨5, _⟩ => ⟨S4x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .f32⟩
  | .local _ .vmem, ⟨8, _⟩ => ⟨S1x512x2048, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutReferenceIdeal.lean ====
abbrev S4x8192x2048 : Shape := ⟨3, ![4, 8192, 2048]⟩
abbrev S2048x2048 : Shape := ⟨2, ![2048, 2048]⟩
abbrev S4x1x2048 : Shape := ⟨3, ![4, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .f32⟩
  | .hbm, ⟨2, _⟩ => ⟨S4x8192x2048, .f32⟩
  | .hbm, ⟨3, _⟩ => ⟨S4x1x2048, .f32⟩
  | .hbm, ⟨4, _⟩ => ⟨S4x8192x2048, .f32⟩
  | .hbm, ⟨5, _⟩ => ⟨S4x8192x2048, .f32⟩
  | .hbm, ⟨6, _⟩ => ⟨S4x8192x2048, .f32⟩
  | .hbm, ⟨7, _⟩ => ⟨S4x8192x2048, .f32⟩
  | .hbm, ⟨8, _⟩ => ⟨S4x8192x2048, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutTwoKernel.lean ====
abbrev S4x8192x1024 : Shape := ⟨3, ![4, 8192, 1024]⟩
abbrev S2048x2048 : Shape := ⟨2, ![2048, 2048]⟩
abbrev S4x8192x2048 : Shape := ⟨3, ![4, 8192, 2048]⟩
abbrev S4x1x2048 : Shape := ⟨3, ![4, 1, 2048]⟩
abbrev S1x512x1024 : Shape := ⟨3, ![1, 512, 1024]⟩
abbrev S1024x2048 : Shape := ⟨2, ![1024, 2048]⟩
abbrev S1x512x2048 : Shape := ⟨3, ![1, 512, 2048]⟩
abbrev S1x1x2048 : Shape := ⟨3, ![1, 1, 2048]⟩
abbrev S512x1024 : Shape := ⟨2, ![512, 1024]⟩
abbrev S512x2048 : Shape := ⟨2, ![512, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S2048x2048, .f32⟩
  | .hbm, ⟨3, _⟩ => ⟨S4x8192x2048, .f32⟩
  | .hbm, ⟨4, _⟩ => ⟨S4x1x2048, .f32⟩
  | .hbm, ⟨5, _⟩ => ⟨S2048x2048, .bf16⟩
  | .hbm, ⟨6, _⟩ => ⟨S4x8192x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== OutTwoKernelIdeal.lean ====
abbrev S4x8192x1024 : Shape := ⟨3, ![4, 8192, 1024]⟩
abbrev S2048x2048 : Shape := ⟨2, ![2048, 2048]⟩
abbrev S4x8192x2048 : Shape := ⟨3, ![4, 8192, 2048]⟩
abbrev S4x1x2048 : Shape := ⟨3, ![4, 1, 2048]⟩
abbrev S1x512x1024 : Shape := ⟨3, ![1, 512, 1024]⟩
abbrev S1024x2048 : Shape := ⟨2, ![1024, 2048]⟩
abbrev S1x512x2048 : Shape := ⟨3, ![1, 512, 2048]⟩
abbrev S1x1x2048 : Shape := ⟨3, ![1, 1, 2048]⟩
abbrev S512x1024 : Shape := ⟨2, ![512, 1024]⟩
abbrev S512x2048 : Shape := ⟨2, ![512, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S2048x2048, .f32⟩
  | .hbm, ⟨3, _⟩ => ⟨S4x8192x2048, .f32⟩
  | .hbm, ⟨4, _⟩ => ⟨S4x1x2048, .f32⟩
  | .hbm, ⟨5, _⟩ => ⟨S2048x2048, .bf16⟩
  | .hbm, ⟨6, _⟩ => ⟨S4x8192x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== OutTwoReferenceIdeal.lean ====
abbrev S4x8192x1024 : Shape := ⟨3, ![4, 8192, 1024]⟩
abbrev S2048x2048 : Shape := ⟨2, ![2048, 2048]⟩
abbrev S4x8192x2048 : Shape := ⟨3, ![4, 8192, 2048]⟩
abbrev S4x1x2048 : Shape := ⟨3, ![4, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S2048x2048, .f32⟩
  | .hbm, ⟨3, _⟩ => ⟨S4x8192x2048, .f32⟩
  | .hbm, ⟨4, _⟩ => ⟨S4x1x2048, .f32⟩
  | .hbm, ⟨5, _⟩ => ⟨S4x8192x1024, .f32⟩
  | .hbm, ⟨6, _⟩ => ⟨S4x8192x2048, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FinalKernel.lean ====
abbrev S4x8192x2048 : Shape := ⟨3, ![4, 8192, 2048]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S1x2048, .f32⟩
  | .hbm, ⟨3, _⟩ => ⟨S4x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalReferenceIdeal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S1x1x2048, .f32⟩
  | .hbm, ⟨16, _⟩ => ⟨S4x8192x2048, .f32⟩
  | .hbm, ⟨17, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateKernel.lean ====
abbrev S4x8192x1024 : Shape := ⟨3, ![4, 8192, 1024]⟩
abbrev S4x8192x4096 : Shape := ⟨3, ![4, 8192, 4096]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x4096, .bf16⟩
  | .hbm, ⟨3, _⟩ => ⟨S1024, .f32⟩
  | .hbm, ⟨4, _⟩ => ⟨S1x1024, .f32⟩
  | .hbm, ⟨5, _⟩ => ⟨S4x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateKernelIdeal.lean ====
abbrev S4x8192x1024 : Shape := ⟨3, ![4, 8192, 1024]⟩
abbrev S4x8192x4096 : Shape := ⟨3, ![4, 8192, 4096]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x4096, .bf16⟩
  | .hbm, ⟨3, _⟩ => ⟨S1024, .f32⟩
  | .hbm, ⟨4, _⟩ => ⟨S1x1024, .f32⟩
  | .hbm, ⟨5, _⟩ => ⟨S4x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S4x8192x1024 : Shape := ⟨3, ![4, 8192, 1024]⟩
abbrev S4x8192x4096 : Shape := ⟨3, ![4, 8192, 4096]⟩
abbrev S1024 : Shape := ⟨1, ![1024]⟩
abbrev S4x8192x4x256 : Shape := ⟨4, ![4, 8192, 4, 256]⟩
abbrev S_ : Shape := ⟨0, ![]⟩
abbrev S4x8192x4 : Shape := ⟨3, ![4, 8192, 4]⟩
abbrev S4x8192x4x1 : Shape := ⟨4, ![4, 8192, 4, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x4096, .bf16⟩
  | .hbm, ⟨3, _⟩ => ⟨S1024, .f32⟩
  | .hbm, ⟨4, _⟩ => ⟨S4x8192x1024, .bf16⟩
  | .hbm, ⟨5, _⟩ => ⟨S4x8192x1024, .f32⟩
  | .hbm, ⟨6, _⟩ => ⟨S4x8192x1024, .f32⟩
  | .hbm, ⟨7, _⟩ => ⟨S4x8192x4x256, .f32⟩
  | .hbm, ⟨8, _⟩ => ⟨S4x8192x4x256, .f32⟩
  | .hbm, ⟨9, _⟩ => ⟨S_, .f32⟩
  | .hbm, ⟨10, _⟩ => ⟨S4x8192x4, .f32⟩
  | .hbm, ⟨11, _⟩ => ⟨S4x8192x4x1, .f32⟩
  | .hbm, ⟨12, _⟩ => ⟨S_, .f32⟩
  | .hbm, ⟨13, _⟩ => ⟨S4x8192x4x1, .f32⟩
  | .hbm, ⟨14, _⟩ => ⟨S4x8192x4x1, .f32⟩
  | .hbm, ⟨15, _⟩ => ⟨S_, .f32⟩
  | .hbm, ⟨16, _⟩ => ⟨S4x8192x4x1, .f32⟩
  | .hbm, ⟨17, _⟩ => ⟨S4x8192x4x1, .f32⟩
  | .hbm, ⟨18, _⟩ => ⟨S4x8192x4x1, .f32⟩
  | .hbm, ⟨19, _⟩ => ⟨S4x8192x4x256, .f32⟩
  | .hbm, ⟨20, _⟩ => ⟨S4x8192x4x256, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== AdaKernel.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== CtxKernel.lean ====
abbrev S4x256x6144 : Shape := ⟨3, ![4, 256, 6144]⟩
abbrev S4x256x2048 : Shape := ⟨3, ![4, 256, 2048]⟩
abbrev S1x256x1024 : Shape := ⟨3, ![1, 256, 1024]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x256x6144, .bf16⟩
  | .hbm, ⟨1, _⟩ => ⟨S4x256x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S4x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxReferenceIdeal.lean ====
abbrev S4x256x6144 : Shape := ⟨3, ![4, 256, 6144]⟩
abbrev S4x256x2048 : Shape := ⟨3, ![4, 256, 2048]⟩
abbrev S4x256x16x128 : Shape := ⟨4, ![4, 256, 16, 128]⟩
abbrev S4x16x256x256 : Shape := ⟨4, ![4, 16, 256, 256]⟩
abbrev S_ : Shape := ⟨0, ![]⟩
abbrev S4x16x256 : Shape := ⟨3, ![4, 16, 256]⟩
abbrev S4x16x256x1 : Shape := ⟨4, ![4, 16, 256, 1]⟩
abbrev S4x16x128x256 : Shape := ⟨4, ![4, 16, 128, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x256x6144, .bf16⟩
  | .hbm, ⟨1, _⟩ => ⟨S4x256x6144, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x16x128, .f32⟩
  | .hbm, ⟨6, _⟩ => ⟨S4x256x16x128, .f32⟩
  | .hbm, ⟨7, _⟩ => ⟨S4x256x16x128, .f32⟩
  | .hbm, ⟨8, _⟩ => ⟨S4x16x256x256, .f32⟩
  | .hbm, ⟨9, _⟩ => ⟨S_, .f32⟩
  | .hbm, ⟨10, _⟩ => ⟨S4x16x256, .f32⟩
  | .hbm, ⟨11, _⟩ => ⟨S_, .f32⟩
  | .hbm, ⟨12, _⟩ => ⟨S4x16x256, .f32⟩
  | .hbm, ⟨13, _⟩ => ⟨S4x16x256, .f32⟩
  | .hbm, ⟨14, _⟩ => ⟨S4x16x256x1, .f32⟩
  | .hbm, ⟨15, _⟩ => ⟨S4x16x256x256, .f32⟩
  | .hbm, ⟨16, _⟩ => ⟨S4x16x256x256, .f32⟩
  | .hbm, ⟨17, _⟩ => ⟨S4x16x256x256, .f32⟩
  | .hbm, ⟨18, _⟩ => ⟨S_, .f32⟩
  | .hbm, ⟨19, _⟩ => ⟨S4x16x256, .f32⟩
  | .hbm, ⟨20, _⟩ => ⟨S4x16x256x1, .f32⟩
  | .hbm, ⟨21, _⟩ => ⟨S4x16x256x256, .f32⟩
  | .hbm, ⟨22, _⟩ => ⟨S4x16x256x256, .f32⟩
  | .hbm, ⟨23, _⟩ => ⟨S4x16x128x256, .f32⟩
  | .hbm, ⟨24, _⟩ => ⟨S4x256x16x128, .f32⟩
  | .hbm, ⟨25, _⟩ => ⟨S4x256x2048, .f32⟩
  | .hbm, ⟨26, _⟩ => ⟨S4x256x2048, .bf16⟩
  | _, _ => ⟨S4x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== CtxQkvKernel.lean ====
abbrev S4x256x2048 : Shape := ⟨3, ![4, 256, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4096 : Shape := ⟨1, ![4096]⟩
abbrev S6144 : Shape := ⟨1, ![6144]⟩
abbrev S1x2048 : Shape := ⟨2, ![1, 2048]⟩
abbrev S1x6144 : Shape := ⟨2, ![1, 6144]⟩
abbrev S4x256x6144 : Shape := ⟨3, ![4, 256, 6144]⟩
abbrev S1x256x2048 : Shape := ⟨3, ![1, 256, 2048]⟩
abbrev S1x1x2048 : Shape := ⟨3, ![1, 1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S6144, .f32⟩
  | .hbm, ⟨10, _⟩ => ⟨S2048x6144, .bf16⟩
  | .hbm, ⟨11, _⟩ => ⟨S1x2048, .f32⟩
  | .hbm, ⟨12, _⟩ => ⟨S1x6144, .f32⟩
  | .hbm, ⟨13, _⟩ => ⟨S4x256x6144, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x256x2048, .bf16⟩
  | .local _ .vmem, ⟨12, _⟩ => ⟨S1x256x2048, .bf16⟩
  | .local _ .vmem, ⟨13, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== CtxQkvReferenceIdeal.lean ====
abbrev S4x256x2048 : Shape := ⟨3, ![4, 256, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x6144 : Shape := ⟨3, ![4, 256, 6144]⟩

abbrev nBuf : Space → Nat
  | .hbm => 37
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x6144, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S_, .f32⟩
  | .hbm, ⟨33, _⟩ => ⟨S4x256x2048, .f32⟩
  | .hbm, ⟨34, _⟩ => ⟨S4x256x2048, .f32⟩
  | .hbm, ⟨35, _⟩ => ⟨S4x256x6144, .f32⟩
  | .hbm, ⟨36, _⟩ => ⟨S4x256x6144, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== CtxInKernel.lean ====
abbrev S4x256x2048 : Shape := ⟨3, ![4, 256, 2048]⟩
abbrev S2048 : Shape := ⟨1, ![2048]⟩
abbrev S4x1x2048 : Shape := ⟨3, ![4, 1, 2048]⟩
abbrev S2048x4128 : Shape := ⟨2, ![2048, 4128]⟩
abbrev S2048x3072 : Shape := ⟨2, ![2048, 3072]⟩
abbrev S2048x1024 : Shape := ⟨2, ![2048, 1024]⟩
abbrev S2048x4096 : Shape := ⟨2, ![2048, 4096]⟩
abbrev S2048x32 : Shape := ⟨2, ![2048, 32]⟩
abbrev S_ : Shape := ⟨0, ![]⟩
abbrev S2048x128 : Shape := ⟨2, ![2048, 128]⟩
abbrev S512 : Shape := ⟨1, ![512]⟩
abbrev S3584 : Shape := ⟨1, ![3584]⟩
abbrev S4096 : Shape := ⟨1, ![4096]⟩
abbrev S1x2048 : Shape := ⟨2, ![1, 2048]⟩
abbrev S1x4096 : Shape := ⟨2, ![1, 4096]⟩
abbrev S4x256x4096 : Shape := ⟨3, ![4, 256, 4096]⟩
abbrev S4x256x128 : Shape := ⟨3, ![4, 256, 128]⟩
abbrev S1x256x2048 : Shape := ⟨3, ![1, 256, 2048]⟩
abbrev S1x1x2048 : Shape := ⟨3, ![1, 1, 2048]⟩
abbrev S2048x2048 : Shape := ⟨2, ![2048, 2048]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 23
  | .vmem => 17
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4128, .f32⟩
  | .hbm, ⟨5, _⟩ => ⟨S2048x3072, .f32⟩
  | .hbm, ⟨6, _⟩ => ⟨S2048x1024, .f32⟩
  | .hbm, ⟨7, _⟩ => ⟨S2048x4096, .f32⟩
  | .hbm, ⟨8, _⟩ => ⟨S2048x4096, .bf16⟩
  | .hbm, ⟨9, _⟩ => ⟨S2048x32, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S3584, .f32⟩
  | .hbm, ⟨18, _⟩ => ⟨S4096, .f32⟩
  | .hbm, ⟨19, _⟩ => ⟨S1x2048, .f32⟩
  | .hbm, ⟨20, _⟩ => ⟨S1x4096, .f32⟩
  | .hbm, ⟨21, _⟩ => ⟨S4x256x4096, .bf16⟩
  | .hbm, ⟨22, _⟩ => ⟨S4x256x128, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S2048x128, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x128, .f32⟩
  | .local _ .vmem, ⟨15, _⟩ => ⟨S1x256x128, .f32⟩
  | .local _ .vmem, ⟨16, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== CtxInReferenceIdeal.lean ====
abbrev S4x256x2048 : Shape := ⟨3, ![4, 256, 2048]⟩
abbrev S2048 : Shape := ⟨1, ![2048]⟩
abbrev S4x1x2048 : Shape := ⟨3, ![4, 1, 2048]⟩
abbrev S2048x4128 : Shape := ⟨2, ![2048, 4128]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x4128 : Shape := ⟨3, ![4, 256, 4128]⟩
abbrev S4x256x512 : Shape := ⟨3, ![4, 256, 512]⟩
abbrev S4x256x1024 : Shape := ⟨3, ![4, 256, 1024]⟩
abbrev S4x256x32 : Shape := ⟨3, ![4, 256, 32]⟩
abbrev S4x256x4096 : Shape := ⟨3, ![4, 256, 4096]⟩
abbrev S4x256x128 : Shape := ⟨3, ![4, 256, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x4128, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x4128, .f32⟩
  | .hbm, ⟨29, _⟩ => ⟨S4x256x512, .f32⟩
  | .hbm, ⟨30, _⟩ => ⟨S4x256x512, .f32⟩
  | .hbm, ⟨31, _⟩ => ⟨S4x256x1024, .f32⟩
  | .hbm, ⟨32, _⟩ => ⟨S4x256x1024, .f32⟩
  | .hbm, ⟨33, _⟩ => ⟨S4x256x32, .f32⟩
  | .hbm, ⟨34, _⟩ => ⟨S4x256x1024, .f32⟩
  | .hbm, ⟨35, _⟩ => ⟨S_, .f32⟩
  | .hbm, ⟨36, _⟩ => ⟨S4x256x512, .f32⟩
  | .hbm, ⟨37, _⟩ => ⟨S4x256x512, .f32⟩
  | .hbm, ⟨38, _⟩ => ⟨S4x256x4096, .f32⟩
  | .hbm, ⟨39, _⟩ => ⟨S4x256x4096, .bf16⟩
  | .hbm, ⟨40, _⟩ => ⟨S_, .i32⟩
  | .hbm, ⟨41, _⟩ => ⟨S_, .f32⟩
  | .hbm, ⟨42, _⟩ => ⟨S4x256x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== CtxOutKernel.lean ====
abbrev S4x256x2048 : Shape := ⟨3, ![4, 256, 2048]⟩
abbrev S2048x2048 : Shape := ⟨2, ![2048, 2048]⟩
abbrev S4x1x2048 : Shape := ⟨3, ![4, 1, 2048]⟩
abbrev S1x256x2048 : Shape := ⟨3, ![1, 256, 2048]⟩
abbrev S1x1x2048 : Shape := ⟨3, ![1, 1, 2048]⟩
abbrev S256x2048 : Shape := ⟨2, ![256, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4x256x2048, .bf16⟩
  | .hbm, ⟨1, _⟩ => ⟨S2048x2048, .f32⟩
  | .hbm, ⟨2, _⟩ => ⟨S4x256x2048, .f32⟩
  | .hbm, ⟨3, _⟩ => ⟨S4x1x2048, .f32⟩
  | .hbm, ⟨4, _⟩ => ⟨S2048x2048, .bf16⟩
  | .hbm, ⟨5, _⟩ => ⟨S4x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x256x2048, .f32⟩
  | .local _ .vmem, ⟨8, _⟩ => ⟨S1x256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== CtxOutReferenceIdeal.lean ====
abbrev S4x256x2048 : Shape := ⟨3, ![4, 256, 2048]⟩
abbrev S2048x2048 : Shape := ⟨2, ![2048, 2048]⟩
abbrev S4x1x2048 : Shape := ⟨3, ![4, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S2048x2048, .f32⟩
  | .hbm, ⟨2, _⟩ => ⟨S4x256x2048, .f32⟩
  | .hbm, ⟨3, _⟩ => ⟨S4x1x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== CtxOutTwoKernel.lean ====
abbrev S4x256x1024 : Shape := ⟨3, ![4, 256, 1024]⟩
abbrev S2048x2048 : Shape := ⟨2, ![2048, 2048]⟩
abbrev S4x256x2048 : Shape := ⟨3, ![4, 256, 2048]⟩
abbrev S4x1x2048 : Shape := ⟨3, ![4, 1, 2048]⟩
abbrev S1x256x1024 : Shape := ⟨3, ![1, 256, 1024]⟩
abbrev S1024x2048 : Shape := ⟨2, ![1024, 2048]⟩
abbrev S1x256x2048 : Shape := ⟨3, ![1, 256, 2048]⟩
abbrev S1x1x2048 : Shape := ⟨3, ![1, 1, 2048]⟩
abbrev S256x1024 : Shape := ⟨2, ![256, 1024]⟩
abbrev S256x2048 : Shape := ⟨2, ![256, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S2048x2048, .f32⟩
  | .hbm, ⟨3, _⟩ => ⟨S4x256x2048, .f32⟩
  | .hbm, ⟨4, _⟩ => ⟨S4x1x2048, .f32⟩
  | .hbm, ⟨5, _⟩ => ⟨S2048x2048, .bf16⟩
  | .hbm, ⟨6, _⟩ => ⟨S4x256x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x256x2048, .f32⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x256x2048, .f32⟩
  | .local _ .vmem, ⟨11, _⟩ => ⟨S1x256x2048, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== CtxOutTwoReferenceIdeal.lean ====
abbrev S4x256x1024 : Shape := ⟨3, ![4, 256, 1024]⟩
abbrev S2048x2048 : Shape := ⟨2, ![2048, 2048]⟩
abbrev S4x256x2048 : Shape := ⟨3, ![4, 256, 2048]⟩
abbrev S4x1x2048 : Shape := ⟨3, ![4, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S2048x2048, .f32⟩
  | .hbm, ⟨3, _⟩ => ⟨S4x256x2048, .f32⟩
  | .hbm, ⟨4, _⟩ => ⟨S4x1x2048, .f32⟩
  | .hbm, ⟨5, _⟩ => ⟨S4x256x1024, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== CtxGateKernel.lean ====
abbrev S4x256x1024 : Shape := ⟨3, ![4, 256, 1024]⟩
abbrev S4x256x4096 : Shape := ⟨3, ![4, 256, 4096]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x4096, .bf16⟩
  | .hbm, ⟨3, _⟩ => ⟨S1024, .f32⟩
  | .hbm, ⟨4, _⟩ => ⟨S1x1024, .f32⟩
  | .hbm, ⟨5, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxGateReferenceIdeal.lean ====
abbrev S4x256x1024 : Shape := ⟨3, ![4, 256, 1024]⟩
abbrev S4x256x4096 : Shape := ⟨3, ![4, 256, 4096]⟩
abbrev S1024 : Shape := ⟨1, ![1024]⟩
abbrev S4x256x4x256 : Shape := ⟨4, ![4, 256, 4, 256]⟩
abbrev S_ : Shape := ⟨0, ![]⟩
abbrev S4x256x4 : Shape := ⟨3, ![4, 256, 4]⟩
abbrev S4x256x4x1 : Shape := ⟨4, ![4, 256, 4, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x4096, .bf16⟩
  | .hbm, ⟨3, _⟩ => ⟨S1024, .f32⟩
  | .hbm, ⟨4, _⟩ => ⟨S4x256x1024, .bf16⟩
  | .hbm, ⟨5, _⟩ => ⟨S4x256x1024, .f32⟩
  | .hbm, ⟨6, _⟩ => ⟨S4x256x1024, .f32⟩
  | .hbm, ⟨7, _⟩ => ⟨S4x256x4x256, .f32⟩
  | .hbm, ⟨8, _⟩ => ⟨S4x256x4x256, .f32⟩
  | .hbm, ⟨9, _⟩ => ⟨S_, .f32⟩
  | .hbm, ⟨10, _⟩ => ⟨S4x256x4, .f32⟩
  | .hbm, ⟨11, _⟩ => ⟨S4x256x4x1, .f32⟩
  | .hbm, ⟨12, _⟩ => ⟨S_, .f32⟩
  | .hbm, ⟨13, _⟩ => ⟨S4x256x4x1, .f32⟩
  | .hbm, ⟨14, _⟩ => ⟨S4x256x4x1, .f32⟩
  | .hbm, ⟨15, _⟩ => ⟨S_, .f32⟩
  | .hbm, ⟨16, _⟩ => ⟨S4x256x4x1, .f32⟩
  | .hbm, ⟨17, _⟩ => ⟨S4x256x4x1, .f32⟩
  | .hbm, ⟨18, _⟩ => ⟨S4x256x4x1, .f32⟩
  | .hbm, ⟨19, _⟩ => ⟨S4x256x4x256, .f32⟩
  | .hbm, ⟨20, _⟩ => ⟨S4x256x4x256, .f32⟩
  | .hbm, ⟨21, _⟩ => ⟨S4x256x1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== WaveKernel.lean ====
abbrev S4x8192x4096 : Shape := ⟨3, ![4, 8192, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S4x8192x2048 : Shape := ⟨3, ![4, 8192, 2048]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩

abbrev nBuf : Space → Nat
  | .hbm => 23
  | .vmem => 5
  | .smem => 0
  | _ => 0

abbrev bufTy : (tb : Table) → Fin (tcTables nBuf tb) → BufTy
  | .hbm, ⟨0, _⟩ => ⟨S4x8192x4096, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x512, .f32⟩
  | .hbm, ⟨21, _⟩ => ⟨S256x512, .bf16⟩
  | .hbm, ⟨22, _⟩ => ⟨S4x8192x2048, .f32⟩
  | .local _ .vmem, ⟨0, _⟩ => ⟨S1x512x256, .bf16⟩
  | .local _ .vmem, ⟨1, _⟩ => ⟨S1x512x256, .bf16⟩
  | .local _ .vmem, ⟨2, _⟩ => ⟨S256x512, .bf16⟩
  | .local _ .vmem, ⟨3, _⟩ => ⟨S1x512x512, .f32⟩
  | .local _ .vmem, ⟨4, _⟩ => ⟨S1x512x512, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WaveKernelIdeal.lean ====
abbrev S4x8192x4096 : Shape := ⟨3, ![4, 8192, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S4x8192x2048 : Shape := ⟨3, ![4, 8192, 2048]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩

abbrev nBuf : Space → Nat
  | .hbm => 23
  | .vmem => 5
  | .smem => 0
  | _ => 0

abbrev bufTy : (tb : Table) → Fin (tcTables nBuf tb) → BufTy
  | .hbm, ⟨0, _⟩ => ⟨S4x8192x4096, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x512, .f32⟩
  | .hbm, ⟨21, _⟩ => ⟨S256x512, .bf16⟩
  | .hbm, ⟨22, _⟩ => ⟨S4x8192x2048, .f32⟩
  | .local _ .vmem, ⟨0, _⟩ => ⟨S1x512x256, .bf16⟩
  | .local _ .vmem, ⟨1, _⟩ => ⟨S1x512x256, .bf16⟩
  | .local _ .vmem, ⟨2, _⟩ => ⟨S256x512, .bf16⟩
  | .local _ .vmem, ⟨3, _⟩ => ⟨S1x512x512, .f32⟩
  | .local _ .vmem, ⟨4, _⟩ => ⟨S1x512x512, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WaveReferenceIdeal.lean ====
abbrev S4x8192x4096 : Shape := ⟨3, ![4, 8192, 4096]⟩
abbrev S4x8192x1024 : Shape := ⟨3, ![4, 8192, 1024]⟩
abbrev S4x8192x4x256 : Shape := ⟨4, ![4, 8192, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x8192x4x512 : Shape := ⟨4, ![4, 8192, 4, 512]⟩
abbrev S4x8192x2048 : Shape := ⟨3, ![4, 8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x4096, .bf16⟩
  | .hbm, ⟨1, _⟩ => ⟨S4x8192x1024, .bf16⟩
  | .hbm, ⟨2, _⟩ => ⟨S4x8192x1024, .f32⟩
  | .hbm, ⟨3, _⟩ => ⟨S4x8192x4x256, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S4x8192x4x256, .f32⟩
  | .hbm, ⟨23, _⟩ => ⟨S256x256, .f32⟩
  | .hbm, ⟨24, _⟩ => ⟨S4x8192x4x256, .f32⟩
  | .hbm, ⟨25, _⟩ => ⟨S4x8192x4x512, .f32⟩
  | .hbm, ⟨26, _⟩ => ⟨S4x8192x2048, .f32⟩
  | _, _ => ⟨S4x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== CtxWaveKernel.lean ====
abbrev S4x256x4096 : Shape := ⟨3, ![4, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S4x256x2048 : Shape := ⟨3, ![4, 256, 2048]⟩
abbrev S1x256x256 : Shape := ⟨3, ![1, 256, 256]⟩
abbrev S1x256x512 : Shape := ⟨3, ![1, 256, 512]⟩

abbrev nBuf : Space → Nat
  | .hbm => 23
  | .vmem => 5
  | .smem => 0
  | _ => 0

abbrev bufTy : (tb : Table) → Fin (tcTables nBuf tb) → BufTy
  | .hbm, ⟨0, _⟩ => ⟨S4x256x4096, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x512, .f32⟩
  | .hbm, ⟨21, _⟩ => ⟨S256x512, .bf16⟩
  | .hbm, ⟨22, _⟩ => ⟨S4x256x2048, .f32⟩
  | .local _ .vmem, ⟨0, _⟩ => ⟨S1x256x256, .bf16⟩
  | .local _ .vmem, ⟨1, _⟩ => ⟨S1x256x256, .bf16⟩
  | .local _ .vmem, ⟨2, _⟩ => ⟨S256x512, .bf16⟩
  | .local _ .vmem, ⟨3, _⟩ => ⟨S1x256x512, .f32⟩
  | .local _ .vmem, ⟨4, _⟩ => ⟨S1x256x512, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== CtxWaveReferenceIdeal.lean ====
abbrev S4x256x4096 : Shape := ⟨3, ![4, 256, 4096]⟩
abbrev S4x256x1024 : Shape := ⟨3, ![4, 256, 1024]⟩
abbrev S4x256x4x256 : Shape := ⟨4, ![4, 256, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x256x4x512 : Shape := ⟨4, ![4, 256, 4, 512]⟩
abbrev S4x256x2048 : Shape := ⟨3, ![4, 256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4x256x1024, .bf16⟩
  | .hbm, ⟨2, _⟩ => ⟨S4x256x1024, .f32⟩
  | .hbm, ⟨3, _⟩ => ⟨S4x256x4x256, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S4x256x4x256, .f32⟩
  | .hbm, ⟨23, _⟩ => ⟨S256x256, .f32⟩
  | .hbm, ⟨24, _⟩ => ⟨S4x256x4x256, .f32⟩
  | .hbm, ⟨25, _⟩ => ⟨S4x256x4x512, .f32⟩
  | .hbm, ⟨26, _⟩ => ⟨S4x256x2048, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== CtxRealKernel.lean ====
abbrev S4x256x2048 : Shape := ⟨3, ![4, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S4x256x1024 : Shape := ⟨3, ![4, 256, 1024]⟩
abbrev S1x256x512 : Shape := ⟨3, ![1, 256, 512]⟩
abbrev S1x256x256 : Shape := ⟨3, ![1, 256, 256]⟩
abbrev S512x256 : Shape := ⟨2, ![512, 256]⟩

abbrev nBuf : Space → Nat
  | .hbm => 22
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x512, .f32⟩
  | .hbm, ⟨20, _⟩ => ⟨S256x512, .bf16⟩
  | .hbm, ⟨21, _⟩ => ⟨S4x256x1024, .f32⟩
  | .local _ .vmem, ⟨0, _⟩ => ⟨S1x256x512, .f32⟩
  | .local _ .vmem, ⟨1, _⟩ => ⟨S1x256x512, .f32⟩
  | .local _ .vmem, ⟨2, _⟩ => ⟨S256x512, .bf16⟩
  | .local _ .vmem, ⟨3, _⟩ => ⟨S1x256x256, .f32⟩
  | .local _ .vmem, ⟨4, _⟩ => ⟨S1x256x256, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxRealReferenceIdeal.lean ====
abbrev S4x256x2048 : Shape := ⟨3, ![4, 256, 2048]⟩
abbrev S4x256x4x512 : Shape := ⟨4, ![4, 256, 4, 512]⟩
abbrev S4x256x4x256 : Shape := ⟨4, ![4, 256, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x4x256x256 : Shape := ⟨4, ![4, 4, 256, 256]⟩
abbrev S4x256x1024 : Shape := ⟨3, ![4, 256, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x4x512, .f32⟩
  | .hbm, ⟨2, _⟩ => ⟨S4x256x4x256, .f32⟩
  | .hbm, ⟨3, _⟩ => ⟨S4x256x4x256, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S4x4x256x256, .f32⟩
  | .hbm, ⟨23, _⟩ => ⟨S4x256x4x256, .f32⟩
  | .hbm, ⟨24, _⟩ => ⟨S4x4x256x256, .f32⟩
  | .hbm, ⟨25, _⟩ => ⟨S4x256x4x256, .f32⟩
  | .hbm, ⟨26, _⟩ => ⟨S4x256x4x256, .f32⟩
  | .hbm, ⟨27, _⟩ => ⟨S_, .f32⟩
  | .hbm, ⟨28, _⟩ => ⟨S4x256x4x256, .f32⟩
  | .hbm, ⟨29, _⟩ => ⟨S4x256x4x256, .f32⟩
  | .hbm, ⟨30, _⟩ => ⟨S4x256x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== EarlyKernel.lean ====
abbrev S4x8192x2048 : Shape := ⟨3, ![4, 8192, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S128x64 : Shape := ⟨2, ![128, 64]⟩
abbrev S128x64x1 : Shape := ⟨3, ![128, 64, 1]⟩
abbrev S128x64x128 : Shape := ⟨3, ![128, 64, 128]⟩
abbrev S4x64x128x2048 : Shape := ⟨4, ![4, 64, 128, 2048]⟩
abbrev S4x4x64x128x512 : Shape := ⟨5, ![4, 4, 64, 128, 512]⟩
abbrev S1x64x8x512 : Shape := ⟨4, ![1, 64, 8, 512]⟩
abbrev S8x64x128 : Shape := ⟨3, ![8, 64, 128]⟩
abbrev S1x1x64x8x512 : Shape := ⟨5, ![1, 1, 64, 8, 512]⟩
abbrev S1x64x1x512 : Shape := ⟨4, ![1, 64, 1, 512]⟩
abbrev S64x512 : Shape := ⟨2, ![64, 512]⟩
abbrev S64x256 : Shape := ⟨2, ![64, 256]⟩
abbrev S128x256 : Shape := ⟨2, ![128, 256]⟩
abbrev S1x64x128 : Shape := ⟨3, ![1, 64, 128]⟩
abbrev S1x1x64x1x256 : Shape := ⟨5, ![1, 1, 64, 1, 256]⟩

abbrev nBuf : Space → Nat
  | .hbm => 46
  | .vmem => 9
  | .smem => 0
  | _ => 0

abbrev bufTy : (tb : Table) → Fin (tcTables nBuf tb) → BufTy
  | .hbm, ⟨0, _⟩ => ⟨S4x8192x2048, .f32⟩
  | .hbm, ⟨1, _⟩ => ⟨S64, .i32⟩
  | .hbm, ⟨2, _⟩ => ⟨S64x1, .i32⟩
  | .hbm, ⟨3, _⟩ => ⟨S1x64, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x128, .f32⟩
  | .hbm, ⟨20, _⟩ => ⟨S64x64, .f32⟩
  | .hbm, ⟨21, _⟩ => ⟨S64x128, .f32⟩
  | .hbm, ⟨22, _⟩ => ⟨S128x128, .f32⟩
  | .hbm, ⟨23, _⟩ => ⟨S128x128, .bf16⟩
  | .hbm, ⟨24, _⟩ => ⟨S128, .i32⟩
  | .hbm, ⟨25, _⟩ => ⟨S128x1, .i32⟩
  | .hbm, ⟨26, _⟩ => ⟨S64, .i32⟩
  | .hbm, ⟨27, _⟩ => ⟨S1x64, .i32⟩
  | .hbm, ⟨28, _⟩ => ⟨S128x64, .i32⟩
  | .hbm, ⟨29, _⟩ => ⟨S128x64, .i32⟩
  | .hbm, ⟨30, _⟩ => ⟨S128x64, .i32⟩
  | .hbm, ⟨31, _⟩ => ⟨S128x64, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S_, .f32⟩
  | .hbm, ⟨36, _⟩ => ⟨S128x64, .f32⟩
  | .hbm, ⟨37, _⟩ => ⟨S128x64, .f32⟩
  | .hbm, ⟨38, _⟩ => ⟨S128x64, .f32⟩
  | .hbm, ⟨39, _⟩ => ⟨S128x64x1, .f32⟩
  | .hbm, ⟨40, _⟩ => ⟨S128x64x128, .f32⟩
  | .hbm, ⟨41, _⟩ => ⟨S128x64, .f32⟩
  | .hbm, ⟨42, _⟩ => ⟨S128x64x1, .f32⟩
  | .hbm, ⟨43, _⟩ => ⟨S128x64x128, .f32⟩
  | .hbm, ⟨44, _⟩ => ⟨S4x64x128x2048, .f32⟩
  | .hbm, ⟨45, _⟩ => ⟨S4x4x64x128x512, .f32⟩
  | .local _ .vmem, ⟨0, _⟩ => ⟨S1x64x8x512, .f32⟩
  | .local _ .vmem, ⟨1, _⟩ => ⟨S1x64x8x512, .f32⟩
  | .local _ .vmem, ⟨2, _⟩ => ⟨S128x128, .bf16⟩
  | .local _ .vmem, ⟨3, _⟩ => ⟨S8x64x128, .f32⟩
  | .local _ .vmem, ⟨4, _⟩ => ⟨S8x64x128, .f32⟩
  | .local _ .vmem, ⟨5, _⟩ => ⟨S8x64x128, .f32⟩
  | .local _ .vmem, ⟨6, _⟩ => ⟨S8x64x128, .f32⟩
  | .local _ .vmem, ⟨7, _⟩ => ⟨S1x1x64x8x512, .f32⟩
  | .local _ .vmem, ⟨8, _⟩ => ⟨S1x1x64x8x512, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x64x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== EarlyReferenceIdeal.lean ====
abbrev S4x8192x2048 : Shape := ⟨3, ![4, 8192, 2048]⟩
abbrev S4x64x128x4x512 : Shape := ⟨5, ![4, 64, 128, 4, 512]⟩
abbrev S4x64x128x4x256 : Shape := ⟨5, ![4, 64, 128, 4, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x128x4x256x64 : Shape := ⟨5, ![4, 128, 4, 256, 64]⟩
abbrev S4x4x64x128x256 : Shape := ⟨5, ![4, 4, 64, 128, 256]⟩
abbrev S128 : Shape := ⟨1, ![128]⟩
abbrev S1x128 : Shape := ⟨2, ![1, 128]⟩
abbrev S64x128 : Shape := ⟨2, ![64, 128]⟩
abbrev S64x128x1 : Shape := ⟨3, ![64, 128, 1]⟩
abbrev S1x1x64x128x1 : Shape := ⟨5, ![1, 1, 64, 128, 1]⟩
abbrev S4x4x64x128x512 : Shape := ⟨5, ![4, 4, 64, 128, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x64x128x4x512, .f32⟩
  | .hbm, ⟨2, _⟩ => ⟨S4x64x128x4x256, .f32⟩
  | .hbm, ⟨3, _⟩ => ⟨S4x64x128x4x256, .f32⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S4x128x4x256x64, .f32⟩
  | .hbm, ⟨23, _⟩ => ⟨S4x4x64x128x256, .f32⟩
  | .hbm, ⟨24, _⟩ => ⟨S4x128x4x256x64, .f32⟩
  | .hbm, ⟨25, _⟩ => ⟨S4x4x64x128x256, .f32⟩
  | .hbm, ⟨26, _⟩ => ⟨S4x4x64x128x256, .f32⟩
  | .hbm, ⟨27, _⟩ => ⟨S64x64, .f32⟩
  | .hbm, ⟨28, _⟩ => ⟨S4x128x4x256x64, .f32⟩
  | .hbm, ⟨29, _⟩ => ⟨S4x4x64x128x256, .f32⟩
  | .hbm, ⟨30, _⟩ => ⟨S4x128x4x256x64, .f32⟩
  | .hbm, ⟨31, _⟩ => ⟨S4x4x64x128x256, .f32⟩
  | .hbm, ⟨32, _⟩ => ⟨S4x4x64x128x256, .f32⟩
  | .hbm, ⟨33, _⟩ => ⟨S64, .i32⟩
  | .hbm, ⟨34, _⟩ => ⟨S128, .i32⟩
  | .hbm, ⟨35, _⟩ => ⟨S64x1, .i32⟩
  | .hbm, ⟨36, _⟩ => ⟨S1x128, .i32⟩
  | .hbm, ⟨37, _⟩ => ⟨S64x128, .i32⟩
  | .hbm, ⟨38, _⟩ => ⟨S64x128, .i32⟩
  | .hbm, ⟨39, _⟩ => ⟨S64x128, .i32⟩
  | .hbm, ⟨40, _⟩ => ⟨S64x128, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S_, .f32⟩
  | .hbm, ⟨45, _⟩ => ⟨S64x128, .f32⟩
  | .hbm, ⟨46, _⟩ => ⟨S64x128, .f32⟩
  | .hbm, ⟨47, _⟩ => ⟨S64x128, .f32⟩
  | .hbm, ⟨48, _⟩ => ⟨S64x128x1, .f32⟩
  | .hbm, ⟨49, _⟩ => ⟨S64x128, .f32⟩
  | .hbm, ⟨50, _⟩ => ⟨S64x128x1, .f32⟩
  | .hbm, ⟨51, _⟩ => ⟨S1x1x64x128x1, .f32⟩
  | .hbm, ⟨52, _⟩ => ⟨S4x4x64x128x256, .f32⟩
  | .hbm, ⟨53, _⟩ => ⟨S4x4x64x128x256, .f32⟩
  | .hbm, ⟨54, _⟩ => ⟨S1x1x64x128x1, .f32⟩
  | .hbm, ⟨55, _⟩ => ⟨S4x4x64x128x256, .f32⟩
  | .hbm, ⟨56, _⟩ => ⟨S4x4x64x128x256, .f32⟩
  | .hbm, ⟨57, _⟩ => ⟨S4x4x64x128x256, .f32⟩
  | .hbm, ⟨58, _⟩ => ⟨S1x1x64x128x1, .f32⟩
  | .hbm, ⟨59, _⟩ => ⟨S4x4x64x128x256, .f32⟩
  | .hbm, ⟨60, _⟩ => ⟨S4x4x64x128x256, .f32⟩
  | .hbm, ⟨61, _⟩ => ⟨S1x1x64x128x1, .f32⟩
  | .hbm, ⟨62, _⟩ => ⟨S4x4x64x128x256, .f32⟩
  | .hbm, ⟨63, _⟩ => ⟨S4x4x64x128x256, .f32⟩
  | .hbm, ⟨64, _⟩ => ⟨S4x4x64x128x256, .f32⟩
  | .hbm, ⟨65, _⟩ => ⟨S4x4x64x128x512, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩

abbrev nD : Nat := 1
abbrev τ : Topo := Topo.v7x

variable {F : FTy → Type} [FloatOps F]
-- ==== LateKernel.lean ====
abbrev S4x4x64x128x512 : Shape := ⟨5, ![4, 4, 64, 128, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S4x128x64x1024 : Shape := ⟨4, ![4, 128, 64, 1024]⟩
abbrev S1x1x8x128x512 : Shape := ⟨5, ![1, 1, 8, 128, 512]⟩
abbrev S1x128x8x256 : Shape := ⟨4, ![1, 128, 8, 256]⟩
abbrev S1x1x1x128x512 : Shape := ⟨5, ![1, 1, 1, 128, 512]⟩
abbrev S128x512 : Shape := ⟨2, ![128, 512]⟩
abbrev S256x256 : Shape := ⟨2, ![256, 256]⟩
abbrev S1x128x1x256 : Shape := ⟨4, ![1, 128, 1, 256]⟩

abbrev nBuf : Space → Nat
  | .hbm => 22
  | .vmem => 5
  | .smem => 0
  | _ => 0

abbrev bufTy : (tb : Table) → Fin (tcTables nBuf tb) → BufTy
  | .hbm, ⟨0, _⟩ => ⟨S4x4x64x128x512, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x256, .f32⟩
  | .hbm, ⟨20, _⟩ => ⟨S128x256, .bf16⟩
  | .hbm, ⟨21, _⟩ => ⟨S4x128x64x1024, .f32⟩
  | .local _ .vmem, ⟨0, _⟩ => ⟨S1x1x8x128x512, .f32⟩
  | .local _ .vmem, ⟨1, _⟩ => ⟨S1x1x8x128x512, .f32⟩
  | .local _ .vmem, ⟨2, _⟩ => ⟨S128x256, .bf16⟩
  | .local _ .vmem, ⟨3, _⟩ => ⟨S1x128x8x256, .f32⟩
  | .local _ .vmem, ⟨4, _⟩ => ⟨S1x128x8x256, .f32⟩
  | _, _ => ⟨S4x4x64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage0_0 : Fin 2 → Memref sig .tc .vmem S1x1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== LateReferenceIdeal.lean ====
abbrev S4x4x64x128x512 : Shape := ⟨5, ![4, 4, 64, 128, 512]⟩
abbrev S4x4x64x128x256 : Shape := ⟨5, ![4, 4, 64, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x4x64x256x128 : Shape := ⟨5, ![4, 4, 64, 256, 128]⟩
abbrev S4x128x64x4x256 : Shape := ⟨5, ![4, 128, 64, 4, 256]⟩
abbrev S4x128x64x1024 : Shape := ⟨4, ![4, 128, 64, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4x64x128x512, .f32⟩
  | .hbm, ⟨1, _⟩ => ⟨S4x4x64x128x256, .f32⟩
  | .hbm, ⟨2, _⟩ => ⟨S4x4x64x128x256, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S4x4x64x256x128, .f32⟩
  | .hbm, ⟨22, _⟩ => ⟨S4x128x64x4x256, .f32⟩
  | .hbm, ⟨23, _⟩ => ⟨S4x4x64x256x128, .f32⟩
  | .hbm, ⟨24, _⟩ => ⟨S4x128x64x4x256, .f32⟩
  | .hbm, ⟨25, _⟩ => ⟨S4x128x64x4x256, .f32⟩
  | .hbm, ⟨26, _⟩ => ⟨S_, .f32⟩
  | .hbm, ⟨27, _⟩ => ⟨S4x128x64x4x256, .f32⟩
  | .hbm, ⟨28, _⟩ => ⟨S4x128x64x4x256, .f32⟩
  | .hbm, ⟨29, _⟩ => ⟨S4x128x64x1024, .f32⟩
  | _, _ => ⟨S4x4x64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Proof.K.Head.lean ====
module

public import proofs.«01_k».proof.Proof.Gen.KernelIdeal.Value
public import Idealize.ShloMosaic.Lib.Pointwise
public import Idealize.ShloMosaic.Lib.Pipeline.ValueKit

/-! One head of one grid point of the kernel: attention of 256 queries over three key blocks and the context. -/

@[expose] public section

set_option maxRecDepth 16384

noncomputable section

namespace Cert.KernelIdeal.Hand

open Cert.KernelIdeal Cert.KernelIdeal.Gen Idealize.ShloMosaic Idealize.ShloMosaic.TcCoe Idealize.SL.Sem

/-- The products of the queries with a block of keys. -/
def scoreC (q k : Vec Ideal S1x256x128 .bf16) : FVec Ideal S256x256 .f32 :=
  matmul (φ₁ := .bf16) (φ₂ := .bf16) dot_S256x128_S256x128_S256x256_1_1_0_0_n_n none (shapeCast S256x128 q shapeCasts_S1x256x128_S256x128)
    (shapeCast S256x128 k shapeCasts_S1x256x128_S256x128) (constant S256x256 .f32 0x00000000#32)

/-- The logits of a block of keys: the products and the bias. -/
def score (q k : Vec Ideal S1x256x128 .bf16) (b : Vec Ideal S1x1x256x256 .f32) : FVec Ideal S256x256 .f32 :=
  addf (scoreC q k) (shapeCast S256x256 b shapeCasts_S1x1x256x256_S256x256)

/-- The greatest logit of each row. -/
def rowMax (s : FVec Ideal S256x256 .f32) : FVec Ideal S256x1 .f32 :=
  shapeCast S256x1 (multiReduction .maximumf [1] S256 s 0xFF800000#32 reduces_S256x256_S256 (.inl rfl) rfl) shapeCasts_S256_S256x1

/-- The sum of each row. -/
def rowSum (s : FVec Ideal S256x256 .f32) : FVec Ideal S256x1 .f32 :=
  shapeCast S256x1 (multiReduction .add [1] S256 s 0x00000000#32 reduces_S256x256_S256 (.inl rfl) rfl) shapeCasts_S256_S256x1

/-- The exponentials of the logits less the greatest one. -/
def weight (s : FVec Ideal S256x256 .f32) (mx : FVec Ideal S256x1 .f32) : FVec Ideal S256x256 .f32 :=
  exp (subf s (broadcastTo S256x256 mx broadcasts_S256x1_S256x256))

/-- The weighted sums of a block of values. -/
def mix (p : FVec Ideal S256x256 .f32) (v : Vec Ideal S1x256x128 .bf16) : FVec Ideal S256x128 .f32 :=
  matmul (φ₁ := .bf16) (φ₂ := .bf16) dot_S256x256_S256x128_S256x128_1_0_0_1_n_n none (truncf .bf16 p bitsLt_bf16_f32)
    (shapeCast S256x128 v shapeCasts_S1x256x128_S256x128) (constant S256x128 .f32 0x00000000#32)

/-- The attention of four blocks of logits over their values. -/
def finish (s0 s1 s2 sc : FVec Ideal S256x256 .f32) (v0 v1 v2 vc : Vec Ideal S1x256x128 .bf16) (mx : FVec Ideal S256x1 .f32) :
    FVec Ideal S1x256x128 .bf16 :=
  shapeCast S1x256x128
    (truncf .bf16
      (divf
        (addf (addf (addf (mix (weight s0 mx) v0) (mix (weight s1 mx) v1)) (mix (weight s2 mx) v2)) (mix (weight sc mx) vc))
        (broadcastTo S256x128
          (addf (addf (addf (rowSum (weight s0 mx)) (rowSum (weight s1 mx))) (rowSum (weight s2 mx))) (rowSum (weight sc mx)))
          broadcasts_S256x1_S256x128))
      bitsLt_bf16_f32)
    shapeCasts_S256x128_S1x256x128

/-- The greatest logit over the four blocks. -/
def maxOf (s0 s1 s2 sc : FVec Ideal S256x256 .f32) : FVec Ideal S256x1 .f32 :=
  maximumf (maximumf (maximumf (rowMax s0) (rowMax s1)) (rowMax s2)) (rowMax sc)

/-- One head. -/
def head (q k0 k1 k2 v0 v1 v2 kc vc : Vec Ideal S1x256x128 .bf16) (b0 b1 b2 : Vec Ideal S1x1x256x256 .f32) : FVec Ideal S1x256x128 .bf16 :=
  finish (score q k0 b0) (score q k1 b1) (score q k2 b2) (scoreC q kc) v0 v1 v2 vc
    (maxOf (score q k0 b0) (score q k1 b1) (score q k2 b2) (scoreC q kc))

set_option maxHeartbeats 400000 in
/-- What a grid point stores: one piece per head. -/
theorem out_eq (x0 x1 x2 x3 x4 x5 x6 x7 x8 : Vec Ideal S1x256x1024 .bf16) (x9 : Vec Ideal S1x8x256x768 .f32) :
    out0_10 (F := Ideal) x0 x1 x2 x3 x4 x5 x6 x7 x8 x9 = View.canon [
      ⟨r0_28, head (View.ld x0 r0_28) (View.ld x1 r0_28) (View.ld x2 r0_28) (View.ld x3 r0_28) (View.ld x4 r0_28) (View.ld x5 r0_28) (View.ld x6 r0_28) (View.ld x7 r0_28) (View.ld x8 r0_28) (View.ld x9 r0_29) (View.ld x9 r0_30) (View.ld x9 r0_31)⟩,
      ⟨r0_24, head (View.ld x0 r0_24) (View.ld x1 r0_24) (View.ld x2 r0_24) (View.ld x3 r0_24) (View.ld x4 r0_24) (View.ld x5 r0_24) (View.ld x6 r0_24) (View.ld x7 r0_24) (View.ld x8 r0_24) (View.ld x9 r0_25) (View.ld x9 r0_26) (View.ld x9 r0_27)⟩,
      ⟨r0_20, head (View.ld x0 r0_20) (View.ld x1 r0_20) (View.ld x2 r0_20) (View.ld x3 r0_20) (View.ld x4 r0_20) (View.ld x5 r0_20) (View.ld x6 r0_20) (View.ld x7 r0_20) (View.ld x8 r0_20) (View.ld x9 r0_21) (View.ld x9 r0_22) (View.ld x9 r0_23)⟩,
      ⟨r0_16, head (View.ld x0 r0_16) (View.ld x1 r0_16) (View.ld x2 r0_16) (View.ld x3 r0_16) (View.ld x4 r0_16) (View.ld x5 r0_16) (View.ld x6 r0_16) (View.ld x7 r0_16) (View.ld x8 r0_16) (View.ld x9 r0_17) (View.ld x9 r0_18) (View.ld x9 r0_19)⟩,
      ⟨r0_12, head (View.ld x0 r0_12) (View.ld x1 r0_12) (View.ld x2 r0_12) (View.ld x3 r0_12) (View.ld x4 r0_12) (View.ld x5 r0_12) (View.ld x6 r0_12) (View.ld x7 r0_12) (View.ld x8 r0_12) (View.ld x9 r0_13) (View.ld x9 r0_14) (View.ld x9 r0_15)⟩,
      ⟨r0_8, head (View.ld x0 r0_8) (View.ld x1 r0_8) (View.ld x2 r0_8) (View.ld x3 r0_8) (View.ld x4 r0_8) (View.ld x5 r0_8) (View.ld x6 r0_8) (View.ld x7 r0_8) (View.ld x8 r0_8) (View.ld x9 r0_9) (View.ld x9 r0_10) (View.ld x9 r0_11)⟩,
      ⟨r0_4, head (View.ld x0 r0_4) (View.ld x1 r0_4) (View.ld x2 r0_4) (View.ld x3 r0_4) (View.ld x4 r0_4) (View.ld x5 r0_4) (View.ld x6 r0_4) (View.ld x7 r0_4) (View.ld x8 r0_4) (View.ld x9 r0_5) (View.ld x9 r0_6) (View.ld x9 r0_7)⟩,
      ⟨r0_0, head (View.ld x0 r0_0) (View.ld x1 r0_0) (View.ld x2 r0_0) (View.ld x3 r0_0) (View.ld x4 r0_0) (View.ld x5 r0_0) (View.ld x6 r0_0) (View.ld x7 r0_0) (View.ld x8 r0_0) (View.ld x9 r0_1) (View.ld x9 r0_2) (View.ld x9 r0_3)⟩] := by
  rfl

theorem scoreC_at (q k : Vec Ideal S1x256x128 .bf16) (r κ : Fin 256) :
    scoreC q k (ix2 r κ) = ∑ d : Fin 128, (q (ix3 0 r d) : EReal) * k (ix3 0 κ d) := by
  pointwise [scoreC]

theorem score_at (q k : Vec Ideal S1x256x128 .bf16) (b : Vec Ideal S1x1x256x256 .f32) (r κ : Fin 256) :
    score q k b (ix2 r κ) = (∑ d : Fin 128, (q (ix3 0 r d) : EReal) * k (ix3 0 κ d)) + b (ix4 0 0 r κ) := by
  pointwise [score, scoreC_at]

theorem rowMax_at (s : FVec Ideal S256x256 .f32) (r : Fin 256) :
    rowMax s (ix2 r 0) = Finset.univ.sup (fun κ : Fin 256 => (s (ix2 r κ) : EReal)) := by
  pointwise [rowMax]
  rfl

theorem rowSum_at (s : FVec Ideal S256x256 .f32) (r : Fin 256) : rowSum s (ix2 r 0) = ∑ κ : Fin 256, (s (ix2 r κ) : EReal) := by
  pointwise [rowSum]

theorem weight_at (s : FVec Ideal S256x256 .f32) (mx : FVec Ideal S256x1 .f32) (r κ : Fin 256) :
    weight s mx (ix2 r κ) = Ideal.exp (s (ix2 r κ) - mx (ix2 r 0)) := by
  pointwise [weight]

theorem mix_at (p : FVec Ideal S256x256 .f32) (v : Vec Ideal S1x256x128 .bf16) (r : Fin 256) (d : Fin 128) :
    mix p v (ix2 r d) = ∑ κ : Fin 256, (p (ix2 r κ) : EReal) * v (ix3 0 κ d) := by
  pointwise [mix]

theorem maxOf_at (s0 s1 s2 sc : FVec Ideal S256x256 .f32) (r : Fin 256) :
    maxOf s0 s1 s2 sc (ix2 r 0)
      = max (max (max (Finset.univ.sup fun κ : Fin 256 => (s0 (ix2 r κ) : EReal)) (Finset.univ.sup fun κ : Fin 256 => (s1 (ix2 r κ) : EReal)))
          (Finset.univ.sup fun κ : Fin 256 => (s2 (ix2 r κ) : EReal))) (Finset.univ.sup fun κ : Fin 256 => (sc (ix2 r κ) : EReal)) := by
  rw [← rowMax_at, ← rowMax_at, ← rowMax_at, ← rowMax_at]
  rfl

theorem finish_at (s0 s1 s2 sc : FVec Ideal S256x256 .f32) (v0 v1 v2 vc : Vec Ideal S1x256x128 .bf16) (mx : FVec Ideal S256x1 .f32)
    (r : Fin 256) (d : Fin 128) :
    finish s0 s1 s2 sc v0 v1 v2 vc mx (ix3 0 r d)
      = Ideal.div
          (((∑ κ : Fin 256, Ideal.exp (s0 (ix2 r κ) - mx (ix2 r 0)) * v0 (ix3 0 κ d) + ∑ κ : Fin 256, Ideal.exp (s1 (ix2 r κ) - mx (ix2 r 0)) * v1 (ix3 0 κ d))
            + ∑ κ : Fin 256, Ideal.exp (s2 (ix2 r κ) - mx (ix2 r 0)) * v2 (ix3 0 κ d)) + ∑ κ : Fin 256, Ideal.exp (sc (ix2 r κ) - mx (ix2 r 0)) * vc (ix3 0 κ d))
          (((∑ κ : Fin 256, Ideal.exp (s0 (ix2 r κ) - mx (ix2 r 0)) + ∑ κ : Fin 256, Ideal.exp (s1 (ix2 r κ) - mx (ix2 r 0)))
            + ∑ κ : Fin 256, Ideal.exp (s2 (ix2 r κ) - mx (ix2 r 0))) + ∑ κ : Fin 256, Ideal.exp (sc (ix2 r κ) - mx (ix2 r 0))) := by
  simp only [← weight_at]
  rw [← rowSum_at, ← rowSum_at, ← rowSum_at, ← rowSum_at, ← mix_at, ← mix_at, ← mix_at, ← mix_at]
  pointwise [finish]

/-- The columns of head `g` of a block. -/
def cols (g : Fin 8) (x : Vec Ideal S1x256x1024 .bf16) : Vec Ideal S1x256x128 .bf16 :=
  fun i => x (ix3 0 (i 1) ⟨g.val * 128 + (i 2).val, by have := g.isLt; have : (i 2).val < 128 := (i 2).isLt; omega⟩)

/-- The bias of head `g` against key block `j`. -/
def biasOf (g : Fin 8) (j : Fin 3) (x : Vec Ideal S1x8x256x768 .f32) : Vec Ideal S1x1x256x256 .f32 :=
  fun i => x (ix4 0 g (i 2) ⟨j.val * 256 + (i 3).val, by have := j.isLt; have : (i 3).val < 256 := (i 3).isLt; omega⟩)

/-- An entry of the piece of head `k`, found by its column. -/
theorem at_piece (G : Fin 8 → Vec Ideal S1x256x128 .bf16) (g k : Fin 8) (r : Fin 256) (d : Fin 128) (x : S1x256x128.Idx)
    (P : Vec Ideal S1x256x128 .bf16) (hP : P = G k) (h1 : r.val = (x 1).val) (h2 : g.val * 128 + d.val = k.val * 128 + (x 2).val) :
    P x = G g (ix3 0 r d) := by
  idx_vars x
  have hx2 : x2.val < 128 := x2.isLt
  have h2' : g.val * 128 + d.val = k.val * 128 + x2.val := h2
  have h1' : r = x1 := Fin.ext h1
  have hg : g = k := Fin.ext (by omega)
  have hd : d = x2 := Fin.ext (by omega)
  have h0 : x0 = 0 := Fin.ext (by omega)
  subst hP h1' hg hd h0
  rfl

/-- A grid point's result, read at a row and a column of a head. -/
theorem out_at (x0 x1 x2 x3 x4 x5 x6 x7 x8 : Vec Ideal S1x256x1024 .bf16) (x9 : Vec Ideal S1x8x256x768 .f32) (g : Fin 8) (r : Fin 256) (d : Fin 128) :
    out0_10 (F := Ideal) x0 x1 x2 x3 x4 x5 x6 x7 x8 x9 (ix3 0 r ⟨g.val * 128 + d.val, by omega⟩)
      = head (cols g x0) (cols g x1) (cols g x2) (cols g x3) (cols g x4) (cols g x5) (cols g x6) (cols g x7) (cols g x8)
        (biasOf g 0 x9) (biasOf g 1 x9) (biasOf g 2 x9) (ix3 0 r d) := by
  rw [out_eq]
  canon_tiles x h
  case piece0 =>
    refine at_piece (fun g => head (cols g x0) (cols g x1) (cols g x2) (cols g x3) (cols g x4) (cols g x5) (cols g x6) (cols g x7) (cols g x8) (biasOf g 0 x9) (biasOf g 1 x9) (biasOf g 2 x9)) g 7 r d x _ ?_ h1 h2
    congr 1 <;> (funext i; idx_vars i; pointwise [cols, biasOf]; blk_ext)
  case piece1 =>
    refine at_piece (fun g => head (cols g x0) (cols g x1) (cols g x2) (cols g x3) (cols g x4) (cols g x5) (cols g x6) (cols g x7) (cols g x8) (biasOf g 0 x9) (biasOf g 1 x9) (biasOf g 2 x9)) g 6 r d x _ ?_ h1 h2
    congr 1 <;> (funext i; idx_vars i; pointwise [cols, biasOf]; blk_ext)
  case piece2 =>
    refine at_piece (fun g => head (cols g x0) (cols g x1) (cols g x2) (cols g x3) (cols g x4) (cols g x5) (cols g x6) (cols g x7) (cols g x8) (biasOf g 0 x9) (biasOf g 1 x9) (biasOf g 2 x9)) g 5 r d x _ ?_ h1 h2
    congr 1 <;> (funext i; idx_vars i; pointwise [cols, biasOf]; blk_ext)
  case piece3 =>
    refine at_piece (fun g => head (cols g x0) (cols g x1) (cols g x2) (cols g x3) (cols g x4) (cols g x5) (cols g x6) (cols g x7) (cols g x8) (biasOf g 0 x9) (biasOf g 1 x9) (biasOf g 2 x9)) g 4 r d x _ ?_ h1 h2
    congr 1 <;> (funext i; idx_vars i; pointwise [cols, biasOf]; blk_ext)
  case piece4 =>
    refine at_piece (fun g => head (cols g x0) (cols g x1) (cols g x2) (cols g x3) (cols g x4) (cols g x5) (cols g x6) (cols g x7) (cols g x8) (biasOf g 0 x9) (biasOf g 1 x9) (biasOf g 2 x9)) g 3 r d x _ ?_ h1 h2
    congr 1 <;> (funext i; idx_vars i; pointwise [cols, biasOf]; blk_ext)
  case piece5 =>
    refine at_piece (fun g => head (cols g x0) (cols g x1) (cols g x2) (cols g x3) (cols g x4) (cols g x5) (cols g x6) (cols g x7) (cols g x8) (biasOf g 0 x9) (biasOf g 1 x9) (biasOf g 2 x9)) g 2 r d x _ ?_ h1 h2
    congr 1 <;> (funext i; idx_vars i; pointwise [cols, biasOf]; blk_ext)
  case piece6 =>
    refine at_piece (fun g => head (cols g x0) (cols g x1) (cols g x2) (cols g x3) (cols g x4) (cols g x5) (cols g x6) (cols g x7) (cols g x8) (biasOf g 0 x9) (biasOf g 1 x9) (biasOf g 2 x9)) g 1 r d x _ ?_ h1 h2
    congr 1 <;> (funext i; idx_vars i; pointwise [cols, biasOf]; blk_ext)
  case piece7 =>
    refine at_piece (fun g => head (cols g x0) (cols g x1) (cols g x2) (cols g x3) (cols g x4) (cols g x5) (cols g x6) (cols g x7) (cols g x8) (biasOf g 0 x9) (biasOf g 1 x9) (biasOf g 2 x9)) g 0 r d x _ ?_ h1 (h2.trans (Nat.zero_add _).symm)
    congr 1 <;> (funext i; idx_vars i; pointwise [cols, biasOf]; blk_ext)

end Cert.KernelIdeal.Hand

end
-- ==== Proof.K.Softmax.lean ====
module

public import Idealize.ShloMosaic.Lib.Pointwise

/-! A softmax over a window, computed over a larger set whose entries outside the window are minus infinity. -/

@[expose] public section

noncomputable section

namespace Cert.Window

open Idealize.ShloMosaic

/-- The first row of the window of image row `n`. -/
def top (n : ℕ) : ℕ := min 120 (n - 4)

/-- The first column of the window of image column `w`. -/
def left (w : ℕ) : ℕ := min 48 (w - 8)

/-- Row `r` of the window of image row `n`. -/
def winRow (n : Fin 128) (r : Fin 8) : Fin 128 := ⟨top n + r, by unfold top; omega⟩

/-- Column `k` of the window of image column `w`. -/
def winCol (w : Fin 64) (k : Fin 16) : Fin 64 := ⟨left w + k, by unfold left; omega⟩

/-- The table's row for a window's row. -/
def relRow (n : Fin 128) (r : Fin 8) : Fin 15 := ⟨min (top n + r + 7 - n) 14, by omega⟩

/-- The table's column for a window's column. -/
def relCol (w : Fin 64) (k : Fin 16) : Fin 31 := ⟨min (left w + k + 15 - w) 30, by omega⟩

/-- Sums of real numbers are real. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals is real. -/
theorem sup_coe {ι : Type} [Fintype ι] [Nonempty ι] (f : ι → ℝ) : ∃ μ : ℝ, Finset.univ.sup (fun k => (f k : EReal)) = μ := by
  obtain ⟨k, _, hk⟩ := Finset.exists_mem_eq_sup Finset.univ Finset.univ_nonempty (fun k => (f k : EReal))
  exact ⟨f k, hk⟩

/-- The exponential of a difference of reals. -/
theorem exp_sub (x μ : ℝ) : Ideal.exp ((x : EReal) - (μ : EReal)) = ((Real.exp (x - μ) : ℝ) : EReal) := by
  rw [← EReal.coe_sub]; rfl

/-- An entry at minus infinity has no weight. -/
theorem exp_bot (μ : ℝ) : Ideal.exp ((⊥ : EReal) - (μ : EReal)) = 0 := by
  rw [EReal.bot_sub]; rfl

section

variable {ι κ γ : Type} [Fintype ι] [Fintype κ] [Fintype γ] [Nonempty ι] [Nonempty γ]

/-- The masked maximum is the window's maximum. -/
theorem max_window (e : ι → Fin 3 × κ) (S : Fin 3 → κ → EReal) (L : ι → EReal) (hS : ∀ k, S (e k).1 (e k).2 = L k)
    (hmask : ∀ x, x ∉ Set.range e → S x.1 x.2 = ⊥) :
    max (max (Finset.univ.sup (S 0)) (Finset.univ.sup (S 1))) (Finset.univ.sup (S 2)) = Finset.univ.sup L := by
  have hle : ∀ i x, S i x ≤ Finset.univ.sup L := fun i x => by
    by_cases h : (i, x) ∈ Set.range e
    · obtain ⟨k, hk⟩ := h
      have := hS k
      rw [hk] at this
      rw [show S i x = L k from this]
      exact Finset.le_sup (f := L) (Finset.mem_univ k)
    · rw [show S i x = ⊥ from hmask (i, x) h]
      exact bot_le
  refine le_antisymm (max_le (max_le ?_ ?_) ?_) (Finset.sup_le fun k _ => ?_)
  · exact Finset.sup_le fun x _ => hle 0 x
  · exact Finset.sup_le fun x _ => hle 1 x
  · exact Finset.sup_le fun x _ => hle 2 x
  · rw [← hS k]
    have h3 : ∀ i x, S i x ≤ max (max (Finset.univ.sup (S 0)) (Finset.univ.sup (S 1))) (Finset.univ.sup (S 2)) := fun i x => by
      match i with
      | ⟨0, _⟩ => exact le_trans (Finset.le_sup (f := S 0) (Finset.mem_univ x)) (le_trans (le_max_left _ _) (le_max_left _ _))
      | ⟨1, _⟩ => exact le_trans (Finset.le_sup (f := S 1) (Finset.mem_univ x)) (le_trans (le_max_right _ _) (le_max_left _ _))
      | ⟨2, _⟩ => exact le_trans (Finset.le_sup (f := S 2) (Finset.mem_univ x)) (le_max_right _ _)
    exact h3 _ _

/-- A sum over the three blocks whose terms vanish outside the window is the window's sum. -/
theorem sum_window (e : ι → Fin 3 × κ) (he : Function.Injective e) (f : Fin 3 → κ → EReal) (g : ι → EReal)
    (hf : ∀ k, f (e k).1 (e k).2 = g k) (h0 : ∀ x, x ∉ Set.range e → f x.1 x.2 = 0) :
    (∑ x, f 0 x + ∑ x, f 1 x) + ∑ x, f 2 x = ∑ k, g k := by
  rw [← Fin.sum_univ_three (fun i => ∑ x, f i x), ← Fintype.sum_prod_type' f]
  exact (Fintype.sum_of_injective e he g (fun x => f x.1 x.2) h0 (fun k => (hf k).symm)).symm

/-- The softmax-weighted sum over the window and the context, the weights divided out at the end or at each term. -/
theorem softmax_window (e : ι → Fin 3 × κ) (he : Function.Injective e) (S U : Fin 3 → κ → EReal) (l v : ι → ℝ) (c w : γ → ℝ)
    (hS : ∀ k, S (e k).1 (e k).2 = (l k : EReal)) (hU : ∀ k, U (e k).1 (e k).2 = (v k : EReal))
    (hmask : ∀ x, x ∉ Set.range e → S x.1 x.2 = ⊥) (M M' D : EReal)
    (hM : M = max (max (max (Finset.univ.sup (S 0)) (Finset.univ.sup (S 1))) (Finset.univ.sup (S 2))) (Finset.univ.sup fun g => (c g : EReal)))
    (hM' : M' = max (Finset.univ.sup fun k => (l k : EReal)) (Finset.univ.sup fun g => (c g : EReal)))
    (hD : D = ∑ k, Ideal.exp ((l k : EReal) - M') + ∑ g, Ideal.exp ((c g : EReal) - M')) :
    Ideal.div
        ((∑ x, Ideal.exp (S 0 x - M) * U 0 x + ∑ x, Ideal.exp (S 1 x - M) * U 1 x) + ∑ x, Ideal.exp (S 2 x - M) * U 2 x
          + ∑ g, Ideal.exp ((c g : EReal) - M) * (w g : EReal))
        ((∑ x, Ideal.exp (S 0 x - M) + ∑ x, Ideal.exp (S 1 x - M)) + ∑ x, Ideal.exp (S 2 x - M)
          + ∑ g, Ideal.exp ((c g : EReal) - M))
      = ∑ k, Ideal.div (Ideal.exp ((l k : EReal) - M')) D * (v k : EReal)
        + ∑ g, (w g : EReal) * Ideal.div (Ideal.exp ((c g : EReal) - M')) D := by
  have hMM : M = M' := by rw [hM, hM', max_window e S (fun k => (l k : EReal)) hS hmask]
  obtain ⟨μ₁, h₁⟩ := sup_coe l
  obtain ⟨μ₂, h₂⟩ := sup_coe c
  obtain ⟨μ, hμ⟩ : ∃ μ : ℝ, M' = μ := by
    rw [hM', h₁, h₂]
    rcases le_total (μ₁ : EReal) μ₂ with h | h
    · exact ⟨μ₂, max_eq_right h⟩
    · exact ⟨μ₁, max_eq_left h⟩
  rw [hMM, hμ]
  rw [hμ] at hD
  rw [sum_window e he (fun i x => Ideal.exp (S i x - (μ : EReal)) * U i x) (fun k => ((Real.exp (l k - μ) * v k : ℝ) : EReal))
      (fun k => by simp only [hS, hU, exp_sub, EReal.coe_mul])
      (fun x hx => by simp only [hmask x hx, exp_bot, zero_mul]),
    sum_window e he (fun i x => Ideal.exp (S i x - (μ : EReal))) (fun k => ((Real.exp (l k - μ) : ℝ) : EReal))
      (fun k => by simp only [hS, exp_sub])
      (fun x hx => by simp only [hmask x hx, exp_bot])]
  simp only [exp_sub, coe_sum, ← EReal.coe_mul, ← EReal.coe_add] at hD ⊢
  have hpos : 0 < ∑ k, Real.exp (l k - μ) + ∑ g, Real.exp (c g - μ) :=
    add_pos (Finset.sum_pos (fun _ _ => Real.exp_pos _) Finset.univ_nonempty) (Finset.sum_pos (fun _ _ => Real.exp_pos _) Finset.univ_nonempty)
  rw [hD]
  simp only [Ideal.div_coe (ne_of_gt hpos), ← EReal.coe_mul, coe_sum, ← EReal.coe_add]
  congr 1
  rw [add_mul, Finset.sum_mul, Finset.sum_mul]
  congr 1
  · exact Finset.sum_congr rfl fun k _ => by ring
  · exact Finset.sum_congr rfl fun k _ => by ring

end

end Cert.Window

end
-- ==== Proof.K.Bias.lean ====
module

public import proofs.«01_k».proof.Proof.Gen.KernelIdeal.Value
public import proofs.«01_k».proof.Proof.K.Softmax
public import Idealize.ShloMosaic.Lib.Pipeline.ValueKit

/-! The bias table the kernel is handed: three tables, one per kind of row block, each read at an index. -/

@[expose] public section

set_option maxRecDepth 16384

noncomputable section

namespace Cert.KernelIdeal.Hand

open Cert.Window Cert.KernelIdeal Cert.KernelIdeal.Gen Idealize.ShloMosaic Idealize.ShloMosaic.TcCoe Idealize.SL.Sem

section Gathers

variable {α : Type}

/-- The relative rows of the table. -/
theorem relRows_at (x : S16x15x31.Idx → α) (idx : IVec S4x12x1 32) (h : Fin 16) (a : Fin 4) (ρ : Fin 12) (j : Fin 31) :
    Host.gather gather_S16x15x31_S4x12x1_S16x4x12x31_03_1_n_n_1_2_16131 x idx (ix4 h a ρ j)
      = x (ix3 h ⟨min (idx (ix3 a ρ 0)).toInt.toNat 14, by omega⟩ j) := by
  unfold Host.gather
  congr 1
  funext d
  refine Fin.ext ?_
  match d with
  | ⟨0, _⟩ => exact Nat.zero_add _
  | ⟨1, _⟩ =>
    refine congrArg (fun i => min (idx i).toInt.toNat 14) (funext fun q => Fin.ext ?_)
    match q with
    | ⟨0, _⟩ => rfl
    | ⟨1, _⟩ => rfl
    | ⟨2, _⟩ => rfl
  | ⟨2, _⟩ => exact Nat.zero_add _

/-- The relative columns of the table. -/
theorem relCols_at (x : S16x4x12x31.Idx → α) (idx : IVec S64x64x1 32) (h : Fin 16) (a : Fin 4) (ρ : Fin 12) (w col : Fin 64) :
    Host.gather gather_S16x4x12x31_S64x64x1_S16x4x12x64x64_012_3_n_n_3_2_164121 x idx (ix5 h a ρ w col)
      = x (ix4 h a ρ ⟨min (idx (ix3 w col 0)).toInt.toNat 30, by omega⟩) := by
  unfold Host.gather
  congr 1
  funext d
  refine Fin.ext ?_
  match d with
  | ⟨0, _⟩ => exact Nat.zero_add _
  | ⟨1, _⟩ => exact Nat.zero_add _
  | ⟨2, _⟩ => exact Nat.zero_add _
  | ⟨3, _⟩ =>
    refine congrArg (fun i => min (idx i).toInt.toNat 30) (funext fun q => Fin.ext ?_)
    match q with
    | ⟨0, _⟩ => rfl
    | ⟨1, _⟩ => rfl
    | ⟨2, _⟩ => rfl

end Gathers

/-- The four query rows of a block that starts at row `q0`. -/
def rowQ (q0 : BitVec 32) : IVec S4 32 := addi (broadcastInDim S4 ![] bcast_S_S4 (constantI S_ 32 q0)) (iotaInDim S4 32 0)

/-- The twelve key rows of the three blocks that start at row `k0`. -/
def rowK (k0 : BitVec 32) : IVec S12 32 := addi (broadcastInDim S12 ![] bcast_S_S12 (constantI S_ 32 k0)) (iotaInDim S12 32 0)

/-- The first row of each query's window. -/
def rowS (q0 : BitVec 32) : IVec S4 32 :=
  minsi (broadcastInDim S4 ![] bcast_S_S4 (id (constantI S_ 32 120#32)))
    (maxsi (broadcastInDim S4 ![] bcast_S_S4 (id (constantI S_ 32 0#32)))
      (subi (rowQ q0) (broadcastInDim S4 ![] bcast_S_S4 (constantI S_ 32 4#32))))

/-- Whether a key row lies in the window of a query row. -/
def rowOk (q0 k0 : BitVec 32) : IVec S4x12 1 :=
  andi
    (cmpi CmpIPredicate.sge
      (broadcastInDim S4x12 ![0, 1] bcast_S1x12_S4x12_0_1 (broadcastInDim S1x12 ![1] bcast_S12_S1x12_1 (rowK k0)))
      (broadcastInDim S4x12 ![0, 1] bcast_S4x1_S4x12_0_1 (broadcastInDim S4x1 ![0] bcast_S4_S4x1_0 (rowS q0))))
    (cmpi CmpIPredicate.slt
      (broadcastInDim S4x12 ![0, 1] bcast_S1x12_S4x12_0_1 (broadcastInDim S1x12 ![1] bcast_S12_S1x12_1 (rowK k0)))
      (broadcastInDim S4x12 ![0, 1] bcast_S4x1_S4x12_0_1
        (addi (broadcastInDim S4x1 ![0] bcast_S4_S4x1_0 (rowS q0)) (broadcastInDim S4x1 ![] bcast_S_S4x1 (constantI S_ 32 8#32)))))

/-- The relative row of a key row to a query row. -/
def rowRel (q0 k0 : BitVec 32) : IVec S4x12 32 :=
  minsi (broadcastInDim S4x12 ![] bcast_S_S4x12 (id (constantI S_ 32 14#32)))
    (maxsi (broadcastInDim S4x12 ![] bcast_S_S4x12 (id (constantI S_ 32 0#32)))
      (addi
        (subi
          (broadcastInDim S4x12 ![0, 1] bcast_S1x12_S4x12_0_1 (broadcastInDim S1x12 ![1] bcast_S12_S1x12_1 (rowK k0)))
          (broadcastInDim S4x12 ![0, 1] bcast_S4x1_S4x12_0_1 (broadcastInDim S4x1 ![0] bcast_S4_S4x1_0 (rowQ q0))))
        (broadcastInDim S4x12 ![] bcast_S_S4x12 (constantI S_ 32 7#32))))

/-- The first column of each query's window. -/
def colS : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- Whether a key column lies in the window of a query column. -/
def colOk : IVec S64x64 1 :=
  andi
    (cmpi CmpIPredicate.sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colS)))
    (cmpi CmpIPredicate.slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colS) (broadcastInDim S64x1 ![] bcast_S_S64x1 (constantI S_ 32 16#32)))))

/-- The relative column of a key column to a query column. -/
def colRel : IVec S64x64 32 :=
  minsi (broadcastInDim S64x64 ![] bcast_S_S64x64 (id (constantI S_ 32 30#32)))
    (maxsi (broadcastInDim S64x64 ![] bcast_S_S64x64 (id (constantI S_ 32 0#32)))
      (addi
        (subi
          (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- One table: the biases of the window, and minus infinity outside it. -/
def table (q0 k0 : BitVec 32) (A : FVec Ideal S16x15x31 .f32) : FVec Ideal S16x256x768 .f32 :=
  shapeCast S16x256x768
    (select
      (broadcastInDim S16x4x64x12x64 ![0, 1, 2, 3, 4] bcast_S1x4x64x12x64_S16x4x64x12x64_0_1_2_3_4
        (broadcastInDim S1x4x64x12x64 ![1, 2, 3, 4] bcast_S4x64x12x64_S1x4x64x12x64_1_2_3_4
          (andi
            (broadcastInDim S4x64x12x64 ![0, 1, 2, 3] bcast_S4x1x12x1_S4x64x12x64_0_1_2_3
              (broadcastInDim S4x1x12x1 ![0, 2] bcast_S4x12_S4x1x12x1_0_2 (rowOk q0 k0)))
            (broadcastInDim S4x64x12x64 ![0, 1, 2, 3] bcast_S1x64x1x64_S4x64x12x64_0_1_2_3
              (broadcastInDim S1x64x1x64 ![1, 3] bcast_S64x64_S1x64x1x64_1_3 colOk)))))
      (transpose S16x4x64x12x64 [0, 1, 3, 2, 4]
        (Host.gather gather_S16x4x12x31_S64x64x1_S16x4x12x64x64_012_3_n_n_3_2_164121
          (Host.gather gather_S16x15x31_S4x12x1_S16x4x12x31_03_1_n_n_1_2_16131 A
            (broadcastInDim S4x12x1 ![0, 1] bcast_S4x12_S4x12x1_0_1 (rowRel q0 k0)))
          (broadcastInDim S64x64x1 ![0, 1] bcast_S64x64_S64x64x1_0_1 colRel))
        transposes_S16x4x12x64x64_S16x4x64x12x64_0_1_3_2_4)
      (broadcastInDim S16x4x64x12x64 ![] bcast_S_S16x4x64x12x64 (id (constant (F := Ideal) S_ FTy.f32 4286578688#32))))
    shapeCasts_S16x4x64x12x64_S16x256x768

/-- The three tables, stacked. -/
def tables (A : FVec Ideal S16x15x31 .f32) : FVec Ideal S3x16x256x768 .f32 :=
  concatenate S3x16x256x768 0
    [⟨S1x16x256x768, broadcastInDim S1x16x256x768 ![1, 2, 3] bcast_S16x256x768_S1x16x256x768_1_2_3 (table 0#32 0#32 A)⟩,
     ⟨S1x16x256x768, broadcastInDim S1x16x256x768 ![1, 2, 3] bcast_S16x256x768_S1x16x256x768_1_2_3 (table 4#32 0#32 A)⟩,
     ⟨S1x16x256x768, broadcastInDim S1x16x256x768 ![1, 2, 3] bcast_S16x256x768_S1x16x256x768_1_2_3 (table 124#32 116#32 A)⟩]
    concatenates_S1x16x256x768_S1x16x256x768_S1x16x256x768_S3x16x256x768_d0

/-- The table's pattern of a row block. -/
def kind (rb : ℕ) : Fin 3 := if rb = 0 then 0 else if rb = 31 then 2 else 1

/-- The first key block of a row block. -/
def first (rb : ℕ) : ℕ := min 29 (rb - 1)

/-- The first query row of each table. -/
def q0 : Fin 3 → BitVec 32 := ![0#32, 4#32, 124#32]
/-- The first key row of each table. -/
def k0 : Fin 3 → BitVec 32 := ![0#32, 0#32, 116#32]

/-- A key column counts exactly inside the window. -/
theorem colOk_eq : ∀ w col : Fin 64, colOk (ix2 w col) = if left w ≤ col.val ∧ col.val < left w + 16 then 1#1 else 0#1 := by
  decide +kernel

/-- Inside the window the relative column is the plain difference. -/
theorem colRel_eq : ∀ w col : Fin 64, left w ≤ col.val → col.val < left w + 16 → min (colRel (ix2 w col)).toInt.toNat 30 = col.val + 15 - w.val := by
  decide +kernel

/-- A key row counts exactly inside the window of the image row. -/
theorem rowOk_eq : ∀ (rb : Fin 32) (a : Fin 4) (ρ : Fin 12), rowOk (q0 (kind rb)) (k0 (kind rb)) (ix2 a ρ)
   = if top (4 * rb + a) ≤ 4 * first rb + ρ.val ∧ 4 * first rb + ρ.val < top (4 * rb + a) + 8 then 1#1 else 0#1 := by
  decide +kernel

/-- Inside the window the relative row is the plain difference. -/
theorem rowRel_eq : ∀ (rb : Fin 32) (a : Fin 4) (ρ : Fin 12), top (4 * rb + a) ≤ 4 * first rb + ρ.val → 4 * first rb + ρ.val < top (4 * rb + a) + 8 →
   min (rowRel (q0 (kind rb)) (k0 (kind rb)) (ix2 a ρ)).toInt.toNat 14 = 4 * first rb + ρ.val + 7 - (4 * rb + a) := by
  decide +kernel

/-- One table at an index. -/
theorem table_at (q0 k0 : BitVec 32) (A : FVec Ideal S16x15x31 .f32) (h : Fin 16) (a : Fin 4) (w : Fin 64) (ρ : Fin 12) (col : Fin 64) :
  table q0 k0 A (ix3 h ⟨a * 64 + w, by omega⟩ ⟨ρ * 64 + col, by omega⟩) =
   Scalar.select (IntOp.andi (rowOk q0 k0 (ix2 a ρ)) (colOk (ix2 w col)))
     (A (ix3 h ⟨min (rowRel q0 k0 (ix2 a ρ)).toInt.toNat 14, by omega⟩ ⟨min (colRel (ix2 w col)).toInt.toNat 30, by omega⟩)) (⊥ : EReal) := by
  pointwise [table]
  rw [relCols_at, relRows_at]
  congr 1

/-- The stack of the tables at the pattern of a row block. -/
theorem stack_at (A : FVec Ideal S16x15x31 .f32) (p : Fin 3) (h : Fin 16) (q : Fin 256) (κ : Fin 768) :
    tables A (ix4 p h q κ) = table (q0 p) (k0 p) A (ix3 h q κ) := by
  match p with
  | ⟨0, _⟩ => pointwise [tables]; rfl
  | ⟨1, _⟩ => pointwise [tables]; rfl
  | ⟨2, _⟩ => pointwise [tables]; rfl

/-- A selection under two conditions. -/
theorem select_window (p q : Prop) [Decidable p] [Decidable q] (x y : EReal) :
    Scalar.select (IntOp.andi (if p then 1#1 else 0#1) (if q then 1#1 else 0#1)) x y = if p ∧ q then x else y := by
  by_cases h1 : p
  · by_cases h2 : q
    · rw [if_pos h1, if_pos h2, if_pos ⟨h1, h2⟩]; rfl
    · rw [if_pos h1, if_neg h2, if_neg (fun h => h2 h.2)]; rfl
  · by_cases h2 : q
    · rw [if_neg h1, if_pos h2, if_neg (fun h => h1 h.1)]; rfl
    · rw [if_neg h1, if_neg h2, if_neg (fun h => h1 h.1)]; rfl

/-- A clipped number clipped once more. -/
theorem min_of {x n d : ℕ} (h : min x n = d) : min x n = min d n := by omega

/-- Reads of one table at equal coordinates. -/
theorem read_congr (A : FVec Ideal S16x15x31 .f32) (h : Fin 16) {i i' j j' : ℕ} (hi : i = i') (hj : j = j') (b1 : i < 15) (b2 : i' < 15)
    (b3 : j < 31) (b4 : j' < 31) : A (ix3 h ⟨i, b1⟩ ⟨j, b3⟩) = A (ix3 h ⟨i', b2⟩ ⟨j', b4⟩) := by
  subst hi hj
  rfl

/-- The bias of a key for a query: the table's entry inside the window, minus infinity outside it. -/
theorem tables_at (A : FVec Ideal S16x15x31 .f32) (rb : Fin 32) (h : Fin 16) (a : Fin 4) (w : Fin 64) (ρ : Fin 12) (col : Fin 64) :
    tables A (ix4 (kind rb) h ⟨a * 64 + w, by omega⟩ ⟨ρ * 64 + col, by omega⟩) =
      if (top (4 * rb + a) ≤ 4 * first rb + ρ.val ∧ 4 * first rb + ρ.val < top (4 * rb + a) + 8) ∧ left w ≤ col.val ∧ col.val < left w + 16 then
        A (ix3 h ⟨min (4 * first rb + ρ.val + 7 - (4 * rb + a)) 14, by omega⟩ ⟨min (col.val + 15 - w.val) 30, by omega⟩)
      else (⊥ : EReal) := by
  rw [stack_at, table_at, rowOk_eq, colOk_eq]
  rw [select_window]
  by_cases hh : (top (4 * rb + a) ≤ 4 * first rb + ρ.val ∧ 4 * first rb + ρ.val < top (4 * rb + a) + 8) ∧ left w ≤ col.val ∧ col.val < left w + 16
  · rw [if_pos hh, if_pos hh]
    obtain ⟨⟨h1, h2⟩, h3, h4⟩ := hh
    exact read_congr A h (min_of (rowRel_eq rb a ρ h1 h2)) (min_of (colRel_eq w col h3 h4)) _ _ _ _
  · rw [if_neg hh, if_neg hh]

end Cert.KernelIdeal.Hand

end
-- ==== Proof.K.BiasRead.lean ====
module

public import proofs.«01_k».proof.Proof.Gen.KernelIdeal.Value
public import proofs.«01_k».proof.Proof.K.Bias
public import Idealize.ShloMosaic.Lib.Pipeline.ValueKit
public import Idealize.ShloMosaic.Lib.StableHlo.RunRead

/-! The host part of the kernel, read: its bias is the three tables. -/

@[expose] public section

set_option maxRecDepth 16384

noncomputable section

namespace Cert.KernelIdeal.Hand

open Cert.KernelIdeal Cert.KernelIdeal.Gen Idealize.ShloMosaic Idealize.ShloMosaic.TcCoe Idealize.SL.Sem

/-- Stacks of equal tables are equal. -/
theorem stack_congr {x₀ x₁ x₂ y₀ y₁ y₂ : FVec Ideal S1x16x256x768 .f32} (h₀ : x₀ = y₀) (h₁ : x₁ = y₁) (h₂ : x₂ = y₂) :
    concatenate S3x16x256x768 0 [⟨S1x16x256x768, x₀⟩, ⟨S1x16x256x768, x₁⟩, ⟨S1x16x256x768, x₂⟩]
        concatenates_S1x16x256x768_S1x16x256x768_S1x16x256x768_S3x16x256x768_d0
      = concatenate S3x16x256x768 0 [⟨S1x16x256x768, y₀⟩, ⟨S1x16x256x768, y₁⟩, ⟨S1x16x256x768, y₂⟩]
        concatenates_S1x16x256x768_S1x16x256x768_S1x16x256x768_S3x16x256x768_d0 := by
  rw [h₀, h₁, h₂]

variable (m : (ℓ : Loc nD τ sig) → Buf (Elt Ideal) ℓ)

set_option maxHeartbeats 4000000 in
/-- What the host hands the kernel as its bias. -/
theorem tables_eq (c : Dev nD) : (V m c main_v204 : FVec Ideal S3x16x256x768 .f32) = tables (m (c, Proc.tc.devRef main_arg2)) := by
  show StableHlo.after _ _ _ = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36,
    StableHlo.TRef.binary, StableHlo.TRef.unary, StableHlo.TRef.ternary, StableHlo.TRef.toBuf, StableHlo.TRef.ofBuf, cast_eq]
  after_reads_simp
  refine stack_congr ?_ ?_ ?_
  · show StableHlo.upto _ _ _ (Proc.tc.devRef main_v201) = _
    after_reads_simp
    rfl
  · show StableHlo.upto _ _ _ (Proc.tc.devRef main_v202) = _
    after_reads_simp
    rfl
  · show StableHlo.upto _ _ _ (Proc.tc.devRef main_v203) = _
    after_reads_simp
    rfl

end Cert.KernelIdeal.Hand

end
-- ==== Proof.K.Blocks.lean ====
module

public import proofs.«01_k».proof.Proof.K.Head
public import proofs.«01_k».proof.Proof.K.BiasRead

@[expose] public section

set_option maxRecDepth 16384

noncomputable section

namespace Cert.KernelIdeal.Hand

open Cert.Window Cert.KernelIdeal Cert.KernelIdeal.Gen Idealize.ShloMosaic Idealize.ShloMosaic.TcCoe Idealize.SL.Sem

/-! What each window of a grid point holds: point `t` handles the head group `t / 128`, the image `t / 32 % 4` and the
block of four rows `t % 32`. -/

variable (m : (ℓ : Loc nD τ sig) → Buf (Elt Ideal) ℓ)

/-- Key position of block `i` of the three that the row block `rb` reads. -/
def keyRow (rb : Fin 32) (i : Fin 3) (κ : Fin 256) : Fin 8192 := ⟨(first rb + i) * 256 + κ, by unfold first; omega⟩

/-- The image of a grid point. -/
def image (t : Fin cfg0.N) : Fin 4 := ⟨t.val / 32 % 4, by omega⟩
/-- The row block of a grid point. -/
def rowBlock (t : Fin cfg0.N) : Fin 32 := ⟨t.val % 32, by omega⟩
/-- The head that a grid point's `g`-th group of lanes holds. -/
def headOf (t : Fin cfg0.N) (g : Fin 8) : Fin 16 := ⟨t.val / 128 * 8 + g, by have : t.val < 256 := t.isLt; omega⟩

theorem index0 : ∀ t : Fin cfg0.N, win0_0.index t 0 = t.val / 32 % 4 ∧ win0_0.index t 1 = t.val % 32 ∧ win0_0.index t 2 = t.val / 128 := by
  decide +kernel
theorem index1 : ∀ t : Fin cfg0.N, win0_1.index t 0 = t.val / 32 % 4 ∧ win0_1.index t 1 = first (t.val % 32) ∧ win0_1.index t 2 = 2 + t.val / 128 := by
  decide +kernel
theorem index2 : ∀ t : Fin cfg0.N, win0_2.index t 0 = t.val / 32 % 4 ∧ win0_2.index t 1 = first (t.val % 32) + 1 ∧ win0_2.index t 2 = 2 + t.val / 128 := by
  decide +kernel
theorem index3 : ∀ t : Fin cfg0.N, win0_3.index t 0 = t.val / 32 % 4 ∧ win0_3.index t 1 = first (t.val % 32) + 2 ∧ win0_3.index t 2 = 2 + t.val / 128 := by
  decide +kernel
theorem index4 : ∀ t : Fin cfg0.N, win0_4.index t 0 = t.val / 32 % 4 ∧ win0_4.index t 1 = first (t.val % 32) ∧ win0_4.index t 2 = 4 + t.val / 128 := by
  decide +kernel
theorem index5 : ∀ t : Fin cfg0.N, win0_5.index t 0 = t.val / 32 % 4 ∧ win0_5.index t 1 = first (t.val % 32) + 1 ∧ win0_5.index t 2 = 4 + t.val / 128 := by
  decide +kernel
theorem index6 : ∀ t : Fin cfg0.N, win0_6.index t 0 = t.val / 32 % 4 ∧ win0_6.index t 1 = first (t.val % 32) + 2 ∧ win0_6.index t 2 = 4 + t.val / 128 := by
  decide +kernel
theorem index7 : ∀ t : Fin cfg0.N, win0_7.index t 0 = t.val / 32 % 4 ∧ win0_7.index t 1 = 0 ∧ win0_7.index t 2 = 2 + t.val / 128 := by
  decide +kernel
theorem index8 : ∀ t : Fin cfg0.N, win0_8.index t 0 = t.val / 32 % 4 ∧ win0_8.index t 1 = 0 ∧ win0_8.index t 2 = 4 + t.val / 128 := by
  decide +kernel
theorem index9 : ∀ t : Fin cfg0.N, win0_9.index t 0 = (kind (t.val % 32)).val ∧ win0_9.index t 1 = t.val / 128 ∧ win0_9.index t 2 = 0 ∧ win0_9.index t 3 = 0 := by
  decide +kernel
theorem index10 : ∀ t : Fin cfg0.N, win0_10.index t 0 = t.val / 32 % 4 ∧ win0_10.index t 1 = t.val % 32 ∧ win0_10.index t 2 = t.val / 128 := by
  decide +kernel

section
variable (c : Dev nD) (t : Fin cfg0.N) (g : Fin 8) (d : Fin 128)

theorem query_at (a : Fin 4) (w : Fin 64) : cols g (iblk m c 0 t) (ix3 0 ⟨a.val * 64 + w.val, by omega⟩ d)
    = (m (c, Proc.tc.devRef main_arg0) : S4x8192x6144.Idx → EReal) (ix3 (image t) ⟨(4 * (rowBlock t).val + a.val) * 64 + w.val, by omega⟩ ⟨(headOf t g).val * 128 + d.val, by omega⟩) := by
  obtain ⟨e0, e1, e2⟩ := index0 t
  blk_ext [iblk, cols, image, rowBlock, headOf] <;> simp only [e0, e1, e2] <;> omega

theorem key0_at (κ : Fin 256) : cols g (iblk m c 1 t) (ix3 0 κ d)
    = (m (c, Proc.tc.devRef main_arg0) : S4x8192x6144.Idx → EReal) (ix3 (image t) (keyRow (rowBlock t) 0 κ) ⟨2048 + ((headOf t g).val * 128 + d.val), by omega⟩) := by
  obtain ⟨e0, e1, e2⟩ := index1 t
  blk_ext [iblk, cols, image, rowBlock, headOf, keyRow] <;> simp only [e0, e1, e2] <;> omega
theorem key1_at (κ : Fin 256) : cols g (iblk m c 2 t) (ix3 0 κ d)
    = (m (c, Proc.tc.devRef main_arg0) : S4x8192x6144.Idx → EReal) (ix3 (image t) (keyRow (rowBlock t) 1 κ) ⟨2048 + ((headOf t g).val * 128 + d.val), by omega⟩) := by
  obtain ⟨e0, e1, e2⟩ := index2 t
  blk_ext [iblk, cols, image, rowBlock, headOf, keyRow] <;> simp only [e0, e1, e2] <;> omega
theorem key2_at (κ : Fin 256) : cols g (iblk m c 3 t) (ix3 0 κ d)
    = (m (c, Proc.tc.devRef main_arg0) : S4x8192x6144.Idx → EReal) (ix3 (image t) (keyRow (rowBlock t) 2 κ) ⟨2048 + ((headOf t g).val * 128 + d.val), by omega⟩) := by
  obtain ⟨e0, e1, e2⟩ := index3 t
  blk_ext [iblk, cols, image, rowBlock, headOf, keyRow] <;> simp only [e0, e1, e2] <;> omega
theorem value0_at (κ : Fin 256) : cols g (iblk m c 4 t) (ix3 0 κ d)
    = (m (c, Proc.tc.devRef main_arg0) : S4x8192x6144.Idx → EReal) (ix3 (image t) (keyRow (rowBlock t) 0 κ) ⟨4096 + ((headOf t g).val * 128 + d.val), by omega⟩) := by
  obtain ⟨e0, e1, e2⟩ := index4 t
  blk_ext [iblk, cols, image, rowBlock, headOf, keyRow] <;> simp only [e0, e1, e2] <;> omega
theorem value1_at (κ : Fin 256) : cols g (iblk m c 5 t) (ix3 0 κ d)
    = (m (c, Proc.tc.devRef main_arg0) : S4x8192x6144.Idx → EReal) (ix3 (image t) (keyRow (rowBlock t) 1 κ) ⟨4096 + ((headOf t g).val * 128 + d.val), by omega⟩) := by
  obtain ⟨e0, e1, e2⟩ := index5 t
  blk_ext [iblk, cols, image, rowBlock, headOf, keyRow] <;> simp only [e0, e1, e2] <;> omega
theorem value2_at (κ : Fin 256) : cols g (iblk m c 6 t) (ix3 0 κ d)
    = (m (c, Proc.tc.devRef main_arg0) : S4x8192x6144.Idx → EReal) (ix3 (image t) (keyRow (rowBlock t) 2 κ) ⟨4096 + ((headOf t g).val * 128 + d.val), by omega⟩) := by
  obtain ⟨e0, e1, e2⟩ := index6 t
  blk_ext [iblk, cols, image, rowBlock, headOf, keyRow] <;> simp only [e0, e1, e2] <;> omega
theorem keyC_at (κ : Fin 256) : cols g (iblk m c 7 t) (ix3 0 κ d)
    = (m (c, Proc.tc.devRef main_arg1) : S4x256x6144.Idx → EReal) (ix3 (image t) κ ⟨2048 + ((headOf t g).val * 128 + d.val), by omega⟩) := by
  obtain ⟨e0, e1, e2⟩ := index7 t
  blk_ext [iblk, cols, image, rowBlock, headOf, keyRow] <;> simp only [e0, e1, e2] <;> omega
theorem valueC_at (κ : Fin 256) : cols g (iblk m c 8 t) (ix3 0 κ d)
    = (m (c, Proc.tc.devRef main_arg1) : S4x256x6144.Idx → EReal) (ix3 (image t) κ ⟨4096 + ((headOf t g).val * 128 + d.val), by omega⟩) := by
  obtain ⟨e0, e1, e2⟩ := index8 t
  blk_ext [iblk, cols, image, rowBlock, headOf, keyRow] <;> simp only [e0, e1, e2] <;> omega

theorem biasBlock_at (i : Fin 3) (r κ : Fin 256) : biasOf g i (iblk m c 9 t) (ix4 0 0 r κ)
    = tables (m (c, Proc.tc.devRef main_arg2)) (ix4 (kind (rowBlock t).val) (headOf t g) r ⟨i.val * 256 + κ.val, by omega⟩) := by
  obtain ⟨e0, e1, e2, e3⟩ := index9 t
  rw [← tables_eq]
  blk_ext [iblk, biasOf, rowBlock, headOf] <;> simp only [e0, e1, e2, e3] <;> omega

theorem place_at (a : Fin 4) (w : Fin 64) : (win0_10.blk t).view.emb (ix3 0 ⟨a.val * 64 + w.val, by omega⟩ ⟨g.val * 128 + d.val, by omega⟩)
    = (ix3 (image t) ⟨(4 * (rowBlock t).val + a.val) * 64 + w.val, by omega⟩ ⟨(headOf t g).val * 128 + d.val, by omega⟩ : S4x8192x2048.Idx) := by
  obtain ⟨e0, e1, e2⟩ := index10 t
  blk_ext [image, rowBlock, headOf] <;> simp only [e0, e1, e2] <;> omega
end

end Cert.KernelIdeal.Hand
end
-- ==== Proof.K.RefGather.lean ====
module

public import proofs.«01_k».proof.Proof.Gen.ReferenceIdeal
public import Idealize.ShloMosaic.Lib.Pointwise

/-! The four gathers of the reference, each read at one index of its result. -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {α : Type}

/-- The image rows of a window: the index array names a row of the grid. -/
theorem rows_at (x : S4x128x64x16x128.Idx → α) (idx : IVec S128x8x1 32) (b : Fin 4) (n : Fin 128) (r : Fin 8) (w : Fin 64)
    (h : Fin 16) (d : Fin 128) :
    Host.gather gather_S4x128x64x16x128_S128x8x1_S4x128x8x64x16x128_0345_1_n_n_1_2_416416128 x idx (ix6 b n r w h d)
      = x (ix5 b ⟨min (idx (ix3 n r 0)).toInt.toNat 127, by omega⟩ w h d) := by
  unfold Host.gather
  congr 1
  funext a
  refine Fin.ext ?_
  match a with
  | ⟨0, _⟩ => exact Nat.zero_add _
  | ⟨1, _⟩ =>
    refine congrArg (fun i => min (idx i).toInt.toNat 127) (funext fun q => Fin.ext ?_)
    match q with
    | ⟨0, _⟩ => rfl
    | ⟨1, _⟩ => rfl
    | ⟨2, _⟩ => rfl
  | ⟨2, _⟩ => exact Nat.zero_add _
  | ⟨3, _⟩ => exact Nat.zero_add _
  | ⟨4, _⟩ => exact Nat.zero_add _

/-- The image columns of a window: the index array names a column of the grid. -/
theorem cols_at (x : S4x128x8x64x16x128.Idx → α) (idx : IVec S64x16x1 32) (b : Fin 4) (n : Fin 128) (r : Fin 8) (w : Fin 64)
    (k : Fin 16) (h : Fin 16) (d : Fin 128) :
    Host.gather gather_S4x128x8x64x16x128_S64x16x1_S4x128x8x64x16x16x128_01256_3_n_n_3_2_41288116128 x idx (ix7 b n r w k h d)
      = x (ix6 b n r ⟨min (idx (ix3 w k 0)).toInt.toNat 63, by omega⟩ h d) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    refine congrArg (fun i => min (idx i).toInt.toNat 63) (funext fun q => Fin.ext ?_)
    match q with
    | ⟨0, _⟩ => rfl
    | ⟨1, _⟩ => rfl
    | ⟨2, _⟩ => rfl
  | ⟨4, _⟩ => exact Nat.zero_add _
  | ⟨5, _⟩ => exact Nat.zero_add _

/-- The bias table's relative columns. -/
theorem biasCols_at (x : S16x15x31.Idx → α) (idx : IVec S64x16x1 32) (h : Fin 16) (i : Fin 15) (w : Fin 64) (k : Fin 16) :
    Host.gather gather_S16x15x31_S64x16x1_S16x15x64x16_01_2_n_n_2_2_16151 x idx (ix4 h i w k)
      = x (ix3 h i ⟨min (idx (ix3 w k 0)).toInt.toNat 30, by omega⟩) := by
  unfold Host.gather
  congr 1
  funext a
  refine Fin.ext ?_
  match a with
  | ⟨0, _⟩ => exact Nat.zero_add _
  | ⟨1, _⟩ => exact Nat.zero_add _
  | ⟨2, _⟩ =>
    refine congrArg (fun i => min (idx i).toInt.toNat 30) (funext fun q => Fin.ext ?_)
    match q with
    | ⟨0, _⟩ => rfl
    | ⟨1, _⟩ => rfl
    | ⟨2, _⟩ => rfl

/-- The bias table's relative rows. -/
theorem biasRows_at (x : S16x15x64x16.Idx → α) (idx : IVec S128x8x1 32) (h : Fin 16) (n : Fin 128) (r : Fin 8) (w : Fin 64)
    (k : Fin 16) :
    Host.gather gather_S16x15x64x16_S128x8x1_S16x128x8x64x16_034_1_n_n_1_2_1616416 x idx (ix5 h n r w k)
      = x (ix4 h ⟨min (idx (ix3 n r 0)).toInt.toNat 14, by omega⟩ w k) := by
  unfold Host.gather
  congr 1
  funext a
  refine Fin.ext ?_
  match a with
  | ⟨0, _⟩ => exact Nat.zero_add _
  | ⟨1, _⟩ =>
    refine congrArg (fun i => min (idx i).toInt.toNat 14) (funext fun q => Fin.ext ?_)
    match q with
    | ⟨0, _⟩ => rfl
    | ⟨1, _⟩ => rfl
    | ⟨2, _⟩ => rfl
  | ⟨2, _⟩ => exact Nat.zero_add _
  | ⟨3, _⟩ => exact Nat.zero_add _

end Cert.ReferenceIdeal.Hand

end
-- ==== Proof.K.RefDef.lean ====
module

public import proofs.«01_k».proof.Proof.Gen.ReferenceIdeal.Run
public import proofs.«01_k».proof.Proof.K.RefGather

/-! The reference's result, as a composition of named steps. -/

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

/-- The first row of each image row's window. -/
def rowStart : IVec S128 32 :=
  minsi (broadcastInDim S128 ![] bcast_S_S128 (id (constantI S_ 32 120#32)))
    (maxsi (broadcastInDim S128 ![] bcast_S_S128 (id (constantI S_ 32 0#32)))
      (subi (iotaInDim S128 32 0) (broadcastInDim S128 ![] bcast_S_S128 (constantI S_ 32 4#32))))

/-- The first column of each image column's window. -/
def colStart : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- The rows of the windows. -/
def rowIdx : IVec S128x8 32 :=
  addi (broadcastInDim S128x8 ![0, 1] bcast_S128x1_S128x8_0_1 (broadcastInDim S128x1 ![0] bcast_S128_S128x1_0 rowStart))
    (broadcastInDim S128x8 ![0, 1] bcast_S1x8_S128x8_0_1 (broadcastInDim S1x8 ![1] bcast_S8_S1x8_1 (iotaInDim S8 32 0)))

/-- The columns of the windows. -/
def colIdx : IVec S64x16 32 :=
  addi (broadcastInDim S64x16 ![0, 1] bcast_S64x1_S64x16_0_1 (broadcastInDim S64x1 ![0] bcast_S64_S64x1_0 colStart))
    (broadcastInDim S64x16 ![0, 1] bcast_S1x16_S64x16_0_1 (broadcastInDim S1x16 ![1] bcast_S16_S1x16_1 (iotaInDim S16 32 0)))

/-- The relative rows. -/
def rowOff : IVec S128x8 32 :=
  addi
    (subi rowIdx
      (broadcastInDim S128x8 ![0, 1] bcast_S128x1_S128x8_0_1 (broadcastInDim S128x1 ![0] bcast_S128_S128x1_0 (iotaInDim S128 32 0))))
    (broadcastInDim S128x8 ![] bcast_S_S128x8 (constantI S_ 32 7#32))

/-- The relative columns. -/
def colOff : IVec S64x16 32 :=
  addi
    (subi colIdx
      (broadcastInDim S64x16 ![0, 1] bcast_S64x1_S64x16_0_1 (broadcastInDim S64x1 ![0] bcast_S64_S64x1_0 (iotaInDim S64 32 0))))
    (broadcastInDim S64x16 ![] bcast_S_S64x16 (constantI S_ 32 15#32))

/-- The rows and columns of a window, taken from an image. -/
def window (x : FVec Ideal S4x128x64x16x128 .f32) : FVec Ideal S4x128x8x64x16x16x128 .f32 :=
  Host.gather gather_S4x128x8x64x16x128_S64x16x1_S4x128x8x64x16x16x128_01256_3_n_n_3_2_41288116128
    (Host.gather gather_S4x128x64x16x128_S128x8x1_S4x128x8x64x16x128_0345_1_n_n_1_2_416416128 x
      (broadcastInDim S128x8x1 ![0, 1] bcast_S128x8_S128x8x1_0_1 rowIdx))
    (broadcastInDim S64x16x1 ![0, 1] bcast_S64x16_S64x16x1_0_1 colIdx)

/-- The biases of the windows. -/
def bias (A2 : FVec Ideal S16x15x31 .f32) : FVec Ideal S128x16x64x8x16 .f32 :=
  transpose S128x16x64x8x16 [1, 0, 3, 2, 4]
    (Host.gather gather_S16x15x64x16_S128x8x1_S16x128x8x64x16_034_1_n_n_1_2_1616416
      (Host.gather gather_S16x15x31_S64x16x1_S16x15x64x16_01_2_n_n_2_2_16151 A2
        (broadcastInDim S64x16x1 ![0, 1] bcast_S64x16_S64x16x1_0_1 colOff))
      (broadcastInDim S128x8x1 ![0, 1] bcast_S128x8_S128x8x1_0_1 rowOff))
    transposes_S16x128x8x64x16_S128x16x64x8x16_1_0_3_2_4

/-- The queries, keys or values of the image. -/
def part0 (A0 : FVec Ideal S4x8192x6144 .bf16) : FVec Ideal S4x128x64x16x128 .f32 :=
  shapeCast S4x128x64x16x128 (extractStridedSlice S4x8192x2048 ![0, 0, 0] (extf .f32 A0 bitsLt_bf16_f32) slices_S4x8192x6144_S4x8192x2048_0_0_0)
    shapeCasts_S4x8192x2048_S4x128x64x16x128
@[inherit_doc part0]
def part1 (A0 : FVec Ideal S4x8192x6144 .bf16) : FVec Ideal S4x128x64x16x128 .f32 :=
  shapeCast S4x128x64x16x128 (extractStridedSlice S4x8192x2048 ![0, 0, 2048] (extf .f32 A0 bitsLt_bf16_f32) slices_S4x8192x6144_S4x8192x2048_0_0_2048)
    shapeCasts_S4x8192x2048_S4x128x64x16x128
@[inherit_doc part0]
def part2 (A0 : FVec Ideal S4x8192x6144 .bf16) : FVec Ideal S4x128x64x16x128 .f32 :=
  shapeCast S4x128x64x16x128 (extractStridedSlice S4x8192x2048 ![0, 0, 4096] (extf .f32 A0 bitsLt_bf16_f32) slices_S4x8192x6144_S4x8192x2048_0_0_4096)
    shapeCasts_S4x8192x2048_S4x128x64x16x128

/-- The keys of the context. -/
def ctx1 (A1 : FVec Ideal S4x256x6144 .bf16) : FVec Ideal S4x256x16x128 .f32 :=
  shapeCast S4x256x16x128 (extractStridedSlice S4x256x2048 ![0, 0, 2048] (extf .f32 A1 bitsLt_bf16_f32) slices_S4x256x6144_S4x256x2048_0_0_2048)
    shapeCasts_S4x256x2048_S4x256x16x128

/-- The values of the context. -/
def ctx2 (A1 : FVec Ideal S4x256x6144 .bf16) : FVec Ideal S4x256x16x128 .f32 :=
  shapeCast S4x256x16x128 (extractStridedSlice S4x256x2048 ![0, 0, 4096] (extf .f32 A1 bitsLt_bf16_f32) slices_S4x256x6144_S4x256x2048_0_0_4096)
    shapeCasts_S4x256x2048_S4x256x16x128

/-- The logits of the windows. -/
def logitsW (A0 : FVec Ideal S4x8192x6144 .bf16) (A2 : FVec Ideal S16x15x31 .f32) : FVec Ideal S4x128x16x64x8x16 .f32 :=
  addf (Host.dotGeneral dot_S4x128x64x16x128_S4x128x8x64x16x16x128_S4x128x16x64x8x16_4_6_n_24_0132_0153 none (part0 A0) (window (part1 A0)))
    (broadcastInDim S4x128x16x64x8x16 ![0, 1, 2, 3, 4, 5] bcast_S1x128x16x64x8x16_S4x128x16x64x8x16_0_1_2_3_4_5
      (broadcastInDim S1x128x16x64x8x16 ![1, 2, 3, 4, 5] bcast_S128x16x64x8x16_S1x128x16x64x8x16_1_2_3_4_5 (bias A2)))

/-- The logits of the context. -/
def logitsC (A0 : FVec Ideal S4x8192x6144 .bf16) (A1 : FVec Ideal S4x256x6144 .bf16) : FVec Ideal S4x128x16x64x256 .f32 :=
  transpose S4x128x16x64x256 [0, 3, 1, 4, 2]
    (Host.dotGeneral dot_S4x256x16x128_S4x128x64x16x128_S4x16x256x128x64_3_4_1_12_02_03 none (ctx1 A1) (part0 A0))
    transposes_S4x16x256x128x64_S4x128x16x64x256_0_3_1_4_2

/-- All logits, the windows' first. -/
def logits (W : FVec Ideal S4x128x16x64x8x16 .f32) (C : FVec Ideal S4x128x16x64x256 .f32) : FVec Ideal S4x128x16x64x384 .f32 :=
  concatenate S4x128x16x64x384 4
    [⟨S4x128x16x64x128, shapeCast S4x128x16x64x128 W shapeCasts_S4x128x16x64x8x16_S4x128x16x64x128⟩, ⟨S4x128x16x64x256, C⟩]
    concatenates_S4x128x16x64x128_S4x128x16x64x256_S4x128x16x64x384_d4

/-- The greatest logit of each query and head. -/
def peak (L : FVec Ideal S4x128x16x64x384 .f32) : FVec Ideal S4x128x16x64 .f32 :=
  maximumf (broadcastInDim S4x128x16x64 ![] bcast_S_S4x128x16x64 (constant S_ .f32 0xFF800000#32))
    (Host.reduce FloatOps.maximumf L (constant S_ .f32 0xFF800000#32) reducesTo_S4x128x16x64x384_S4x128x16x64_d4 h_S_)

/-- The exponentials. -/
def expo (L : FVec Ideal S4x128x16x64x384 .f32) : FVec Ideal S4x128x16x64x384 .f32 :=
  Host.exp (subf L
    (broadcastInDim S4x128x16x64x384 ![0, 1, 2, 3, 4] bcast_S4x128x16x64x1_S4x128x16x64x384_0_1_2_3_4
      (broadcastInDim S4x128x16x64x1 ![0, 1, 2, 3] bcast_S4x128x16x64_S4x128x16x64x1_0_1_2_3 (peak L))))

/-- The sums of the exponentials. -/
def total (E : FVec Ideal S4x128x16x64x384 .f32) : FVec Ideal S4x128x16x64 .f32 :=
  Host.reduceAdd E (constant S_ .f32 0x00000000#32) reducesTo_S4x128x16x64x384_S4x128x16x64_d4 h_S_

/-- The softmax of the logits. -/
def probs (L : FVec Ideal S4x128x16x64x384 .f32) : FVec Ideal S4x128x16x64x384 .f32 :=
  Host.divf (expo L)
    (broadcastInDim S4x128x16x64x384 ![0, 1, 2, 3, 4] bcast_S4x128x16x64x1_S4x128x16x64x384_0_1_2_3_4
      (broadcastInDim S4x128x16x64x1 ![0, 1, 2, 3] bcast_S4x128x16x64_S4x128x16x64x1_0_1_2_3 (total (expo L))))

/-- The values weighted by the softmax. -/
def mixed (P : FVec Ideal S4x128x16x64x384 .f32) (VW : FVec Ideal S4x128x8x64x16x16x128 .f32) (VC : FVec Ideal S4x256x16x128 .f32) :
    FVec Ideal S4x128x64x16x128 .f32 :=
  addf
    (Host.dotGeneral dot_S4x128x16x64x8x16_S4x128x8x64x16x16x128_S4x128x64x16x128_54_42_n_6_0132_0135 none
      (shapeCast S4x128x16x64x8x16
        (extractStridedSlice S4x128x16x64x128 ![0, 0, 0, 0, 0] P slices_S4x128x16x64x384_S4x128x16x64x128_0_0_0_0_0)
        shapeCasts_S4x128x16x64x128_S4x128x16x64x8x16)
      VW)
    (transpose S4x128x64x16x128 [0, 3, 4, 1, 2]
      (Host.dotGeneral dot_S4x256x16x128_S4x128x16x64x256_S4x16x128x128x64_1_4_3_13_02_02 none VC
        (extractStridedSlice S4x128x16x64x256 ![0, 0, 0, 0, 128] P slices_S4x128x16x64x384_S4x128x16x64x256_0_0_0_0_128))
      transposes_S4x16x128x128x64_S4x128x64x16x128_0_3_4_1_2)

/-- The reference's result. -/
def attention (A0 : FVec Ideal S4x8192x6144 .bf16) (A1 : FVec Ideal S4x256x6144 .bf16) (A2 : FVec Ideal S16x15x31 .f32) :
    FVec Ideal S4x8192x2048 .bf16 :=
  truncf .bf16
    (shapeCast S4x8192x2048
      (mixed (probs (logits (logitsW A0 A2) (logitsC A0 A1))) (window (part2 A0)) (ctx2 A1))
      shapeCasts_S4x128x64x16x128_S4x8192x2048)
    bitsLt_bf16_f32

set_option maxHeartbeats 1000000 in
/-- The reference's result is the named composition. -/
theorem res_eq (m : (ℓ : Loc nD τ sig) → Buf (Elt Ideal) ℓ) (c : Dev nD) :
    (res_out0 m c : FVec Ideal S4x8192x2048 .bf16)
      = attention (m ((c.tc : Thread nD τ).loc main_arg0)) (m ((c.tc : Thread nD τ).loc main_arg1)) (m ((c.tc : Thread nD τ).loc main_arg2)) := by
  unfold res_out0 res_main_v79
  rfl

end Cert.ReferenceIdeal.Hand

end
-- ==== Proof.K.RefValue.lean ====
module

public import proofs.«01_k».proof.Proof.K.RefDef
public import proofs.«01_k».proof.Proof.K.Softmax

/-! The reference's result at an index. -/

@[expose] public section

set_option maxRecDepth 16384

noncomputable section

namespace Cert.ReferenceIdeal.Hand

open Cert.Window Cert.ReferenceIdeal Cert.ReferenceIdeal.Gen Idealize.ShloMosaic Idealize.ShloMosaic.TcCoe Idealize.SL.Sem

theorem rowIdx_eq : ∀ (n : Fin 128) (r : Fin 8), min (rowIdx (ix2 n r)).toInt.toNat 127 = top n + r := by decide +kernel

theorem colIdx_eq : ∀ (w : Fin 64) (k : Fin 16), min (colIdx (ix2 w k)).toInt.toNat 63 = left w + k := by decide +kernel

theorem rowOff_eq : ∀ (n : Fin 128) (r : Fin 8), min (rowOff (ix2 n r)).toInt.toNat 14 = min (top n + r + 7 - n) 14 := by decide +kernel

theorem colOff_eq : ∀ (w : Fin 64) (k : Fin 16), min (colOff (ix2 w k)).toInt.toNat 30 = min (left w + k + 15 - w) 30 := by decide +kernel

/-- A window's entry is the image's. -/
theorem window_at (x : FVec Ideal S4x128x64x16x128 .f32) (b : Fin 4) (n : Fin 128) (r : Fin 8) (w : Fin 64) (k : Fin 16) (h : Fin 16) (d : Fin 128) :
    window x (ix7 b n r w k h d) = x (ix5 b (winRow n r) (winCol w k) h d) := by
  unfold window
  rw [cols_at, rows_at]
  exact congrArg₂ (fun p q => x (ix5 b p q h d)) (Fin.ext (rowIdx_eq n r)) (Fin.ext (colIdx_eq w k))

/-- A window's bias is the table's entry. -/
theorem bias_at (A2 : FVec Ideal S16x15x31 .f32) (n : Fin 128) (h : Fin 16) (w : Fin 64) (r : Fin 8) (k : Fin 16) :
    bias A2 (ix5 n h w r k) = A2 (ix3 h (relRow n r) (relCol w k)) := by
  pointwise [bias]
  rw [biasRows_at, biasCols_at]
  exact congrArg₂ (fun p q => A2 (ix3 h p q)) (Fin.ext (rowOff_eq n r)) (Fin.ext (colOff_eq w k))

section Parts

variable (A0 : FVec Ideal S4x8192x6144 .bf16) (A1 : FVec Ideal S4x256x6144 .bf16) (b : Fin 4) (n : Fin 128) (w : Fin 64) (h : Fin 16) (d : Fin 128) (κ : Fin 256)

theorem part0_at : part0 A0 (ix5 b n w h d) = A0 (ix3 b ⟨n.val * 64 + w.val, by omega⟩ ⟨h.val * 128 + d.val, by omega⟩) := by
  pointwise [part0]

theorem part1_at : part1 A0 (ix5 b n w h d) = A0 (ix3 b ⟨n.val * 64 + w.val, by omega⟩ ⟨2048 + (h.val * 128 + d.val), by omega⟩) := by
  pointwise [part1]

theorem part2_at : part2 A0 (ix5 b n w h d) = A0 (ix3 b ⟨n.val * 64 + w.val, by omega⟩ ⟨4096 + (h.val * 128 + d.val), by omega⟩) := by
  pointwise [part2]

theorem ctx1_at : ctx1 A1 (ix4 b κ h d) = A1 (ix3 b κ ⟨2048 + (h.val * 128 + d.val), by omega⟩) := by
  pointwise [ctx1]

theorem ctx2_at : ctx2 A1 (ix4 b κ h d) = A1 (ix3 b κ ⟨4096 + (h.val * 128 + d.val), by omega⟩) := by
  pointwise [ctx2]

end Parts

section Softmax

variable (W : FVec Ideal S4x128x16x64x8x16 .f32) (C : FVec Ideal S4x128x16x64x256 .f32) (b : Fin 4) (n : Fin 128) (w : Fin 64) (h : Fin 16)

theorem logits_w (r : Fin 8) (k : Fin 16) :
    logits W C (ix5 b n h w ⟨r.val * 16 + k.val, by omega⟩) = W (ix6 b n h w r k) := by
  pointwise [logits]
  exact dif_pos (by omega)

theorem logits_c (κ : Fin 256) :
    logits W C (ix5 b n h w ⟨128 + κ.val, by omega⟩) = C (ix5 b n h w κ) := by
  pointwise [logits]

/-- A fold of maxima from minus infinity is a supremum. -/
theorem fold_sup {ι : Type} (s : Finset ι) (f : ι → EReal) (hu : 0 < S_.numel) :
    s.fold (FloatOps.maximumf (F := Ideal) (φ := .f32)) (constant (F := Ideal) S_ .f32 0xFF800000#32 (Shape.Idx.first hu)) f = s.sup f := rfl

/-- A greatest value over the last axis. -/
theorem hostMax_at (L : FVec Ideal S4x128x16x64x384 .f32) :
    Host.reduce FloatOps.maximumf L (constant (F := Ideal) S_ .f32 0xFF800000#32) reducesTo_S4x128x16x64x384_S4x128x16x64_d4 h_S_ (ix4 b n h w)
      = Finset.univ.sup fun κ : Fin 384 => (L (ix5 b n h w κ) : EReal) := by
  rw [Host.reduce_eq_fold]
  refine (fold_sup _ _ _).trans (le_antisymm (Finset.sup_le fun i hi => ?_) (Finset.sup_le fun κ _ => ?_))
  · have hd := (Finset.mem_filter.1 hi).2
    idx_vars i
    have e0 := congrArg (fun j : S4x128x16x64.Idx => (j 0).val) hd
    have e1 := congrArg (fun j : S4x128x16x64.Idx => (j 1).val) hd
    have e2 := congrArg (fun j : S4x128x16x64.Idx => (j 2).val) hd
    have e3 := congrArg (fun j : S4x128x16x64.Idx => (j 3).val) hd
    simp only [Shape.ReducesTo.drop_apply_val] at e0 e1 e2 e3
    have h0 : i0 = b := Fin.ext e0
    have h1 : i1 = n := Fin.ext e1
    have h2 : i2 = h := Fin.ext e2
    have h3 : i3 = w := Fin.ext e3
    subst h0 h1 h2 h3
    exact Finset.le_sup (f := fun κ : Fin 384 => (L (ix5 i0 i1 i2 i3 κ) : EReal)) (Finset.mem_univ i4)
  · refine Finset.le_sup (f := fun i => (L i : EReal)) (Finset.mem_filter.2 ⟨Finset.mem_univ _, ?_⟩)
    funext a
    match a with
    | ⟨0, _⟩ => rfl
    | ⟨1, _⟩ => rfl
    | ⟨2, _⟩ => rfl
    | ⟨3, _⟩ => rfl

/-- The greater of minus infinity and a value is the value. -/
theorem maxBot_at (R : FVec Ideal S4x128x16x64 .f32) :
    maximumf (broadcastInDim S4x128x16x64 ![] bcast_S_S4x128x16x64 (constant (F := Ideal) S_ .f32 0xFF800000#32)) R (ix4 b n h w) = R (ix4 b n h w) :=
  max_eq_right (α := EReal) bot_le

theorem peak_at (L : FVec Ideal S4x128x16x64x384 .f32) :
    peak L (ix4 b n h w) = Finset.univ.sup fun κ : Fin 384 => (L (ix5 b n h w κ) : EReal) := by
  unfold peak
  rw [maxBot_at, hostMax_at]

theorem expo_at (L : FVec Ideal S4x128x16x64x384 .f32) (κ : Fin 384) :
    expo L (ix5 b n h w κ) = Ideal.exp (L (ix5 b n h w κ) - peak L (ix4 b n h w)) := by
  pointwise [expo]

theorem total_at (E : FVec Ideal S4x128x16x64x384 .f32) :
    total E (ix4 b n h w) = ∑ κ : Fin 384, (E (ix5 b n h w κ) : EReal) := by
  pointwise [total]

theorem probs_at (L : FVec Ideal S4x128x16x64x384 .f32) (κ : Fin 384) :
    probs L (ix5 b n h w κ) = Ideal.div (expo L (ix5 b n h w κ)) (total (expo L) (ix4 b n h w)) := by
  pointwise [probs]

theorem mixed_at (P : FVec Ideal S4x128x16x64x384 .f32) (VW : FVec Ideal S4x128x8x64x16x16x128 .f32) (VC : FVec Ideal S4x256x16x128 .f32) (d : Fin 128) :
    mixed P VW VC (ix5 b n w h d)
      = ∑ k : Fin 16, ∑ r : Fin 8, (P (ix5 b n h w ⟨r.val * 16 + k.val, by omega⟩) : EReal) * VW (ix7 b n r w k h d)
        + ∑ κ : Fin 256, (VC (ix4 b κ h d) : EReal) * P (ix5 b n h w ⟨128 + κ.val, by omega⟩) := by
  pointwise [mixed]

theorem logitsW_at (A0 : FVec Ideal S4x8192x6144 .bf16) (A2 : FVec Ideal S16x15x31 .f32) (r : Fin 8) (k : Fin 16) :
    logitsW A0 A2 (ix6 b n h w r k)
      = (∑ d : Fin 128, (A0 (ix3 b ⟨n.val * 64 + w.val, by omega⟩ ⟨h.val * 128 + d.val, by omega⟩) : EReal)
          * A0 (ix3 b ⟨(winRow n r).val * 64 + (winCol w k).val, by omega⟩ ⟨2048 + (h.val * 128 + d.val), by omega⟩))
        + A2 (ix3 h (relRow n r) (relCol w k)) := by
  pointwise [logitsW, part0_at, part1_at, window_at, bias_at]

theorem logitsC_at (A0 : FVec Ideal S4x8192x6144 .bf16) (A1 : FVec Ideal S4x256x6144 .bf16) (κ : Fin 256) :
    logitsC A0 A1 (ix5 b n h w κ)
      = ∑ d : Fin 128, (A1 (ix3 b κ ⟨2048 + (h.val * 128 + d.val), by omega⟩) : EReal)
          * A0 (ix3 b ⟨n.val * 64 + w.val, by omega⟩ ⟨h.val * 128 + d.val, by omega⟩) := by
  pointwise [logitsC, part0_at, ctx1_at]

theorem attention_at (A0 : FVec Ideal S4x8192x6144 .bf16) (A1 : FVec Ideal S4x256x6144 .bf16) (A2 : FVec Ideal S16x15x31 .f32) (d : Fin 128) :
  attention A0 A1 A2 (ix3 b ⟨n.val * 64 + w.val, by omega⟩ ⟨h.val * 128 + d.val, by omega⟩) =
      mixed (probs (logits (logitsW A0 A2) (logitsC A0 A1))) (window (part2 A0)) (ctx2 A1) (ix5 b n w h d) := by
  pointwise [attention]

end Softmax

end Cert.ReferenceIdeal.Hand

end
-- ==== Proof.K.RefPoint.lean ====
module

public import proofs.«01_k».proof.Proof.K.RefValue

@[expose] public section

set_option maxRecDepth 16384

noncomputable section

namespace Cert.Window

/-- A key's number among the 384: first the window's, then the context's. -/
def keyNumber : (Fin 16 × Fin 8) ⊕ Fin 256 → Fin 384
  | .inl p => ⟨p.2.val * 16 + p.1.val, by omega⟩
  | .inr κ => ⟨128 + κ.val, by omega⟩

theorem keyNumber_bijective : Function.Bijective keyNumber := by
  refine (Fintype.bijective_iff_injective_and_card _).2 ⟨?_, by simp⟩
  rintro (⟨k, r⟩ | κ) (⟨k', r'⟩ | κ') h <;> have h := congrArg Fin.val h <;> simp only [keyNumber] at h
  · have h1 : k = k' := Fin.ext (by omega)
    have h2 : r = r' := Fin.ext (by omega)
    rw [h1, h2]
  · omega
  · omega
  · exact congrArg _ (Fin.ext (by omega))

theorem sum_keys (f : Fin 384 → EReal) :
    ∑ x, f x = ∑ p : Fin 16 × Fin 8, f ⟨p.2.val * 16 + p.1.val, by omega⟩ + ∑ κ : Fin 256, f ⟨128 + κ.val, by omega⟩ := by
  rw [← Fintype.sum_bijective keyNumber keyNumber_bijective _ f (fun _ => rfl), Fintype.sum_sum_type]
  rfl

theorem sup_keys (f : Fin 384 → EReal) :
    Finset.univ.sup f = max (Finset.univ.sup fun p : Fin 16 × Fin 8 => f ⟨p.2.val * 16 + p.1.val, by omega⟩) (Finset.univ.sup fun κ : Fin 256 => f ⟨128 + κ.val, by omega⟩) := by
  refine le_antisymm (Finset.sup_le fun x _ => ?_) (max_le (Finset.sup_le fun p _ => Finset.le_sup (f := f) (Finset.mem_univ _)) (Finset.sup_le fun p _ => Finset.le_sup (f := f) (Finset.mem_univ _)))
  obtain ⟨y, rfl⟩ := keyNumber_bijective.2 x
  rcases y with p | κ
  · exact le_max_of_le_left (Finset.le_sup (f := fun p : Fin 16 × Fin 8 => f ⟨p.2.val * 16 + p.1.val, by omega⟩) (Finset.mem_univ p))
  · exact le_max_of_le_right (Finset.le_sup (f := fun κ : Fin 256 => f ⟨128 + κ.val, by omega⟩) (Finset.mem_univ κ))

end Cert.Window

namespace Cert.ReferenceIdeal.Hand

open Cert.Window Cert.ReferenceIdeal Cert.ReferenceIdeal.Gen Idealize.ShloMosaic Idealize.ShloMosaic.TcCoe Idealize.SL.Sem

variable (b : Fin 4) (n : Fin 128) (h : Fin 16) (w : Fin 64)

/-- The mixture of values, with the largest logit and the sum of exponentials written over the window and the context. -/
theorem mixed_probs_at (W : FVec Ideal S4x128x16x64x8x16 .f32) (C : FVec Ideal S4x128x16x64x256 .f32) (VW : FVec Ideal S4x128x8x64x16x16x128 .f32)
    (VC : FVec Ideal S4x256x16x128 .f32) (d : Fin 128) (M D : EReal)
    (hM : M = max (Finset.univ.sup fun p : Fin 16 × Fin 8 => (W (ix6 b n h w p.2 p.1) : EReal)) (Finset.univ.sup fun κ : Fin 256 => (C (ix5 b n h w κ) : EReal)))
    (hD : D = ∑ p : Fin 16 × Fin 8, Ideal.exp ((W (ix6 b n h w p.2 p.1) : EReal) - M) + ∑ κ : Fin 256, Ideal.exp ((C (ix5 b n h w κ) : EReal) - M)) :
    mixed (probs (logits W C)) VW VC (ix5 b n w h d)
      = ∑ p : Fin 16 × Fin 8, Ideal.div (Ideal.exp ((W (ix6 b n h w p.2 p.1) : EReal) - M)) D * VW (ix7 b n p.2 w p.1 h d)
        + ∑ κ : Fin 256, (VC (ix4 b κ h d) : EReal) * Ideal.div (Ideal.exp ((C (ix5 b n h w κ) : EReal) - M)) D := by
  have hP : peak (logits W C) (ix4 b n h w) = M := by
    rw [peak_at, sup_keys, hM]
    simp only [logits_w, logits_c]
  have hT : total (expo (logits W C)) (ix4 b n h w) = D := by
    rw [total_at, sum_keys, hD]
    simp only [expo_at, logits_w, logits_c, hP]
  rw [mixed_at, Fintype.sum_prod_type]
  simp only [probs_at, expo_at, logits_w, logits_c, hP, hT]

end Cert.ReferenceIdeal.Hand
end
-- ==== Proof.K.Point.lean ====
module

public import proofs.«01_k».proof.Proof.K.Blocks
public import proofs.«01_k».proof.Proof.K.RefPoint

@[expose] public section

set_option maxRecDepth 16384

noncomputable section

namespace Cert.KernelIdeal.Hand

open Cert.Window Cert.KernelIdeal Cert.KernelIdeal.Gen Idealize.ShloMosaic Idealize.ShloMosaic.TcCoe Idealize.SL.Sem

/-! One entry of the kernel's result is the reference's: the window's keys sit injectively among the three blocks of keys
that a grid point reads, and the bias is minus infinity on all others. -/

/-- Where a window's key lies: which of the three blocks, and its place there. -/
def keyPlace (rb : Fin 32) (a : Fin 4) (w : Fin 64) (p : Fin 16 × Fin 8) : Fin 3 × Fin 256 :=
  (⟨(top (4 * rb.val + a.val) + p.2.val - 4 * first rb.val) / 4, by unfold top first; omega⟩,
   ⟨(top (4 * rb.val + a.val) + p.2.val - 4 * first rb.val) % 4 * 64 + (left w.val + p.1.val), by unfold left; omega⟩)

/-- The image row of a query. -/
def imageRow (rb : Fin 32) (a : Fin 4) : Fin 128 := ⟨4 * rb.val + a.val, by omega⟩

theorem keyPlace_injective (rb : Fin 32) (a : Fin 4) (w : Fin 64) : Function.Injective (keyPlace rb a w) := by
  rintro ⟨k, r⟩ ⟨k', r'⟩ h
  have h1 := congrArg (fun x => x.1.val) h
  have h2 := congrArg (fun x => x.2.val) h
  simp only [keyPlace] at h1 h2
  have b1 : 4 * first rb.val ≤ top (4 * rb.val + a.val) := by unfold top first; omega
  have b2 : left w.val + 16 ≤ 64 := by unfold left; omega
  have e1 : k = k' := Fin.ext (by omega)
  have e2 : r = r' := Fin.ext (by omega)
  rw [e1, e2]

theorem keyRow_keyPlace (rb : Fin 32) (a : Fin 4) (w : Fin 64) (p : Fin 16 × Fin 8) :
    keyRow rb (keyPlace rb a w p).1 (keyPlace rb a w p).2
      = ⟨(winRow (imageRow rb a) p.2).val * 64 + (winCol w p.1).val, by omega⟩ := by
  have b1 : 4 * first rb.val ≤ top (4 * rb.val + a.val) := by unfold top first; omega
  refine Fin.ext ?_
  simp only [keyRow, keyPlace, winRow, winCol, imageRow]
  omega

/-- The bias of a key, by its block and its place there. -/
theorem bias_block (A : FVec Ideal S16x15x31 .f32) (rb : Fin 32) (h : Fin 16) (a : Fin 4) (w : Fin 64) (i : Fin 3) (κ : Fin 256) :
    tables A (ix4 (kind rb.val) h ⟨a.val * 64 + w.val, by omega⟩ ⟨i.val * 256 + κ.val, by omega⟩)
      = if (top (4 * rb.val + a.val) ≤ 4 * first rb.val + (i.val * 4 + κ.val / 64) ∧ 4 * first rb.val + (i.val * 4 + κ.val / 64) < top (4 * rb.val + a.val) + 8)
            ∧ left w.val ≤ κ.val % 64 ∧ κ.val % 64 < left w.val + 16
        then A (ix3 h ⟨min (4 * first rb.val + (i.val * 4 + κ.val / 64) + 7 - (4 * rb.val + a.val)) 14, by omega⟩ ⟨min (κ.val % 64 + 15 - w.val) 30, by omega⟩)
        else ⊥ := by
  have e : (⟨i.val * 256 + κ.val, by omega⟩ : Fin 768) = ⟨(⟨i.val * 4 + κ.val / 64, by omega⟩ : Fin 12).val * 64 + (⟨κ.val % 64, by omega⟩ : Fin 64).val, by omega⟩ :=
    Fin.ext (by show i.val * 256 + κ.val = (i.val * 4 + κ.val / 64) * 64 + κ.val % 64; omega)
  rw [e]
  exact tables_at A rb h a w ⟨i.val * 4 + κ.val / 64, by omega⟩ ⟨κ.val % 64, by omega⟩

theorem bias_in (A : FVec Ideal S16x15x31 .f32) (rb : Fin 32) (h : Fin 16) (a : Fin 4) (w : Fin 64) (p : Fin 16 × Fin 8) :
    tables A (ix4 (kind rb.val) h ⟨a.val * 64 + w.val, by omega⟩ ⟨(keyPlace rb a w p).1.val * 256 + (keyPlace rb a w p).2.val, by omega⟩)
      = A (ix3 h (relRow (imageRow rb a) p.2) (relCol w p.1)) := by
  have b1 : 4 * first rb.val ≤ top (4 * rb.val + a.val) := by unfold top first; omega
  have b2 : left w.val + 16 ≤ 64 := by unfold left; omega
  have e1 : 4 * first rb.val + ((keyPlace rb a w p).1.val * 4 + (keyPlace rb a w p).2.val / 64) = top (4 * rb.val + a.val) + p.2.val := by
    simp only [keyPlace]; omega
  have e2 : (keyPlace rb a w p).2.val % 64 = left w.val + p.1.val := by
    simp only [keyPlace]; omega
  rw [bias_block, if_pos (by omega)]
  exact read_congr A h (by rw [e1]; rfl) (by rw [e2]) _ _ _ _

theorem bias_out (A : FVec Ideal S16x15x31 .f32) (rb : Fin 32) (h : Fin 16) (a : Fin 4) (w : Fin 64) (x : Fin 3 × Fin 256)
    (hx : x ∉ Set.range (keyPlace rb a w)) :
    tables A (ix4 (kind rb.val) h ⟨a.val * 64 + w.val, by omega⟩ ⟨x.1.val * 256 + x.2.val, by omega⟩) = (⊥ : EReal) := by
  rw [bias_block, if_neg]
  rintro ⟨⟨h1, h2⟩, h3, h4⟩
  have b1 : 4 * first rb.val ≤ top (4 * rb.val + a.val) := by unfold top first; omega
  refine hx ⟨(⟨x.2.val % 64 - left w.val, by omega⟩, ⟨4 * first rb.val + (x.1.val * 4 + x.2.val / 64) - top (4 * rb.val + a.val), by omega⟩), ?_⟩
  refine Prod.ext (Fin.ext ?_) (Fin.ext ?_) <;> simp only [keyPlace] <;> omega

variable (a0 : S4x8192x6144.Idx → ℝ) (a1 : S4x256x6144.Idx → ℝ) (a2 : S16x15x31.Idx → ℝ)
variable (b : Fin 4) (rb : Fin 32) (h : Fin 16) (a : Fin 4) (w : Fin 64) (d : Fin 128)

/-- One entry of a head's result, from blocks that hold the reals of the arguments. -/
theorem head_at (q k0 k1 k2 v0 v1 v2 kc vc : Vec Ideal S1x256x128 .bf16) (b0 b1 b2 : Vec Ideal S1x1x256x256 .f32)
    (hq : ∀ d : Fin 128, (q (ix3 0 ⟨a.val * 64 + w.val, by omega⟩ d) : EReal) = a0 (ix3 b ⟨(imageRow rb a).val * 64 + w.val, by omega⟩ ⟨h.val * 128 + d.val, by omega⟩))
    (hk0 : ∀ (κ : Fin 256) (d : Fin 128), (k0 (ix3 0 κ d) : EReal) = a0 (ix3 b (keyRow rb 0 κ) ⟨2048 + (h.val * 128 + d.val), by omega⟩))
    (hk1 : ∀ (κ : Fin 256) (d : Fin 128), (k1 (ix3 0 κ d) : EReal) = a0 (ix3 b (keyRow rb 1 κ) ⟨2048 + (h.val * 128 + d.val), by omega⟩))
    (hk2 : ∀ (κ : Fin 256) (d : Fin 128), (k2 (ix3 0 κ d) : EReal) = a0 (ix3 b (keyRow rb 2 κ) ⟨2048 + (h.val * 128 + d.val), by omega⟩))
    (hv0 : ∀ (κ : Fin 256) (d : Fin 128), (v0 (ix3 0 κ d) : EReal) = a0 (ix3 b (keyRow rb 0 κ) ⟨4096 + (h.val * 128 + d.val), by omega⟩))
    (hv1 : ∀ (κ : Fin 256) (d : Fin 128), (v1 (ix3 0 κ d) : EReal) = a0 (ix3 b (keyRow rb 1 κ) ⟨4096 + (h.val * 128 + d.val), by omega⟩))
    (hv2 : ∀ (κ : Fin 256) (d : Fin 128), (v2 (ix3 0 κ d) : EReal) = a0 (ix3 b (keyRow rb 2 κ) ⟨4096 + (h.val * 128 + d.val), by omega⟩))
    (hkc : ∀ (κ : Fin 256) (d : Fin 128), (kc (ix3 0 κ d) : EReal) = a1 (ix3 b κ ⟨2048 + (h.val * 128 + d.val), by omega⟩))
    (hvc : ∀ (κ : Fin 256) (d : Fin 128), (vc (ix3 0 κ d) : EReal) = a1 (ix3 b κ ⟨4096 + (h.val * 128 + d.val), by omega⟩))
    (hb0 : ∀ (r κ : Fin 256), (b0 (ix4 0 0 r κ) : EReal) = tables (fun i => (a2 i : EReal)) (ix4 (kind rb.val) h r ⟨(0 : Fin 3).val * 256 + κ.val, by omega⟩))
    (hb1 : ∀ (r κ : Fin 256), (b1 (ix4 0 0 r κ) : EReal) = tables (fun i => (a2 i : EReal)) (ix4 (kind rb.val) h r ⟨(1 : Fin 3).val * 256 + κ.val, by omega⟩))
    (hb2 : ∀ (r κ : Fin 256), (b2 (ix4 0 0 r κ) : EReal) = tables (fun i => (a2 i : EReal)) (ix4 (kind rb.val) h r ⟨(2 : Fin 3).val * 256 + κ.val, by omega⟩)) :
    (head q k0 k1 k2 v0 v1 v2 kc vc b0 b1 b2 (ix3 0 ⟨a.val * 64 + w.val, by omega⟩ d) : EReal)
      = Cert.ReferenceIdeal.Hand.attention (fun i => (a0 i : EReal)) (fun i => (a1 i : EReal)) (fun i => (a2 i : EReal))
          (ix3 b ⟨(imageRow rb a).val * 64 + w.val, by omega⟩ ⟨h.val * 128 + d.val, by omega⟩) := by
  have hr := Cert.ReferenceIdeal.Hand.attention_at b (imageRow rb a) w h (fun i => (a0 i : EReal)) (fun i => (a1 i : EReal)) (fun i => (a2 i : EReal)) d
  rw [Cert.ReferenceIdeal.Hand.mixed_probs_at _ _ _ _ _ _ _ _ _ _ _ rfl rfl] at hr
  simp only [Cert.ReferenceIdeal.Hand.logitsW_at, Cert.ReferenceIdeal.Hand.logitsC_at, Cert.ReferenceIdeal.Hand.window_at,
    Cert.ReferenceIdeal.Hand.part2_at, Cert.ReferenceIdeal.Hand.ctx2_at] at hr
  simp only [← EReal.coe_mul, ← EReal.coe_add, coe_sum] at hr
  refine Eq.trans ?_ hr.symm
  unfold head
  rw [finish_at, maxOf_at]
  simp only [score_at, scoreC_at, hq, hk0, hk1, hk2, hv0, hv1, hv2, hkc, hvc, hb0, hb1, hb2]
  simp only [← EReal.coe_mul, coe_sum]

  refine (softmax_window (keyPlace rb a w) (keyPlace_injective rb a w)
    (fun i κ => ((∑ d : Fin 128, a0 (ix3 b ⟨(imageRow rb a).val * 64 + w.val, by omega⟩ ⟨h.val * 128 + d.val, by omega⟩)
        * a0 (ix3 b (keyRow rb i κ) ⟨2048 + (h.val * 128 + d.val), by omega⟩) : ℝ) : EReal)
      + tables (fun i => (a2 i : EReal)) (ix4 (kind rb.val) h ⟨a.val * 64 + w.val, by omega⟩ ⟨i.val * 256 + κ.val, by omega⟩))
    (fun i κ => (a0 (ix3 b (keyRow rb i κ) ⟨4096 + (h.val * 128 + d.val), by omega⟩) : EReal))
    (fun p => ∑ d : Fin 128, a0 (ix3 b ⟨(imageRow rb a).val * 64 + w.val, by omega⟩ ⟨h.val * 128 + d.val, by omega⟩)
        * a0 (ix3 b ⟨(winRow (imageRow rb a) p.2).val * 64 + (winCol w p.1).val, by omega⟩ ⟨2048 + (h.val * 128 + d.val), by omega⟩)
      + a2 (ix3 h (relRow (imageRow rb a) p.2) (relCol w p.1)))
    (fun p => a0 (ix3 b ⟨(winRow (imageRow rb a) p.2).val * 64 + (winCol w p.1).val, by omega⟩ ⟨4096 + (h.val * 128 + d.val), by omega⟩))
    (fun κ => ∑ d : Fin 128, a0 (ix3 b ⟨(imageRow rb a).val * 64 + w.val, by omega⟩ ⟨h.val * 128 + d.val, by omega⟩)
        * a1 (ix3 b κ ⟨2048 + (h.val * 128 + d.val), by omega⟩))
    (fun κ => a1 (ix3 b κ ⟨4096 + (h.val * 128 + d.val), by omega⟩))
    (fun p => ?_) (fun p => ?_) (fun x hx => ?_) _ _ _ rfl rfl rfl).trans ?_
  · simp only [keyRow_keyPlace, bias_in, EReal.coe_add]
  · simp only [keyRow_keyPlace]
  · simp only [bias_out _ _ _ _ _ x hx, EReal.add_bot]
  · simp only [mul_comm (a1 _)]

end Cert.KernelIdeal.Hand
end
-- ==== Proof.K.Final.lean ====
module

public import proofs.«01_k».proof.Proof.K.Point
public import proofs.«01_k».proof.Pre_all_finite
public import Idealize.ShloMosaic.Lib.ReduceAll

@[expose] public section

set_option maxRecDepth 16384

noncomputable section

namespace Cert.Pre_all_finite.Hand

open Cert.Pre_all_finite Idealize.ShloMosaic Cert.Pre_all_finite.Facts

/-- The side conditions of the finiteness predicate. -/
theorem facts : Cert.Pre_all_finite.Facts where
  bitsLt_bf16_f32 := by decide
  bcast_S_S4x8192x6144 := by decide
  reducesTo_S4x8192x6144_S_d0_1_2 := by decide
  h_S_ := by decide
  bcast_S_S4x256x6144 := by decide
  reducesTo_S4x256x6144_S_d0_1_2 := by decide
  bcast_S_S16x15x31 := by decide
  reducesTo_S16x15x31_S_d0_1_2 := by decide

/-- An extended real whose absolute value is below plus infinity is a real. -/
theorem real_of_abs_lt (x : EReal) (h : max x (-x) < ⊤) : ∃ r : ℝ, x = r := by
  induction x using EReal.rec with
  | bot => simp at h
  | coe r => exact ⟨r, rfl⟩
  | top => simp at h

/-- An array that passes the test of finiteness holds reals. -/
theorem reals {s : Shape} {φ : FTy} (x : FVec Ideal s φ) (B : FVec Ideal s φ) (hB : ∀ i, (B i : EReal) = ⊤)
    (axes : List (Fin s.rank)) (hr : s.ReducesTo axes S_) (v : IVec S_ 1) (hS : 0 < S_.numel) (j : S_.Idx)
    (h : Host.reduce IntOp.andi (cmpf .olt (Host.absf x) B) v hr hS j = 1#1) : ∃ a : s.Idx → ℝ, x = fun i => (a i : EReal) := by
  haveI : Subsingleton S_.Idx := ⟨fun i j => funext fun d => d.elim0⟩
  have hx : ∀ i, ∃ r : ℝ, (x i : EReal) = r := fun i => by
    refine real_of_abs_lt _ ?_
    have e := Host.reduce_andi_all _ _ hr hS j h i
    have e' : Ideal.cmp .olt (max (x i : EReal) (-(x i : EReal))) (B i) = 1#1 := e
    rw [hB] at e'
    by_contra hn
    simp [Ideal.cmp, hn] at e'
  choose a ha using hx
  exact ⟨a, funext ha⟩

/-- The bound that the test compares with is plus infinity. -/
theorem top_at {s : Shape} (hb : S_.BroadcastsInDim s (![] : Fin 0 → Fin s.rank)) (i : s.Idx) :
    (broadcastInDim s ![] hb (constant (F := Ideal) S_ .f32 0x7F800000#32) i : EReal) = ⊤ := rfl

variable [Cert.Pre_all_finite.Facts]

/-- The precondition: the three arrays hold reals. -/
theorem fn_reals (A0 : FVec Ideal S4x8192x6144 .bf16) (A1 : FVec Ideal S4x256x6144 .bf16) (A2 : FVec Ideal S16x15x31 .f32)
    (h : fn (F := Ideal) A0 A1 A2 = fun _ => 1#1) :
    (∃ a0 : S4x8192x6144.Idx → ℝ, A0 = fun i => (a0 i : EReal)) ∧ (∃ a1 : S4x256x6144.Idx → ℝ, A1 = fun i => (a1 i : EReal))
      ∧ ∃ a2 : S16x15x31.Idx → ℝ, A2 = fun i => (a2 i : EReal) := by
  unfold fn at h
  dsimp only at h
  have e := congrFun h (fun d => d.elim0)
  obtain ⟨e01, e2⟩ := IntOp.andi_eq_one.1 e
  obtain ⟨e0, e1⟩ := IntOp.andi_eq_one.1 e01
  exact ⟨reals _ _ (top_at _) _ _ _ _ _ e0, reals _ _ (top_at _) _ _ _ _ _ e1, reals _ _ (top_at _) _ _ _ _ _ e2⟩

end Cert.Pre_all_finite.Hand

namespace Cert.KernelIdeal.Hand

open Cert.Window Cert.KernelIdeal Cert.KernelIdeal.Gen Idealize.ShloMosaic Idealize.ShloMosaic.TcCoe Idealize.SL.Sem
variable (m : (ℓ : Loc nD τ sig) → Buf (Elt Ideal) ℓ)

/-- An index of a block: its row and its column, split into query row and column, head and lane. -/
theorem block_index (y : S1x256x1024.Idx) : ∃ (a : Fin 4) (w : Fin 64) (g : Fin 8) (d : Fin 128),
    y = ix3 0 ⟨a.val * 64 + w.val, by omega⟩ ⟨g.val * 128 + d.val, by omega⟩ := by
  idx_vars y
  refine ⟨⟨y1.val / 64, by omega⟩, ⟨y1.val % 64, by omega⟩, ⟨y2.val / 128, by omega⟩, ⟨y2.val % 128, by omega⟩, ?_⟩
  blk_ext <;> omega

/-- The kernel's result is the neighbourhood attention of its arguments, where these hold reals. -/
theorem final (c : Dev nD) (a0 : S4x8192x6144.Idx → ℝ) (a1 : S4x256x6144.Idx → ℝ) (a2 : S16x15x31.Idx → ℝ)
    (h0 : (m (c, Proc.tc.devRef main_arg0) : S4x8192x6144.Idx → EReal) = fun i => (a0 i : EReal))
    (h1 : (m (c, Proc.tc.devRef main_arg1) : S4x256x6144.Idx → EReal) = fun i => (a1 i : EReal))
    (h2 : (m (c, Proc.tc.devRef main_arg2) : S16x15x31.Idx → EReal) = fun i => (a2 i : EReal)) :
    ((dats m 0 c).arrAt 10 cfg0.N : S4x8192x2048.Idx → EReal)
      = Cert.ReferenceIdeal.Hand.attention (fun i => (a0 i : EReal)) (fun i => (a1 i : EReal)) (fun i => (a2 i : EReal)) := by
  refine (dats m 0 c).arrAt_eq_of_covers 10 _ (by decide +kernel) fun t _ y => ?_
  blk_simp
  rw [after0_10]
  obtain ⟨a, w, g, d, rfl⟩ := block_index y
  rw [out_at]
  refine Eq.trans ?_ (congrArg _ (place_at t g d a w).symm)
  exact head_at a0 a1 a2 (image t) (rowBlock t) (headOf t g) a w d _ _ _ _ _ _ _ _ _ _ _ _
    (fun d => (query_at m c t g d a w).trans (by rw [h0]; rfl))
    (fun κ d => (key0_at m c t g d κ).trans (by rw [h0])) (fun κ d => (key1_at m c t g d κ).trans (by rw [h0]))
    (fun κ d => (key2_at m c t g d κ).trans (by rw [h0])) (fun κ d => (value0_at m c t g d κ).trans (by rw [h0]))
    (fun κ d => (value1_at m c t g d κ).trans (by rw [h0])) (fun κ d => (value2_at m c t g d κ).trans (by rw [h0]))
    (fun κ d => (keyC_at m c t g d κ).trans (by rw [h1])) (fun κ d => (valueC_at m c t g d κ).trans (by rw [h1]))
    (fun r κ => (biasBlock_at m c t g 0 r κ).trans (by rw [← h2])) (fun r κ => (biasBlock_at m c t g 1 r κ).trans (by rw [← h2]))
    (fun r κ => (biasBlock_at m c t g 2 r κ).trans (by rw [← h2]))

end Cert.KernelIdeal.Hand
end
-- ==== Proof.L.InFrame.lean ====
module

public import proofs.«01_k».proof.Proof.Gen.InKernelIdeal.Skeleton
public import proofs.«01_k».proof.Proof.Gen.InKernelIdeal.Frame
public import Idealize.ShloMosaic.Lib.Claim

/-! The frame of the even layers' in-projection. Two grid points share a row block: the first normalises the rows into the scratch and writes the
second result's block, the second finds both and passes them on, and only after it is the second result's block written back. -/

@[expose] public section

set_option maxRecDepth 16384

noncomputable section

namespace Cert.InKernelIdeal.Hand

open Cert.InKernelIdeal Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A point takes the branch that normalises the rows when its column block is the first. -/
abbrev cond0_0 (i : grid0.Coords) : Prop := k0_cond1 i = 1#1
/-- These are the even points. -/
theorem hcond0_0 : ∀ t : Fin cfg0.N, cond0_0 (grid0.coords t) ↔ t.val % 2 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- The inputs and the first output are in use at every point, the second output at the even ones. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 (t : Fin cfg0.N) (h0 : t.val % 2 = 0) : cfg0.idle 8 (grid0.coords t) = false := by
  have h : k0_cond1 (grid0.coords t) = 1#1 := (hcond0_0 t).mpr h0
  show (!(k0_cond1 (grid0.coords t) == 1#1)) = false
  rw [h]; rfl
theorem idleAt0_8 (t : Fin cfg0.N) (h0 : ¬t.val % 2 = 0) : cfg0.idle 8 (grid0.coords t) = true := by
  have h : k0_cond1 (grid0.coords t) ≠ 1#1 := fun h => h0 ((hcond0_0 t).mp h)
  show (!(k0_cond1 (grid0.coords t) == 1#1)) = true
  rw [beq_false_of_ne h]; rfl

/-- The views through which the contents of the two outputs are stated. -/
abbrev VO0_7 : View sig .tc .vmem S1x1024x2048 .bf16 := (Memref.whole cc0_stg7_0 : Memref sig .tc .vmem S1x1024x2048 .bf16).view
abbrev VO0_8 : View sig .tc .vmem S1x1024x128 .f32 := (Memref.whole cc0_stg8_0 : Memref sig .tc .vmem S1x1024x128 .f32).view
/-- Each window's buffer at a point, and that it is a whole buffer. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .f32 := win0_8.stage (cfg0.slots t 8)
abbrev hs0_8 (t : Fin cfg0.N) : (ms0_8 t).IsWhole := hstage0_8 ((cfg0.slots t 8).cast nbuf0_8)
/-- The scratch that carries the normalised rows from a row block's first point to its second. -/
abbrev scM0_0 : Memref sig .tc .vmem S1024x2048 .bf16 := Memref.whole cc0_scratch0
abbrev VS0_0 : View sig .tc .vmem S1024x2048 .bf16 := scM0_0.view

/-- What the launch hands the points, with the scratch named. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at an even point: from whole buffers, the inputs at their contents, it ends with the inputs as they were and both outputs and the scratch with the pieces it wrote. -/
def kernelRun0_A (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) :
    Σ' (L7 : List (View.Piece (Elt F) S1x1024x2048 .bf16)), Σ' (L8 : List (View.Piece (Elt F) S1x1024x128 .f32)), { LS0 : List (View.Piece (Elt F) S1024x2048 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_norm_mod_matmul_eq_skeleton]; unfold cc0_norm_mod_matmul_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    iexists _; iexact HS0

set_option maxHeartbeats 1000000 in
/-- The body at an odd point: it reads the scratch, writes the first output, and leaves the second output and the scratch as it found them. -/
def kernelRun0_B (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : ¬cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x1024x128 .f32) (xs0 : Vec F S1024x2048 .bf16) :
    Σ' (L7 : List (View.Piece (Elt F) S1x1024x2048 .bf16)), Σ' (L8 : List (View.Piece (Elt F) S1x1024x128 .f32)), { LS0 : List (View.Piece (Elt F) S1024x2048 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xo8 ∗ owns (c : Thread nD τ) arg12 fullShare xs0) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    iexists _; isplitr; · ipureintro; exact harg12.read_unread _
    iexact HS0

/-- The pieces an even point writes cover both outputs and the scratch; what is left there is read back from the pieces. -/
theorem cover0_A_7 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S1x1024x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).1 S1x1024x2048.size (by sl_kernel_rfl) y

def out0_A_7 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S1x1024x2048 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 x0 x1 x2 x3 x4 x5 x6).1)

theorem cover0_A_8 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S1x1024x128.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).2.1 S1x1024x128.size (by sl_kernel_rfl) y

def out0_A_8 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S1x1024x128 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 x0 x1 x2 x3 x4 x5 x6).2.1)

theorem scover0_A_0 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S1024x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).2.2.1 S1024x2048.size (by sl_kernel_rfl) y

def sout0_A_0 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 x0 x1 x2 x3 x4 x5 x6).2.2.1)

/-- The pieces an odd point writes cover the first output; the second output and the scratch are passed on. -/
theorem cover0_B_7 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : ¬cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x1024x128 .f32) (xs0 : Vec F S1024x2048 .bf16) (y : S1x1024x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1 S1x1024x2048.size (by sl_kernel_rfl) y

def out0_B_7 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : ¬cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x1024x128 .f32) (xs0 : Vec F S1024x2048 .bf16) : Vec F S1x1024x2048 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1)

def out0_B_8 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : ¬cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x1024x128 .f32) (xs0 : Vec F S1024x2048 .bf16) : Vec F S1x1024x128 .f32 := xo8

def sout0_B_0 (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x1024x2048 .bf16) (harg10 : arg10.IsWhole) (arg11 : Memref sig .tc .vmem S1x1024x128 .f32) (harg11 : arg11.IsWhole) (arg12 : Memref sig .tc .vmem S1024x2048 .bf16) (harg12 : arg12.IsWhole) (hc0 : ¬cond0_0 i)
    (x0 : Vec F S1x1024x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x1024x128 .f32) (xs0 : Vec F S1024x2048 .bf16) : Vec F S1024x2048 .bf16 := xs0

/-- What the two outputs' buffers and the scratch hold after the `n`-th point. -/
def outsAt0 (c : Dev nD) : (n : ℕ) → n < cfg0.N → Vec F S1x1024x2048 .bf16 × Vec F S1x1024x128 .f32 × Vec F S1024x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 2 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

theorem outsAt0_A (c : Dev nD) (t : Fin cfg0.N) (h0 : t.val % 2 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The assertion between points: before the first the scratch holds anything, afterwards what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The data of the run: the inputs' buffers at their blocks, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The arrays of the data are those the run starts from. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the data say of each window after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Every input's buffer holds its block when a point begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At an odd point the second output's buffer still holds what the even point before put there: nothing was written back between. -/
theorem before0_8_B (c : Dev nD) (t : Fin cfg0.N) (h0 : ¬t.val % 2 = 0) (d) :
    (dats m 0 c).before 8 t d = (outsAt0 m c (t.val - 1) (Nat.lt_of_le_of_lt (Nat.sub_le _ _) t.isLt)).2.1 := by
  have hN : t.val < 64 := lt_of_lt_of_eq t.isLt (show cfg0.N = 64 from N_0)
  have hp : (t.val - 1) % 2 = 0 := by omega
  have hf : ¬(cfg0.win 8).flush ⟨t.val - 1, Nat.lt_of_le_of_lt (Nat.sub_le _ _) t.isLt⟩ = true := fun h => by
    have := (flush0_8 _).mp h; dsimp only at this; omega
  rw [Dat.before_of_pos _ 8 t (by omega) rfl, if_neg hf]
  unfold Dat.left
  rw [liveAt0_8 _ hp]
  dsimp only
  unfold Dat.kept
  rw [Pipeline.fill_of_clip_none 8 _ (fun _ => rfl) d ((dats m 0 c).after 8 _), Window.fill_cut]
  dsimp only [dats]

/-- What the body is given at a point, and what it gives back. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 2 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t h0], after0_8]
    by_cases hz : t.val = 0
    · rw [PhiS_castSucc m c t, PhiS_zero m c _ _ hz, PhiA0_eq]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [idleAt0_8 t h0, (flush0_8 t).mpr (by omega)], after0_8]
    by_cases hz : t.val = 0
    · exfalso; have hN : t.val < 64 := lt_of_lt_of_eq t.isLt (show cfg0.N = 64 from N_0); omega
    · rw [PhiS_castSucc m c t, PhiS_pos m c _ _ hz]
      rw [outsAt0_B m c t h0]
      simp only [before0_8_B m c t h0]
      unfold out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _)
      iexact H8

theorem defs₀_row (t : Fin cfg0.N) :
    defs₀ (F := F) .tc cfg0.body (cfg0.bodyArgs t (cfg0.slots t)) = bodyAt0 t := by
  unfold defs₀; rw [Defs.onTc_tc]

/-- The same, as the pipeline rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The assertion before the first point, and from any later one back to the scratch at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The whole run, with all counters at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, for any interpretation of the numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem post7 (r : PUnit × MemSt nD τ sig (Elt F)) (h : Pipeline.FramePost cfgs (dats m) 0 (V m) r) (c : Dev nD) :
    r.2.mem ((c : Thread nD τ).loc main_v12_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v12_1) = (dats m 0 c).arrAt 8 cfg0.N :=
  (h c).1 8

/-- The arguments end as they began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, with the two results named. -/
theorem run_blocks : θ_run defs (onTc (τ := τ) (main (F := F))) ⟨m, fun _ => 0, ρ⟩ fun r => ∀ c : Dev nD,
      r.2.mem ((c : Thread nD τ).loc main_v12_0) = (dats m 0 c).arrAt 7 cfg0.N
      ∧ r.2.mem ((c : Thread nD τ).loc main_v12_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c⟩)
    (run_main m ρ)

end Cert.InKernelIdeal.Hand

end
-- ==== Proof.L.InCopy.lean ====
module

public import proofs.«01_k».proof.Proof.L.InFrame
public import proofs.«01_k».proof.Proof.Gen.InKernel

/-! The in-projection as printed is the same text as the one read over the extended reals, so its frame is the same theorem at machine words. -/

@[expose] public section

noncomputable section

namespace Cert.InKernel.Hand

open Cert.InKernel Cert.InKernel.Gen Idealize.ShloMosaic Idealize.ShloMosaic.TcCoe Idealize.SL.Sem

variable {F : FTy → Type} [FloatOps F]

theorem main_eq : main (F := F) = Cert.InKernelIdeal.main := rfl
theorem bodies_eq : defs₀ (F := F) = Cert.InKernelIdeal.defs₀ := by
  funext p l a
  match l, a with
  | 0, (t, s) => cases p <;> rfl
theorem defs_eq : defs (F := F) = Cert.InKernelIdeal.defs := congrArg (Pipeline.defs Cert.InKernelIdeal.pcfgs) bodies_eq

variable (m : (ℓ : Loc nD τ sig) → Buf (Elt F) ℓ) (ρ : Dev nD → PrngReg)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.InKernelIdeal.Hand.frame (F := F) m ρ

end Cert.InKernel.Hand

end
-- ==== Proof.L.Norm.lean ====
module

public import Idealize.ShloMosaic.Lib.Pointwise

/-! The root-mean-square normalisation shared by the projections into a mixing layer and by the model's last layer. -/

@[expose] public section

noncomputable section

namespace Cert.Norm

open Idealize.ShloMosaic

/-- A row's entry over the row's root mean square. -/
def scaled (x : EReal) (row : Fin 2048 → EReal) : EReal :=
  x * Ideal.rsqrt (Ideal.div (∑ k : Fin 2048, row k * row k) (Ideal.ofBits .f32 0x45000000#32) + Ideal.ofBits .f32 0x358637BD#32)

/-- A normalised entry, scaled by the norm's weight `g` and by one more than `scale`, then moved by `shift`. -/
def modulated (x : EReal) (row : Fin 2048 → EReal) (g shift scale : EReal) : EReal := scaled x row * g * (1 + scale) + shift

end Cert.Norm

end
-- ==== Proof.L.In.lean ====
module

public import proofs.«01_k».proof.Proof.L.InFrame
public import proofs.«01_k».proof.Proof.Gen.InReferenceIdeal.Run
public import proofs.«01_k».proof.Proof.L.Norm
public import Idealize.ShloMosaic.Lib.Pointwise
public import Idealize.ShloMosaic.Lib.Pipeline.ValueKit
public import Idealize.ShloMosaic.Lib.StableHlo.RunRead

/-! The even layers' in-projection: the rows are normalised, modulated and multiplied by the weights. The reference cuts the product into its parts;
the kernel cuts the weights, takes the few columns of the decay's low-rank factor apart, padded by zeros, and the others in two column blocks. -/

@[expose] public section

set_option maxRecDepth 16384

noncomputable section

namespace Cert.InReferenceIdeal.Hand

open Cert.InReferenceIdeal Cert.InReferenceIdeal.Gen Idealize.ShloMosaic Idealize.ShloMosaic.TcCoe Idealize.SL.Sem
open Cert.Norm (scaled modulated)

/-- The normalised and modulated rows. -/
def rows (X : FVec Ideal S4x8192x2048 .f32) (G : FVec Ideal S2048 .f32) (H C : FVec Ideal S4x1x2048 .f32) : FVec Ideal S4x8192x2048 .f32 :=
  addf (mulf (mulf (mulf X (broadcastInDim S4x8192x2048 ![0, 1, 2] bcast_S4x8192x1_S4x8192x2048_0_1_2 (Host.rsqrt (addf
      (Host.divf (broadcastInDim S4x8192x1 ![0, 1] bcast_S4x8192_S4x8192x1_0_1
          (Host.reduceAdd (mulf X X) (constant S_ .f32 0x00000000#32) reducesTo_S4x8192x2048_S4x8192_d2 h_S_))
        (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 G)))
    (broadcastInDim S4x8192x2048 ![0, 1, 2] bcast_S4x1x2048_S4x8192x2048_0_1_2
      (addf (broadcastInDim S4x1x2048 ![] bcast_S_S4x1x2048 (constant S_ .f32 0x3F800000#32)) C)))
    (broadcastInDim S4x8192x2048 ![0, 1, 2] bcast_S4x1x2048_S4x8192x2048_0_1_2 H)

/-- The product. -/
def product (X : FVec Ideal S4x8192x2048 .f32) (G : FVec Ideal S2048 .f32) (H C : FVec Ideal S4x1x2048 .f32) (W : FVec Ideal S2048x4128 .f32) :
    FVec Ideal S4x8192x4128 .f32 :=
  Host.dotGeneral dot_S4x8192x2048_S2048x4128_S4x8192x4128_2_0_01_1_n_n none (rows X G H C) W

/-- Queries, keys, values and the two gates, side by side, the queries scaled. -/
def wide (P : FVec Ideal S4x8192x4128 .f32) : FVec Ideal S4x8192x4096 .bf16 :=
  truncf .bf16 ((concatenate S4x8192x4096 2
      [⟨S4x8192x512, (mulf (extractStridedSlice S4x8192x512 ![0, 0, 0] P slices_S4x8192x4128_S4x8192x512_0_0_0)
          (broadcastInDim S4x8192x512 ![] bcast_S_S4x8192x512 (constant S_ .f32 0x3DB504F3#32)) : FVec Ideal S4x8192x512 .f32)⟩,
        ⟨S4x8192x512, (extractStridedSlice S4x8192x512 ![0, 0, 512] P slices_S4x8192x4128_S4x8192x512_0_0_512 : FVec Ideal S4x8192x512 .f32)⟩,
        ⟨S4x8192x1024, (extractStridedSlice S4x8192x1024 ![0, 0, 1024] P slices_S4x8192x4128_S4x8192x1024_0_0_1024 : FVec Ideal S4x8192x1024 .f32)⟩,
        ⟨S4x8192x1024, (extractStridedSlice S4x8192x1024 ![0, 0, 2048] P slices_S4x8192x4128_S4x8192x1024_0_0_2048 : FVec Ideal S4x8192x1024 .f32)⟩,
        ⟨S4x8192x1024, (extractStridedSlice S4x8192x1024 ![0, 0, 3104] P slices_S4x8192x4128_S4x8192x1024_0_0_3104 : FVec Ideal S4x8192x1024 .f32)⟩]
      concatenates_S4x8192x512_S4x8192x512_S4x8192x1024_S4x8192x1024_S4x8192x1024_S4x8192x4096_d2 : FVec Ideal S4x8192x4096 .f32)) bitsLt_bf16_f32

/-- The low-rank factor's columns, padded by zeros. -/
def narrow (P : FVec Ideal S4x8192x4128 .f32) : FVec Ideal S4x8192x128 .f32 :=
  pad S4x8192x128 ![0, 0, 0] ![0, 0, 96] ![0, 0, 0] (extractStridedSlice S4x8192x32 ![0, 0, 3072] P slices_S4x8192x4128_S4x8192x32_0_0_3072)
    (sitofp .f32 (constantI S_ 32 0#32)) pads_S4x8192x32_S4x8192x128_000_000_0960 h_S_

theorem rows_at (X : FVec Ideal S4x8192x2048 .f32) (G : FVec Ideal S2048 .f32) (H C : FVec Ideal S4x1x2048 .f32) (b : Fin 4) (r : Fin 8192)
    (k : Fin 2048) :
    rows X G H C (ix3 b r k) = modulated (X (ix3 b r k)) (fun l => X (ix3 b r l)) (G (ix1 k)) (H (ix3 b 0 k)) (C (ix3 b 0 k)) := by
  pointwise [rows, modulated, scaled]

theorem product_at (X : FVec Ideal S4x8192x2048 .f32) (G : FVec Ideal S2048 .f32) (H C : FVec Ideal S4x1x2048 .f32) (W : FVec Ideal S2048x4128 .f32)
    (b : Fin 4) (r : Fin 8192) (n : Fin 4128) :
    product X G H C W (ix3 b r n)
      = ∑ k : Fin 2048, modulated (X (ix3 b r k)) (fun l => X (ix3 b r l)) (G (ix1 k)) (H (ix3 b 0 k)) (C (ix3 b 0 k)) * W (ix2 k n) := by
  have e : product X G H C W (ix3 b r n) = ∑ k : Fin 2048, (rows X G H C (ix3 b r k) : EReal) * W (ix2 k n) := by
    unfold product
    generalize rows X G H C = R
    pointwise []
  rw [e]
  simp only [rows_at]

/-- The factor of a column. -/
def factor (n : ℕ) : EReal := if n < 512 then Ideal.ofBits .f32 0x3DB504F3#32 else 1
/-- The column of the weights behind a column of the wide result, -/
def source (n : Fin 4096) : Fin 4128 := ⟨if n.val < 3072 then n.val else n.val + 32, by have := n.isLt; split <;> omega⟩
/-- and behind one of the narrow result. -/
def source' (j : Fin 128) (h : j.val < 32) : Fin 4128 := ⟨3072 + j.val, by omega⟩

theorem wide_at (P : FVec Ideal S4x8192x4128 .f32) (b : Fin 4) (r : Fin 8192) (n : Fin 4096) :
    wide P (ix3 b r n) = (P (ix3 b r (source n)) : EReal) * factor n.val := by
  have hn := n.isLt
  have go : ∀ j : Fin 4128, j.val = (source n).val → (P (ix3 b r j) : EReal) = P (ix3 b r (source n)) := fun j h => by rw [Fin.ext h]
  unfold factor
  by_cases h : n.val < 512
  · rw [if_pos h]
    pointwise [wide]
    rw [dif_pos h]
    refine congrArg (· * _) (go _ ?_)
    dsimp only [source]; rw [if_pos (by omega)]
  · rw [if_neg h, mul_one]
    pointwise [wide]
    rw [dif_neg h]
    repeat' split
    all_goals refine go _ ?_; dsimp only [source]; split <;> omega

/-- The integer zero, cast, is zero. -/
theorem zero_cast : (FloatOps.sitofp (F := Ideal) .f32 (0#32) : EReal) = 0 := by
  show (((0#32 : BitVec 32).toInt : ℝ) : EReal) = 0
  simp

theorem narrow_at (P : FVec Ideal S4x8192x4128 .f32) (b : Fin 4) (r : Fin 8192) (j : Fin 128) :
    narrow P (ix3 b r j) = if h : j.val < 32 then (P (ix3 b r (source' j h)) : EReal) else 0 := by
  pointwise [narrow, source']
  rw [zero_cast]

end Cert.InReferenceIdeal.Hand

namespace Cert.InKernelIdeal.Hand

open Cert.InKernelIdeal Cert.InKernelIdeal.Gen Idealize.ShloMosaic Idealize.ShloMosaic.TcCoe Idealize.SL.Sem
open Cert.Norm (scaled modulated)
open Cert.InReferenceIdeal.Hand (factor source source')

section
variable (c : Dev nD) (i : grid0.Coords) (arg3 : Memref sig .tc .vmem S1x1024x2048 .f32) (harg3 : arg3.IsWhole)
  (arg4 : Memref sig .tc .vmem S1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S2048x2048 .bf16) (harg7 : arg7.IsWhole)
  (arg8 : Memref sig .tc .vmem S1x2048 .f32) (harg8 : arg8.IsWhole) (arg9 : Memref sig .tc .vmem S2048x128 .bf16) (harg9 : arg9.IsWhole)
  (arg10 : Memref sig .tc .vmem S1x1024x2048 .bf16) (harg10 : arg10.IsWhole) (arg11 : Memref sig .tc .vmem S1x1024x128 .f32) (harg11 : arg11.IsWhole)
  (arg12 : Memref sig .tc .vmem S1024x2048 .bf16) (harg12 : arg12.IsWhole) (x0 : Vec Ideal S1x1024x2048 .f32) (x1 : Vec Ideal S1x2048 .f32)
  (x2 x3 : Vec Ideal S1x1x2048 .f32) (x4 : Vec Ideal S2048x2048 .bf16) (x5 : Vec Ideal S1x2048 .f32) (x6 : Vec Ideal S2048x128 .bf16)

/-- What a row block's first grid point leaves in the scratch, at an index. -/
theorem scratchA_at (hc0 : cond0_0 i) (r : Fin 1024) (k : Fin 2048) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 (ix2 r k)
      = modulated (x0 (ix3 0 r k)) (fun l => x0 (ix3 0 r l)) (x1 (ix2 0 k)) (x2 (ix3 0 0 k)) (x3 (ix3 0 0 k)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread]
  canon_tiles x h
  pointwise [k0_pay3, modulated, scaled]
  obtain rfl : r = x 0 := Fin.ext h0
  obtain rfl : k = x 1 := Fin.ext h1
  rfl

/-- What that point stores in the wide result's block: the product with the rows it has just put in the scratch, -/
theorem wideA_at (hc0 : cond0_0 i) (r : Fin 1024) (n : Fin 2048) :
    out0_A_7 (F := Ideal) c i arg3 harg3 arg4 harg4 arg5 harg5 arg6 harg6 arg7 harg7 arg8 harg8 arg9 harg9 arg10 harg10 arg11 harg11 arg12 harg12 hc0 x0 x1 x2 x3 x4 x5 x6 (ix3 0 r n)
      = (∑ k : Fin 2048, modulated (x0 (ix3 0 r k)) (fun l => x0 (ix3 0 r l)) (x1 (ix2 0 k)) (x2 (ix3 0 0 k)) (x3 (ix3 0 0 k)) * x4 (ix2 k n)) * x5 (ix2 0 n) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread, View.readCov_cons_toLoadRect]
  canon_tiles x h
  pointwise [k0_pay2, k0_pay3, modulated, scaled]
  obtain rfl : r = x 1 := Fin.ext h1
  obtain rfl : n = x 2 := Fin.ext h2
  rfl

/-- and in the narrow result's. -/
theorem narrowA_at (hc0 : cond0_0 i) (r : Fin 1024) (n : Fin 128) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 (ix3 0 r n)
      = ∑ k : Fin 2048, modulated (x0 (ix3 0 r k)) (fun l => x0 (ix3 0 r l)) (x1 (ix2 0 k)) (x2 (ix3 0 0 k)) (x3 (ix3 0 0 k)) * x6 (ix2 k n) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread, View.readCov_cons_toLoadRect]
  canon_tiles x h
  pointwise [k0_pay1, k0_pay4, k0_pay3, modulated, scaled]
  obtain rfl : r = x 1 := Fin.ext h1
  obtain rfl : n = x 2 := Fin.ext h2
  rfl

/-- What the row block's second point stores: the product with the rows found in the scratch. -/
theorem wideB_at (hc0 : ¬ cond0_0 i) (xo8 : Vec Ideal S1x1024x128 .f32) (xs0 : Vec Ideal S1024x2048 .bf16) (r : Fin 1024) (n : Fin 2048) :
    out0_B_7 (F := Ideal) c i arg3 harg3 arg4 harg4 arg5 harg5 arg6 harg6 arg7 harg7 arg8 harg8 arg9 harg9 arg10 harg10 arg11 harg11 arg12 harg12 hc0 x0 x1 x2 x3 x4 x5 x6 xo8 xs0 (ix3 0 r n)
      = (∑ k : Fin 2048, (xs0 (ix2 r k) : EReal) * x4 (ix2 k n)) * x5 (ix2 0 n) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xo8 xs0)]
  unfold kernelRun0_B
  dsimp only
  sl_unfold_words
  simp only [View.readAt_eq_ld, harg3.read_unread, harg4.read_unread, harg5.read_unread, harg6.read_unread, harg7.read_unread, harg8.read_unread, harg9.read_unread, harg11.read_unread, harg12.read_unread]
  canon_tiles x h
  pointwise [k0_pay2]
  obtain rfl : r = x 1 := Fin.ext h1
  obtain rfl : n = x 2 := Fin.ext h2
  rfl
end

theorem index0 : ∀ t : Fin cfg0.N, win0_0.index t 0 = t.val / 16 ∧ win0_0.index t 1 = t.val / 2 % 8 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 16 ∧ win0_2.index t 1 = 0 ∧ win0_2.index t 2 = 0 := by decide +kernel
theorem index3 : ∀ t : Fin cfg0.N, win0_3.index t 0 = t.val / 16 ∧ win0_3.index t 1 = 0 ∧ win0_3.index t 2 = 0 := by decide +kernel
theorem index4 : ∀ t : Fin cfg0.N, win0_4.index t 0 = 0 ∧ win0_4.index t 1 = t.val % 2 := by decide +kernel
theorem index5 : ∀ t : Fin cfg0.N, win0_5.index t 0 = 0 ∧ win0_5.index t 1 = t.val % 2 := by decide +kernel
theorem index6 : ∀ t : Fin cfg0.N, win0_6.index t 0 = 0 ∧ win0_6.index t 1 = 0 := by decide +kernel
theorem index7 : ∀ t : Fin cfg0.N, win0_7.index t 0 = t.val / 16 ∧ win0_7.index t 1 = t.val / 2 % 8 ∧ win0_7.index t 2 = t.val % 2 := by
  decide +kernel
theorem index8 : ∀ t : Fin cfg0.N, win0_8.index t 0 = t.val / 16 ∧ win0_8.index t 1 = t.val / 2 % 8 ∧ win0_8.index t 2 = 0 := by
  decide +kernel

variable (m : (ℓ : Loc nD τ sig) → Buf (Elt Ideal) ℓ) (c : Dev nD)

/-- The image of the `n`-th grid point. -/
def image (n : ℕ) (hn : n < cfg0.N) : Fin 4 := ⟨n / 16, by have : n < 64 := hn; omega⟩
/-- The position of the `n`-th grid point's row `r`. -/
def row (n : ℕ) (r : Fin 1024) : Fin 8192 := ⟨n / 2 % 8 * 1024 + r.val, by omega⟩
/-- The position of the `n`-th grid point's column `j`. -/
def col (n : ℕ) (j : Fin 2048) : Fin 4096 := ⟨n % 2 * 2048 + j.val, by omega⟩

/-- The host's cut and cast of the wide weights, -/
theorem wide_weights_at (k : Fin 2048) (n : Fin 4096) :
    (V m c main_v3 : S2048x4096.Idx → EReal) (ix2 k n) = (m (c, Proc.tc.devRef main_arg4) : S2048x4128.Idx → EReal) (ix2 k (source n)) := by
  have e : (V m c main_v3 : FVec Ideal S2048x4096 .bf16) = truncf .bf16 (concatenate S2048x4096 1
      [⟨S2048x3072, (extractStridedSlice S2048x3072 ![0, 0] (m (c, Proc.tc.devRef main_arg4) : FVec Ideal S2048x4128 .f32) slices_S2048x4128_S2048x3072_0_0 : FVec Ideal S2048x3072 .f32)⟩,
        ⟨S2048x1024, (extractStridedSlice S2048x1024 ![0, 3104] (m (c, Proc.tc.devRef main_arg4) : FVec Ideal S2048x4128 .f32) slices_S2048x4128_S2048x1024_0_3104 : FVec Ideal S2048x1024 .f32)⟩]
      concatenates_S2048x3072_S2048x1024_S2048x4096_d1 : FVec Ideal S2048x4096 .f32) bitsLt_bf16_f32 := by
    show StableHlo.after _ _ _ = _
    after_reads_simp
    rfl
  rw [e]
  generalize (m (c, Proc.tc.devRef main_arg4) : FVec Ideal S2048x4128 .f32) = W
  have go : ∀ j : Fin 4128, j.val = (source n).val → (W (ix2 k j) : EReal) = W (ix2 k (source n)) := fun j h => by rw [Fin.ext h]
  pointwise []
  split
  all_goals refine go _ ?_; dsimp only [source]; split <;> omega

/-- and of the narrow ones, padded by zeros. -/
theorem narrow_weights_at (k : Fin 2048) (j : Fin 128) :
    (V m c main_v6 : S2048x128.Idx → EReal) (ix2 k j)
      = if h : j.val < 32 then ((m (c, Proc.tc.devRef main_arg4) : S2048x4128.Idx → EReal) (ix2 k (source' j h)) : EReal) else (0 : EReal) := by
  have e : (V m c main_v6 : FVec Ideal S2048x128 .bf16) = truncf .bf16 (pad S2048x128 ![0, 0] ![0, 96] ![0, 0]
      (extractStridedSlice S2048x32 ![0, 3072] (m (c, Proc.tc.devRef main_arg4) : FVec Ideal S2048x4128 .f32) slices_S2048x4128_S2048x32_0_3072)
      (sitofp .f32 (constantI S_ 32 0#32) : FVec Ideal S_ .f32) pads_S2048x32_S2048x128_000_0960 h_S_) bitsLt_bf16_f32 := by
    show StableHlo.after _ _ _ = _
    after_reads_simp
    rfl
  rw [e]
  generalize (m (c, Proc.tc.devRef main_arg4) : FVec Ideal S2048x4128 .f32) = W
  pointwise [source']
  rw [Cert.InReferenceIdeal.Hand.zero_cast]

/-- The host's reshape of the norm's weight. -/
theorem scale_at (n : Fin 2048) : (V m c main_v10 : S1x2048.Idx → EReal) (ix2 0 n) = (m (c, Proc.tc.devRef main_arg1) : S2048.Idx → EReal) (ix1 n) := by
  have e : (V m c main_v10 : FVec Ideal S1x2048 .f32) = shapeCast S1x2048 (m (c, Proc.tc.devRef main_arg1) : FVec Ideal S2048 .f32) shapeCasts_S2048_S1x2048 := by
    show StableHlo.after _ _ _ = _
    after_reads_simp
    rfl
  rw [e]
  pointwise []

/-- The factors of the columns, as the host lays them out. -/
theorem factor_at (n : Fin 4096) : (V m c main_v11 : S1x4096.Idx → EReal) (ix2 0 n) = factor n.val := by
  have e : (V m c main_v11 : FVec Ideal S1x4096 .f32) = shapeCast S1x4096 (concatenate S4096 0
      [⟨S512, (broadcastInDim S512 ![] bcast_S_S512 (constant S_ .f32 0x3DB504F3#32) : FVec Ideal S512 .f32)⟩,
        ⟨S3584, (broadcastInDim S3584 ![] bcast_S_S3584 (constant S_ .f32 0x3F800000#32) : FVec Ideal S3584 .f32)⟩]
      concatenates_S512_S3584_S4096_d0 : FVec Ideal S4096 .f32) shapeCasts_S4096_S1x4096 := by
    show StableHlo.after _ _ _ = _
    after_reads_simp
    rfl
  rw [e]
  unfold factor
  by_cases h : n.val < 512
  · rw [if_pos h]
    pointwise []
    rw [dif_pos h]
  · rw [if_neg h]
    pointwise []
    rw [dif_neg h]

theorem block0_at (t : Fin cfg0.N) (r : Fin 1024) (k : Fin 2048) :
    (iblk m c 0 t (ix3 0 r k) : EReal) = (m (c, Proc.tc.devRef main_arg0) : S4x8192x2048.Idx → EReal) (ix3 (image t t.isLt) (row t r) k) := by
  obtain ⟨e0, e1, e2⟩ := index0 t
  blk_ext [iblk, image, row] <;> simp only [e0, e1, e2] <;> omega
theorem block1_at (t : Fin cfg0.N) (k : Fin 2048) :
    (iblk m c 1 t (ix2 0 k) : EReal) = (m (c, Proc.tc.devRef main_arg1) : S2048.Idx → EReal) (ix1 k) := by
  obtain ⟨e0, e1⟩ := index1 t
  rw [← scale_at m c]
  blk_ext [iblk] <;> simp only [e0, e1] <;> omega
theorem block2_at (t : Fin cfg0.N) (k : Fin 2048) :
    (iblk m c 2 t (ix3 0 0 k) : EReal) = (m (c, Proc.tc.devRef main_arg2) : S4x1x2048.Idx → EReal) (ix3 (image t t.isLt) 0 k) := by
  obtain ⟨e0, e1, e2⟩ := index2 t
  blk_ext [iblk, image] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t t.isLt) 0 k) := by
  obtain ⟨e0, e1, e2⟩ := index3 t
  blk_ext [iblk, image] <;> simp only [e0, e1, e2] <;> omega
theorem block4_at (t : Fin cfg0.N) (k n : Fin 2048) :
    (iblk m c 4 t (ix2 k n) : EReal) = (m (c, Proc.tc.devRef main_arg4) : S2048x4128.Idx → EReal) (ix2 k (source (col t n))) := by
  obtain ⟨e0, e1⟩ := index4 t
  rw [← wide_weights_at m c]
  blk_ext [iblk, col] <;> simp only [e0, e1] <;> omega
theorem block5_at (t : Fin cfg0.N) (n : Fin 2048) : (iblk m c 5 t (ix2 0 n) : EReal) = factor (col t n).val := by
  obtain ⟨e0, e1⟩ := index5 t
  rw [← factor_at m c]
  blk_ext [iblk, col] <;> simp only [e0, e1] <;> omega
theorem block6_at (t : Fin cfg0.N) (k : Fin 2048) (j : Fin 128) :
    (iblk m c 6 t (ix2 k j) : EReal) = if h : j.val < 32 then ((m (c, Proc.tc.devRef main_arg4) : S2048x4128.Idx → EReal) (ix2 k (source' j h)) : EReal) else (0 : EReal) := by
  obtain ⟨e0, e1⟩ := index6 t
  rw [← narrow_weights_at m c]
  blk_ext [iblk] <;> simp only [e0, e1] <;> omega
theorem place7_at (t : Fin cfg0.N) (r : Fin 1024) (n : Fin 2048) :
    (win0_7.blk t).view.emb (ix3 0 r n) = (ix3 (image t t.isLt) (row t r) (col t n) : S4x8192x4096.Idx) := by
  obtain ⟨e0, e1, e2⟩ := index7 t
  blk_ext [image, row, col] <;> simp only [e0, e1, e2] <;> omega
theorem place8_at (t : Fin cfg0.N) (r : Fin 1024) (j : Fin 128) :
    (win0_8.blk t).view.emb (ix3 0 r j) = (ix3 (image t t.isLt) (row t r) j : S4x8192x128.Idx) := by
  obtain ⟨e0, e1, e2⟩ := index8 t
  blk_ext [image, row] <;> simp only [e0, e1, e2] <;> omega

/-- The normalised and modulated entry at an index of the whole array. -/
def entry (b : Fin 4) (r : Fin 8192) (k : Fin 2048) : EReal :=
  modulated ((m (c, Proc.tc.devRef main_arg0) : S4x8192x2048.Idx → EReal) (ix3 b r k))
    (fun l => (m (c, Proc.tc.devRef main_arg0) : S4x8192x2048.Idx → EReal) (ix3 b r l))
    ((m (c, Proc.tc.devRef main_arg1) : S2048.Idx → EReal) (ix1 k)) ((m (c, Proc.tc.devRef main_arg2) : S4x1x2048.Idx → EReal) (ix3 b 0 k))
    ((m (c, Proc.tc.devRef main_arg3) : S4x1x2048.Idx → EReal) (ix3 b 0 k))

/-- The product of a row of these with a column of the weights. -/
def dot (b : Fin 4) (r : Fin 8192) (n : Fin 4128) : EReal := ∑ k : Fin 2048, entry m c b r k * (m (c, Proc.tc.devRef main_arg4) : S2048x4128.Idx → EReal) (ix2 k n)

theorem image_succ (n : ℕ) (hn : n + 1 < cfg0.N) (h0 : ¬(n + 1) % 2 = 0) : image n (Nat.lt_of_succ_lt hn) = image (n + 1) hn :=
  Fin.ext (show n / 16 = (n + 1) / 16 by omega)
theorem row_succ (n : ℕ) (r : Fin 1024) (h0 : ¬(n + 1) % 2 = 0) : row n r = row (n + 1) r :=
  Fin.ext (show n / 2 % 8 * 1024 + r.val = (n + 1) / 2 % 8 * 1024 + r.val by omega)

/-- After every grid point the scratch holds the rows of that point's row block: its first point puts them there, the second leaves them. -/
theorem scratch_at : ∀ (n : ℕ) (hn : n < cfg0.N) (r : Fin 1024) (k : Fin 2048),
    ((outsAt0 m c n hn).2.2 (ix2 r k) : EReal) = entry m c (image n hn) (row n r) k := by
  intro n
  induction n with
  | zero =>
    intro hn r k
    rw [outsAt0_A m c ⟨0, hn⟩ rfl]
    dsimp only
    rw [scratchA_at]
    simp only [block0_at, block1_at, block2_at, block3_at]
    rfl
  | succ n ih =>
    intro hn r k
    by_cases h0 : (n + 1) % 2 = 0
    · rw [outsAt0_A m c ⟨n + 1, hn⟩ h0]
      dsimp only
      rw [scratchA_at]
      simp only [block0_at, block1_at, block2_at, block3_at]
      rfl
    · rw [outsAt0_B m c ⟨n + 1, hn⟩ h0]
      refine (ih (Nat.lt_of_succ_lt hn) r k).trans ?_
      rw [image_succ n hn h0, row_succ n r h0]

/-- What the narrow result's block holds after every grid point. -/
theorem narrow_point_at : ∀ (n : ℕ) (hn : n < cfg0.N) (r : Fin 1024) (j : Fin 128),
    ((outsAt0 m c n hn).2.1 (ix3 0 r j) : EReal) = if h : j.val < 32 then dot m c (image n hn) (row n r) (source' j h) else 0 := by
  have first : ∀ (t : Fin cfg0.N), t.val % 2 = 0 → ∀ (r : Fin 1024) (j : Fin 128),
      ((outsAt0 m c t.val t.isLt).2.1 (ix3 0 r j) : EReal) = if h : j.val < 32 then dot m c (image t t.isLt) (row t r) (source' j h) else 0 := by
    intro t h0 r j
    rw [outsAt0_A m c t h0]
    dsimp only
    rw [narrowA_at]
    simp only [block0_at, block1_at, block2_at, block3_at, block6_at]
    by_cases h : j.val < 32
    · simp only [dif_pos h]
      rfl
    · simp only [dif_neg h, mul_zero, Finset.sum_const_zero]
  intro n
  induction n with
  | zero => exact fun hn => first ⟨0, hn⟩ rfl
  | succ n ih =>
    intro hn r j
    by_cases h0 : (n + 1) % 2 = 0
    · exact first ⟨n + 1, hn⟩ h0 r j
    · rw [outsAt0_B m c ⟨n + 1, hn⟩ h0]
      refine (ih (Nat.lt_of_succ_lt hn) r j).trans ?_
      rw [image_succ n hn h0, row_succ n r h0]

/-- What every grid point stores in the wide result's block. -/
theorem wide_point_at (t : Fin cfg0.N) (r : Fin 1024) (n : Fin 2048) :
    ((outsAt0 m c t.val t.isLt).1 (ix3 0 r n) : EReal)
      = dot m c (image t t.isLt) (row t r) (source (col t n)) * factor (col t n).val := by
  by_cases h0 : t.val % 2 = 0
  · rw [outsAt0_A m c t h0]
    dsimp only
    rw [wideA_at, block5_at]
    simp only [block0_at, block1_at, block2_at, block3_at, block4_at]
    rfl
  · rw [outsAt0_B m c t h0]
    dsimp only
    rw [wideB_at, block5_at]
    simp only [block4_at, scratch_at]
    have hlt : t.val - 1 < cfg0.N := Nat.lt_of_le_of_lt (Nat.sub_le _ _) t.isLt
    have e1 : image (t.val - 1) hlt = image t t.isLt := Fin.ext (show (t.val - 1) / 16 = t.val / 16 by omega)
    have e2 : row (t.val - 1) r = row t r := Fin.ext (show (t.val - 1) / 2 % 8 * 1024 + r.val = t.val / 2 % 8 * 1024 + r.val by omega)
    rw [e1, e2]
    rfl

/-- The product the reference computes of the kernel's arguments. -/
def product : Cert.InReferenceIdeal.S4x8192x4128.Idx → EReal :=
  Cert.InReferenceIdeal.Hand.product (m (c, Proc.tc.devRef main_arg0)) (m (c, Proc.tc.devRef main_arg1)) (m (c, Proc.tc.devRef main_arg2))
    (m (c, Proc.tc.devRef main_arg3)) (m (c, Proc.tc.devRef main_arg4))
theorem dot_eq (b : Fin 4) (r : Fin 8192) (n : Fin 4128) : dot m c b r n = product m c (ix3 b r n) :=
  (Cert.InReferenceIdeal.Hand.product_at _ _ _ _ _ b r n).symm

/-- The kernel's wide result is the reference's, -/
theorem wide_final : ((dats m 0 c).arrAt 7 cfg0.N : S4x8192x4096.Idx → EReal) = Cert.InReferenceIdeal.Hand.wide (product m c) := by
  refine (dats m 0 c).arrAt_eq_of_covers 7 _ (by decide +kernel) fun t _ y => ?_
  blk_simp
  rw [after0_7]
  idx_vars y
  obtain rfl : y0 = 0 := by omega
  rw [wide_point_at]
  refine Eq.trans ?_ (congrArg _ (place7_at t y1 y2).symm)
  rw [Cert.InReferenceIdeal.Hand.wide_at, dot_eq]

/-- and so is the narrow one. -/
theorem narrow_final : ((dats m 0 c).arrAt 8 cfg0.N : S4x8192x128.Idx → EReal) = Cert.InReferenceIdeal.Hand.narrow (product m c) := by
  refine (dats m 0 c).arrAt_eq_of_covers 8 _ (by decide +kernel) fun t _ y => ?_
  blk_simp
  rw [after0_8]
  idx_vars y
  obtain rfl : y0 = 0 := by omega
  rw [narrow_point_at]
  refine Eq.trans ?_ (congrArg _ (place8_at t y1 y2).symm)
  rw [Cert.InReferenceIdeal.Hand.narrow_at]
  simp only [dot_eq]

end Cert.InKernelIdeal.Hand

end
-- ==== Proof.L.Qkv.lean ====
module

public import proofs.«01_k».proof.Proof.Gen.QkvKernelIdeal.Value
public import proofs.«01_k».proof.Proof.Gen.QkvReferenceIdeal.Run
public import proofs.«01_k».proof.Proof.L.Norm
public import Idealize.ShloMosaic.Lib.Pointwise
public import Idealize.ShloMosaic.Lib.Pipeline.ValueKit
public import Idealize.ShloMosaic.Lib.StableHlo.RunRead

/-! The query, key and value projection: kernel and reference normalise the rows, modulate them and multiply by the weights, the queries' columns
scaled besides. The kernel keeps a row block's normalised rows in a scratch and uses them for the three column blocks that follow one another. -/

@[expose] public section

set_option maxRecDepth 16384

noncomputable section

namespace Cert.QkvReferenceIdeal.Hand

open Cert.QkvReferenceIdeal Cert.QkvReferenceIdeal.Gen Idealize.ShloMosaic Idealize.ShloMosaic.TcCoe Idealize.SL.Sem
open Cert.Norm (scaled modulated)

/-- The normalised and modulated rows. -/
def rows (X : FVec Ideal S4x8192x2048 .f32) (G : FVec Ideal S2048 .f32) (H C : FVec Ideal S4x1x2048 .f32) : FVec Ideal S4x8192x2048 .f32 :=
  addf (mulf (mulf (mulf X (broadcastInDim S4x8192x2048 ![0, 1, 2] bcast_S4x8192x1_S4x8192x2048_0_1_2 (Host.rsqrt (addf
      (Host.divf (broadcastInDim S4x8192x1 ![0, 1] bcast_S4x8192_S4x8192x1_0_1
          (Host.reduceAdd (mulf X X) (constant S_ .f32 0x00000000#32) reducesTo_S4x8192x2048_S4x8192_d2 h_S_))
        (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 G)))
    (broadcastInDim S4x8192x2048 ![0, 1, 2] bcast_S4x1x2048_S4x8192x2048_0_1_2
      (addf (broadcastInDim S4x1x2048 ![] bcast_S_S4x1x2048 (constant S_ .f32 0x3F800000#32)) C)))
    (broadcastInDim S4x8192x2048 ![0, 1, 2] bcast_S4x1x2048_S4x8192x2048_0_1_2 H)

/-- The product, its first 2048 columns scaled. -/
def columns (P : FVec Ideal S4x8192x6144 .f32) : FVec Ideal S4x8192x6144 .bf16 :=
  truncf .bf16 ((concatenate S4x8192x6144 2
      [⟨S4x8192x2048, (mulf (extractStridedSlice S4x8192x2048 ![0, 0, 0] P slices_S4x8192x6144_S4x8192x2048_0_0_0)
          (broadcastInDim S4x8192x2048 ![] bcast_S_S4x8192x2048 (constant S_ .f32 0x3DB504F3#32)) : FVec Ideal S4x8192x2048 .f32)⟩,
        ⟨S4x8192x2048, (extractStridedSlice S4x8192x2048 ![0, 0, 2048] P slices_S4x8192x6144_S4x8192x2048_0_0_2048 : FVec Ideal S4x8192x2048 .f32)⟩,
        ⟨S4x8192x2048, (extractStridedSlice S4x8192x2048 ![0, 0, 4096] P slices_S4x8192x6144_S4x8192x2048_0_0_4096 : FVec Ideal S4x8192x2048 .f32)⟩]
      concatenates_S4x8192x2048_S4x8192x2048_S4x8192x2048_S4x8192x6144_d2 : FVec Ideal S4x8192x6144 .f32)) bitsLt_bf16_f32

/-- What the reference computes of its arguments. -/
def result (X : FVec Ideal S4x8192x2048 .f32) (G : FVec Ideal S2048 .f32) (H C : FVec Ideal S4x1x2048 .f32) (W : FVec Ideal S2048x6144 .f32) :
    FVec Ideal S4x8192x6144 .bf16 :=
  columns (Host.dotGeneral dot_S4x8192x2048_S2048x6144_S4x8192x6144_2_0_01_1_n_n none (rows X G H C) W)

theorem rows_at (X : FVec Ideal S4x8192x2048 .f32) (G : FVec Ideal S2048 .f32) (H C : FVec Ideal S4x1x2048 .f32) (b : Fin 4) (r : Fin 8192)
    (k : Fin 2048) :
    rows X G H C (ix3 b r k) = modulated (X (ix3 b r k)) (fun l => X (ix3 b r l)) (G (ix1 k)) (H (ix3 b 0 k)) (C (ix3 b 0 k)) := by
  pointwise [rows, modulated, scaled]

/-- The factor of a column. -/
def factor (n : ℕ) : EReal := if n < 2048 then Ideal.ofBits .f32 0x3DB504F3#32 else 1

theorem columns_at (P : FVec Ideal S4x8192x6144 .f32) (b : Fin 4) (r : Fin 8192) (n : Fin 6144) :
    columns P (ix3 b r n) = (P (ix3 b r n) : EReal) * factor n.val := by
  unfold factor
  by_cases h : n.val < 2048
  · rw [if_pos h]
    pointwise [columns]
    rw [dif_pos h]
  · rw [if_neg h, mul_one]
    pointwise [columns]
    rw [dif_neg h]
    by_cases h' : n.val - 2048 < 2048
    · rw [dif_pos h']
      exact congrArg (fun j => (P (ix3 b r j) : EReal)) (Fin.ext (by dsimp only; omega))
    · rw [dif_neg h']
      exact congrArg (fun j => (P (ix3 b r j) : EReal)) (Fin.ext (by dsimp only; omega))

/-- The reference's result at an index. -/
theorem result_at (X : FVec Ideal S4x8192x2048 .f32) (G : FVec Ideal S2048 .f32) (H C : FVec Ideal S4x1x2048 .f32) (W : FVec Ideal S2048x6144 .f32)
    (b : Fin 4) (r : Fin 8192) (n : Fin 6144) :
    result X G H C W (ix3 b r n)
      = (∑ k : Fin 2048, modulated (X (ix3 b r k)) (fun l => X (ix3 b r l)) (G (ix1 k)) (H (ix3 b 0 k)) (C (ix3 b 0 k)) * W (ix2 k n)) * factor n.val := by
  have e : (Host.dotGeneral dot_S4x8192x2048_S2048x6144_S4x8192x6144_2_0_01_1_n_n none (rows X G H C) W : FVec Ideal S4x8192x6144 .f32) (ix3 b r n)
      = ∑ k : Fin 2048, (rows X G H C (ix3 b r k) : EReal) * W (ix2 k n) := by
    generalize rows X G H C = R
    pointwise []
  unfold result
  rw [columns_at, e]
  simp only [rows_at]

end Cert.QkvReferenceIdeal.Hand

namespace Cert.QkvKernelIdeal.Hand

open Cert.QkvKernelIdeal Cert.QkvKernelIdeal.Gen Idealize.ShloMosaic Idealize.ShloMosaic.TcCoe Idealize.SL.Sem
open Cert.Norm (scaled modulated)
open Cert.QkvReferenceIdeal.Hand (factor)

section
variable (c : Dev nD) (i : grid0.Coords) (arg3 : Memref sig .tc .vmem S1x1024x2048 .f32) (harg3 : arg3.IsWhole)
  (arg4 : Memref sig .tc .vmem S1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S2048x2048 .bf16) (harg7 : arg7.IsWhole)
  (arg8 : Memref sig .tc .vmem S1x2048 .f32) (harg8 : arg8.IsWhole) (arg9 : Memref sig .tc .vmem S1x1024x2048 .bf16) (harg9 : arg9.IsWhole)
  (arg10 : Memref sig .tc .vmem S1024x2048 .bf16) (harg10 : arg10.IsWhole) (x0 : Vec Ideal S1x1024x2048 .f32) (x1 : Vec Ideal S1x2048 .f32)
  (x2 x3 : Vec Ideal S1x1x2048 .f32) (x4 : Vec Ideal S2048x2048 .bf16) (x5 : Vec Ideal S1x2048 .f32)

/-- What a row block's first grid point leaves in the scratch, at an index. -/
theorem scratchA_at (hc0 : cond0_0 i) (r : Fin 1024) (k : Fin 2048) :
    sout0_A_0 (F := Ideal) c i arg3 harg3 arg4 harg4 arg5 harg5 arg6 harg6 arg7 harg7 arg8 harg8 arg9 harg9 arg10 harg10 hc0 x0 x1 x2 x3 x4 x5 (ix2 r k)
      = modulated (x0 (ix3 0 r k)) (fun l => x0 (ix3 0 r l)) (x1 (ix2 0 k)) (x2 (ix3 0 0 k)) (x3 (ix3 0 0 k)) := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg3.read_unread, harg4.read_unread, harg5.read_unread, harg6.read_unread, harg7.read_unread, harg8.read_unread]
  canon_tiles x h
  pointwise [k0_pay1, modulated, scaled]
  obtain rfl : r = x 0 := Fin.ext h0
  obtain rfl : k = x 1 := Fin.ext h1
  rfl

/-- What that point stores: the product with the rows it has just put in the scratch. -/
theorem outA_at (hc0 : cond0_0 i) (r : Fin 1024) (n : Fin 2048) :
    out0_A_6 (F := Ideal) c i arg3 harg3 arg4 harg4 arg5 harg5 arg6 harg6 arg7 harg7 arg8 harg8 arg9 harg9 arg10 harg10 hc0 x0 x1 x2 x3 x4 x5 (ix3 0 r n)
      = (∑ k : Fin 2048, modulated (x0 (ix3 0 r k)) (fun l => x0 (ix3 0 r l)) (x1 (ix2 0 k)) (x2 (ix3 0 0 k)) (x3 (ix3 0 0 k)) * x4 (ix2 k n))
        * x5 (ix2 0 n) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg3.read_unread, harg4.read_unread, harg5.read_unread, harg6.read_unread, harg7.read_unread, harg8.read_unread, View.readCov_cons_toLoadRect]
  canon_tiles x h
  pointwise [k0_pay2, k0_pay1, modulated, scaled]
  obtain rfl : r = x 1 := Fin.ext h1
  obtain rfl : n = x 2 := Fin.ext h2
  rfl

/-- What the row block's other points store: the product with the rows found in the scratch. -/
theorem outB_at (hc0 : ¬ cond0_0 i) (xs0 : Vec Ideal S1024x2048 .bf16) (r : Fin 1024) (n : Fin 2048) :
    out0_B_6 (F := Ideal) c i arg3 harg3 arg4 harg4 arg5 harg5 arg6 harg6 arg7 harg7 arg8 harg8 arg9 harg9 arg10 harg10 hc0 x0 x1 x2 x3 x4 x5 xs0 (ix3 0 r n)
      = (∑ k : Fin 2048, (xs0 (ix2 r k) : EReal) * x4 (ix2 k n)) * x5 (ix2 0 n) := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  simp only [View.readAt_eq_ld, harg3.read_unread, harg4.read_unread, harg5.read_unread, harg6.read_unread, harg7.read_unread, harg8.read_unread, harg10.read_unread]
  canon_tiles x h
  pointwise [k0_pay2]
  obtain rfl : r = x 1 := Fin.ext h1
  obtain rfl : n = x 2 := Fin.ext h2
  rfl
end

theorem index0 : ∀ t : Fin cfg0.N, win0_0.index t 0 = t.val / 24 ∧ win0_0.index t 1 = t.val / 3 % 8 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 24 ∧ win0_2.index t 1 = 0 ∧ win0_2.index t 2 = 0 := by decide +kernel
theorem index3 : ∀ t : Fin cfg0.N, win0_3.index t 0 = t.val / 24 ∧ win0_3.index t 1 = 0 ∧ win0_3.index t 2 = 0 := by decide +kernel
theorem index4 : ∀ t : Fin cfg0.N, win0_4.index t 0 = 0 ∧ win0_4.index t 1 = t.val % 3 := by decide +kernel
theorem index5 : ∀ t : Fin cfg0.N, win0_5.index t 0 = 0 ∧ win0_5.index t 1 = t.val % 3 := by decide +kernel
theorem index6 : ∀ t : Fin cfg0.N, win0_6.index t 0 = t.val / 24 ∧ win0_6.index t 1 = t.val / 3 % 8 ∧ win0_6.index t 2 = t.val % 3 := by
  decide +kernel

variable (m : (ℓ : Loc nD τ sig) → Buf (Elt Ideal) ℓ) (c : Dev nD)

/-- The image of the `n`-th grid point. -/
def image (n : ℕ) (hn : n < cfg0.N) : Fin 4 := ⟨n / 24, by have : n < 96 := hn; omega⟩
/-- The position of the `n`-th grid point's row `r`. -/
def row (n : ℕ) (r : Fin 1024) : Fin 8192 := ⟨n / 3 % 8 * 1024 + r.val, by omega⟩
/-- The position of the `n`-th grid point's column `j`. -/
def col (n : ℕ) (j : Fin 2048) : Fin 6144 := ⟨n % 3 * 2048 + j.val, by omega⟩

/-- The host's cast of the weights. -/
theorem weights_eq : (V m c main_v3 : S2048x6144.Idx → EReal) = m (c, Proc.tc.devRef main_arg4) := by
  show StableHlo.after _ _ _ = _
  after_reads_simp
  rfl

/-- The host's reshape of the norm's weight. -/
theorem scale_at (n : Fin 2048) : (V m c main_v4 : S1x2048.Idx → EReal) (ix2 0 n) = (m (c, Proc.tc.devRef main_arg1) : S2048.Idx → EReal) (ix1 n) := by
  have e : (V m c main_v4 : FVec Ideal S1x2048 .f32) = shapeCast S1x2048 (m (c, Proc.tc.devRef main_arg1) : FVec Ideal S2048 .f32) shapeCasts_S2048_S1x2048 := by
    show StableHlo.after _ _ _ = _
    after_reads_simp
    rfl
  rw [e]
  pointwise []

/-- The factors of the columns, as the host lays them out. -/
theorem factor_at (n : Fin 6144) : (V m c main_v5 : S1x6144.Idx → EReal) (ix2 0 n) = factor n.val := by
  have e : (V m c main_v5 : FVec Ideal S1x6144 .f32) = shapeCast S1x6144 (concatenate S6144 0
      [⟨S2048, (broadcastInDim S2048 ![] bcast_S_S2048 (constant S_ .f32 0x3DB504F3#32) : FVec Ideal S2048 .f32)⟩,
        ⟨S4096, (broadcastInDim S4096 ![] bcast_S_S4096 (constant S_ .f32 0x3F800000#32) : FVec Ideal S4096 .f32)⟩]
      concatenates_S2048_S4096_S6144_d0 : FVec Ideal S6144 .f32) shapeCasts_S6144_S1x6144 := by
    show StableHlo.after _ _ _ = _
    after_reads_simp
    rfl
  rw [e]
  unfold factor
  by_cases h : n.val < 2048
  · rw [if_pos h]
    pointwise []
    rw [dif_pos h]
  · rw [if_neg h]
    pointwise []
    rw [dif_neg h]

theorem block0_at (t : Fin cfg0.N) (r : Fin 1024) (k : Fin 2048) :
    (iblk m c 0 t (ix3 0 r k) : EReal) = (m (c, Proc.tc.devRef main_arg0) : S4x8192x2048.Idx → EReal) (ix3 (image t t.isLt) (row t r) k) := by
  obtain ⟨e0, e1, e2⟩ := index0 t
  blk_ext [iblk, image, row] <;> simp only [e0, e1, e2] <;> omega
theorem block1_at (t : Fin cfg0.N) (k : Fin 2048) :
    (iblk m c 1 t (ix2 0 k) : EReal) = (m (c, Proc.tc.devRef main_arg1) : S2048.Idx → EReal) (ix1 k) := by
  obtain ⟨e0, e1⟩ := index1 t
  rw [← scale_at m c]
  blk_ext [iblk] <;> simp only [e0, e1] <;> omega
theorem block2_at (t : Fin cfg0.N) (k : Fin 2048) :
    (iblk m c 2 t (ix3 0 0 k) : EReal) = (m (c, Proc.tc.devRef main_arg2) : S4x1x2048.Idx → EReal) (ix3 (image t t.isLt) 0 k) := by
  obtain ⟨e0, e1, e2⟩ := index2 t
  blk_ext [iblk, image] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t t.isLt) 0 k) := by
  obtain ⟨e0, e1, e2⟩ := index3 t
  blk_ext [iblk, image] <;> simp only [e0, e1, e2] <;> omega
theorem block4_at (t : Fin cfg0.N) (k n : Fin 2048) :
    (iblk m c 4 t (ix2 k n) : EReal) = (m (c, Proc.tc.devRef main_arg4) : S2048x6144.Idx → EReal) (ix2 k (col t n)) := by
  obtain ⟨e0, e1⟩ := index4 t
  rw [← weights_eq m c]
  blk_ext [iblk, col] <;> simp only [e0, e1] <;> omega
theorem block5_at (t : Fin cfg0.N) (n : Fin 2048) : (iblk m c 5 t (ix2 0 n) : EReal) = factor (col t n).val := by
  obtain ⟨e0, e1⟩ := index5 t
  rw [← factor_at m c]
  blk_ext [iblk, col] <;> simp only [e0, e1] <;> omega
theorem place_at (t : Fin cfg0.N) (r : Fin 1024) (n : Fin 2048) :
    (win0_6.blk t).view.emb (ix3 0 r n) = (ix3 (image t t.isLt) (row t r) (col t n) : S4x8192x6144.Idx) := by
  obtain ⟨e0, e1, e2⟩ := index6 t
  blk_ext [image, row, col] <;> simp only [e0, e1, e2] <;> omega

/-- The normalised and modulated entry at an index of the whole array. -/
def entry (b : Fin 4) (r : Fin 8192) (k : Fin 2048) : EReal :=
  modulated ((m (c, Proc.tc.devRef main_arg0) : S4x8192x2048.Idx → EReal) (ix3 b r k))
    (fun l => (m (c, Proc.tc.devRef main_arg0) : S4x8192x2048.Idx → EReal) (ix3 b r l))
    ((m (c, Proc.tc.devRef main_arg1) : S2048.Idx → EReal) (ix1 k)) ((m (c, Proc.tc.devRef main_arg2) : S4x1x2048.Idx → EReal) (ix3 b 0 k))
    ((m (c, Proc.tc.devRef main_arg3) : S4x1x2048.Idx → EReal) (ix3 b 0 k))

/-- After every grid point the scratch holds the rows of that point's row block: its first point puts them there, the others leave them. -/
theorem scratch_at : ∀ (n : ℕ) (hn : n < cfg0.N) (r : Fin 1024) (k : Fin 2048),
    ((outsAt0 m c n hn).2 (ix2 r k) : EReal) = entry m c (image n hn) (row n r) k := by
  intro n
  induction n with
  | zero =>
    intro hn r k
    rw [outsAt0_A m c ⟨0, hn⟩ rfl]
    dsimp only
    rw [scratchA_at]
    simp only [block0_at, block1_at, block2_at, block3_at]
    rfl
  | succ n ih =>
    intro hn r k
    by_cases h0 : (n + 1) % 3 = 0
    · rw [outsAt0_A m c ⟨n + 1, hn⟩ h0]
      dsimp only
      rw [scratchA_at]
      simp only [block0_at, block1_at, block2_at, block3_at]
      rfl
    · rw [outsAt0_B m c ⟨n + 1, hn⟩ h0]
      refine (ih (Nat.lt_of_succ_lt hn) r k).trans ?_
      have e1 : image n (Nat.lt_of_succ_lt hn) = image (n + 1) hn := Fin.ext (show n / 24 = (n + 1) / 24 by omega)
      have e2 : row n r = row (n + 1) r := Fin.ext (show n / 3 % 8 * 1024 + r.val = (n + 1) / 3 % 8 * 1024 + r.val by omega)
      rw [e1, e2]

/-- What every grid point stores, at an index. -/
theorem point_at (t : Fin cfg0.N) (r : Fin 1024) (n : Fin 2048) :
    ((outsAt0 m c t.val t.isLt).1 (ix3 0 r n) : EReal)
      = (∑ k : Fin 2048, entry m c (image t t.isLt) (row t r) k * (m (c, Proc.tc.devRef main_arg4) : S2048x6144.Idx → EReal) (ix2 k (col t n)))
        * factor (col t n).val := by
  by_cases h0 : t.val % 3 = 0
  · rw [outsAt0_A m c t h0]
    dsimp only
    rw [outA_at, block5_at]
    simp only [block0_at, block1_at, block2_at, block3_at, block4_at]
    rfl
  · rw [outsAt0_B m c t h0]
    dsimp only
    rw [outB_at, block5_at]
    simp only [block4_at, scratch_at]
    have hlt : t.val - 1 < cfg0.N := Nat.lt_of_le_of_lt (Nat.sub_le _ _) t.isLt
    have e1 : image (t.val - 1) hlt = image t t.isLt := Fin.ext (show (t.val - 1) / 24 = t.val / 24 by omega)
    have e2 : row (t.val - 1) r = row t r := Fin.ext (show (t.val - 1) / 3 % 8 * 1024 + r.val = t.val / 3 % 8 * 1024 + r.val by omega)
    rw [e1, e2]

/-- The kernel's result is the reference's. -/
theorem final : ((dats m 0 c).arrAt 6 cfg0.N : S4x8192x6144.Idx → EReal)
    = Cert.QkvReferenceIdeal.Hand.result (m (c, Proc.tc.devRef main_arg0)) (m (c, Proc.tc.devRef main_arg1)) (m (c, Proc.tc.devRef main_arg2))
      (m (c, Proc.tc.devRef main_arg3)) (m (c, Proc.tc.devRef main_arg4)) := by
  refine (dats m 0 c).arrAt_eq_of_covers 6 _ (by decide +kernel) fun t _ y => ?_
  blk_simp
  rw [after0_6]
  idx_vars y
  obtain rfl : y0 = 0 := by omega
  rw [point_at]
  refine Eq.trans ?_ (congrArg _ (place_at t y1 y2).symm)
  rw [Cert.QkvReferenceIdeal.Hand.result_at]
  rfl

end Cert.QkvKernelIdeal.Hand

end
-- ==== Proof.L.Out.lean ====
module

public import proofs.«01_k».proof.Proof.Gen.OutKernelIdeal.Value
public import proofs.«01_k».proof.Proof.Gen.OutReferenceIdeal.Run
public import Idealize.ShloMosaic.Lib.Pointwise
public import Idealize.ShloMosaic.Lib.Pipeline.ValueKit
public import Idealize.ShloMosaic.Lib.StableHlo.RunRead

/-! The output projection of the attention layers with its gated residual: kernel and reference compute `x + gate * (o @ w)`. -/

@[expose] public section

set_option maxRecDepth 16384

noncomputable section

namespace Cert.OutReferenceIdeal.Hand

open Cert.OutReferenceIdeal Cert.OutReferenceIdeal.Gen Idealize.ShloMosaic Idealize.ShloMosaic.TcCoe Idealize.SL.Sem

/-- What the reference computes of its arguments. -/
def result (O : FVec Ideal S4x8192x2048 .bf16) (W : FVec Ideal S2048x2048 .f32) (X : FVec Ideal S4x8192x2048 .f32) (G : FVec Ideal S4x1x2048 .f32) : FVec Ideal S4x8192x2048 .f32 :=
  addf X (mulf (broadcastInDim S4x8192x2048 ![0, 1, 2] bcast_S4x1x2048_S4x8192x2048_0_1_2 G)
    (Host.dotGeneral dot_S4x8192x2048_S2048x2048_S4x8192x2048_2_0_01_1_n_n none (extf .f32 O bitsLt_bf16_f32) W))

/-- The reference's result at an index. -/
theorem result_at (O : FVec Ideal S4x8192x2048 .bf16) (W : FVec Ideal S2048x2048 .f32) (X : FVec Ideal S4x8192x2048 .f32) (G : FVec Ideal S4x1x2048 .f32) (b : Fin 4) (r : Fin 8192) (n : Fin 2048) :
    result O W X G (ix3 b r n)
      = (X (ix3 b r n) : EReal) + G (ix3 b 0 n) * ∑ k : Fin 2048, (O (ix3 b r k) : EReal) * W (ix2 k n) := by
  pointwise [result]

end Cert.OutReferenceIdeal.Hand

namespace Cert.OutKernelIdeal.Hand

open Cert.OutKernelIdeal Cert.OutKernelIdeal.Gen Idealize.ShloMosaic Idealize.ShloMosaic.TcCoe Idealize.SL.Sem

/-- What a grid point stores, at an index. -/
theorem out_at (x0 : Vec Ideal S1x512x2048 .bf16) (x1 : Vec Ideal S2048x2048 .bf16) (x2 : Vec Ideal S1x512x2048 .f32) (x3 : Vec Ideal S1x1x2048 .f32)
    (r : Fin 512) (n : Fin 2048) :
    out0_4 (F := Ideal) x0 x1 x2 x3 (ix3 0 r n)
      = (x2 (ix3 0 r n) : EReal) + x3 (ix3 0 0 n) * ∑ k : Fin 2048, (x0 (ix3 0 r k) : EReal) * x1 (ix2 k n) := by
  unfold out0_4
  canon_tiles x h
  pointwise [k0_pay1]
  obtain rfl : r = x 1 := Fin.ext h1
  obtain rfl : n = x 2 := Fin.ext h2
  rfl

theorem index0 : ∀ t : Fin cfg0.N, win0_0.index t 0 = t.val / 16 ∧ win0_0.index t 1 = t.val % 16 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 16 ∧ win0_2.index t 1 = t.val % 16 ∧ win0_2.index t 2 = 0 := by decide +kernel
theorem index3 : ∀ t : Fin cfg0.N, win0_3.index t 0 = t.val / 16 ∧ win0_3.index t 1 = 0 ∧ win0_3.index t 2 = 0 := by decide +kernel
theorem index4 : ∀ t : Fin cfg0.N, win0_4.index t 0 = t.val / 16 ∧ win0_4.index t 1 = t.val % 16 ∧ win0_4.index t 2 = 0 := by decide +kernel

variable (m : (ℓ : Loc nD τ sig) → Buf (Elt Ideal) ℓ) (c : Dev nD)

/-- The image of a grid point. -/
def image (t : Fin cfg0.N) : Fin 4 := ⟨t.val / 16, by have : t.val < 64 := t.isLt; omega⟩
/-- The position of a grid point's row `r`. -/
def row (t : Fin cfg0.N) (r : Fin 512) : Fin 8192 := ⟨t.val % 16 * 512 + r.val, by omega⟩

/-- The host's cast of the weights. -/
theorem weights_eq : (V m c main_v0 : S2048x2048.Idx → EReal) = m (c, Proc.tc.devRef main_arg1) := by
  show StableHlo.after _ _ _ = _
  after_reads_simp
  rfl

theorem block0_at (t : Fin cfg0.N) (r : Fin 512) (k : Fin 2048) :
    (iblk m c 0 t (ix3 0 r k) : EReal) = (m (c, Proc.tc.devRef main_arg0) : S4x8192x2048.Idx → EReal) (ix3 (image t) (row t r) k) := by
  obtain ⟨e0, e1, e2⟩ := index0 t
  blk_ext [iblk, image, row] <;> simp only [e0, e1, e2] <;> omega
theorem block1_at (t : Fin cfg0.N) (k n : Fin 2048) :
    (iblk m c 1 t (ix2 k n) : EReal) = (m (c, Proc.tc.devRef main_arg1) : S2048x2048.Idx → EReal) (ix2 k n) := by
  obtain ⟨e0, e1⟩ := index1 t
  rw [← weights_eq m c]
  blk_ext [iblk] <;> simp only [e0, e1] <;> omega
theorem block2_at (t : Fin cfg0.N) (r : Fin 512) (k : Fin 2048) :
    (iblk m c 2 t (ix3 0 r k) : EReal) = (m (c, Proc.tc.devRef main_arg2) : S4x8192x2048.Idx → EReal) (ix3 (image t) (row t r) k) := by
  obtain ⟨e0, e1, e2⟩ := index2 t
  blk_ext [iblk, image, row] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t) 0 k) := by
  obtain ⟨e0, e1, e2⟩ := index3 t
  blk_ext [iblk, image] <;> simp only [e0, e1, e2] <;> omega
theorem place_at (t : Fin cfg0.N) (r : Fin 512) (n : Fin 2048) : (win0_4.blk t).view.emb (ix3 0 r n) = (ix3 (image t) (row t r) n : S4x8192x2048.Idx) := by
  obtain ⟨e0, e1, e2⟩ := index4 t
  blk_ext [image, row] <;> simp only [e0, e1, e2] <;> omega

/-- The kernel's result is the reference's. -/
theorem final : ((dats m 0 c).arrAt 4 cfg0.N : S4x8192x2048.Idx → EReal)
    = Cert.OutReferenceIdeal.Hand.result (m (c, Proc.tc.devRef main_arg0)) (m (c, Proc.tc.devRef main_arg1)) (m (c, Proc.tc.devRef main_arg2)) (m (c, Proc.tc.devRef main_arg3)) := by
  refine (dats m 0 c).arrAt_eq_of_covers 4 _ (by decide +kernel) fun t _ y => ?_
  blk_simp
  rw [after0_4]
  idx_vars y
  obtain rfl : y0 = 0 := by omega
  rw [out_at]
  refine Eq.trans ?_ (congrArg _ (place_at t y1 y2).symm)
  rw [Cert.OutReferenceIdeal.Hand.result_at, block2_at, block3_at]
  simp only [block0_at, block1_at]

end Cert.OutKernelIdeal.Hand

end
-- ==== Proof.L.OutTwo.lean ====
module

public import proofs.«01_k».proof.Proof.Gen.OutTwoKernelIdeal.Value
public import proofs.«01_k».proof.Proof.Gen.OutTwoReferenceIdeal.Run
public import Idealize.ShloMosaic.Lib.Pointwise
public import Idealize.ShloMosaic.Lib.Pipeline.ValueKit
public import Idealize.ShloMosaic.Lib.StableHlo.RunRead

/-! The output projection of the layers with linear attention and Fourier mixing, with its gated residual: kernel and reference compute
`x + gate * ([y, u] @ w)`, the kernel as two products with the halves of `w`. -/

@[expose] public section

set_option maxRecDepth 16384

noncomputable section

namespace Cert.OutTwoReferenceIdeal.Hand

open Cert.OutTwoReferenceIdeal Cert.OutTwoReferenceIdeal.Gen Idealize.ShloMosaic Idealize.ShloMosaic.TcCoe Idealize.SL.Sem

/-- What the reference computes of its arguments. -/
def result (Y : FVec Ideal S4x8192x1024 .bf16) (U : FVec Ideal S4x8192x1024 .f32) (W : FVec Ideal S2048x2048 .f32) (X : FVec Ideal S4x8192x2048 .f32)
    (G : FVec Ideal S4x1x2048 .f32) : FVec Ideal S4x8192x2048 .f32 :=
  addf X (mulf (broadcastInDim S4x8192x2048 ![0, 1, 2] bcast_S4x1x2048_S4x8192x2048_0_1_2 G)
    (Host.dotGeneral dot_S4x8192x2048_S2048x2048_S4x8192x2048_2_0_01_1_n_n none
      (concatenate S4x8192x2048 2 [⟨S4x8192x1024, extf .f32 Y bitsLt_bf16_f32⟩, ⟨S4x8192x1024, U⟩]
        concatenates_S4x8192x1024_S4x8192x1024_S4x8192x2048_d2) W))

/-- The reference's result at an index. -/
theorem result_at (Y : FVec Ideal S4x8192x1024 .bf16) (U : FVec Ideal S4x8192x1024 .f32) (W : FVec Ideal S2048x2048 .f32) (X : FVec Ideal S4x8192x2048 .f32)
    (G : FVec Ideal S4x1x2048 .f32) (b : Fin 4) (r : Fin 8192) (n : Fin 2048) :
    result Y U W X G (ix3 b r n)
      = (X (ix3 b r n) : EReal) + G (ix3 b 0 n)
        * (∑ k : Fin 1024, (Y (ix3 b r k) : EReal) * W (ix2 ⟨k.val, by omega⟩ n) + ∑ k : Fin 1024, (U (ix3 b r k) : EReal) * W (ix2 ⟨1024 + k.val, by omega⟩ n)) := by
  pointwise [result]

end Cert.OutTwoReferenceIdeal.Hand

namespace Cert.OutTwoKernelIdeal.Hand

open Cert.OutTwoKernelIdeal Cert.OutTwoKernelIdeal.Gen Idealize.ShloMosaic Idealize.ShloMosaic.TcCoe Idealize.SL.Sem

/-- What a grid point stores, at an index. -/
theorem out_at (x0 : Vec Ideal S1x512x1024 .bf16) (x1 : Vec Ideal S1x512x1024 .f32) (x2 x3 : Vec Ideal S1024x2048 .bf16) (x4 : Vec Ideal S1x512x2048 .f32)
    (x5 : Vec Ideal S1x1x2048 .f32) (r : Fin 512) (n : Fin 2048) :
    out0_6 (F := Ideal) x0 x1 x2 x3 x4 x5 (ix3 0 r n)
      = (x4 (ix3 0 r n) : EReal) + x5 (ix3 0 0 n)
        * (∑ k : Fin 1024, (x0 (ix3 0 r k) : EReal) * x2 (ix2 k n) + ∑ k : Fin 1024, (x1 (ix3 0 r k) : EReal) * x3 (ix2 k n)) := by
  unfold out0_6
  canon_tiles x h
  pointwise [k0_pay1]
  obtain rfl : r = x 1 := Fin.ext h1
  obtain rfl : n = x 2 := Fin.ext h2
  rfl

theorem index0 : ∀ t : Fin cfg0.N, win0_0.index t 0 = t.val / 16 ∧ win0_0.index t 1 = t.val % 16 ∧ win0_0.index t 2 = 0 := by decide +kernel
theorem index1 : ∀ t : Fin cfg0.N, win0_1.index t 0 = t.val / 16 ∧ win0_1.index t 1 = t.val % 16 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 1 ∧ win0_3.index t 1 = 0 := by decide +kernel
theorem index4 : ∀ t : Fin cfg0.N, win0_4.index t 0 = t.val / 16 ∧ win0_4.index t 1 = t.val % 16 ∧ win0_4.index t 2 = 0 := by decide +kernel
theorem index5 : ∀ t : Fin cfg0.N, win0_5.index t 0 = t.val / 16 ∧ win0_5.index t 1 = 0 ∧ win0_5.index t 2 = 0 := by decide +kernel
theorem index6 : ∀ t : Fin cfg0.N, win0_6.index t 0 = t.val / 16 ∧ win0_6.index t 1 = t.val % 16 ∧ win0_6.index t 2 = 0 := by decide +kernel

variable (m : (ℓ : Loc nD τ sig) → Buf (Elt Ideal) ℓ) (c : Dev nD)

/-- The image of a grid point. -/
def image (t : Fin cfg0.N) : Fin 4 := ⟨t.val / 16, by have : t.val < 64 := t.isLt; omega⟩
/-- The position of a grid point's row `r`. -/
def row (t : Fin cfg0.N) (r : Fin 512) : Fin 8192 := ⟨t.val % 16 * 512 + r.val, by omega⟩

/-- The host's cast of the weights. -/
theorem weights_eq : (V m c main_v0 : S2048x2048.Idx → EReal) = m (c, Proc.tc.devRef main_arg2) := by
  show StableHlo.after _ _ _ = _
  after_reads_simp
  rfl

theorem block0_at (t : Fin cfg0.N) (r : Fin 512) (k : Fin 1024) :
    (iblk m c 0 t (ix3 0 r k) : EReal) = (m (c, Proc.tc.devRef main_arg0) : S4x8192x1024.Idx → EReal) (ix3 (image t) (row t r) k) := by
  obtain ⟨e0, e1, e2⟩ := index0 t
  blk_ext [iblk, image, row] <;> simp only [e0, e1, e2] <;> omega
theorem block1_at (t : Fin cfg0.N) (r : Fin 512) (k : Fin 1024) :
    (iblk m c 1 t (ix3 0 r k) : EReal) = (m (c, Proc.tc.devRef main_arg1) : S4x8192x1024.Idx → EReal) (ix3 (image t) (row t r) k) := by
  obtain ⟨e0, e1, e2⟩ := index1 t
  blk_ext [iblk, image, row] <;> simp only [e0, e1, e2] <;> omega
theorem block2_at (t : Fin cfg0.N) (k : Fin 1024) (n : Fin 2048) :
    (iblk m c 2 t (ix2 k n) : EReal) = (m (c, Proc.tc.devRef main_arg2) : S2048x2048.Idx → EReal) (ix2 ⟨k.val, by omega⟩ n) := by
  obtain ⟨e0, e1⟩ := index2 t
  rw [← weights_eq m c]
  blk_ext [iblk] <;> simp only [e0, e1] <;> omega
theorem block3_at (t : Fin cfg0.N) (k : Fin 1024) (n : Fin 2048) :
    (iblk m c 3 t (ix2 k n) : EReal) = (m (c, Proc.tc.devRef main_arg2) : S2048x2048.Idx → EReal) (ix2 ⟨1024 + k.val, by omega⟩ n) := by
  obtain ⟨e0, e1⟩ := index3 t
  rw [← weights_eq m c]
  blk_ext [iblk] <;> simp only [e0, e1] <;> omega
theorem block4_at (t : Fin cfg0.N) (r : Fin 512) (k : Fin 2048) :
    (iblk m c 4 t (ix3 0 r k) : EReal) = (m (c, Proc.tc.devRef main_arg3) : S4x8192x2048.Idx → EReal) (ix3 (image t) (row t r) k) := by
  obtain ⟨e0, e1, e2⟩ := index4 t
  blk_ext [iblk, image, row] <;> simp only [e0, e1, e2] <;> omega
theorem block5_at (t : Fin cfg0.N) (k : Fin 2048) :
    (iblk m c 5 t (ix3 0 0 k) : EReal) = (m (c, Proc.tc.devRef main_arg4) : S4x1x2048.Idx → EReal) (ix3 (image t) 0 k) := by
  obtain ⟨e0, e1, e2⟩ := index5 t
  blk_ext [iblk, image] <;> simp only [e0, e1, e2] <;> omega
theorem place_at (t : Fin cfg0.N) (r : Fin 512) (n : Fin 2048) : (win0_6.blk t).view.emb (ix3 0 r n) = (ix3 (image t) (row t r) n : S4x8192x2048.Idx) := by
  obtain ⟨e0, e1, e2⟩ := index6 t
  blk_ext [image, row] <;> simp only [e0, e1, e2] <;> omega

/-- The kernel's result is the reference's. -/
theorem final : ((dats m 0 c).arrAt 6 cfg0.N : S4x8192x2048.Idx → EReal)
    = Cert.OutTwoReferenceIdeal.Hand.result (m (c, Proc.tc.devRef main_arg0)) (m (c, Proc.tc.devRef main_arg1)) (m (c, Proc.tc.devRef main_arg2))
      (m (c, Proc.tc.devRef main_arg3)) (m (c, Proc.tc.devRef main_arg4)) := by
  refine (dats m 0 c).arrAt_eq_of_covers 6 _ (by decide +kernel) fun t _ y => ?_
  blk_simp
  rw [after0_6]
  idx_vars y
  obtain rfl : y0 = 0 := by omega
  rw [out_at]
  refine Eq.trans ?_ (congrArg _ (place_at t y1 y2).symm)
  rw [Cert.OutTwoReferenceIdeal.Hand.result_at, block4_at, block5_at]
  simp only [block0_at, block1_at, block2_at, block3_at]

end Cert.OutTwoKernelIdeal.Hand

end
-- ==== Proof.L.Final.lean ====
module

public import proofs.«01_k».proof.Proof.Gen.FinalKernelIdeal.Value
public import proofs.«01_k».proof.Proof.Gen.FinalReferenceIdeal.Run
public import proofs.«01_k».proof.Proof.L.Norm
public import Idealize.ShloMosaic.Lib.Pointwise
public import Idealize.ShloMosaic.Lib.Pipeline.ValueKit
public import Idealize.ShloMosaic.Lib.StableHlo.RunRead

/-! The last norm: every row divided by its root mean square and scaled, in kernel and reference. -/

@[expose] public section

set_option maxRecDepth 16384

noncomputable section

namespace Cert.FinalReferenceIdeal.Hand

open Cert.FinalReferenceIdeal Cert.FinalReferenceIdeal.Gen Idealize.ShloMosaic Idealize.ShloMosaic.TcCoe Idealize.SL.Sem
open Cert.Norm (scaled)

/-- What the reference computes of its arguments. -/
def result (X : FVec Ideal S4x8192x2048 .f32) (G : FVec Ideal S2048 .f32) : FVec Ideal S4x8192x2048 .f32 :=
  mulf (mulf X (broadcastInDim S4x8192x2048 ![0, 1, 2] bcast_S4x8192x1_S4x8192x2048_0_1_2 (Host.rsqrt (addf
      (Host.divf (broadcastInDim S4x8192x1 ![0, 1] bcast_S4x8192_S4x8192x1_0_1
          (Host.reduceAdd (mulf X X) (constant S_ .f32 0x00000000#32) reducesTo_S4x8192x2048_S4x8192_d2 h_S_))
        (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 G))

/-- The reference's result at an index. -/
theorem result_at (X : FVec Ideal S4x8192x2048 .f32) (G : FVec Ideal S2048 .f32) (b : Fin 4) (r : Fin 8192) (n : Fin 2048) :
    result X G (ix3 b r n) = scaled (X (ix3 b r n)) (fun k => X (ix3 b r k)) * G (ix1 n) := by
  pointwise [result, scaled]

end Cert.FinalReferenceIdeal.Hand

namespace Cert.FinalKernelIdeal.Hand

open Cert.FinalKernelIdeal Cert.FinalKernelIdeal.Gen Idealize.ShloMosaic Idealize.ShloMosaic.TcCoe Idealize.SL.Sem
open Cert.Norm (scaled)

/-- What a grid point stores, at an index. -/
theorem out_at (x0 : Vec Ideal S1x512x2048 .f32) (x1 : Vec Ideal S1x2048 .f32) (r : Fin 512) (n : Fin 2048) :
    out0_2 (F := Ideal) x0 x1 (ix3 0 r n) = scaled (x0 (ix3 0 r n)) (fun k => x0 (ix3 0 r k)) * x1 (ix2 0 n) := by
  unfold out0_2
  canon_tiles x h
  pointwise [k0_pay1, scaled]
  obtain rfl : r = x 1 := Fin.ext h1
  obtain rfl : n = x 2 := Fin.ext h2
  rfl

theorem index0 : ∀ t : Fin cfg0.N, win0_0.index t 0 = t.val / 16 ∧ win0_0.index t 1 = t.val % 16 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 16 ∧ win0_2.index t 1 = t.val % 16 ∧ win0_2.index t 2 = 0 := by decide +kernel

variable (m : (ℓ : Loc nD τ sig) → Buf (Elt Ideal) ℓ) (c : Dev nD)

/-- The image of a grid point. -/
def image (t : Fin cfg0.N) : Fin 4 := ⟨t.val / 16, by have : t.val < 64 := t.isLt; omega⟩
/-- The position of a grid point's row `r`. -/
def row (t : Fin cfg0.N) (r : Fin 512) : Fin 8192 := ⟨t.val % 16 * 512 + r.val, by omega⟩

/-- The host's reshape of the scales. -/
theorem scale_at (n : Fin 2048) : (V m c main_v0 : S1x2048.Idx → EReal) (ix2 0 n) = (m (c, Proc.tc.devRef main_arg1) : S2048.Idx → EReal) (ix1 n) := by
  have e : (V m c main_v0 : FVec Ideal S1x2048 .f32) = shapeCast S1x2048 (m (c, Proc.tc.devRef main_arg1) : FVec Ideal S2048 .f32) shapeCasts_S2048_S1x2048 := by
    show StableHlo.after _ _ _ = _
    after_reads_simp
    rfl
  rw [e]
  pointwise

theorem block0_at (t : Fin cfg0.N) (r : Fin 512) (k : Fin 2048) :
    (iblk m c 0 t (ix3 0 r k) : EReal) = (m (c, Proc.tc.devRef main_arg0) : S4x8192x2048.Idx → EReal) (ix3 (image t) (row t r) k) := by
  obtain ⟨e0, e1, e2⟩ := index0 t
  blk_ext [iblk, image, row] <;> simp only [e0, e1, e2] <;> omega
theorem block1_at (t : Fin cfg0.N) (n : Fin 2048) :
    (iblk m c 1 t (ix2 0 n) : EReal) = (m (c, Proc.tc.devRef main_arg1) : S2048.Idx → EReal) (ix1 n) := by
  obtain ⟨e0, e1⟩ := index1 t
  rw [← scale_at m c]
  blk_ext [iblk] <;> simp only [e0, e1] <;> omega
theorem place_at (t : Fin cfg0.N) (r : Fin 512) (n : Fin 2048) : (win0_2.blk t).view.emb (ix3 0 r n) = (ix3 (image t) (row t r) n : S4x8192x2048.Idx) := by
  obtain ⟨e0, e1, e2⟩ := index2 t
  blk_ext [image, row] <;> simp only [e0, e1, e2] <;> omega

/-- The kernel's result is the reference's. -/
theorem final : ((dats m 0 c).arrAt 2 cfg0.N : S4x8192x2048.Idx → EReal)
    = Cert.FinalReferenceIdeal.Hand.result (m (c, Proc.tc.devRef main_arg0)) (m (c, Proc.tc.devRef main_arg1)) := by
  refine (dats m 0 c).arrAt_eq_of_covers 2 _ (by decide +kernel) fun t _ y => ?_
  blk_simp
  rw [after0_2]
  idx_vars y
  obtain rfl : y0 = 0 := by omega
  rw [out_at]
  refine Eq.trans ?_ (congrArg _ (place_at t y1 y2).symm)
  rw [Cert.FinalReferenceIdeal.Hand.result_at, block1_at]
  simp only [block0_at]

end Cert.FinalKernelIdeal.Hand

end
-- ==== Proof.L.Gate.lean ====
module

public import proofs.«01_k».proof.Proof.Gen.GateKernelIdeal.Value
public import proofs.«01_k».proof.Proof.Gen.GateReferenceIdeal.Run
public import Idealize.ShloMosaic.Lib.Pointwise
public import Idealize.ShloMosaic.Lib.Pipeline.ValueKit
public import Idealize.ShloMosaic.Lib.StableHlo.RunRead

/-! The output of the linear attention: both directions added, every head divided by its root mean square and scaled, and the gate, in kernel and
reference. -/

@[expose] public section

set_option maxRecDepth 16384

noncomputable section

namespace Cert.GateReferenceIdeal.Hand

open Cert.GateReferenceIdeal Cert.GateReferenceIdeal.Gen Idealize.ShloMosaic Idealize.ShloMosaic.TcCoe Idealize.SL.Sem

/-- The `k`-th column of the head that column `n` belongs to. -/
def mate (n : Fin 1024) (k : Fin 256) : Fin 1024 := ⟨n.val / 256 * 256 + k.val, by omega⟩
/-- An entry of a row over the root mean square of the row's entries at `f`. -/
def normal (o : Fin 1024 → EReal) (n : Fin 1024) (f : Fin 256 → Fin 1024) : EReal :=
  o n * Ideal.rsqrt (Ideal.div (∑ k : Fin 256, o (f k) * o (f k)) (Ideal.ofBits .f32 0x43800000#32) + Ideal.ofBits .f32 0x358637BD#32)
/-- An entry of a row over the root mean square of its head, scaled, and gated by `g` times its logistic. -/
def gated (o : Fin 1024 → EReal) (n : Fin 1024) (w g : EReal) : EReal :=
  normal o n (mate n) * w * (g * Ideal.div 1 (1 + Ideal.exp (-g)))

/-- Both directions' sum by heads. -/
def both (A B : FVec Ideal S4x8192x1024 .f32) : FVec Ideal S4x8192x4x256 .f32 := shapeCast _ (addf A B) shapeCasts_S4x8192x1024_S4x8192x4x256
/-- The heads normalised. -/
def normed (O : FVec Ideal S4x8192x4x256 .f32) : FVec Ideal S4x8192x4x256 .f32 :=
  mulf O (broadcastInDim S4x8192x4x256 ![0, 1, 2, 3] bcast_S4x8192x4x1_S4x8192x4x256_0_1_2_3 (Host.rsqrt (addf
    (Host.divf (broadcastInDim S4x8192x4x1 ![0, 1, 2] bcast_S4x8192x4_S4x8192x4x1_0_1_2
        (Host.reduceAdd (mulf O O) (constant S_ .f32 0x00000000#32) reducesTo_S4x8192x4x256_S4x8192x4_d3 h_S_))
      (broadcastInDim S4x8192x4x1 ![] bcast_S_S4x8192x4x1 (constant S_ .f32 0x43800000#32)))
    (broadcastInDim S4x8192x4x1 ![] bcast_S_S4x8192x4x1 (constant S_ .f32 0x358637BD#32)))))
/-- The gate's columns. -/
def gate (P : FVec Ideal S4x8192x4096 .bf16) : FVec Ideal S4x8192x1024 .f32 :=
  extf .f32 (extractStridedSlice S4x8192x1024 ![0, 0, 2048] P slices_S4x8192x4096_S4x8192x1024_0_0_2048) bitsLt_bf16_f32
/-- What the reference computes of its arguments. -/
def result (A B : FVec Ideal S4x8192x1024 .f32) (P : FVec Ideal S4x8192x4096 .bf16) (W : FVec Ideal S1024 .f32) : FVec Ideal S4x8192x1024 .bf16 :=
  truncf .bf16 (mulf (mulf (shapeCast _ (normed (both A B)) shapeCasts_S4x8192x4x256_S4x8192x1024)
      (broadcastInDim S4x8192x1024 ![0, 1, 2] bcast_S1x1x1024_S4x8192x1024_0_1_2 (broadcastInDim S1x1x1024 ![2] bcast_S1024_S1x1x1024_2 W)))
    (mulf (gate P) (Host.divf (broadcastInDim S4x8192x1024 ![] bcast_S_S4x8192x1024 (constant S_ .f32 0x3F800000#32))
      (addf (broadcastInDim S4x8192x1024 ![] bcast_S_S4x8192x1024 (constant S_ .f32 0x3F800000#32)) (Host.exp (Host.negf (gate P))))))) bitsLt_bf16_f32

theorem both_at (A B : FVec Ideal S4x8192x1024 .f32) (b : Fin 4) (r : Fin 8192) (h : Fin 4) (k : Fin 256) :
    both A B (ix4 b r h k) = (A (ix3 b r ⟨h.val * 256 + k.val, by omega⟩) : EReal) + B (ix3 b r ⟨h.val * 256 + k.val, by omega⟩) := by
  pointwise [both]
theorem normed_at (O : FVec Ideal S4x8192x4x256 .f32) (b : Fin 4) (r : Fin 8192) (h : Fin 4) (k : Fin 256) :
    normed O (ix4 b r h k) = (O (ix4 b r h k) : EReal) * Ideal.rsqrt (Ideal.div (∑ l : Fin 256, (O (ix4 b r h l) : EReal) * O (ix4 b r h l))
      (Ideal.ofBits .f32 0x43800000#32) + Ideal.ofBits .f32 0x358637BD#32) := by
  pointwise [normed]

/-- The reference's result at an index. -/
theorem result_at (A B : FVec Ideal S4x8192x1024 .f32) (P : FVec Ideal S4x8192x4096 .bf16) (W : FVec Ideal S1024 .f32) (b : Fin 4) (r : Fin 8192)
    (n : Fin 1024) :
    result A B P W (ix3 b r n) = gated (fun k => (A (ix3 b r k) : EReal) + B (ix3 b r k)) n (W (ix1 n)) (P (ix3 b r ⟨2048 + n.val, by omega⟩)) := by
  have e : result A B P W (ix3 b r n) = (normed (both A B) (ix4 b r ⟨n.val / 256, by omega⟩ ⟨n.val % 256, by omega⟩) : EReal) * W (ix1 n)
      * ((P (ix3 b r ⟨2048 + n.val, by omega⟩) : EReal) * Ideal.div 1 (1 + Ideal.exp (-(P (ix3 b r ⟨2048 + n.val, by omega⟩) : EReal)))) := by
    unfold result
    generalize normed (both A B) = N
    pointwise [gate]
  rw [e, normed_at]
  simp only [both_at]
  have hn : (⟨n.val / 256 * 256 + n.val % 256, by omega⟩ : Fin 1024) = n := Fin.ext (by dsimp only; omega)
  simp only [hn]
  rfl

end Cert.GateReferenceIdeal.Hand

namespace Cert.GateKernelIdeal.Hand

open Cert.GateKernelIdeal Cert.GateKernelIdeal.Gen Idealize.ShloMosaic Idealize.ShloMosaic.TcCoe Idealize.SL.Sem
open Cert.GateReferenceIdeal.Hand (mate normal gated)

/-- What a grid point stores, at an index. -/
theorem out_at (x0 x1 : Vec Ideal S1x256x1024 .f32) (x2 : Vec Ideal S1x256x1024 .bf16) (x3 : Vec Ideal S1x1024 .f32) (r : Fin 256) (n : Fin 1024) :
    out0_4 (F := Ideal) x0 x1 x2 x3 (ix3 0 r n)
      = gated (fun k => (x0 (ix3 0 r k) : EReal) + x1 (ix3 0 r k)) n (x3 (ix2 0 n)) (x2 (ix3 0 r n)) := by
  unfold out0_4
  canon_tiles x h
  obtain rfl : r = x 1 := Fin.ext h1
  obtain rfl : n = x 2 := Fin.ext h2
  let s : Fin 1024 → EReal := fun k => (x0 (ix3 0 (x 1) k) : EReal) + x1 (ix3 0 (x 1) k)
  pointwise [k0_pay1, k0_pay2, k0_pay3, k0_pay4, k0_pay5, k0_pay6, k0_pay7, gated, normal, mate]
  have head : ∀ (j : Fin 1024) (f : Fin 256 → Fin 1024), j.val = (x 2).val → (∀ k, (f k).val = (x 2).val / 256 * 256 + k.val) →
      normal s j f = normal s (x 2) (mate (x 2)) := fun j f h hf => by
    rw [show j = x 2 from Fin.ext h, show f = mate (x 2) from funext fun k => Fin.ext (hf k)]
  have hx : (x 2).val < 1024 := (x 2).isLt
  refine congrArg₂ (· * ·) (congrArg (· * _) ?_) rfl
  repeat' split
  all_goals refine head _ (fun k => ⟨_, _⟩) ?_ fun k => ?_
  all_goals (try dsimp only) <;> omega

theorem index0 : ∀ t : Fin cfg0.N, win0_0.index t 0 = t.val / 32 ∧ win0_0.index t 1 = t.val % 32 ∧ win0_0.index t 2 = 0 := by decide +kernel
theorem index1 : ∀ t : Fin cfg0.N, win0_1.index t 0 = t.val / 32 ∧ win0_1.index t 1 = t.val % 32 ∧ win0_1.index t 2 = 0 := by decide +kernel
theorem index2 : ∀ t : Fin cfg0.N, win0_2.index t 0 = t.val / 32 ∧ win0_2.index t 1 = t.val % 32 ∧ win0_2.index t 2 = 2 := by decide +kernel
theorem index3 : ∀ t : Fin cfg0.N, win0_3.index t 0 = 0 ∧ win0_3.index t 1 = 0 := by decide +kernel
theorem index4 : ∀ t : Fin cfg0.N, win0_4.index t 0 = t.val / 32 ∧ win0_4.index t 1 = t.val % 32 ∧ win0_4.index t 2 = 0 := by decide +kernel

variable (m : (ℓ : Loc nD τ sig) → Buf (Elt Ideal) ℓ) (c : Dev nD)

/-- The image of a grid point. -/
def image (t : Fin cfg0.N) : Fin 4 := ⟨t.val / 32, by have : t.val < 128 := t.isLt; omega⟩
/-- The position of a grid point's row `r`. -/
def row (t : Fin cfg0.N) (r : Fin 256) : Fin 8192 := ⟨t.val % 32 * 256 + r.val, by omega⟩

/-- The host's reshape of the scales. -/
theorem scale_at (n : Fin 1024) : (V m c main_v0 : S1x1024.Idx → EReal) (ix2 0 n) = (m (c, Proc.tc.devRef main_arg3) : S1024.Idx → EReal) (ix1 n) := by
  have e : (V m c main_v0 : FVec Ideal S1x1024 .f32) = shapeCast S1x1024 (m (c, Proc.tc.devRef main_arg3) : FVec Ideal S1024 .f32) shapeCasts_S1024_S1x1024 := by
    show StableHlo.after _ _ _ = _
    after_reads_simp
    rfl
  rw [e]
  pointwise

theorem block0_at (t : Fin cfg0.N) (r : Fin 256) (k : Fin 1024) :
    (iblk m c 0 t (ix3 0 r k) : EReal) = (m (c, Proc.tc.devRef main_arg0) : S4x8192x1024.Idx → EReal) (ix3 (image t) (row t r) k) := by
  obtain ⟨e0, e1, e2⟩ := index0 t
  blk_ext [iblk, image, row] <;> simp only [e0, e1, e2] <;> omega
theorem block1_at (t : Fin cfg0.N) (r : Fin 256) (k : Fin 1024) :
    (iblk m c 1 t (ix3 0 r k) : EReal) = (m (c, Proc.tc.devRef main_arg1) : S4x8192x1024.Idx → EReal) (ix3 (image t) (row t r) k) := by
  obtain ⟨e0, e1, e2⟩ := index1 t
  blk_ext [iblk, image, row] <;> simp only [e0, e1, e2] <;> omega
theorem block2_at (t : Fin cfg0.N) (r : Fin 256) (k : Fin 1024) :
    (iblk m c 2 t (ix3 0 r k) : EReal) = (m (c, Proc.tc.devRef main_arg2) : S4x8192x4096.Idx → EReal) (ix3 (image t) (row t r) ⟨2048 + k.val, by omega⟩) := by
  obtain ⟨e0, e1, e2⟩ := index2 t
  blk_ext [iblk, image, row] <;> simp only [e0, e1, e2] <;> omega
theorem block3_at (t : Fin cfg0.N) (n : Fin 1024) :
    (iblk m c 3 t (ix2 0 n) : EReal) = (m (c, Proc.tc.devRef main_arg3) : S1024.Idx → EReal) (ix1 n) := by
  obtain ⟨e0, e1⟩ := index3 t
  rw [← scale_at m c]
  blk_ext [iblk] <;> simp only [e0, e1] <;> omega
theorem place_at (t : Fin cfg0.N) (r : Fin 256) (n : Fin 1024) : (win0_4.blk t).view.emb (ix3 0 r n) = (ix3 (image t) (row t r) n : S4x8192x1024.Idx) := by
  obtain ⟨e0, e1, e2⟩ := index4 t
  blk_ext [image, row] <;> simp only [e0, e1, e2] <;> omega

/-- The kernel's result is the reference's. -/
theorem final : ((dats m 0 c).arrAt 4 cfg0.N : S4x8192x1024.Idx → EReal)
    = Cert.GateReferenceIdeal.Hand.result (m (c, Proc.tc.devRef main_arg0)) (m (c, Proc.tc.devRef main_arg1)) (m (c, Proc.tc.devRef main_arg2))
      (m (c, Proc.tc.devRef main_arg3)) := by
  refine (dats m 0 c).arrAt_eq_of_covers 4 _ (by decide +kernel) fun t _ y => ?_
  blk_simp
  rw [after0_4]
  idx_vars y
  obtain rfl : y0 = 0 := by omega
  rw [out_at]
  refine Eq.trans ?_ (congrArg _ (place_at t y1 y2).symm)
  rw [Cert.GateReferenceIdeal.Hand.result_at, block3_at, block2_at]
  simp only [block0_at, block1_at]

end Cert.GateKernelIdeal.Hand

end
-- ==== Proof.L.Ada.lean ====
module

public import proofs.«01_k».proof.Proof.Gen.AdaKernelIdeal.Value
public import proofs.«01_k».proof.Proof.Gen.AdaReferenceIdeal.Run
public import Idealize.ShloMosaic.Lib.Pointwise
public import Idealize.ShloMosaic.Lib.Pipeline.ValueKit
public import Idealize.ShloMosaic.Lib.StableHlo.RunRead

/-! The modulation vectors of all layers: the conditioning vectors, each times its logistic, multiplied by the weights, and the bias added. -/

@[expose] public section

set_option maxRecDepth 16384

noncomputable section

namespace Cert.AdaReferenceIdeal.Hand

open Cert.AdaReferenceIdeal Cert.AdaReferenceIdeal.Gen Idealize.ShloMosaic Idealize.ShloMosaic.TcCoe Idealize.SL.Sem

/-- The conditioning vectors: one for each image, that of the context, and three rows of zeros. -/
def cond (C : FVec Ideal S4x2048 .f32) (D : FVec Ideal S2048 .f32) : FVec Ideal S8x2048 .f32 :=
  concatenate S8x2048 0 [⟨S4x2048, (C : FVec Ideal S4x2048 .f32)⟩, ⟨S1x2048, (broadcastInDim S1x2048 ![1] bcast_S2048_S1x2048_1 D : FVec Ideal S1x2048 .f32)⟩,
    ⟨S3x2048, (broadcastInDim S3x2048 ![] bcast_S_S3x2048 (constant S_ .f32 0x00000000#32) : FVec Ideal S3x2048 .f32)⟩]
    concatenates_S4x2048_S1x2048_S3x2048_S8x2048_d0
/-- What the reference computes of the vectors, the weights and the bias. -/
def result (U : FVec Ideal S8x2048 .f32) (W : FVec Ideal S4x2048x12288 .f32) (B : FVec Ideal S4x12288 .f32) : FVec Ideal S4x8x12288 .f32 :=
  addf (transpose S4x8x12288 [0, 2, 1] (Host.dotGeneral dot_S4x2048x12288_S8x2048_S4x12288x8_1_1_02_0_n_n none W
      (mulf U (Host.divf (broadcastInDim S8x2048 ![] bcast_S_S8x2048 (constant S_ .f32 0x3F800000#32))
        (addf (broadcastInDim S8x2048 ![] bcast_S_S8x2048 (constant S_ .f32 0x3F800000#32)) (Host.exp (Host.negf U)))))) transposes_S4x12288x8_S4x8x12288_0_2_1)
    (broadcastInDim S4x8x12288 ![0, 1, 2] bcast_S4x1x12288_S4x8x12288_0_1_2 (broadcastInDim S4x1x12288 ![0, 2] bcast_S4x12288_S4x1x12288_0_2 B))

/-- The reference's result at an index. -/
theorem result_at (U : FVec Ideal S8x2048 .f32) (W : FVec Ideal S4x2048x12288 .f32) (B : FVec Ideal S4x12288 .f32) (l : Fin 4) (r : Fin 8) (n : Fin 12288) :
    result U W B (ix3 l r n) = (∑ k : Fin 2048, (U (ix2 r k) : EReal) * Ideal.logistic (U (ix2 r k)) * W (ix3 l k n)) + B (ix2 l n) := by
  have e : result U W B (ix3 l r n) = (∑ k : Fin 2048, (W (ix3 l k n) : EReal) * ((U (ix2 r k) : EReal) * Ideal.div 1 (1 + Ideal.exp (-(U (ix2 r k) : EReal))))) + B (ix2 l n) := by
    pointwise [result]
  rw [e]
  exact congrArg (· + _) (Finset.sum_congr rfl fun k _ => mul_comm _ _)

end Cert.AdaReferenceIdeal.Hand

namespace Cert.AdaKernelIdeal.Hand

open Cert.AdaKernelIdeal Cert.AdaKernelIdeal.Gen Idealize.ShloMosaic Idealize.ShloMosaic.TcCoe Idealize.SL.Sem

/-- What a grid point stores, at an index. -/
theorem out_at (x0 : Vec Ideal S8x2048 .f32) (x1 : Vec Ideal S1x2048x1024 .f32) (x2 : Vec Ideal S1x1x1024 .f32) (r : Fin 8) (n : Fin 1024) :
    out0_3 (F := Ideal) x0 x1 x2 (ix3 0 r n)
      = (∑ k : Fin 2048, (x0 (ix2 r k) : EReal) * Ideal.logistic (x0 (ix2 r k)) * x1 (ix3 0 k n)) + x2 (ix3 0 0 n) := by
  unfold out0_3
  canon_tiles x h
  pointwise [k0_pay1]
  obtain rfl : r = x 1 := Fin.ext h1
  obtain rfl : n = x 2 := Fin.ext h2
  rfl

theorem index0 : ∀ t : Fin cfg0.N, win0_0.index t 0 = 0 ∧ win0_0.index t 1 = 0 := by decide +kernel
theorem index1 : ∀ t : Fin cfg0.N, win0_1.index t 0 = t.val / 12 ∧ win0_1.index t 1 = 0 ∧ win0_1.index t 2 = t.val % 12 := by decide +kernel
theorem index2 : ∀ t : Fin cfg0.N, win0_2.index t 0 = t.val / 12 ∧ win0_2.index t 1 = 0 ∧ win0_2.index t 2 = t.val % 12 := by decide +kernel
theorem index3 : ∀ t : Fin cfg0.N, win0_3.index t 0 = t.val / 12 ∧ win0_3.index t 1 = 0 ∧ win0_3.index t 2 = t.val % 12 := by decide +kernel

variable (m : (ℓ : Loc nD τ sig) → Buf (Elt Ideal) ℓ) (c : Dev nD)

/-- The layer of a grid point. -/
def layer (t : Fin cfg0.N) : Fin 4 := ⟨t.val / 12, by have : t.val < 48 := t.isLt; omega⟩
/-- The position of a grid point's column `n`. -/
def col (t : Fin cfg0.N) (n : Fin 1024) : Fin 12288 := ⟨t.val % 12 * 1024 + n.val, by omega⟩

/-- The conditioning vectors, as the host lays them out. -/
theorem cond_eq : (V m c main_v2 : S8x2048.Idx → EReal)
    = Cert.AdaReferenceIdeal.Hand.cond (m (c, Proc.tc.devRef main_arg0)) (m (c, Proc.tc.devRef main_arg1)) := by
  show StableHlo.after _ _ _ = _
  after_reads_simp
  rfl
/-- The host's reshape of the bias. -/
theorem bias_at (l : Fin 4) (n : Fin 12288) : (V m c main_v3 : S4x1x12288.Idx → EReal) (ix3 l 0 n) = (m (c, Proc.tc.devRef main_arg3) : S4x12288.Idx → EReal) (ix2 l n) := by
  have e : (V m c main_v3 : FVec Ideal S4x1x12288 .f32) = shapeCast S4x1x12288 (m (c, Proc.tc.devRef main_arg3) : FVec Ideal S4x12288 .f32) shapeCasts_S4x12288_S4x1x12288 := by
    show StableHlo.after _ _ _ = _
    after_reads_simp
    rfl
  rw [e]
  have e2 : (S4x12288.rowMajor (ix2 l n)).val = l.val * 12288 + n.val := Shape.rowMajor_val_two _
  have e3 : (S4x1x12288.rowMajor (ix3 l 0 n)).val = (l.val * 1 + 0) * 12288 + n.val := Shape.rowMajor_val_three _
  exact shapeCast_apply _ _ _ _ (e2.trans (Eq.trans (by omega) e3.symm))

theorem block0_at (t : Fin cfg0.N) (r : Fin 8) (k : Fin 2048) :
    (iblk m c 0 t (ix2 r k) : EReal) = Cert.AdaReferenceIdeal.Hand.cond (m (c, Proc.tc.devRef main_arg0)) (m (c, Proc.tc.devRef main_arg1)) (ix2 r k) := by
  obtain ⟨e0, e1⟩ := index0 t
  rw [← cond_eq m c]
  blk_ext [iblk] <;> simp only [e0, e1] <;> omega
theorem block1_at (t : Fin cfg0.N) (k : Fin 2048) (n : Fin 1024) :
    (iblk m c 1 t (ix3 0 k n) : EReal) = (m (c, Proc.tc.devRef main_arg2) : S4x2048x12288.Idx → EReal) (ix3 (layer t) k (col t n)) := by
  obtain ⟨e0, e1, e2⟩ := index1 t
  blk_ext [iblk, layer, col] <;> simp only [e0, e1, e2] <;> omega
theorem block2_at (t : Fin cfg0.N) (n : Fin 1024) :
    (iblk m c 2 t (ix3 0 0 n) : EReal) = (m (c, Proc.tc.devRef main_arg3) : S4x12288.Idx → EReal) (ix2 (layer t) (col t n)) := by
  obtain ⟨e0, e1, e2⟩ := index2 t
  rw [← bias_at m c]
  blk_ext [iblk, layer, col] <;> simp only [e0, e1, e2] <;> omega
theorem place_at (t : Fin cfg0.N) (r : Fin 8) (n : Fin 1024) : (win0_3.blk t).view.emb (ix3 0 r n) = (ix3 (layer t) r (col t n) : S4x8x12288.Idx) := by
  obtain ⟨e0, e1, e2⟩ := index3 t
  blk_ext [layer, col] <;> simp only [e0, e1, e2] <;> omega

/-- The kernel's result is the reference's. -/
theorem final : ((dats m 0 c).arrAt 3 cfg0.N : S4x8x12288.Idx → EReal)
    = Cert.AdaReferenceIdeal.Hand.result (Cert.AdaReferenceIdeal.Hand.cond (m (c, Proc.tc.devRef main_arg0)) (m (c, Proc.tc.devRef main_arg1)))
      (m (c, Proc.tc.devRef main_arg2)) (m (c, Proc.tc.devRef main_arg3)) := by
  refine (dats m 0 c).arrAt_eq_of_covers 3 _ (by decide +kernel) fun t _ y => ?_
  blk_simp
  rw [after0_3]
  idx_vars y
  obtain rfl : y0 = 0 := by omega
  rw [out_at]
  refine Eq.trans ?_ (congrArg _ (place_at t y1 y2).symm)
  rw [Cert.AdaReferenceIdeal.Hand.result_at, block2_at]
  simp only [block0_at, block1_at]

end Cert.AdaKernelIdeal.Hand

end
-- ==== Proof.L.Ctx.lean ====
module

public import proofs.«01_k».proof.Proof.Gen.CtxKernelIdeal.Value
public import proofs.«01_k».proof.Proof.Gen.CtxReferenceIdeal.Run
public import proofs.«01_k».proof.Proof.K.Final
public import proofs.«01_k».proof.Pre_finite_ctx
public import Idealize.ShloMosaic.Lib.Pointwise
public import Idealize.ShloMosaic.Lib.Pipeline.ValueKit
public import Idealize.ShloMosaic.Lib.StableHlo.RunRead

/-! The attention of the context over itself: eight heads at a grid point, the weights divided out at the end in the kernel and at each term in the reference. -/

@[expose] public section

set_option maxRecDepth 16384

noncomputable section

namespace Cert.Pre_finite_ctx.Hand

open Cert.Pre_finite_ctx Idealize.ShloMosaic Cert.Pre_finite_ctx.Facts

/-- The side conditions of the finiteness predicate. -/
theorem facts : Cert.Pre_finite_ctx.Facts where
  bitsLt_bf16_f32 := by decide
  bcast_S_S4x256x6144 := by decide
  reducesTo_S4x256x6144_S_d0_1_2 := by decide
  h_S_ := by decide

variable [Cert.Pre_finite_ctx.Facts]

/-- The precondition: the array holds reals. -/
theorem fn_reals (A : FVec Ideal S4x256x6144 .bf16) (h : fn (F := Ideal) A = fun _ => 1#1) : ∃ a : S4x256x6144.Idx → ℝ, A = fun i => (a i : EReal) := by
  unfold fn at h
  dsimp only at h
  exact Cert.Pre_all_finite.Hand.reals _ _ (Cert.Pre_all_finite.Hand.top_at _) _ _ _ _ _ (congrFun h (fun d => d.elim0))

end Cert.Pre_finite_ctx.Hand

namespace Cert.Window

open Idealize.ShloMosaic

/-- A softmax-weighted sum, the weights divided out at the end or at each term. -/
theorem softmax_sum {ι : Type} [Fintype ι] [Nonempty ι] (l v : ι → ℝ) :
    Ideal.div (∑ x, Ideal.exp ((l x : EReal) - Finset.univ.sup fun y => (l y : EReal)) * (v x : EReal))
        (∑ x, Ideal.exp ((l x : EReal) - Finset.univ.sup fun y => (l y : EReal)))
      = ∑ x, (v x : EReal) * Ideal.div (Ideal.exp ((l x : EReal) - Finset.univ.sup fun y => (l y : EReal)))
          (∑ z, Ideal.exp ((l z : EReal) - Finset.univ.sup fun y => (l y : EReal))) := by
  obtain ⟨μ, hμ⟩ := sup_coe l
  rw [hμ]
  have hpos : 0 < ∑ k, Real.exp (l k - μ) := Finset.sum_pos (fun _ _ => Real.exp_pos _) Finset.univ_nonempty
  simp only [exp_sub, coe_sum, ← EReal.coe_mul, Ideal.div_coe (ne_of_gt hpos)]
  congr 1
  rw [Finset.sum_mul]
  exact Finset.sum_congr rfl fun k _ => by ring

end Cert.Window

namespace Cert.CtxReferenceIdeal.Hand

open Cert.CtxReferenceIdeal Cert.CtxReferenceIdeal.Gen Idealize.ShloMosaic Idealize.ShloMosaic.TcCoe Idealize.SL.Sem

/-- The queries by heads, -/
def queries (A : FVec Ideal S4x256x6144 .bf16) : FVec Ideal S4x256x16x128 .f32 :=
  shapeCast _ (extractStridedSlice S4x256x2048 ![0, 0, 0] (extf .f32 A bitsLt_bf16_f32) slices_S4x256x6144_S4x256x2048_0_0_0) shapeCasts_S4x256x2048_S4x256x16x128
/-- the keys -/
def keys (A : FVec Ideal S4x256x6144 .bf16) : FVec Ideal S4x256x16x128 .f32 :=
  shapeCast _ (extractStridedSlice S4x256x2048 ![0, 0, 2048] (extf .f32 A bitsLt_bf16_f32) slices_S4x256x6144_S4x256x2048_0_0_2048) shapeCasts_S4x256x2048_S4x256x16x128
/-- and the values. -/
def vals (A : FVec Ideal S4x256x6144 .bf16) : FVec Ideal S4x256x16x128 .f32 :=
  shapeCast _ (extractStridedSlice S4x256x2048 ![0, 0, 4096] (extf .f32 A bitsLt_bf16_f32) slices_S4x256x6144_S4x256x2048_0_0_4096) shapeCasts_S4x256x2048_S4x256x16x128
/-- The logits. -/
def logits (Q K : FVec Ideal S4x256x16x128 .f32) : FVec Ideal S4x16x256x256 .f32 :=
  Host.dotGeneral dot_S4x256x16x128_S4x256x16x128_S4x16x256x256_3_3_1_1_02_02 none Q K
/-- The greatest logit of each row. -/
def peak (S : FVec Ideal S4x16x256x256 .f32) : FVec Ideal S4x16x256 .f32 :=
  maximumf (broadcastInDim S4x16x256 ![] bcast_S_S4x16x256 (constant S_ .f32 0xFF800000#32))
    (Host.reduce FloatOps.maximumf S (constant S_ .f32 0xFF800000#32) reducesTo_S4x16x256x256_S4x16x256_d3 h_S_)
/-- The exponentials of the logits less the greatest of their row. -/
def exps (S : FVec Ideal S4x16x256x256 .f32) : FVec Ideal S4x16x256x256 .f32 :=
  Host.exp (subf S (broadcastInDim S4x16x256x256 ![0, 1, 2, 3] bcast_S4x16x256x1_S4x16x256x256_0_1_2_3 (broadcastInDim S4x16x256x1 ![0, 1, 2] bcast_S4x16x256_S4x16x256x1_0_1_2 (peak S))))
/-- The weights. -/
def weights (E : FVec Ideal S4x16x256x256 .f32) : FVec Ideal S4x16x256x256 .f32 :=
  Host.divf E (broadcastInDim S4x16x256x256 ![0, 1, 2, 3] bcast_S4x16x256x1_S4x16x256x256_0_1_2_3 (broadcastInDim S4x16x256x1 ![0, 1, 2] bcast_S4x16x256_S4x16x256x1_0_1_2
    (Host.reduceAdd E (constant S_ .f32 0x00000000#32) reducesTo_S4x16x256x256_S4x16x256_d3 h_S_)))
/-- The weighted sums of the values, the heads side by side. -/
def mixed (V : FVec Ideal S4x256x16x128 .f32) (P : FVec Ideal S4x16x256x256 .f32) : FVec Ideal S4x256x2048 .bf16 :=
  truncf .bf16 (shapeCast _ (transpose S4x256x16x128 [0, 3, 1, 2] (Host.dotGeneral dot_S4x256x16x128_S4x16x256x256_S4x16x128x256_1_3_3_2_02_01 none V P)
    transposes_S4x16x128x256_S4x256x16x128_0_3_1_2) shapeCasts_S4x256x16x128_S4x256x2048) bitsLt_bf16_f32
/-- What the reference computes of its argument. -/
def result (A : FVec Ideal S4x256x6144 .bf16) : FVec Ideal S4x256x2048 .bf16 := mixed (vals A) (weights (exps (logits (queries A) (keys A))))

/-- A column of a head. -/
def at_ (o : ℕ) (h : Fin 16) (d : Fin 128) (ho : o ≤ 4096) : Fin 6144 := ⟨o + (h.val * 128 + d.val), by omega⟩

theorem queries_at (A : FVec Ideal S4x256x6144 .bf16) (b : Fin 4) (r : Fin 256) (h : Fin 16) (d : Fin 128) :
    queries A (ix4 b r h d) = (A (ix3 b r (at_ 0 h d (by decide))) : EReal) := by
  pointwise [queries, at_]
  blk_ext
theorem keys_at (A : FVec Ideal S4x256x6144 .bf16) (b : Fin 4) (r : Fin 256) (h : Fin 16) (d : Fin 128) :
    keys A (ix4 b r h d) = (A (ix3 b r (at_ 2048 h d (by decide))) : EReal) := by
  pointwise [keys, at_]
theorem vals_at (A : FVec Ideal S4x256x6144 .bf16) (b : Fin 4) (r : Fin 256) (h : Fin 16) (d : Fin 128) :
    vals A (ix4 b r h d) = (A (ix3 b r (at_ 4096 h d (by decide))) : EReal) := by
  pointwise [vals, at_]
theorem logits_at (Q K : FVec Ideal S4x256x16x128 .f32) (b : Fin 4) (h : Fin 16) (r κ : Fin 256) :
    logits Q K (ix4 b h r κ) = ∑ d : Fin 128, (Q (ix4 b r h d) : EReal) * K (ix4 b κ h d) := by
  pointwise [logits]
/-- A fold of maxima from minus infinity is a supremum. -/
theorem fold_sup {ι : Type} (s : Finset ι) (f : ι → EReal) (hu : 0 < S_.numel) :
    s.fold (FloatOps.maximumf (F := Ideal) (φ := .f32)) (constant (F := Ideal) S_ .f32 0xFF800000#32 (Shape.Idx.first hu)) f = s.sup f := rfl
/-- A greatest value over the last axis. -/
theorem hostMax_at (L : FVec Ideal S4x16x256x256 .f32) (b : Fin 4) (h : Fin 16) (r : Fin 256) :
    Host.reduce FloatOps.maximumf L (constant (F := Ideal) S_ .f32 0xFF800000#32) reducesTo_S4x16x256x256_S4x16x256_d3 h_S_ (ix3 b h r)
      = Finset.univ.sup fun κ : Fin 256 => (L (ix4 b h r κ) : EReal) := by
  rw [Host.reduce_eq_fold]
  refine (fold_sup _ _ _).trans (le_antisymm (Finset.sup_le fun i hi => ?_) (Finset.sup_le fun κ _ => ?_))
  · have hd := (Finset.mem_filter.1 hi).2
    idx_vars i
    have e0 := congrArg (fun j : S4x16x256.Idx => (j 0).val) hd
    have e1 := congrArg (fun j : S4x16x256.Idx => (j 1).val) hd
    have e2 := congrArg (fun j : S4x16x256.Idx => (j 2).val) hd
    simp only [Shape.ReducesTo.drop_apply_val] at e0 e1 e2
    have h0 : i0 = b := Fin.ext e0
    have h1 : i1 = h := Fin.ext e1
    have h2 : i2 = r := Fin.ext e2
    subst h0 h1 h2
    exact Finset.le_sup (f := fun κ : Fin 256 => (L (ix4 i0 i1 i2 κ) : EReal)) (Finset.mem_univ i3)
  · refine Finset.le_sup (f := fun i => (L i : EReal)) (Finset.mem_filter.2 ⟨Finset.mem_univ _, ?_⟩)
    funext a
    match a with
    | ⟨0, _⟩ => rfl
    | ⟨1, _⟩ => rfl
    | ⟨2, _⟩ => rfl
/-- The greater of minus infinity and a value is the value. -/
theorem maxBot_at (R : FVec Ideal S4x16x256 .f32) (b : Fin 4) (h : Fin 16) (r : Fin 256) :
    maximumf (broadcastInDim S4x16x256 ![] bcast_S_S4x16x256 (constant (F := Ideal) S_ .f32 0xFF800000#32)) R (ix3 b h r) = R (ix3 b h r) :=
  max_eq_right (α := EReal) bot_le
/-- The greatest logit of a row. -/
theorem peak_at (S : FVec Ideal S4x16x256x256 .f32) (b : Fin 4) (h : Fin 16) (r : Fin 256) :
    peak S (ix3 b h r) = Finset.univ.sup fun κ : Fin 256 => (S (ix4 b h r κ) : EReal) := by
  unfold peak
  rw [maxBot_at, hostMax_at]
theorem exps_at (S : FVec Ideal S4x16x256x256 .f32) (b : Fin 4) (h : Fin 16) (r κ : Fin 256) :
    exps S (ix4 b h r κ) = Ideal.exp ((S (ix4 b h r κ) : EReal) - Finset.univ.sup fun k : Fin 256 => (S (ix4 b h r k) : EReal)) := by
  rw [← peak_at]
  pointwise [exps]
theorem weights_at (E : FVec Ideal S4x16x256x256 .f32) (b : Fin 4) (h : Fin 16) (r κ : Fin 256) :
    weights E (ix4 b h r κ) = Ideal.div (E (ix4 b h r κ)) (∑ k : Fin 256, (E (ix4 b h r k) : EReal)) := by
  pointwise [weights]
theorem mixed_at (V : FVec Ideal S4x256x16x128 .f32) (P : FVec Ideal S4x16x256x256 .f32) (b : Fin 4) (r : Fin 256) (h : Fin 16) (d : Fin 128) :
    mixed V P (ix3 b r ⟨h.val * 128 + d.val, by omega⟩) = ∑ κ : Fin 256, (V (ix4 b κ h d) : EReal) * P (ix4 b h r κ) := by
  pointwise [mixed]

/-- The reference's result at an index, of reals. -/
theorem result_at (a : S4x256x6144.Idx → ℝ) (b : Fin 4) (r : Fin 256) (h : Fin 16) (d : Fin 128) :
    result (fun i => (a i : EReal)) (ix3 b r ⟨h.val * 128 + d.val, by omega⟩)
      = ∑ κ : Fin 256, (a (ix3 b κ (at_ 4096 h d (by decide))) : EReal) * Ideal.div
          (Ideal.exp ((∑ e : Fin 128, (a (ix3 b r (at_ 0 h e (by decide))) : EReal) * a (ix3 b κ (at_ 2048 h e (by decide))))
            - Finset.univ.sup fun k : Fin 256 => ∑ e : Fin 128, (a (ix3 b r (at_ 0 h e (by decide))) : EReal) * a (ix3 b k (at_ 2048 h e (by decide)))))
          (∑ z : Fin 256, Ideal.exp ((∑ e : Fin 128, (a (ix3 b r (at_ 0 h e (by decide))) : EReal) * a (ix3 b z (at_ 2048 h e (by decide))))
            - Finset.univ.sup fun k : Fin 256 => ∑ e : Fin 128, (a (ix3 b r (at_ 0 h e (by decide))) : EReal) * a (ix3 b k (at_ 2048 h e (by decide))))) := by
  unfold result
  rw [mixed_at]
  simp only [weights_at, exps_at, logits_at, queries_at, keys_at, vals_at]

end Cert.CtxReferenceIdeal.Hand

namespace Cert.CtxKernelIdeal.Hand

open Cert.CtxKernelIdeal Cert.CtxKernelIdeal.Gen Idealize.ShloMosaic Idealize.ShloMosaic.TcCoe Idealize.SL.Sem
open Cert.CtxReferenceIdeal.Hand (at_)

/-- One head: its payload. -/
abbrev head (q k v : Vec Ideal S1x256x128 .bf16) : FVec Ideal S1x256x128 .bf16 := k0_pay2 q k v

/-- What a grid point stores: one piece per head. -/
theorem out_eq (x0 x1 x2 : Vec Ideal S1x256x1024 .bf16) :
    out0_3 (F := Ideal) x0 x1 x2 = View.canon [
      ⟨r0_7, head (View.ld x0 r0_7) (View.ld x1 r0_7) (View.ld x2 r0_7)⟩,
      ⟨r0_6, head (View.ld x0 r0_6) (View.ld x1 r0_6) (View.ld x2 r0_6)⟩,
      ⟨r0_5, head (View.ld x0 r0_5) (View.ld x1 r0_5) (View.ld x2 r0_5)⟩,
      ⟨r0_4, head (View.ld x0 r0_4) (View.ld x1 r0_4) (View.ld x2 r0_4)⟩,
      ⟨r0_3, head (View.ld x0 r0_3) (View.ld x1 r0_3) (View.ld x2 r0_3)⟩,
      ⟨r0_2, head (View.ld x0 r0_2) (View.ld x1 r0_2) (View.ld x2 r0_2)⟩,
      ⟨r0_1, head (View.ld x0 r0_1) (View.ld x1 r0_1) (View.ld x2 r0_1)⟩,
      ⟨r0_0, head (View.ld x0 r0_0) (View.ld x1 r0_0) (View.ld x2 r0_0)⟩] := by
  rfl

/-- A product of a query with a key. -/
def score (q k : Vec Ideal S1x256x128 .bf16) (r κ : Fin 256) : EReal := ∑ d : Fin 128, (q (ix3 0 r d) : EReal) * k (ix3 0 κ d)

theorem head_at (q k v : Vec Ideal S1x256x128 .bf16) (r : Fin 256) (d : Fin 128) :
    head q k v (ix3 0 r d) = Ideal.div
      (∑ κ : Fin 256, Ideal.exp (score q k r κ - Finset.univ.sup fun y => score q k r y) * v (ix3 0 κ d))
      (∑ κ : Fin 256, Ideal.exp (score q k r κ - Finset.univ.sup fun y => score q k r y)) := by
  pointwise [k0_pay2, score]
  rfl

/-- The columns of head `g` of a block. -/
def cols (g : Fin 8) (x : Vec Ideal S1x256x1024 .bf16) : Vec Ideal S1x256x128 .bf16 :=
  fun i => x (ix3 0 (i 1) ⟨g.val * 128 + (i 2).val, by have := g.isLt; have : (i 2).val < 128 := (i 2).isLt; omega⟩)

/-- An entry of the piece of head `k`, found by its column. -/
theorem at_piece (G : Fin 8 → Vec Ideal S1x256x128 .bf16) (g k : Fin 8) (r : Fin 256) (d : Fin 128) (x : S1x256x128.Idx)
    (P : Vec Ideal S1x256x128 .bf16) (hP : P = G k) (h1 : r.val = (x 1).val) (h2 : g.val * 128 + d.val = k.val * 128 + (x 2).val) :
    P x = G g (ix3 0 r d) := by
  idx_vars x
  have hx2 : x2.val < 128 := x2.isLt
  have h2' : g.val * 128 + d.val = k.val * 128 + x2.val := h2
  have h1' : r = x1 := Fin.ext h1
  have hg : g = k := Fin.ext (by omega)
  have hd : d = x2 := Fin.ext (by omega)
  have h0 : x0 = 0 := Fin.ext (by omega)
  subst hP h1' hg hd h0
  rfl

/-- A grid point's result, read at a row and a column of a head. -/
theorem out_at (x0 x1 x2 : Vec Ideal S1x256x1024 .bf16) (g : Fin 8) (r : Fin 256) (d : Fin 128) :
    out0_3 (F := Ideal) x0 x1 x2 (ix3 0 r ⟨g.val * 128 + d.val, by omega⟩) = head (cols g x0) (cols g x1) (cols g x2) (ix3 0 r d) := by
  rw [out_eq]
  canon_tiles x h
  case piece0 =>
    refine at_piece (fun g => head (cols g x0) (cols g x1) (cols g x2)) g 7 r d x _ ?_ h1 h2
    congr 1 <;> (funext i; idx_vars i; pointwise [cols]; blk_ext)
  case piece1 =>
    refine at_piece (fun g => head (cols g x0) (cols g x1) (cols g x2)) g 6 r d x _ ?_ h1 h2
    congr 1 <;> (funext i; idx_vars i; pointwise [cols]; blk_ext)
  case piece2 =>
    refine at_piece (fun g => head (cols g x0) (cols g x1) (cols g x2)) g 5 r d x _ ?_ h1 h2
    congr 1 <;> (funext i; idx_vars i; pointwise [cols]; blk_ext)
  case piece3 =>
    refine at_piece (fun g => head (cols g x0) (cols g x1) (cols g x2)) g 4 r d x _ ?_ h1 h2
    congr 1 <;> (funext i; idx_vars i; pointwise [cols]; blk_ext)
  case piece4 =>
    refine at_piece (fun g => head (cols g x0) (cols g x1) (cols g x2)) g 3 r d x _ ?_ h1 h2
    congr 1 <;> (funext i; idx_vars i; pointwise [cols]; blk_ext)
  case piece5 =>
    refine at_piece (fun g => head (cols g x0) (cols g x1) (cols g x2)) g 2 r d x _ ?_ h1 h2
    congr 1 <;> (funext i; idx_vars i; pointwise [cols]; blk_ext)
  case piece6 =>
    refine at_piece (fun g => head (cols g x0) (cols g x1) (cols g x2)) g 1 r d x _ ?_ h1 h2
    congr 1 <;> (funext i; idx_vars i; pointwise [cols]; blk_ext)
  case piece7 =>
    refine at_piece (fun g => head (cols g x0) (cols g x1) (cols g x2)) g 0 r d x _ ?_ h1 (h2.trans (Nat.zero_add _).symm)
    congr 1 <;> (funext i; idx_vars i; pointwise [cols]; blk_ext)

theorem index0 : ∀ t : Fin cfg0.N, win0_0.index t 0 = t.val / 2 ∧ win0_0.index t 1 = 0 ∧ win0_0.index t 2 = t.val % 2 := by decide +kernel
theorem index1 : ∀ t : Fin cfg0.N, win0_1.index t 0 = t.val / 2 ∧ win0_1.index t 1 = 0 ∧ win0_1.index t 2 = 2 + t.val % 2 := by decide +kernel
theorem index2 : ∀ t : Fin cfg0.N, win0_2.index t 0 = t.val / 2 ∧ win0_2.index t 1 = 0 ∧ win0_2.index t 2 = 4 + t.val % 2 := by decide +kernel
theorem index3 : ∀ t : Fin cfg0.N, win0_3.index t 0 = t.val / 2 ∧ win0_3.index t 1 = 0 ∧ win0_3.index t 2 = t.val % 2 := by decide +kernel

variable (m : (ℓ : Loc nD τ sig) → Buf (Elt Ideal) ℓ) (c : Dev nD)

/-- The image of a grid point. -/
def image (t : Fin cfg0.N) : Fin 4 := ⟨t.val / 2, by have : t.val < 8 := t.isLt; omega⟩
/-- The head of a grid point's `g`-th. -/
def headOf (t : Fin cfg0.N) (g : Fin 8) : Fin 16 := ⟨t.val % 2 * 8 + g.val, by omega⟩

theorem block0_at (t : Fin cfg0.N) (g : Fin 8) (r : Fin 256) (d : Fin 128) :
    (cols g (iblk m c 0 t) (ix3 0 r d) : EReal) = (m (c, Proc.tc.devRef main_arg0) : S4x256x6144.Idx → EReal) (ix3 (image t) r (at_ 0 (headOf t g) d (by decide))) := by
  obtain ⟨e0, e1, e2⟩ := index0 t
  blk_ext [iblk, cols, image, headOf, at_] <;> simp only [e0, e1, e2] <;> omega
theorem block1_at (t : Fin cfg0.N) (g : Fin 8) (r : Fin 256) (d : Fin 128) :
    (cols g (iblk m c 1 t) (ix3 0 r d) : EReal) = (m (c, Proc.tc.devRef main_arg0) : S4x256x6144.Idx → EReal) (ix3 (image t) r (at_ 2048 (headOf t g) d (by decide))) := by
  obtain ⟨e0, e1, e2⟩ := index1 t
  blk_ext [iblk, cols, image, headOf, at_] <;> simp only [e0, e1, e2] <;> omega
theorem block2_at (t : Fin cfg0.N) (g : Fin 8) (r : Fin 256) (d : Fin 128) :
    (cols g (iblk m c 2 t) (ix3 0 r d) : EReal) = (m (c, Proc.tc.devRef main_arg0) : S4x256x6144.Idx → EReal) (ix3 (image t) r (at_ 4096 (headOf t g) d (by decide))) := by
  obtain ⟨e0, e1, e2⟩ := index2 t
  blk_ext [iblk, cols, image, headOf, at_] <;> simp only [e0, e1, e2] <;> omega
theorem place_at (t : Fin cfg0.N) (r : Fin 256) (g : Fin 8) (d : Fin 128) :
    (win0_3.blk t).view.emb (ix3 0 r ⟨g.val * 128 + d.val, by omega⟩) = (ix3 (image t) r ⟨(headOf t g).val * 128 + d.val, by omega⟩ : S4x256x2048.Idx) := by
  obtain ⟨e0, e1, e2⟩ := index3 t
  blk_ext [image, headOf] <;> simp only [e0, e1, e2] <;> omega

/-- A column of a block lies in one of its heads. -/
theorem split (y : Fin 1024) : ∃ (g : Fin 8) (d : Fin 128), y = ⟨g.val * 128 + d.val, by omega⟩ :=
  ⟨⟨y.val / 128, by omega⟩, ⟨y.val % 128, by omega⟩, Fin.ext (by dsimp only; omega)⟩

/-- Of reals, the kernel's result is the reference's. -/
theorem final (a : S4x256x6144.Idx → ℝ) (ha : m (c, Proc.tc.devRef main_arg0) = fun i => (a i : EReal)) :
    ((dats m 0 c).arrAt 3 cfg0.N : S4x256x2048.Idx → EReal) = Cert.CtxReferenceIdeal.Hand.result (fun i => (a i : EReal)) := by
  refine (dats m 0 c).arrAt_eq_of_covers 3 _ (by decide +kernel) fun t _ y => ?_
  blk_simp
  rw [after0_3]
  idx_vars y
  obtain rfl : y0 = 0 := by omega
  obtain ⟨g, d, rfl⟩ := split y2
  rw [out_at, head_at]
  refine Eq.trans ?_ (congrArg _ (place_at t y1 g d).symm)
  rw [Cert.CtxReferenceIdeal.Hand.result_at]
  simp only [score, block0_at, block1_at, block2_at, ha]
  simp only [← EReal.coe_mul, Cert.Window.coe_sum]
  exact Cert.Window.softmax_sum _ _

end Cert.CtxKernelIdeal.Hand

end
-- ==== Proof.L.CtxInFrame.lean ====
module

public import proofs.«01_k».proof.Proof.Gen.CtxInKernelIdeal.Skeleton
public import proofs.«01_k».proof.Proof.Gen.CtxInKernelIdeal.Frame
public import Idealize.ShloMosaic.Lib.Claim

/-! The frame of the even layers' in-projection of the context's rows. Two grid points share a row block: the first normalises the rows into the scratch and writes the
second result's block, the second finds both and passes them on, and only after it is the second result's block written back. -/

@[expose] public section

set_option maxRecDepth 16384

noncomputable section

namespace Cert.CtxInKernelIdeal.Hand

open Cert.CtxInKernelIdeal Cert.CtxInKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A point takes the branch that normalises the rows when its column block is the first. -/
abbrev cond0_0 (i : grid0.Coords) : Prop := k0_cond1 i = 1#1
/-- These are the even points. -/
theorem hcond0_0 : ∀ t : Fin cfg0.N, cond0_0 (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 2 % 1 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- The inputs and the first output are in use at every point, the second output at the even ones. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 (t : Fin cfg0.N) (h0 : t.val % 2 = 0) : cfg0.idle 8 (grid0.coords t) = false := by
  have h : k0_cond1 (grid0.coords t) = 1#1 := (hcond0_0 t).mpr h0
  show (!(k0_cond1 (grid0.coords t) == 1#1)) = false
  rw [h]; rfl
theorem idleAt0_8 (t : Fin cfg0.N) (h0 : ¬t.val % 2 = 0) : cfg0.idle 8 (grid0.coords t) = true := by
  have h : k0_cond1 (grid0.coords t) ≠ 1#1 := fun h => h0 ((hcond0_0 t).mp h)
  show (!(k0_cond1 (grid0.coords t) == 1#1)) = true
  rw [beq_false_of_ne h]; rfl

/-- The views through which the contents of the two outputs are stated. -/
abbrev VO0_7 : View sig .tc .vmem S1x256x2048 .bf16 := (Memref.whole cc0_stg7_0 : Memref sig .tc .vmem S1x256x2048 .bf16).view
abbrev VO0_8 : View sig .tc .vmem S1x256x128 .f32 := (Memref.whole cc0_stg8_0 : Memref sig .tc .vmem S1x256x128 .f32).view
/-- Each window's buffer at a point, and that it is a whole buffer. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x128 .f32 := win0_8.stage (cfg0.slots t 8)
abbrev hs0_8 (t : Fin cfg0.N) : (ms0_8 t).IsWhole := hstage0_8 ((cfg0.slots t 8).cast nbuf0_8)
/-- The scratch that carries the normalised rows from a row block's first point to its second. -/
abbrev scM0_0 : Memref sig .tc .vmem S256x2048 .bf16 := Memref.whole cc0_scratch0
abbrev VS0_0 : View sig .tc .vmem S256x2048 .bf16 := scM0_0.view

/-- What the launch hands the points, with the scratch named. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at an even point: from whole buffers, the inputs at their contents, it ends with the inputs as they were and both outputs and the scratch with the pieces it wrote. -/
def kernelRun0_A (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) :
    Σ' (L7 : List (View.Piece (Elt F) S1x256x2048 .bf16)), Σ' (L8 : List (View.Piece (Elt F) S1x256x128 .f32)), { LS0 : List (View.Piece (Elt F) S256x2048 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_norm_mod_matmul_eq_skeleton]; unfold cc0_norm_mod_matmul_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    iexists _; iexact HS0

set_option maxHeartbeats 1000000 in
/-- The body at an odd point: it reads the scratch, writes the first output, and leaves the second output and the scratch as it found them. -/
def kernelRun0_B (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : ¬cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x256x128 .f32) (xs0 : Vec F S256x2048 .bf16) :
    Σ' (L7 : List (View.Piece (Elt F) S1x256x2048 .bf16)), Σ' (L8 : List (View.Piece (Elt F) S1x256x128 .f32)), { LS0 : List (View.Piece (Elt F) S256x2048 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xo8 ∗ owns (c : Thread nD τ) arg12 fullShare xs0) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11 arg12 harg12) K } := by
  refine ⟨?_, [], [], fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    iexists _; isplitr; · ipureintro; exact harg12.read_unread _
    iexact HS0

/-- The pieces an even point writes cover both outputs and the scratch; what is left there is read back from the pieces. -/
theorem cover0_A_7 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S1x256x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).1 S1x256x2048.size (by sl_kernel_rfl) y

def out0_A_7 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S1x256x2048 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 x0 x1 x2 x3 x4 x5 x6).1)

theorem cover0_A_8 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S1x256x128.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).2.1 S1x256x128.size (by sl_kernel_rfl) y

def out0_A_8 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S1x256x128 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 x0 x1 x2 x3 x4 x5 x6).2.1)

theorem scover0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (y : S256x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6).2.2.1 S256x2048.size (by sl_kernel_rfl) y

def sout0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) : Vec F S256x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 x0 x1 x2 x3 x4 x5 x6).2.2.1)

/-- The pieces an odd point writes cover the first output; the second output and the scratch are passed on. -/
theorem cover0_B_7 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : ¬cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x256x128 .f32) (xs0 : Vec F S256x2048 .bf16) (y : S1x256x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1 S1x256x2048.size (by sl_kernel_rfl) y

def out0_B_7 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : ¬cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x256x128 .f32) (xs0 : Vec F S256x2048 .bf16) : Vec F S1x256x2048 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 x0 x1 x2 x3 x4 x5 x6 xo8 xs0).1)

def out0_B_8 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : ¬cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x256x128 .f32) (xs0 : Vec F S256x2048 .bf16) : Vec F S1x256x128 .f32 := xo8

def sout0_B_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x256x2048 .bf16) (harg10 : arg10.IsWhole) (arg11 : Memref sig .tc .vmem S1x256x128 .f32) (harg11 : arg11.IsWhole) (arg12 : Memref sig .tc .vmem S256x2048 .bf16) (harg12 : arg12.IsWhole) (hc0 : ¬cond0_0 i)
    (x0 : Vec F S1x256x2048 .f32) (x1 : Vec F S1x2048 .f32) (x2 : Vec F S1x1x2048 .f32) (x3 : Vec F S1x1x2048 .f32) (x4 : Vec F S2048x2048 .bf16) (x5 : Vec F S1x2048 .f32) (x6 : Vec F S2048x128 .bf16) (xo8 : Vec F S1x256x128 .f32) (xs0 : Vec F S256x2048 .bf16) : Vec F S256x2048 .bf16 := xs0

/-- What the two outputs' buffers and the scratch hold after the `n`-th point. -/
def outsAt0 (c : Dev nD) : (n : ℕ) → n < cfg0.N → Vec F S1x256x2048 .bf16 × Vec F S1x256x128 .f32 × Vec F S256x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 2 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

theorem outsAt0_A (c : Dev nD) (t : Fin cfg0.N) (h0 : t.val % 2 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The assertion between points: before the first the scratch holds anything, afterwards what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The data of the run: the inputs' buffers at their blocks, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The arrays of the data are those the run starts from. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the data say of each window after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Every input's buffer holds its block when a point begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At an odd point the second output's buffer still holds what the even point before put there: nothing was written back between. -/
theorem before0_8_B (c : Dev nD) (t : Fin cfg0.N) (h0 : ¬t.val % 2 = 0) (d) :
    (dats m 0 c).before 8 t d = (outsAt0 m c (t.val - 1) (Nat.lt_of_le_of_lt (Nat.sub_le _ _) t.isLt)).2.1 := by
  have hN : t.val < 8 := lt_of_lt_of_eq t.isLt (show cfg0.N = 8 from N_0)
  have hp : (t.val - 1) % 2 = 0 := by omega
  have hf : ¬(cfg0.win 8).flush ⟨t.val - 1, Nat.lt_of_le_of_lt (Nat.sub_le _ _) t.isLt⟩ = true := fun h => by
    have := (flush0_8 _).mp h; dsimp only at this; omega
  rw [Dat.before_of_pos _ 8 t (by omega) rfl, if_neg hf]
  unfold Dat.left
  rw [liveAt0_8 _ hp]
  dsimp only
  unfold Dat.kept
  rw [Pipeline.fill_of_clip_none 8 _ (fun _ => rfl) d ((dats m 0 c).after 8 _), Window.fill_cut]
  dsimp only [dats]

/-- What the body is given at a point, and what it gives back. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 2 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t h0], after0_8]
    by_cases hz : t.val = 0
    · rw [PhiS_castSucc m c t, PhiS_zero m c _ _ hz, PhiA0_eq]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [idleAt0_8 t h0, (flush0_8 t).mpr (by omega)], after0_8]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_8_B m c t h0]
      unfold out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _)
      iexact H8

theorem defs₀_row (t : Fin cfg0.N) :
    defs₀ (F := F) .tc cfg0.body (cfg0.bodyArgs t (cfg0.slots t)) = bodyAt0 t := by
  unfold defs₀; rw [Defs.onTc_tc]

/-- The same, as the pipeline rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The assertion before the first point, and from any later one back to the scratch at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
/-- The whole run, with all counters at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, for any interpretation of the numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem post7 (r : PUnit × MemSt nD τ sig (Elt F)) (h : Pipeline.FramePost cfgs (dats m) 0 (V m) r) (c : Dev nD) :
    r.2.mem ((c : Thread nD τ).loc main_v12_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v12_1) = (dats m 0 c).arrAt 8 cfg0.N :=
  (h c).1 8

/-- The arguments end as they began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, with the two results named. -/
theorem run_blocks : θ_run defs (onTc (τ := τ) (main (F := F))) ⟨m, fun _ => 0, ρ⟩ fun r => ∀ c : Dev nD,
      r.2.mem ((c : Thread nD τ).loc main_v12_0) = (dats m 0 c).arrAt 7 cfg0.N
      ∧ r.2.mem ((c : Thread nD τ).loc main_v12_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c⟩)
    (run_main m ρ)

end Cert.CtxInKernelIdeal.Hand

end
-- ==== Proof.L.CtxInCopy.lean ====
module

public import proofs.«01_k».proof.Proof.L.CtxInFrame
public import proofs.«01_k».proof.Proof.Gen.CtxInKernel

/-! The in-projection of the context's rows as printed is the same text as the one read over the extended reals, so its frame is the same theorem at machine words. -/

@[expose] public section

noncomputable section

namespace Cert.CtxInKernel.Hand

open Cert.CtxInKernel Cert.CtxInKernel.Gen Idealize.ShloMosaic Idealize.ShloMosaic.TcCoe Idealize.SL.Sem

variable {F : FTy → Type} [FloatOps F]

theorem main_eq : main (F := F) = Cert.CtxInKernelIdeal.main := rfl
theorem bodies_eq : defs₀ (F := F) = Cert.CtxInKernelIdeal.defs₀ := by
  funext p l a
  match l, a with
  | 0, (t, s) => cases p <;> rfl
theorem defs_eq : defs (F := F) = Cert.CtxInKernelIdeal.defs := congrArg (Pipeline.defs Cert.CtxInKernelIdeal.pcfgs) bodies_eq

variable (m : (ℓ : Loc nD τ sig) → Buf (Elt F) ℓ) (ρ : Dev nD → PrngReg)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.CtxInKernelIdeal.Hand.frame (F := F) m ρ

end Cert.CtxInKernel.Hand

end
-- ==== Proof.L.CtxIn.lean ====
module

public import proofs.«01_k».proof.Proof.L.CtxInFrame
public import proofs.«01_k».proof.Proof.Gen.CtxInReferenceIdeal.Run
public import proofs.«01_k».proof.Proof.L.In
public import Idealize.ShloMosaic.Lib.Pointwise
public import Idealize.ShloMosaic.Lib.Pipeline.ValueKit
public import Idealize.ShloMosaic.Lib.StableHlo.RunRead

/-! The even layers' in-projection of the context's rows: the rows are normalised, modulated and multiplied by the weights. The reference cuts the product into its parts;
the kernel cuts the weights, takes the few columns of the decay's low-rank factor apart, padded by zeros, and the others in two column blocks. -/

@[expose] public section

set_option maxRecDepth 16384

noncomputable section

namespace Cert.CtxInReferenceIdeal.Hand

open Cert.CtxInReferenceIdeal Cert.CtxInReferenceIdeal.Gen Idealize.ShloMosaic Idealize.ShloMosaic.TcCoe Idealize.SL.Sem
open Cert.Norm (scaled modulated)
open Cert.InReferenceIdeal.Hand (factor source source')

/-- The normalised and modulated rows. -/
def rows (X : FVec Ideal S4x256x2048 .f32) (G : FVec Ideal S2048 .f32) (H C : FVec Ideal S4x1x2048 .f32) : FVec Ideal S4x256x2048 .f32 :=
  addf (mulf (mulf (mulf X (broadcastInDim S4x256x2048 ![0, 1, 2] bcast_S4x256x1_S4x256x2048_0_1_2 (Host.rsqrt (addf
      (Host.divf (broadcastInDim S4x256x1 ![0, 1] bcast_S4x256_S4x256x1_0_1
          (Host.reduceAdd (mulf X X) (constant S_ .f32 0x00000000#32) reducesTo_S4x256x2048_S4x256_d2 h_S_))
        (broadcastInDim S4x256x1 ![] bcast_S_S4x256x1 (constant S_ .f32 0x45000000#32)))
      (broadcastInDim S4x256x1 ![] bcast_S_S4x256x1 (constant S_ .f32 0x358637BD#32))))))
    (broadcastInDim S4x256x2048 ![0, 1, 2] bcast_S1x1x2048_S4x256x2048_0_1_2 (broadcastInDim S1x1x2048 ![2] bcast_S2048_S1x1x2048_2 G)))
    (broadcastInDim S4x256x2048 ![0, 1, 2] bcast_S4x1x2048_S4x256x2048_0_1_2
      (addf (broadcastInDim S4x1x2048 ![] bcast_S_S4x1x2048 (constant S_ .f32 0x3F800000#32)) C)))
    (broadcastInDim S4x256x2048 ![0, 1, 2] bcast_S4x1x2048_S4x256x2048_0_1_2 H)

/-- The product. -/
def product (X : FVec Ideal S4x256x2048 .f32) (G : FVec Ideal S2048 .f32) (H C : FVec Ideal S4x1x2048 .f32) (W : FVec Ideal S2048x4128 .f32) :
    FVec Ideal S4x256x4128 .f32 :=
  Host.dotGeneral dot_S4x256x2048_S2048x4128_S4x256x4128_2_0_01_1_n_n none (rows X G H C) W

/-- Queries, keys, values and the two gates, side by side, the queries scaled. -/
def wide (P : FVec Ideal S4x256x4128 .f32) : FVec Ideal S4x256x4096 .bf16 :=
  truncf .bf16 ((concatenate S4x256x4096 2
      [⟨S4x256x512, (mulf (extractStridedSlice S4x256x512 ![0, 0, 0] P slices_S4x256x4128_S4x256x512_0_0_0)
          (broadcastInDim S4x256x512 ![] bcast_S_S4x256x512 (constant S_ .f32 0x3DB504F3#32)) : FVec Ideal S4x256x512 .f32)⟩,
        ⟨S4x256x512, (extractStridedSlice S4x256x512 ![0, 0, 512] P slices_S4x256x4128_S4x256x512_0_0_512 : FVec Ideal S4x256x512 .f32)⟩,
        ⟨S4x256x1024, (extractStridedSlice S4x256x1024 ![0, 0, 1024] P slices_S4x256x4128_S4x256x1024_0_0_1024 : FVec Ideal S4x256x1024 .f32)⟩,
        ⟨S4x256x1024, (extractStridedSlice S4x256x1024 ![0, 0, 2048] P slices_S4x256x4128_S4x256x1024_0_0_2048 : FVec Ideal S4x256x1024 .f32)⟩,
        ⟨S4x256x1024, (extractStridedSlice S4x256x1024 ![0, 0, 3104] P slices_S4x256x4128_S4x256x1024_0_0_3104 : FVec Ideal S4x256x1024 .f32)⟩]
      concatenates_S4x256x512_S4x256x512_S4x256x1024_S4x256x1024_S4x256x1024_S4x256x4096_d2 : FVec Ideal S4x256x4096 .f32)) bitsLt_bf16_f32

/-- The low-rank factor's columns, padded by zeros. -/
def narrow (P : FVec Ideal S4x256x4128 .f32) : FVec Ideal S4x256x128 .f32 :=
  pad S4x256x128 ![0, 0, 0] ![0, 0, 96] ![0, 0, 0] (extractStridedSlice S4x256x32 ![0, 0, 3072] P slices_S4x256x4128_S4x256x32_0_0_3072)
    (sitofp .f32 (constantI S_ 32 0#32)) pads_S4x256x32_S4x256x128_000_000_0960 h_S_

theorem rows_at (X : FVec Ideal S4x256x2048 .f32) (G : FVec Ideal S2048 .f32) (H C : FVec Ideal S4x1x2048 .f32) (b : Fin 4) (r : Fin 256)
    (k : Fin 2048) :
    rows X G H C (ix3 b r k) = modulated (X (ix3 b r k)) (fun l => X (ix3 b r l)) (G (ix1 k)) (H (ix3 b 0 k)) (C (ix3 b 0 k)) := by
  pointwise [rows, modulated, scaled]

theorem product_at (X : FVec Ideal S4x256x2048 .f32) (G : FVec Ideal S2048 .f32) (H C : FVec Ideal S4x1x2048 .f32) (W : FVec Ideal S2048x4128 .f32)
    (b : Fin 4) (r : Fin 256) (n : Fin 4128) :
    product X G H C W (ix3 b r n)
      = ∑ k : Fin 2048, modulated (X (ix3 b r k)) (fun l => X (ix3 b r l)) (G (ix1 k)) (H (ix3 b 0 k)) (C (ix3 b 0 k)) * W (ix2 k n) := by
  have e : product X G H C W (ix3 b r n) = ∑ k : Fin 2048, (rows X G H C (ix3 b r k) : EReal) * W (ix2 k n) := by
    unfold product
    generalize rows X G H C = R
    pointwise []
  rw [e]
  simp only [rows_at]

theorem wide_at (P : FVec Ideal S4x256x4128 .f32) (b : Fin 4) (r : Fin 256) (n : Fin 4096) :
    wide P (ix3 b r n) = (P (ix3 b r (source n)) : EReal) * factor n.val := by
  have hn := n.isLt
  have go : ∀ j : Fin 4128, j.val = (source n).val → (P (ix3 b r j) : EReal) = P (ix3 b r (source n)) := fun j h => by rw [Fin.ext h]
  unfold factor
  by_cases h : n.val < 512
  · rw [if_pos h]
    pointwise [wide]
    rw [dif_pos h]
    refine congrArg (· * _) (go _ ?_)
    dsimp only [source]; rw [if_pos (by omega)]
  · rw [if_neg h, mul_one]
    pointwise [wide]
    rw [dif_neg h]
    repeat' split
    all_goals refine go _ ?_; dsimp only [source]; split <;> omega

theorem narrow_at (P : FVec Ideal S4x256x4128 .f32) (b : Fin 4) (r : Fin 256) (j : Fin 128) :
    narrow P (ix3 b r j) = if h : j.val < 32 then (P (ix3 b r (source' j h)) : EReal) else 0 := by
  pointwise [narrow, source']
  rw [Cert.InReferenceIdeal.Hand.zero_cast]

end Cert.CtxInReferenceIdeal.Hand

namespace Cert.CtxInKernelIdeal.Hand

open Cert.CtxInKernelIdeal Cert.CtxInKernelIdeal.Gen Idealize.ShloMosaic Idealize.ShloMosaic.TcCoe Idealize.SL.Sem
open Cert.Norm (scaled modulated)
open Cert.InReferenceIdeal.Hand (factor source source')

section
variable (c : Dev nD) (i : grid0.Coords) (arg3 : Memref sig .tc .vmem S1x256x2048 .f32) (harg3 : arg3.IsWhole)
  (arg4 : Memref sig .tc .vmem S1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S2048x2048 .bf16) (harg7 : arg7.IsWhole)
  (arg8 : Memref sig .tc .vmem S1x2048 .f32) (harg8 : arg8.IsWhole) (arg9 : Memref sig .tc .vmem S2048x128 .bf16) (harg9 : arg9.IsWhole)
  (arg10 : Memref sig .tc .vmem S1x256x2048 .bf16) (harg10 : arg10.IsWhole) (arg11 : Memref sig .tc .vmem S1x256x128 .f32) (harg11 : arg11.IsWhole)
  (arg12 : Memref sig .tc .vmem S256x2048 .bf16) (harg12 : arg12.IsWhole) (x0 : Vec Ideal S1x256x2048 .f32) (x1 : Vec Ideal S1x2048 .f32)
  (x2 x3 : Vec Ideal S1x1x2048 .f32) (x4 : Vec Ideal S2048x2048 .bf16) (x5 : Vec Ideal S1x2048 .f32) (x6 : Vec Ideal S2048x128 .bf16)

/-- What a row block's first grid point leaves in the scratch, at an index. -/
theorem scratchA_at (hc0 : cond0_0 i) (r : Fin 256) (k : Fin 2048) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 (ix2 r k)
      = modulated (x0 (ix3 0 r k)) (fun l => x0 (ix3 0 r l)) (x1 (ix2 0 k)) (x2 (ix3 0 0 k)) (x3 (ix3 0 0 k)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread]
  canon_tiles x h
  pointwise [k0_pay3, modulated, scaled]
  obtain rfl : r = x 0 := Fin.ext h0
  obtain rfl : k = x 1 := Fin.ext h1
  rfl

/-- What that point stores in the wide result's block: the product with the rows it has just put in the scratch, -/
theorem wideA_at (hc0 : cond0_0 i) (r : Fin 256) (n : Fin 2048) :
    out0_A_7 (F := Ideal) c i arg3 harg3 arg4 harg4 arg5 harg5 arg6 harg6 arg7 harg7 arg8 harg8 arg9 harg9 arg10 harg10 arg11 harg11 arg12 harg12 hc0 x0 x1 x2 x3 x4 x5 x6 (ix3 0 r n)
      = (∑ k : Fin 2048, modulated (x0 (ix3 0 r k)) (fun l => x0 (ix3 0 r l)) (x1 (ix2 0 k)) (x2 (ix3 0 0 k)) (x3 (ix3 0 0 k)) * x4 (ix2 k n)) * x5 (ix2 0 n) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread, View.readCov_cons_toLoadRect]
  canon_tiles x h
  pointwise [k0_pay2, k0_pay3, modulated, scaled]
  obtain rfl : r = x 1 := Fin.ext h1
  obtain rfl : n = x 2 := Fin.ext h2
  rfl

/-- and in the narrow result's. -/
theorem narrowA_at (hc0 : cond0_0 i) (r : Fin 256) (n : Fin 128) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 (ix3 0 r n)
      = ∑ k : Fin 2048, modulated (x0 (ix3 0 r k)) (fun l => x0 (ix3 0 r l)) (x1 (ix2 0 k)) (x2 (ix3 0 0 k)) (x3 (ix3 0 0 k)) * x6 (ix2 k n) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread, View.readCov_cons_toLoadRect]
  canon_tiles x h
  pointwise [k0_pay1, k0_pay4, k0_pay3, modulated, scaled]
  obtain rfl : r = x 1 := Fin.ext h1
  obtain rfl : n = x 2 := Fin.ext h2
  rfl

/-- What the row block's second point stores: the product with the rows found in the scratch. -/
theorem wideB_at (hc0 : ¬ cond0_0 i) (xo8 : Vec Ideal S1x256x128 .f32) (xs0 : Vec Ideal S256x2048 .bf16) (r : Fin 256) (n : Fin 2048) :
    out0_B_7 (F := Ideal) c i arg3 harg3 arg4 harg4 arg5 harg5 arg6 harg6 arg7 harg7 arg8 harg8 arg9 harg9 arg10 harg10 arg11 harg11 arg12 harg12 hc0 x0 x1 x2 x3 x4 x5 x6 xo8 xs0 (ix3 0 r n)
      = (∑ k : Fin 2048, (xs0 (ix2 r k) : EReal) * x4 (ix2 k n)) * x5 (ix2 0 n) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xo8 xs0)]
  unfold kernelRun0_B
  dsimp only
  sl_unfold_words
  simp only [View.readAt_eq_ld, harg3.read_unread, harg4.read_unread, harg5.read_unread, harg6.read_unread, harg7.read_unread, harg8.read_unread, harg9.read_unread, harg11.read_unread, harg12.read_unread]
  canon_tiles x h
  pointwise [k0_pay2]
  obtain rfl : r = x 1 := Fin.ext h1
  obtain rfl : n = x 2 := Fin.ext h2
  rfl
end

theorem index0 : ∀ t : Fin cfg0.N, win0_0.index t 0 = t.val / 2 ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 2 ∧ win0_2.index t 1 = 0 ∧ win0_2.index t 2 = 0 := by decide +kernel
theorem index3 : ∀ t : Fin cfg0.N, win0_3.index t 0 = t.val / 2 ∧ win0_3.index t 1 = 0 ∧ win0_3.index t 2 = 0 := by decide +kernel
theorem index4 : ∀ t : Fin cfg0.N, win0_4.index t 0 = 0 ∧ win0_4.index t 1 = t.val % 2 := by decide +kernel
theorem index5 : ∀ t : Fin cfg0.N, win0_5.index t 0 = 0 ∧ win0_5.index t 1 = t.val % 2 := by decide +kernel
theorem index6 : ∀ t : Fin cfg0.N, win0_6.index t 0 = 0 ∧ win0_6.index t 1 = 0 := by decide +kernel
theorem index7 : ∀ t : Fin cfg0.N, win0_7.index t 0 = t.val / 2 ∧ win0_7.index t 1 = 0 ∧ win0_7.index t 2 = t.val % 2 := by
  decide +kernel
theorem index8 : ∀ t : Fin cfg0.N, win0_8.index t 0 = t.val / 2 ∧ win0_8.index t 1 = 0 ∧ win0_8.index t 2 = 0 := by
  decide +kernel

variable (m : (ℓ : Loc nD τ sig) → Buf (Elt Ideal) ℓ) (c : Dev nD)

/-- The image of the `n`-th grid point. -/
def image (n : ℕ) (hn : n < cfg0.N) : Fin 4 := ⟨n / 2, by have : n < 8 := hn; omega⟩
/-- The position of the `n`-th grid point's row `r`. -/
def row (n : ℕ) (r : Fin 256) : Fin 256 := r
/-- The position of the `n`-th grid point's column `j`. -/
def col (n : ℕ) (j : Fin 2048) : Fin 4096 := ⟨n % 2 * 2048 + j.val, by omega⟩

/-- The host's cut and cast of the wide weights, -/
theorem wide_weights_at (k : Fin 2048) (n : Fin 4096) :
    (V m c main_v3 : S2048x4096.Idx → EReal) (ix2 k n) = (m (c, Proc.tc.devRef main_arg4) : S2048x4128.Idx → EReal) (ix2 k (source n)) := by
  have e : (V m c main_v3 : FVec Ideal S2048x4096 .bf16) = truncf .bf16 (concatenate S2048x4096 1
      [⟨S2048x3072, (extractStridedSlice S2048x3072 ![0, 0] (m (c, Proc.tc.devRef main_arg4) : FVec Ideal S2048x4128 .f32) slices_S2048x4128_S2048x3072_0_0 : FVec Ideal S2048x3072 .f32)⟩,
        ⟨S2048x1024, (extractStridedSlice S2048x1024 ![0, 3104] (m (c, Proc.tc.devRef main_arg4) : FVec Ideal S2048x4128 .f32) slices_S2048x4128_S2048x1024_0_3104 : FVec Ideal S2048x1024 .f32)⟩]
      concatenates_S2048x3072_S2048x1024_S2048x4096_d1 : FVec Ideal S2048x4096 .f32) bitsLt_bf16_f32 := by
    show StableHlo.after _ _ _ = _
    after_reads_simp
    rfl
  rw [e]
  generalize (m (c, Proc.tc.devRef main_arg4) : FVec Ideal S2048x4128 .f32) = W
  have go : ∀ j : Fin 4128, j.val = (source n).val → (W (ix2 k j) : EReal) = W (ix2 k (source n)) := fun j h => by rw [Fin.ext h]
  pointwise []
  split
  all_goals refine go _ ?_; dsimp only [source]; split <;> omega

/-- and of the narrow ones, padded by zeros. -/
theorem narrow_weights_at (k : Fin 2048) (j : Fin 128) :
    (V m c main_v6 : S2048x128.Idx → EReal) (ix2 k j)
      = if h : j.val < 32 then ((m (c, Proc.tc.devRef main_arg4) : S2048x4128.Idx → EReal) (ix2 k (source' j h)) : EReal) else (0 : EReal) := by
  have e : (V m c main_v6 : FVec Ideal S2048x128 .bf16) = truncf .bf16 (pad S2048x128 ![0, 0] ![0, 96] ![0, 0]
      (extractStridedSlice S2048x32 ![0, 3072] (m (c, Proc.tc.devRef main_arg4) : FVec Ideal S2048x4128 .f32) slices_S2048x4128_S2048x32_0_3072)
      (sitofp .f32 (constantI S_ 32 0#32) : FVec Ideal S_ .f32) pads_S2048x32_S2048x128_000_0960 h_S_) bitsLt_bf16_f32 := by
    show StableHlo.after _ _ _ = _
    after_reads_simp
    rfl
  rw [e]
  generalize (m (c, Proc.tc.devRef main_arg4) : FVec Ideal S2048x4128 .f32) = W
  pointwise [source']
  rw [Cert.InReferenceIdeal.Hand.zero_cast]

/-- The host's reshape of the norm's weight. -/
theorem scale_at (n : Fin 2048) : (V m c main_v10 : S1x2048.Idx → EReal) (ix2 0 n) = (m (c, Proc.tc.devRef main_arg1) : S2048.Idx → EReal) (ix1 n) := by
  have e : (V m c main_v10 : FVec Ideal S1x2048 .f32) = shapeCast S1x2048 (m (c, Proc.tc.devRef main_arg1) : FVec Ideal S2048 .f32) shapeCasts_S2048_S1x2048 := by
    show StableHlo.after _ _ _ = _
    after_reads_simp
    rfl
  rw [e]
  pointwise []

/-- The factors of the columns, as the host lays them out. -/
theorem factor_at (n : Fin 4096) : (V m c main_v11 : S1x4096.Idx → EReal) (ix2 0 n) = factor n.val := by
  have e : (V m c main_v11 : FVec Ideal S1x4096 .f32) = shapeCast S1x4096 (concatenate S4096 0
      [⟨S512, (broadcastInDim S512 ![] bcast_S_S512 (constant S_ .f32 0x3DB504F3#32) : FVec Ideal S512 .f32)⟩,
        ⟨S3584, (broadcastInDim S3584 ![] bcast_S_S3584 (constant S_ .f32 0x3F800000#32) : FVec Ideal S3584 .f32)⟩]
      concatenates_S512_S3584_S4096_d0 : FVec Ideal S4096 .f32) shapeCasts_S4096_S1x4096 := by
    show StableHlo.after _ _ _ = _
    after_reads_simp
    rfl
  rw [e]
  unfold factor
  by_cases h : n.val < 512
  · rw [if_pos h]
    pointwise []
    rw [dif_pos h]
  · rw [if_neg h]
    pointwise []
    rw [dif_neg h]

theorem block0_at (t : Fin cfg0.N) (r : Fin 256) (k : Fin 2048) :
    (iblk m c 0 t (ix3 0 r k) : EReal) = (m (c, Proc.tc.devRef main_arg0) : S4x256x2048.Idx → EReal) (ix3 (image t t.isLt) (row t r) k) := by
  obtain ⟨e0, e1, e2⟩ := index0 t
  blk_ext [iblk, image, row] <;> simp only [e0, e1, e2] <;> omega
theorem block1_at (t : Fin cfg0.N) (k : Fin 2048) :
    (iblk m c 1 t (ix2 0 k) : EReal) = (m (c, Proc.tc.devRef main_arg1) : S2048.Idx → EReal) (ix1 k) := by
  obtain ⟨e0, e1⟩ := index1 t
  rw [← scale_at m c]
  blk_ext [iblk] <;> simp only [e0, e1] <;> omega
theorem block2_at (t : Fin cfg0.N) (k : Fin 2048) :
    (iblk m c 2 t (ix3 0 0 k) : EReal) = (m (c, Proc.tc.devRef main_arg2) : S4x1x2048.Idx → EReal) (ix3 (image t t.isLt) 0 k) := by
  obtain ⟨e0, e1, e2⟩ := index2 t
  blk_ext [iblk, image] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t t.isLt) 0 k) := by
  obtain ⟨e0, e1, e2⟩ := index3 t
  blk_ext [iblk, image] <;> simp only [e0, e1, e2] <;> omega
theorem block4_at (t : Fin cfg0.N) (k n : Fin 2048) :
    (iblk m c 4 t (ix2 k n) : EReal) = (m (c, Proc.tc.devRef main_arg4) : S2048x4128.Idx → EReal) (ix2 k (source (col t n))) := by
  obtain ⟨e0, e1⟩ := index4 t
  rw [← wide_weights_at m c]
  blk_ext [iblk, col] <;> simp only [e0, e1] <;> omega
theorem block5_at (t : Fin cfg0.N) (n : Fin 2048) : (iblk m c 5 t (ix2 0 n) : EReal) = factor (col t n).val := by
  obtain ⟨e0, e1⟩ := index5 t
  rw [← factor_at m c]
  blk_ext [iblk, col] <;> simp only [e0, e1] <;> omega
theorem block6_at (t : Fin cfg0.N) (k : Fin 2048) (j : Fin 128) :
    (iblk m c 6 t (ix2 k j) : EReal) = if h : j.val < 32 then ((m (c, Proc.tc.devRef main_arg4) : S2048x4128.Idx → EReal) (ix2 k (source' j h)) : EReal) else (0 : EReal) := by
  obtain ⟨e0, e1⟩ := index6 t
  rw [← narrow_weights_at m c]
  blk_ext [iblk] <;> simp only [e0, e1] <;> omega
theorem place7_at (t : Fin cfg0.N) (r : Fin 256) (n : Fin 2048) :
    (win0_7.blk t).view.emb (ix3 0 r n) = (ix3 (image t t.isLt) (row t r) (col t n) : S4x256x4096.Idx) := by
  obtain ⟨e0, e1, e2⟩ := index7 t
  blk_ext [image, row, col] <;> simp only [e0, e1, e2] <;> omega
theorem place8_at (t : Fin cfg0.N) (r : Fin 256) (j : Fin 128) :
    (win0_8.blk t).view.emb (ix3 0 r j) = (ix3 (image t t.isLt) (row t r) j : S4x256x128.Idx) := by
  obtain ⟨e0, e1, e2⟩ := index8 t
  blk_ext [image, row] <;> simp only [e0, e1, e2] <;> omega

/-- The normalised and modulated entry at an index of the whole array. -/
def entry (b : Fin 4) (r : Fin 256) (k : Fin 2048) : EReal :=
  modulated ((m (c, Proc.tc.devRef main_arg0) : S4x256x2048.Idx → EReal) (ix3 b r k))
    (fun l => (m (c, Proc.tc.devRef main_arg0) : S4x256x2048.Idx → EReal) (ix3 b r l))
    ((m (c, Proc.tc.devRef main_arg1) : S2048.Idx → EReal) (ix1 k)) ((m (c, Proc.tc.devRef main_arg2) : S4x1x2048.Idx → EReal) (ix3 b 0 k))
    ((m (c, Proc.tc.devRef main_arg3) : S4x1x2048.Idx → EReal) (ix3 b 0 k))

/-- The product of a row of these with a column of the weights. -/
def dot (b : Fin 4) (r : Fin 256) (n : Fin 4128) : EReal := ∑ k : Fin 2048, entry m c b r k * (m (c, Proc.tc.devRef main_arg4) : S2048x4128.Idx → EReal) (ix2 k n)

theorem image_succ (n : ℕ) (hn : n + 1 < cfg0.N) (h0 : ¬(n + 1) % 2 = 0) : image n (Nat.lt_of_succ_lt hn) = image (n + 1) hn :=
  Fin.ext (show n / 2 = (n + 1) / 2 by omega)
theorem row_succ (n : ℕ) (r : Fin 256) (h0 : ¬(n + 1) % 2 = 0) : row n r = row (n + 1) r :=
  rfl

/-- After every grid point the scratch holds the rows of that point's row block: its first point puts them there, the second leaves them. -/
theorem scratch_at : ∀ (n : ℕ) (hn : n < cfg0.N) (r : Fin 256) (k : Fin 2048),
    ((outsAt0 m c n hn).2.2 (ix2 r k) : EReal) = entry m c (image n hn) (row n r) k := by
  intro n
  induction n with
  | zero =>
    intro hn r k
    rw [outsAt0_A m c ⟨0, hn⟩ rfl]
    dsimp only
    rw [scratchA_at]
    simp only [block0_at, block1_at, block2_at, block3_at]
    rfl
  | succ n ih =>
    intro hn r k
    by_cases h0 : (n + 1) % 2 = 0
    · rw [outsAt0_A m c ⟨n + 1, hn⟩ h0]
      dsimp only
      rw [scratchA_at]
      simp only [block0_at, block1_at, block2_at, block3_at]
      rfl
    · rw [outsAt0_B m c ⟨n + 1, hn⟩ h0]
      refine (ih (Nat.lt_of_succ_lt hn) r k).trans ?_
      rw [image_succ n hn h0, row_succ n r h0]

/-- What the narrow result's block holds after every grid point. -/
theorem narrow_point_at : ∀ (n : ℕ) (hn : n < cfg0.N) (r : Fin 256) (j : Fin 128),
    ((outsAt0 m c n hn).2.1 (ix3 0 r j) : EReal) = if h : j.val < 32 then dot m c (image n hn) (row n r) (source' j h) else 0 := by
  have first : ∀ (t : Fin cfg0.N), t.val % 2 = 0 → ∀ (r : Fin 256) (j : Fin 128),
      ((outsAt0 m c t.val t.isLt).2.1 (ix3 0 r j) : EReal) = if h : j.val < 32 then dot m c (image t t.isLt) (row t r) (source' j h) else 0 := by
    intro t h0 r j
    rw [outsAt0_A m c t h0]
    dsimp only
    rw [narrowA_at]
    simp only [block0_at, block1_at, block2_at, block3_at, block6_at]
    by_cases h : j.val < 32
    · simp only [dif_pos h]
      rfl
    · simp only [dif_neg h, mul_zero, Finset.sum_const_zero]
  intro n
  induction n with
  | zero => exact fun hn => first ⟨0, hn⟩ rfl
  | succ n ih =>
    intro hn r j
    by_cases h0 : (n + 1) % 2 = 0
    · exact first ⟨n + 1, hn⟩ h0 r j
    · rw [outsAt0_B m c ⟨n + 1, hn⟩ h0]
      refine (ih (Nat.lt_of_succ_lt hn) r j).trans ?_
      rw [image_succ n hn h0, row_succ n r h0]

/-- What every grid point stores in the wide result's block. -/
theorem wide_point_at (t : Fin cfg0.N) (r : Fin 256) (n : Fin 2048) :
    ((outsAt0 m c t.val t.isLt).1 (ix3 0 r n) : EReal)
      = dot m c (image t t.isLt) (row t r) (source (col t n)) * factor (col t n).val := by
  by_cases h0 : t.val % 2 = 0
  · rw [outsAt0_A m c t h0]
    dsimp only
    rw [wideA_at, block5_at]
    simp only [block0_at, block1_at, block2_at, block3_at, block4_at]
    rfl
  · rw [outsAt0_B m c t h0]
    dsimp only
    rw [wideB_at, block5_at]
    simp only [block4_at, scratch_at]
    have hlt : t.val - 1 < cfg0.N := Nat.lt_of_le_of_lt (Nat.sub_le _ _) t.isLt
    have e1 : image (t.val - 1) hlt = image t t.isLt := Fin.ext (show (t.val - 1) / 2 = t.val / 2 by omega)
    have e2 : row (t.val - 1) r = row t r := rfl
    rw [e1, e2]
    rfl

/-- The product the reference computes of the kernel's arguments. -/
def product : Cert.CtxInReferenceIdeal.S4x256x4128.Idx → EReal :=
  Cert.CtxInReferenceIdeal.Hand.product (m (c, Proc.tc.devRef main_arg0)) (m (c, Proc.tc.devRef main_arg1)) (m (c, Proc.tc.devRef main_arg2))
    (m (c, Proc.tc.devRef main_arg3)) (m (c, Proc.tc.devRef main_arg4))
theorem dot_eq (b : Fin 4) (r : Fin 256) (n : Fin 4128) : dot m c b r n = product m c (ix3 b r n) :=
  (Cert.CtxInReferenceIdeal.Hand.product_at _ _ _ _ _ b r n).symm

/-- The kernel's wide result is the reference's, -/
theorem wide_final : ((dats m 0 c).arrAt 7 cfg0.N : S4x256x4096.Idx → EReal) = Cert.CtxInReferenceIdeal.Hand.wide (product m c) := by
  refine (dats m 0 c).arrAt_eq_of_covers 7 _ (by decide +kernel) fun t _ y => ?_
  blk_simp
  rw [after0_7]
  idx_vars y
  obtain rfl : y0 = 0 := by omega
  rw [wide_point_at]
  refine Eq.trans ?_ (congrArg _ (place7_at t y1 y2).symm)
  rw [Cert.CtxInReferenceIdeal.Hand.wide_at, dot_eq]

/-- and so is the narrow one. -/
theorem narrow_final : ((dats m 0 c).arrAt 8 cfg0.N : S4x256x128.Idx → EReal) = Cert.CtxInReferenceIdeal.Hand.narrow (product m c) := by
  refine (dats m 0 c).arrAt_eq_of_covers 8 _ (by decide +kernel) fun t _ y => ?_
  blk_simp
  rw [after0_8]
  idx_vars y
  obtain rfl : y0 = 0 := by omega
  rw [narrow_point_at]
  refine Eq.trans ?_ (congrArg _ (place8_at t y1 y2).symm)
  rw [Cert.CtxInReferenceIdeal.Hand.narrow_at]
  simp only [dot_eq]

end Cert.CtxInKernelIdeal.Hand

end
-- ==== Proof.L.CtxQkv.lean ====
module

public import proofs.«01_k».proof.Proof.Gen.CtxQkvKernelIdeal.Value
public import proofs.«01_k».proof.Proof.Gen.CtxQkvReferenceIdeal.Run
public import proofs.«01_k».proof.Proof.L.Qkv
public import Idealize.ShloMosaic.Lib.Pointwise
public import Idealize.ShloMosaic.Lib.Pipeline.ValueKit
public import Idealize.ShloMosaic.Lib.StableHlo.RunRead

/-! The query, key and value projection of the context's rows, all 256 of an image in one block: kernel and reference normalise the rows, modulate them and multiply by the weights, the queries' columns
scaled besides. The kernel keeps a row block's normalised rows in a scratch and uses them for the three column blocks that follow one another. -/

@[expose] public section

set_option maxRecDepth 16384

noncomputable section

namespace Cert.CtxQkvReferenceIdeal.Hand

open Cert.CtxQkvReferenceIdeal Cert.CtxQkvReferenceIdeal.Gen Idealize.ShloMosaic Idealize.ShloMosaic.TcCoe Idealize.SL.Sem
open Cert.Norm (scaled modulated)
open Cert.QkvReferenceIdeal.Hand (factor)

/-- The normalised and modulated rows. -/
def rows (X : FVec Ideal S4x256x2048 .f32) (G : FVec Ideal S2048 .f32) (H C : FVec Ideal S4x1x2048 .f32) : FVec Ideal S4x256x2048 .f32 :=
  addf (mulf (mulf (mulf X (broadcastInDim S4x256x2048 ![0, 1, 2] bcast_S4x256x1_S4x256x2048_0_1_2 (Host.rsqrt (addf
      (Host.divf (broadcastInDim S4x256x1 ![0, 1] bcast_S4x256_S4x256x1_0_1
          (Host.reduceAdd (mulf X X) (constant S_ .f32 0x00000000#32) reducesTo_S4x256x2048_S4x256_d2 h_S_))
        (broadcastInDim S4x256x1 ![] bcast_S_S4x256x1 (constant S_ .f32 0x45000000#32)))
      (broadcastInDim S4x256x1 ![] bcast_S_S4x256x1 (constant S_ .f32 0x358637BD#32))))))
    (broadcastInDim S4x256x2048 ![0, 1, 2] bcast_S1x1x2048_S4x256x2048_0_1_2 (broadcastInDim S1x1x2048 ![2] bcast_S2048_S1x1x2048_2 G)))
    (broadcastInDim S4x256x2048 ![0, 1, 2] bcast_S4x1x2048_S4x256x2048_0_1_2
      (addf (broadcastInDim S4x1x2048 ![] bcast_S_S4x1x2048 (constant S_ .f32 0x3F800000#32)) C)))
    (broadcastInDim S4x256x2048 ![0, 1, 2] bcast_S4x1x2048_S4x256x2048_0_1_2 H)

/-- The product, its first 2048 columns scaled. -/
def columns (P : FVec Ideal S4x256x6144 .f32) : FVec Ideal S4x256x6144 .bf16 :=
  truncf .bf16 ((concatenate S4x256x6144 2
      [⟨S4x256x2048, (mulf (extractStridedSlice S4x256x2048 ![0, 0, 0] P slices_S4x256x6144_S4x256x2048_0_0_0)
          (broadcastInDim S4x256x2048 ![] bcast_S_S4x256x2048 (constant S_ .f32 0x3DB504F3#32)) : FVec Ideal S4x256x2048 .f32)⟩,
        ⟨S4x256x2048, (extractStridedSlice S4x256x2048 ![0, 0, 2048] P slices_S4x256x6144_S4x256x2048_0_0_2048 : FVec Ideal S4x256x2048 .f32)⟩,
        ⟨S4x256x2048, (extractStridedSlice S4x256x2048 ![0, 0, 4096] P slices_S4x256x6144_S4x256x2048_0_0_4096 : FVec Ideal S4x256x2048 .f32)⟩]
      concatenates_S4x256x2048_S4x256x2048_S4x256x2048_S4x256x6144_d2 : FVec Ideal S4x256x6144 .f32)) bitsLt_bf16_f32

/-- What the reference computes of its arguments. -/
def result (X : FVec Ideal S4x256x2048 .f32) (G : FVec Ideal S2048 .f32) (H C : FVec Ideal S4x1x2048 .f32) (W : FVec Ideal S2048x6144 .f32) :
    FVec Ideal S4x256x6144 .bf16 :=
  columns (Host.dotGeneral dot_S4x256x2048_S2048x6144_S4x256x6144_2_0_01_1_n_n none (rows X G H C) W)

theorem rows_at (X : FVec Ideal S4x256x2048 .f32) (G : FVec Ideal S2048 .f32) (H C : FVec Ideal S4x1x2048 .f32) (b : Fin 4) (r : Fin 256)
    (k : Fin 2048) :
    rows X G H C (ix3 b r k) = modulated (X (ix3 b r k)) (fun l => X (ix3 b r l)) (G (ix1 k)) (H (ix3 b 0 k)) (C (ix3 b 0 k)) := by
  pointwise [rows, modulated, scaled]

theorem columns_at (P : FVec Ideal S4x256x6144 .f32) (b : Fin 4) (r : Fin 256) (n : Fin 6144) :
    columns P (ix3 b r n) = (P (ix3 b r n) : EReal) * factor n.val := by
  unfold factor
  by_cases h : n.val < 2048
  · rw [if_pos h]
    pointwise [columns]
    rw [dif_pos h]
  · rw [if_neg h, mul_one]
    pointwise [columns]
    rw [dif_neg h]
    by_cases h' : n.val - 2048 < 2048
    · rw [dif_pos h']
      exact congrArg (fun j => (P (ix3 b r j) : EReal)) (Fin.ext (by dsimp only; omega))
    · rw [dif_neg h']
      exact congrArg (fun j => (P (ix3 b r j) : EReal)) (Fin.ext (by dsimp only; omega))

/-- The reference's result at an index. -/
theorem result_at (X : FVec Ideal S4x256x2048 .f32) (G : FVec Ideal S2048 .f32) (H C : FVec Ideal S4x1x2048 .f32) (W : FVec Ideal S2048x6144 .f32)
    (b : Fin 4) (r : Fin 256) (n : Fin 6144) :
    result X G H C W (ix3 b r n)
      = (∑ k : Fin 2048, modulated (X (ix3 b r k)) (fun l => X (ix3 b r l)) (G (ix1 k)) (H (ix3 b 0 k)) (C (ix3 b 0 k)) * W (ix2 k n)) * factor n.val := by
  have e : (Host.dotGeneral dot_S4x256x2048_S2048x6144_S4x256x6144_2_0_01_1_n_n none (rows X G H C) W : FVec Ideal S4x256x6144 .f32) (ix3 b r n)
      = ∑ k : Fin 2048, (rows X G H C (ix3 b r k) : EReal) * W (ix2 k n) := by
    generalize rows X G H C = R
    pointwise []
  unfold result
  rw [columns_at, e]
  simp only [rows_at]

end Cert.CtxQkvReferenceIdeal.Hand

namespace Cert.CtxQkvKernelIdeal.Hand

open Cert.CtxQkvKernelIdeal Cert.CtxQkvKernelIdeal.Gen Idealize.ShloMosaic Idealize.ShloMosaic.TcCoe Idealize.SL.Sem
open Cert.Norm (scaled modulated)
open Cert.QkvReferenceIdeal.Hand (factor)

section
variable (c : Dev nD) (i : grid0.Coords) (arg3 : Memref sig .tc .vmem S1x256x2048 .f32) (harg3 : arg3.IsWhole)
  (arg4 : Memref sig .tc .vmem S1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S2048x2048 .bf16) (harg7 : arg7.IsWhole)
  (arg8 : Memref sig .tc .vmem S1x2048 .f32) (harg8 : arg8.IsWhole) (arg9 : Memref sig .tc .vmem S1x256x2048 .bf16) (harg9 : arg9.IsWhole)
  (arg10 : Memref sig .tc .vmem S256x2048 .bf16) (harg10 : arg10.IsWhole) (x0 : Vec Ideal S1x256x2048 .f32) (x1 : Vec Ideal S1x2048 .f32)
  (x2 x3 : Vec Ideal S1x1x2048 .f32) (x4 : Vec Ideal S2048x2048 .bf16) (x5 : Vec Ideal S1x2048 .f32)

/-- What a row block's first grid point leaves in the scratch, at an index. -/
theorem scratchA_at (hc0 : cond0_0 i) (r : Fin 256) (k : Fin 2048) :
    sout0_A_0 (F := Ideal) c i arg3 harg3 arg4 harg4 arg5 harg5 arg6 harg6 arg7 harg7 arg8 harg8 arg9 harg9 arg10 harg10 hc0 x0 x1 x2 x3 x4 x5 (ix2 r k)
      = modulated (x0 (ix3 0 r k)) (fun l => x0 (ix3 0 r l)) (x1 (ix2 0 k)) (x2 (ix3 0 0 k)) (x3 (ix3 0 0 k)) := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg3.read_unread, harg4.read_unread, harg5.read_unread, harg6.read_unread, harg7.read_unread, harg8.read_unread]
  canon_tiles x h
  pointwise [k0_pay1, modulated, scaled]
  obtain rfl : r = x 0 := Fin.ext h0
  obtain rfl : k = x 1 := Fin.ext h1
  rfl

/-- What that point stores: the product with the rows it has just put in the scratch. -/
theorem outA_at (hc0 : cond0_0 i) (r : Fin 256) (n : Fin 2048) :
    out0_A_6 (F := Ideal) c i arg3 harg3 arg4 harg4 arg5 harg5 arg6 harg6 arg7 harg7 arg8 harg8 arg9 harg9 arg10 harg10 hc0 x0 x1 x2 x3 x4 x5 (ix3 0 r n)
      = (∑ k : Fin 2048, modulated (x0 (ix3 0 r k)) (fun l => x0 (ix3 0 r l)) (x1 (ix2 0 k)) (x2 (ix3 0 0 k)) (x3 (ix3 0 0 k)) * x4 (ix2 k n))
        * x5 (ix2 0 n) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg3.read_unread, harg4.read_unread, harg5.read_unread, harg6.read_unread, harg7.read_unread, harg8.read_unread, View.readCov_cons_toLoadRect]
  canon_tiles x h
  pointwise [k0_pay2, k0_pay1, modulated, scaled]
  obtain rfl : r = x 1 := Fin.ext h1
  obtain rfl : n = x 2 := Fin.ext h2
  rfl

/-- What the row block's other points store: the product with the rows found in the scratch. -/
theorem outB_at (hc0 : ¬ cond0_0 i) (xs0 : Vec Ideal S256x2048 .bf16) (r : Fin 256) (n : Fin 2048) :
    out0_B_6 (F := Ideal) c i arg3 harg3 arg4 harg4 arg5 harg5 arg6 harg6 arg7 harg7 arg8 harg8 arg9 harg9 arg10 harg10 hc0 x0 x1 x2 x3 x4 x5 xs0 (ix3 0 r n)
      = (∑ k : Fin 2048, (xs0 (ix2 r k) : EReal) * x4 (ix2 k n)) * x5 (ix2 0 n) := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  simp only [View.readAt_eq_ld, harg3.read_unread, harg4.read_unread, harg5.read_unread, harg6.read_unread, harg7.read_unread, harg8.read_unread, harg10.read_unread]
  canon_tiles x h
  pointwise [k0_pay2]
  obtain rfl : r = x 1 := Fin.ext h1
  obtain rfl : n = x 2 := Fin.ext h2
  rfl
end

theorem index0 : ∀ t : Fin cfg0.N, win0_0.index t 0 = t.val / 3 ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val / 3 ∧ win0_2.index t 1 = 0 ∧ win0_2.index t 2 = 0 := by decide +kernel
theorem index3 : ∀ t : Fin cfg0.N, win0_3.index t 0 = t.val / 3 ∧ win0_3.index t 1 = 0 ∧ win0_3.index t 2 = 0 := by decide +kernel
theorem index4 : ∀ t : Fin cfg0.N, win0_4.index t 0 = 0 ∧ win0_4.index t 1 = t.val % 3 := by decide +kernel
theorem index5 : ∀ t : Fin cfg0.N, win0_5.index t 0 = 0 ∧ win0_5.index t 1 = t.val % 3 := by decide +kernel
theorem index6 : ∀ t : Fin cfg0.N, win0_6.index t 0 = t.val / 3 ∧ win0_6.index t 1 = 0 ∧ win0_6.index t 2 = t.val % 3 := by
  decide +kernel

variable (m : (ℓ : Loc nD τ sig) → Buf (Elt Ideal) ℓ) (c : Dev nD)

/-- The image of the `n`-th grid point. -/
def image (n : ℕ) (hn : n < cfg0.N) : Fin 4 := ⟨n / 3, by have : n < 12 := hn; omega⟩
/-- The position of the `n`-th grid point's row `r`. -/
def row (n : ℕ) (r : Fin 256) : Fin 256 := r
/-- The position of the `n`-th grid point's column `j`. -/
def col (n : ℕ) (j : Fin 2048) : Fin 6144 := ⟨n % 3 * 2048 + j.val, by omega⟩

/-- The host's cast of the weights. -/
theorem weights_eq : (V m c main_v3 : S2048x6144.Idx → EReal) = m (c, Proc.tc.devRef main_arg4) := by
  show StableHlo.after _ _ _ = _
  after_reads_simp
  rfl

/-- The host's reshape of the norm's weight. -/
theorem scale_at (n : Fin 2048) : (V m c main_v4 : S1x2048.Idx → EReal) (ix2 0 n) = (m (c, Proc.tc.devRef main_arg1) : S2048.Idx → EReal) (ix1 n) := by
  have e : (V m c main_v4 : FVec Ideal S1x2048 .f32) = shapeCast S1x2048 (m (c, Proc.tc.devRef main_arg1) : FVec Ideal S2048 .f32) shapeCasts_S2048_S1x2048 := by
    show StableHlo.after _ _ _ = _
    after_reads_simp
    rfl
  rw [e]
  pointwise []

/-- The factors of the columns, as the host lays them out. -/
theorem factor_at (n : Fin 6144) : (V m c main_v5 : S1x6144.Idx → EReal) (ix2 0 n) = factor n.val := by
  have e : (V m c main_v5 : FVec Ideal S1x6144 .f32) = shapeCast S1x6144 (concatenate S6144 0
      [⟨S2048, (broadcastInDim S2048 ![] bcast_S_S2048 (constant S_ .f32 0x3DB504F3#32) : FVec Ideal S2048 .f32)⟩,
        ⟨S4096, (broadcastInDim S4096 ![] bcast_S_S4096 (constant S_ .f32 0x3F800000#32) : FVec Ideal S4096 .f32)⟩]
      concatenates_S2048_S4096_S6144_d0 : FVec Ideal S6144 .f32) shapeCasts_S6144_S1x6144 := by
    show StableHlo.after _ _ _ = _
    after_reads_simp
    rfl
  rw [e]
  unfold factor
  by_cases h : n.val < 2048
  · rw [if_pos h]
    pointwise []
    rw [dif_pos h]
  · rw [if_neg h]
    pointwise []
    rw [dif_neg h]

theorem block0_at (t : Fin cfg0.N) (r : Fin 256) (k : Fin 2048) :
    (iblk m c 0 t (ix3 0 r k) : EReal) = (m (c, Proc.tc.devRef main_arg0) : S4x256x2048.Idx → EReal) (ix3 (image t t.isLt) (row t r) k) := by
  obtain ⟨e0, e1, e2⟩ := index0 t
  blk_ext [iblk, image, row] <;> simp only [e0, e1, e2] <;> omega
theorem block1_at (t : Fin cfg0.N) (k : Fin 2048) :
    (iblk m c 1 t (ix2 0 k) : EReal) = (m (c, Proc.tc.devRef main_arg1) : S2048.Idx → EReal) (ix1 k) := by
  obtain ⟨e0, e1⟩ := index1 t
  rw [← scale_at m c]
  blk_ext [iblk] <;> simp only [e0, e1] <;> omega
theorem block2_at (t : Fin cfg0.N) (k : Fin 2048) :
    (iblk m c 2 t (ix3 0 0 k) : EReal) = (m (c, Proc.tc.devRef main_arg2) : S4x1x2048.Idx → EReal) (ix3 (image t t.isLt) 0 k) := by
  obtain ⟨e0, e1, e2⟩ := index2 t
  blk_ext [iblk, image] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t t.isLt) 0 k) := by
  obtain ⟨e0, e1, e2⟩ := index3 t
  blk_ext [iblk, image] <;> simp only [e0, e1, e2] <;> omega
theorem block4_at (t : Fin cfg0.N) (k n : Fin 2048) :
    (iblk m c 4 t (ix2 k n) : EReal) = (m (c, Proc.tc.devRef main_arg4) : S2048x6144.Idx → EReal) (ix2 k (col t n)) := by
  obtain ⟨e0, e1⟩ := index4 t
  rw [← weights_eq m c]
  blk_ext [iblk, col] <;> simp only [e0, e1] <;> omega
theorem block5_at (t : Fin cfg0.N) (n : Fin 2048) : (iblk m c 5 t (ix2 0 n) : EReal) = factor (col t n).val := by
  obtain ⟨e0, e1⟩ := index5 t
  rw [← factor_at m c]
  blk_ext [iblk, col] <;> simp only [e0, e1] <;> omega
theorem place_at (t : Fin cfg0.N) (r : Fin 256) (n : Fin 2048) :
    (win0_6.blk t).view.emb (ix3 0 r n) = (ix3 (image t t.isLt) (row t r) (col t n) : S4x256x6144.Idx) := by
  obtain ⟨e0, e1, e2⟩ := index6 t
  blk_ext [image, row, col] <;> simp only [e0, e1, e2] <;> omega

/-- The normalised and modulated entry at an index of the whole array. -/
def entry (b : Fin 4) (r : Fin 256) (k : Fin 2048) : EReal :=
  modulated ((m (c, Proc.tc.devRef main_arg0) : S4x256x2048.Idx → EReal) (ix3 b r k))
    (fun l => (m (c, Proc.tc.devRef main_arg0) : S4x256x2048.Idx → EReal) (ix3 b r l))
    ((m (c, Proc.tc.devRef main_arg1) : S2048.Idx → EReal) (ix1 k)) ((m (c, Proc.tc.devRef main_arg2) : S4x1x2048.Idx → EReal) (ix3 b 0 k))
    ((m (c, Proc.tc.devRef main_arg3) : S4x1x2048.Idx → EReal) (ix3 b 0 k))

/-- After every grid point the scratch holds the rows of that point's row block: its first point puts them there, the others leave them. -/
theorem scratch_at : ∀ (n : ℕ) (hn : n < cfg0.N) (r : Fin 256) (k : Fin 2048),
    ((outsAt0 m c n hn).2 (ix2 r k) : EReal) = entry m c (image n hn) (row n r) k := by
  intro n
  induction n with
  | zero =>
    intro hn r k
    rw [outsAt0_A m c ⟨0, hn⟩ rfl]
    dsimp only
    rw [scratchA_at]
    simp only [block0_at, block1_at, block2_at, block3_at]
    rfl
  | succ n ih =>
    intro hn r k
    by_cases h0 : (n + 1) % 3 = 0
    · rw [outsAt0_A m c ⟨n + 1, hn⟩ h0]
      dsimp only
      rw [scratchA_at]
      simp only [block0_at, block1_at, block2_at, block3_at]
      rfl
    · rw [outsAt0_B m c ⟨n + 1, hn⟩ h0]
      refine (ih (Nat.lt_of_succ_lt hn) r k).trans ?_
      have e1 : image n (Nat.lt_of_succ_lt hn) = image (n + 1) hn := Fin.ext (show n / 3 = (n + 1) / 3 by omega)
      have e2 : row n r = row (n + 1) r := rfl
      rw [e1, e2]

/-- What every grid point stores, at an index. -/
theorem point_at (t : Fin cfg0.N) (r : Fin 256) (n : Fin 2048) :
    ((outsAt0 m c t.val t.isLt).1 (ix3 0 r n) : EReal)
      = (∑ k : Fin 2048, entry m c (image t t.isLt) (row t r) k * (m (c, Proc.tc.devRef main_arg4) : S2048x6144.Idx → EReal) (ix2 k (col t n)))
        * factor (col t n).val := by
  by_cases h0 : t.val % 3 = 0
  · rw [outsAt0_A m c t h0]
    dsimp only
    rw [outA_at, block5_at]
    simp only [block0_at, block1_at, block2_at, block3_at, block4_at]
    rfl
  · rw [outsAt0_B m c t h0]
    dsimp only
    rw [outB_at, block5_at]
    simp only [block4_at, scratch_at]
    have hlt : t.val - 1 < cfg0.N := Nat.lt_of_le_of_lt (Nat.sub_le _ _) t.isLt
    have e1 : image (t.val - 1) hlt = image t t.isLt := Fin.ext (show (t.val - 1) / 3 = t.val / 3 by omega)
    have e2 : row (t.val - 1) r = row t r := rfl
    rw [e1, e2]

/-- The kernel's result is the reference's. -/
theorem final : ((dats m 0 c).arrAt 6 cfg0.N : S4x256x6144.Idx → EReal)
    = Cert.CtxQkvReferenceIdeal.Hand.result (m (c, Proc.tc.devRef main_arg0)) (m (c, Proc.tc.devRef main_arg1)) (m (c, Proc.tc.devRef main_arg2))
      (m (c, Proc.tc.devRef main_arg3)) (m (c, Proc.tc.devRef main_arg4)) := by
  refine (dats m 0 c).arrAt_eq_of_covers 6 _ (by decide +kernel) fun t _ y => ?_
  blk_simp
  rw [after0_6]
  idx_vars y
  obtain rfl : y0 = 0 := by omega
  rw [point_at]
  refine Eq.trans ?_ (congrArg _ (place_at t y1 y2).symm)
  rw [Cert.CtxQkvReferenceIdeal.Hand.result_at]
  rfl

end Cert.CtxQkvKernelIdeal.Hand

end
-- ==== Proof.L.CtxOut.lean ====
module

public import proofs.«01_k».proof.Proof.Gen.CtxOutKernelIdeal.Value
public import proofs.«01_k».proof.Proof.Gen.CtxOutReferenceIdeal.Run
public import Idealize.ShloMosaic.Lib.Pointwise
public import Idealize.ShloMosaic.Lib.Pipeline.ValueKit
public import Idealize.ShloMosaic.Lib.StableHlo.RunRead

/-! The output projection of the attention layers, for the context's rows, with its gated residual: kernel and reference compute `x + gate * (o @ w)`. -/

@[expose] public section

set_option maxRecDepth 16384

noncomputable section

namespace Cert.CtxOutReferenceIdeal.Hand

open Cert.CtxOutReferenceIdeal Cert.CtxOutReferenceIdeal.Gen Idealize.ShloMosaic Idealize.ShloMosaic.TcCoe Idealize.SL.Sem

/-- What the reference computes of its arguments. -/
def result (O : FVec Ideal S4x256x2048 .bf16) (W : FVec Ideal S2048x2048 .f32) (X : FVec Ideal S4x256x2048 .f32) (G : FVec Ideal S4x1x2048 .f32) : FVec Ideal S4x256x2048 .f32 :=
  addf X (mulf (broadcastInDim S4x256x2048 ![0, 1, 2] bcast_S4x1x2048_S4x256x2048_0_1_2 G)
    (Host.dotGeneral dot_S4x256x2048_S2048x2048_S4x256x2048_2_0_01_1_n_n none (extf .f32 O bitsLt_bf16_f32) W))

/-- The reference's result at an index. -/
theorem result_at (O : FVec Ideal S4x256x2048 .bf16) (W : FVec Ideal S2048x2048 .f32) (X : FVec Ideal S4x256x2048 .f32) (G : FVec Ideal S4x1x2048 .f32) (b : Fin 4) (r : Fin 256) (n : Fin 2048) :
    result O W X G (ix3 b r n)
      = (X (ix3 b r n) : EReal) + G (ix3 b 0 n) * ∑ k : Fin 2048, (O (ix3 b r k) : EReal) * W (ix2 k n) := by
  pointwise [result]

end Cert.CtxOutReferenceIdeal.Hand

namespace Cert.CtxOutKernelIdeal.Hand

open Cert.CtxOutKernelIdeal Cert.CtxOutKernelIdeal.Gen Idealize.ShloMosaic Idealize.ShloMosaic.TcCoe Idealize.SL.Sem

/-- What a grid point stores, at an index. -/
theorem out_at (x0 : Vec Ideal S1x256x2048 .bf16) (x1 : Vec Ideal S2048x2048 .bf16) (x2 : Vec Ideal S1x256x2048 .f32) (x3 : Vec Ideal S1x1x2048 .f32)
    (r : Fin 256) (n : Fin 2048) :
    out0_4 (F := Ideal) x0 x1 x2 x3 (ix3 0 r n)
      = (x2 (ix3 0 r n) : EReal) + x3 (ix3 0 0 n) * ∑ k : Fin 2048, (x0 (ix3 0 r k) : EReal) * x1 (ix2 k n) := by
  unfold out0_4
  canon_tiles x h
  pointwise [k0_pay1]
  obtain rfl : r = x 1 := Fin.ext h1
  obtain rfl : n = x 2 := Fin.ext h2
  rfl

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 ∧ win0_2.index t 2 = 0 := by decide +kernel
theorem index3 : ∀ t : Fin cfg0.N, win0_3.index t 0 = t.val ∧ win0_3.index t 1 = 0 ∧ win0_3.index t 2 = 0 := by decide +kernel
theorem index4 : ∀ t : Fin cfg0.N, win0_4.index t 0 = t.val ∧ win0_4.index t 1 = 0 ∧ win0_4.index t 2 = 0 := by decide +kernel

variable (m : (ℓ : Loc nD τ sig) → Buf (Elt Ideal) ℓ) (c : Dev nD)

/-- The image of a grid point. -/
def image (t : Fin cfg0.N) : Fin 4 := ⟨t.val, by have : t.val < 4 := t.isLt; omega⟩
/-- The position of a grid point's row `r`. -/
def row (t : Fin cfg0.N) (r : Fin 256) : Fin 256 := ⟨r.val, by omega⟩

/-- The host's cast of the weights. -/
theorem weights_eq : (V m c main_v0 : S2048x2048.Idx → EReal) = m (c, Proc.tc.devRef main_arg1) := by
  show StableHlo.after _ _ _ = _
  after_reads_simp
  rfl

theorem block0_at (t : Fin cfg0.N) (r : Fin 256) (k : Fin 2048) :
    (iblk m c 0 t (ix3 0 r k) : EReal) = (m (c, Proc.tc.devRef main_arg0) : S4x256x2048.Idx → EReal) (ix3 (image t) (row t r) k) := by
  obtain ⟨e0, e1, e2⟩ := index0 t
  blk_ext [iblk, image, row] <;> simp only [e0, e1, e2] <;> omega
theorem block1_at (t : Fin cfg0.N) (k n : Fin 2048) :
    (iblk m c 1 t (ix2 k n) : EReal) = (m (c, Proc.tc.devRef main_arg1) : S2048x2048.Idx → EReal) (ix2 k n) := by
  obtain ⟨e0, e1⟩ := index1 t
  rw [← weights_eq m c]
  blk_ext [iblk] <;> simp only [e0, e1] <;> omega
theorem block2_at (t : Fin cfg0.N) (r : Fin 256) (k : Fin 2048) :
    (iblk m c 2 t (ix3 0 r k) : EReal) = (m (c, Proc.tc.devRef main_arg2) : S4x256x2048.Idx → EReal) (ix3 (image t) (row t r) k) := by
  obtain ⟨e0, e1, e2⟩ := index2 t
  blk_ext [iblk, image, row] <;> simp only [e0, e1, e2] <;> omega
theorem block3_at (t : Fin cfg0.N) (k : Fin 2048) :
    (iblk m c 3 t (ix3 0 0 k) : EReal) = (m (c, Proc.tc.devRef main_arg3) : S4x1x2048.Idx → EReal) (ix3 (image t) 0 k) := by
  obtain ⟨e0, e1, e2⟩ := index3 t
  blk_ext [iblk, image] <;> simp only [e0, e1, e2] <;> omega
theorem place_at (t : Fin cfg0.N) (r : Fin 256) (n : Fin 2048) : (win0_4.blk t).view.emb (ix3 0 r n) = (ix3 (image t) (row t r) n : S4x256x2048.Idx) := by
  obtain ⟨e0, e1, e2⟩ := index4 t
  blk_ext [image, row] <;> simp only [e0, e1, e2] <;> omega

/-- The kernel's result is the reference's. -/
theorem final : ((dats m 0 c).arrAt 4 cfg0.N : S4x256x2048.Idx → EReal)
    = Cert.CtxOutReferenceIdeal.Hand.result (m (c, Proc.tc.devRef main_arg0)) (m (c, Proc.tc.devRef main_arg1)) (m (c, Proc.tc.devRef main_arg2)) (m (c, Proc.tc.devRef main_arg3)) := by
  refine (dats m 0 c).arrAt_eq_of_covers 4 _ (by decide +kernel) fun t _ y => ?_
  blk_simp
  rw [after0_4]
  idx_vars y
  obtain rfl : y0 = 0 := by omega
  rw [out_at]
  refine Eq.trans ?_ (congrArg _ (place_at t y1 y2).symm)
  rw [Cert.CtxOutReferenceIdeal.Hand.result_at, block2_at, block3_at]
  simp only [block0_at, block1_at]

end Cert.CtxOutKernelIdeal.Hand

end
-- ==== Proof.L.CtxOutTwo.lean ====
module

public import proofs.«01_k».proof.Proof.Gen.CtxOutTwoKernelIdeal.Value
public import proofs.«01_k».proof.Proof.Gen.CtxOutTwoReferenceIdeal.Run
public import Idealize.ShloMosaic.Lib.Pointwise
public import Idealize.ShloMosaic.Lib.Pipeline.ValueKit
public import Idealize.ShloMosaic.Lib.StableHlo.RunRead

/-! The output projection, for the context's rows, of the layers with linear attention and Fourier mixing, with its gated residual: kernel and reference compute
`x + gate * ([y, u] @ w)`, the kernel as two products with the halves of `w`. -/

@[expose] public section

set_option maxRecDepth 16384

noncomputable section

namespace Cert.CtxOutTwoReferenceIdeal.Hand

open Cert.CtxOutTwoReferenceIdeal Cert.CtxOutTwoReferenceIdeal.Gen Idealize.ShloMosaic Idealize.ShloMosaic.TcCoe Idealize.SL.Sem

/-- What the reference computes of its arguments. -/
def result (Y : FVec Ideal S4x256x1024 .bf16) (U : FVec Ideal S4x256x1024 .f32) (W : FVec Ideal S2048x2048 .f32) (X : FVec Ideal S4x256x2048 .f32)
    (G : FVec Ideal S4x1x2048 .f32) : FVec Ideal S4x256x2048 .f32 :=
  addf X (mulf (broadcastInDim S4x256x2048 ![0, 1, 2] bcast_S4x1x2048_S4x256x2048_0_1_2 G)
    (Host.dotGeneral dot_S4x256x2048_S2048x2048_S4x256x2048_2_0_01_1_n_n none
      (concatenate S4x256x2048 2 [⟨S4x256x1024, extf .f32 Y bitsLt_bf16_f32⟩, ⟨S4x256x1024, U⟩]
        concatenates_S4x256x1024_S4x256x1024_S4x256x2048_d2) W))

/-- The reference's result at an index. -/
theorem result_at (Y : FVec Ideal S4x256x1024 .bf16) (U : FVec Ideal S4x256x1024 .f32) (W : FVec Ideal S2048x2048 .f32) (X : FVec Ideal S4x256x2048 .f32)
    (G : FVec Ideal S4x1x2048 .f32) (b : Fin 4) (r : Fin 256) (n : Fin 2048) :
    result Y U W X G (ix3 b r n)
      = (X (ix3 b r n) : EReal) + G (ix3 b 0 n)
        * (∑ k : Fin 1024, (Y (ix3 b r k) : EReal) * W (ix2 ⟨k.val, by omega⟩ n) + ∑ k : Fin 1024, (U (ix3 b r k) : EReal) * W (ix2 ⟨1024 + k.val, by omega⟩ n)) := by
  pointwise [result]

end Cert.CtxOutTwoReferenceIdeal.Hand

namespace Cert.CtxOutTwoKernelIdeal.Hand

open Cert.CtxOutTwoKernelIdeal Cert.CtxOutTwoKernelIdeal.Gen Idealize.ShloMosaic Idealize.ShloMosaic.TcCoe Idealize.SL.Sem

/-- What a grid point stores, at an index. -/
theorem out_at (x0 : Vec Ideal S1x256x1024 .bf16) (x1 : Vec Ideal S1x256x1024 .f32) (x2 x3 : Vec Ideal S1024x2048 .bf16) (x4 : Vec Ideal S1x256x2048 .f32)
    (x5 : Vec Ideal S1x1x2048 .f32) (r : Fin 256) (n : Fin 2048) :
    out0_6 (F := Ideal) x0 x1 x2 x3 x4 x5 (ix3 0 r n)
      = (x4 (ix3 0 r n) : EReal) + x5 (ix3 0 0 n)
        * (∑ k : Fin 1024, (x0 (ix3 0 r k) : EReal) * x2 (ix2 k n) + ∑ k : Fin 1024, (x1 (ix3 0 r k) : EReal) * x3 (ix2 k n)) := by
  unfold out0_6
  canon_tiles x h
  pointwise [k0_pay1]
  obtain rfl : r = x 1 := Fin.ext h1
  obtain rfl : n = x 2 := Fin.ext h2
  rfl

theorem index0 : ∀ t : Fin cfg0.N, win0_0.index t 0 = t.val ∧ win0_0.index t 1 = 0 ∧ win0_0.index t 2 = 0 := by decide +kernel
theorem index1 : ∀ t : Fin cfg0.N, win0_1.index t 0 = t.val ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 1 ∧ win0_3.index t 1 = 0 := by decide +kernel
theorem index4 : ∀ t : Fin cfg0.N, win0_4.index t 0 = t.val ∧ win0_4.index t 1 = 0 ∧ win0_4.index t 2 = 0 := by decide +kernel
theorem index5 : ∀ t : Fin cfg0.N, win0_5.index t 0 = t.val ∧ win0_5.index t 1 = 0 ∧ win0_5.index t 2 = 0 := by decide +kernel
theorem index6 : ∀ t : Fin cfg0.N, win0_6.index t 0 = t.val ∧ win0_6.index t 1 = 0 ∧ win0_6.index t 2 = 0 := by decide +kernel

variable (m : (ℓ : Loc nD τ sig) → Buf (Elt Ideal) ℓ) (c : Dev nD)

/-- The image of a grid point. -/
def image (t : Fin cfg0.N) : Fin 4 := ⟨t.val, by have : t.val < 4 := t.isLt; omega⟩
/-- The position of a grid point's row `r`. -/
def row (t : Fin cfg0.N) (r : Fin 256) : Fin 256 := ⟨r.val, by omega⟩

/-- The host's cast of the weights. -/
theorem weights_eq : (V m c main_v0 : S2048x2048.Idx → EReal) = m (c, Proc.tc.devRef main_arg2) := by
  show StableHlo.after _ _ _ = _
  after_reads_simp
  rfl

theorem block0_at (t : Fin cfg0.N) (r : Fin 256) (k : Fin 1024) :
    (iblk m c 0 t (ix3 0 r k) : EReal) = (m (c, Proc.tc.devRef main_arg0) : S4x256x1024.Idx → EReal) (ix3 (image t) (row t r) k) := by
  obtain ⟨e0, e1, e2⟩ := index0 t
  blk_ext [iblk, image, row] <;> simp only [e0, e1, e2] <;> omega
theorem block1_at (t : Fin cfg0.N) (r : Fin 256) (k : Fin 1024) :
    (iblk m c 1 t (ix3 0 r k) : EReal) = (m (c, Proc.tc.devRef main_arg1) : S4x256x1024.Idx → EReal) (ix3 (image t) (row t r) k) := by
  obtain ⟨e0, e1, e2⟩ := index1 t
  blk_ext [iblk, image, row] <;> simp only [e0, e1, e2] <;> omega
theorem block2_at (t : Fin cfg0.N) (k : Fin 1024) (n : Fin 2048) :
    (iblk m c 2 t (ix2 k n) : EReal) = (m (c, Proc.tc.devRef main_arg2) : S2048x2048.Idx → EReal) (ix2 ⟨k.val, by omega⟩ n) := by
  obtain ⟨e0, e1⟩ := index2 t
  rw [← weights_eq m c]
  blk_ext [iblk] <;> simp only [e0, e1] <;> omega
theorem block3_at (t : Fin cfg0.N) (k : Fin 1024) (n : Fin 2048) :
    (iblk m c 3 t (ix2 k n) : EReal) = (m (c, Proc.tc.devRef main_arg2) : S2048x2048.Idx → EReal) (ix2 ⟨1024 + k.val, by omega⟩ n) := by
  obtain ⟨e0, e1⟩ := index3 t
  rw [← weights_eq m c]
  blk_ext [iblk] <;> simp only [e0, e1] <;> omega
theorem block4_at (t : Fin cfg0.N) (r : Fin 256) (k : Fin 2048) :
    (iblk m c 4 t (ix3 0 r k) : EReal) = (m (c, Proc.tc.devRef main_arg3) : S4x256x2048.Idx → EReal) (ix3 (image t) (row t r) k) := by
  obtain ⟨e0, e1, e2⟩ := index4 t
  blk_ext [iblk, image, row] <;> simp only [e0, e1, e2] <;> omega
theorem block5_at (t : Fin cfg0.N) (k : Fin 2048) :
    (iblk m c 5 t (ix3 0 0 k) : EReal) = (m (c, Proc.tc.devRef main_arg4) : S4x1x2048.Idx → EReal) (ix3 (image t) 0 k) := by
  obtain ⟨e0, e1, e2⟩ := index5 t
  blk_ext [iblk, image] <;> simp only [e0, e1, e2] <;> omega
theorem place_at (t : Fin cfg0.N) (r : Fin 256) (n : Fin 2048) : (win0_6.blk t).view.emb (ix3 0 r n) = (ix3 (image t) (row t r) n : S4x256x2048.Idx) := by
  obtain ⟨e0, e1, e2⟩ := index6 t
  blk_ext [image, row] <;> simp only [e0, e1, e2] <;> omega

/-- The kernel's result is the reference's. -/
theorem final : ((dats m 0 c).arrAt 6 cfg0.N : S4x256x2048.Idx → EReal)
    = Cert.CtxOutTwoReferenceIdeal.Hand.result (m (c, Proc.tc.devRef main_arg0)) (m (c, Proc.tc.devRef main_arg1)) (m (c, Proc.tc.devRef main_arg2))
      (m (c, Proc.tc.devRef main_arg3)) (m (c, Proc.tc.devRef main_arg4)) := by
  refine (dats m 0 c).arrAt_eq_of_covers 6 _ (by decide +kernel) fun t _ y => ?_
  blk_simp
  rw [after0_6]
  idx_vars y
  obtain rfl : y0 = 0 := by omega
  rw [out_at]
  refine Eq.trans ?_ (congrArg _ (place_at t y1 y2).symm)
  rw [Cert.CtxOutTwoReferenceIdeal.Hand.result_at, block4_at, block5_at]
  simp only [block0_at, block1_at, block2_at, block3_at]

end Cert.CtxOutTwoKernelIdeal.Hand

end
-- ==== Proof.L.CtxGate.lean ====
module

public import proofs.«01_k».proof.Proof.Gen.CtxGateKernelIdeal.Value
public import proofs.«01_k».proof.Proof.Gen.CtxGateReferenceIdeal.Run
public import proofs.«01_k».proof.Proof.L.Gate
public import Idealize.ShloMosaic.Lib.Pointwise
public import Idealize.ShloMosaic.Lib.Pipeline.ValueKit
public import Idealize.ShloMosaic.Lib.StableHlo.RunRead

/-! The output of the linear attention for the context's rows: both directions added, every head divided by its root mean square and scaled, and the gate, in kernel and
reference. -/

@[expose] public section

set_option maxRecDepth 16384

noncomputable section

namespace Cert.CtxGateReferenceIdeal.Hand

open Cert.CtxGateReferenceIdeal Cert.CtxGateReferenceIdeal.Gen Idealize.ShloMosaic Idealize.ShloMosaic.TcCoe Idealize.SL.Sem
open Cert.GateReferenceIdeal.Hand (mate normal gated)

/-- Both directions' sum by heads. -/
def both (A B : FVec Ideal S4x256x1024 .f32) : FVec Ideal S4x256x4x256 .f32 := shapeCast _ (addf A B) shapeCasts_S4x256x1024_S4x256x4x256
/-- The heads normalised. -/
def normed (O : FVec Ideal S4x256x4x256 .f32) : FVec Ideal S4x256x4x256 .f32 :=
  mulf O (broadcastInDim S4x256x4x256 ![0, 1, 2, 3] bcast_S4x256x4x1_S4x256x4x256_0_1_2_3 (Host.rsqrt (addf
    (Host.divf (broadcastInDim S4x256x4x1 ![0, 1, 2] bcast_S4x256x4_S4x256x4x1_0_1_2
        (Host.reduceAdd (mulf O O) (constant S_ .f32 0x00000000#32) reducesTo_S4x256x4x256_S4x256x4_d3 h_S_))
      (broadcastInDim S4x256x4x1 ![] bcast_S_S4x256x4x1 (constant S_ .f32 0x43800000#32)))
    (broadcastInDim S4x256x4x1 ![] bcast_S_S4x256x4x1 (constant S_ .f32 0x358637BD#32)))))
/-- The gate's columns. -/
def gate (P : FVec Ideal S4x256x4096 .bf16) : FVec Ideal S4x256x1024 .f32 :=
  extf .f32 (extractStridedSlice S4x256x1024 ![0, 0, 2048] P slices_S4x256x4096_S4x256x1024_0_0_2048) bitsLt_bf16_f32
/-- What the reference computes of its arguments. -/
def result (A B : FVec Ideal S4x256x1024 .f32) (P : FVec Ideal S4x256x4096 .bf16) (W : FVec Ideal S1024 .f32) : FVec Ideal S4x256x1024 .bf16 :=
  truncf .bf16 (mulf (mulf (shapeCast _ (normed (both A B)) shapeCasts_S4x256x4x256_S4x256x1024)
      (broadcastInDim S4x256x1024 ![0, 1, 2] bcast_S1x1x1024_S4x256x1024_0_1_2 (broadcastInDim S1x1x1024 ![2] bcast_S1024_S1x1x1024_2 W)))
    (mulf (gate P) (Host.divf (broadcastInDim S4x256x1024 ![] bcast_S_S4x256x1024 (constant S_ .f32 0x3F800000#32))
      (addf (broadcastInDim S4x256x1024 ![] bcast_S_S4x256x1024 (constant S_ .f32 0x3F800000#32)) (Host.exp (Host.negf (gate P))))))) bitsLt_bf16_f32

theorem both_at (A B : FVec Ideal S4x256x1024 .f32) (b : Fin 4) (r : Fin 256) (h : Fin 4) (k : Fin 256) :
    both A B (ix4 b r h k) = (A (ix3 b r ⟨h.val * 256 + k.val, by omega⟩) : EReal) + B (ix3 b r ⟨h.val * 256 + k.val, by omega⟩) := by
  pointwise [both]
theorem normed_at (O : FVec Ideal S4x256x4x256 .f32) (b : Fin 4) (r : Fin 256) (h : Fin 4) (k : Fin 256) :
    normed O (ix4 b r h k) = (O (ix4 b r h k) : EReal) * Ideal.rsqrt (Ideal.div (∑ l : Fin 256, (O (ix4 b r h l) : EReal) * O (ix4 b r h l))
      (Ideal.ofBits .f32 0x43800000#32) + Ideal.ofBits .f32 0x358637BD#32) := by
  pointwise [normed]

/-- The reference's result at an index. -/
theorem result_at (A B : FVec Ideal S4x256x1024 .f32) (P : FVec Ideal S4x256x4096 .bf16) (W : FVec Ideal S1024 .f32) (b : Fin 4) (r : Fin 256)
    (n : Fin 1024) :
    result A B P W (ix3 b r n) = gated (fun k => (A (ix3 b r k) : EReal) + B (ix3 b r k)) n (W (ix1 n)) (P (ix3 b r ⟨2048 + n.val, by omega⟩)) := by
  have e : result A B P W (ix3 b r n) = (normed (both A B) (ix4 b r ⟨n.val / 256, by omega⟩ ⟨n.val % 256, by omega⟩) : EReal) * W (ix1 n)
      * ((P (ix3 b r ⟨2048 + n.val, by omega⟩) : EReal) * Ideal.div 1 (1 + Ideal.exp (-(P (ix3 b r ⟨2048 + n.val, by omega⟩) : EReal)))) := by
    unfold result
    generalize normed (both A B) = N
    pointwise [gate]
  rw [e, normed_at]
  simp only [both_at]
  have hn : (⟨n.val / 256 * 256 + n.val % 256, by omega⟩ : Fin 1024) = n := Fin.ext (by dsimp only; omega)
  simp only [hn]
  rfl

end Cert.CtxGateReferenceIdeal.Hand

namespace Cert.CtxGateKernelIdeal.Hand

open Cert.CtxGateKernelIdeal Cert.CtxGateKernelIdeal.Gen Idealize.ShloMosaic Idealize.ShloMosaic.TcCoe Idealize.SL.Sem
open Cert.GateReferenceIdeal.Hand (mate normal gated)

/-- What a grid point stores, at an index. -/
theorem out_at (x0 x1 : Vec Ideal S1x256x1024 .f32) (x2 : Vec Ideal S1x256x1024 .bf16) (x3 : Vec Ideal S1x1024 .f32) (r : Fin 256) (n : Fin 1024) :
    out0_4 (F := Ideal) x0 x1 x2 x3 (ix3 0 r n)
      = gated (fun k => (x0 (ix3 0 r k) : EReal) + x1 (ix3 0 r k)) n (x3 (ix2 0 n)) (x2 (ix3 0 r n)) := by
  unfold out0_4
  canon_tiles x h
  obtain rfl : r = x 1 := Fin.ext h1
  obtain rfl : n = x 2 := Fin.ext h2
  let s : Fin 1024 → EReal := fun k => (x0 (ix3 0 (x 1) k) : EReal) + x1 (ix3 0 (x 1) k)
  pointwise [k0_pay1, k0_pay2, k0_pay3, k0_pay4, k0_pay5, k0_pay6, k0_pay7, gated, normal, mate]
  have head : ∀ (j : Fin 1024) (f : Fin 256 → Fin 1024), j.val = (x 2).val → (∀ k, (f k).val = (x 2).val / 256 * 256 + k.val) →
      normal s j f = normal s (x 2) (mate (x 2)) := fun j f h hf => by
    rw [show j = x 2 from Fin.ext h, show f = mate (x 2) from funext fun k => Fin.ext (hf k)]
  have hx : (x 2).val < 1024 := (x 2).isLt
  refine congrArg₂ (· * ·) (congrArg (· * _) ?_) rfl
  repeat' split
  all_goals refine head _ (fun k => ⟨_, _⟩) ?_ fun k => ?_
  all_goals (try dsimp only) <;> omega

theorem index0 : ∀ t : Fin cfg0.N, win0_0.index t 0 = t.val ∧ win0_0.index t 1 = 0 ∧ win0_0.index t 2 = 0 := by decide +kernel
theorem index1 : ∀ t : Fin cfg0.N, win0_1.index t 0 = t.val ∧ win0_1.index t 1 = 0 ∧ win0_1.index t 2 = 0 := by decide +kernel
theorem index2 : ∀ t : Fin cfg0.N, win0_2.index t 0 = t.val ∧ win0_2.index t 1 = 0 ∧ win0_2.index t 2 = 2 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 ∧ win0_4.index t 2 = 0 := by decide +kernel

variable (m : (ℓ : Loc nD τ sig) → Buf (Elt Ideal) ℓ) (c : Dev nD)

/-- The image of a grid point. -/
def image (t : Fin cfg0.N) : Fin 4 := ⟨t.val, by have : t.val < 4 := t.isLt; omega⟩
/-- The position of a grid point's row `r`. -/
def row (t : Fin cfg0.N) (r : Fin 256) : Fin 256 := ⟨r.val, by omega⟩

/-- The host's reshape of the scales. -/
theorem scale_at (n : Fin 1024) : (V m c main_v0 : S1x1024.Idx → EReal) (ix2 0 n) = (m (c, Proc.tc.devRef main_arg3) : S1024.Idx → EReal) (ix1 n) := by
  have e : (V m c main_v0 : FVec Ideal S1x1024 .f32) = shapeCast S1x1024 (m (c, Proc.tc.devRef main_arg3) : FVec Ideal S1024 .f32) shapeCasts_S1024_S1x1024 := by
    show StableHlo.after _ _ _ = _
    after_reads_simp
    rfl
  rw [e]
  pointwise

theorem block0_at (t : Fin cfg0.N) (r : Fin 256) (k : Fin 1024) :
    (iblk m c 0 t (ix3 0 r k) : EReal) = (m (c, Proc.tc.devRef main_arg0) : S4x256x1024.Idx → EReal) (ix3 (image t) (row t r) k) := by
  obtain ⟨e0, e1, e2⟩ := index0 t
  blk_ext [iblk, image, row] <;> simp only [e0, e1, e2] <;> omega
theorem block1_at (t : Fin cfg0.N) (r : Fin 256) (k : Fin 1024) :
    (iblk m c 1 t (ix3 0 r k) : EReal) = (m (c, Proc.tc.devRef main_arg1) : S4x256x1024.Idx → EReal) (ix3 (image t) (row t r) k) := by
  obtain ⟨e0, e1, e2⟩ := index1 t
  blk_ext [iblk, image, row] <;> simp only [e0, e1, e2] <;> omega
theorem block2_at (t : Fin cfg0.N) (r : Fin 256) (k : Fin 1024) :
    (iblk m c 2 t (ix3 0 r k) : EReal) = (m (c, Proc.tc.devRef main_arg2) : S4x256x4096.Idx → EReal) (ix3 (image t) (row t r) ⟨2048 + k.val, by omega⟩) := by
  obtain ⟨e0, e1, e2⟩ := index2 t
  blk_ext [iblk, image, row] <;> simp only [e0, e1, e2] <;> omega
theorem block3_at (t : Fin cfg0.N) (n : Fin 1024) :
    (iblk m c 3 t (ix2 0 n) : EReal) = (m (c, Proc.tc.devRef main_arg3) : S1024.Idx → EReal) (ix1 n) := by
  obtain ⟨e0, e1⟩ := index3 t
  rw [← scale_at m c]
  blk_ext [iblk] <;> simp only [e0, e1] <;> omega
theorem place_at (t : Fin cfg0.N) (r : Fin 256) (n : Fin 1024) : (win0_4.blk t).view.emb (ix3 0 r n) = (ix3 (image t) (row t r) n : S4x256x1024.Idx) := by
  obtain ⟨e0, e1, e2⟩ := index4 t
  blk_ext [image, row] <;> simp only [e0, e1, e2] <;> omega

/-- The kernel's result is the reference's. -/
theorem final : ((dats m 0 c).arrAt 4 cfg0.N : S4x256x1024.Idx → EReal)
    = Cert.CtxGateReferenceIdeal.Hand.result (m (c, Proc.tc.devRef main_arg0)) (m (c, Proc.tc.devRef main_arg1)) (m (c, Proc.tc.devRef main_arg2))
      (m (c, Proc.tc.devRef main_arg3)) := by
  refine (dats m 0 c).arrAt_eq_of_covers 4 _ (by decide +kernel) fun t _ y => ?_
  blk_simp
  rw [after0_4]
  idx_vars y
  obtain rfl : y0 = 0 := by omega
  rw [out_at]
  refine Eq.trans ?_ (congrArg _ (place_at t y1 y2).symm)
  rw [Cert.CtxGateReferenceIdeal.Hand.result_at, block3_at, block2_at]
  simp only [block0_at, block1_at]

end Cert.CtxGateKernelIdeal.Hand

end
-- ==== Proof.L.Wave.lean ====
module

public import proofs.«01_k».proof.Proof.Gen.WaveKernelIdeal.Value
public import proofs.«01_k».proof.Proof.Gen.WaveReferenceIdeal.Run
public import Idealize.ShloMosaic.Lib.Pointwise
public import Idealize.ShloMosaic.Lib.Pipeline.ValueKit
public import Idealize.ShloMosaic.Lib.StableHlo.RunRead

/-! The transform of the channels, by groups of 256, that begins the Fourier mixing: kernel and reference compute the products of a group's
columns with the cosines and with the negated sines, the kernel as one product with both tables side by side. -/

@[expose] public section

set_option maxRecDepth 16384

noncomputable section

namespace Cert.WaveReferenceIdeal.Hand

open Cert.WaveReferenceIdeal Cert.WaveReferenceIdeal.Gen Idealize.ShloMosaic Idealize.ShloMosaic.TcCoe Idealize.SL.Sem

/-- The angles of the transform of 256 values: `2π (i j mod 256) / 256`. -/
def angle : FVec Ideal S256x256 .f32 :=
  Host.divf (mulf (broadcastInDim S256x256 ![] bcast_S_S256x256 (constant S_ .f32 0x40C90FDB#32)) (sitofp .f32 (Host.remsi
    (muli (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))
    (broadcastInDim S256x256 ![] bcast_S_S256x256 (constantI S_ 32 256#32))))) (broadcastInDim S256x256 ![] bcast_S_S256x256 (constant S_ .f32 0x43800000#32))
/-- Two tables of 256 columns side by side. -/
def beside (A B : FVec Ideal S256x256 .f32) (k : Fin 256) (j : Fin 512) : EReal :=
  if h : j.val < 256 then A (ix2 k ⟨j.val, h⟩) else B (ix2 k ⟨j.val - 256, by omega⟩)
/-- A column lies in one of the groups of 512. -/
theorem group (y : Fin 2048) : ∃ (g : Fin 4) (d : Fin 512), y = ⟨g.val * 512 + d.val, by omega⟩ :=
  ⟨⟨y.val / 512, by omega⟩, ⟨y.val % 512, by omega⟩, Fin.ext (by dsimp only; omega)⟩

/-- The last 1024 columns by groups. -/
def groups (P : FVec Ideal S4x8192x4096 .bf16) : FVec Ideal S4x8192x4x256 .f32 :=
  shapeCast _ (extf .f32 (extractStridedSlice S4x8192x1024 ![0, 0, 3072] P slices_S4x8192x4096_S4x8192x1024_0_0_3072) bitsLt_bf16_f32)
    shapeCasts_S4x8192x1024_S4x8192x4x256
/-- The products of the groups with two tables. -/
def products (U : FVec Ideal S4x8192x4x256 .f32) (A B : FVec Ideal S256x256 .f32) : FVec Ideal S4x8192x2048 .f32 :=
  shapeCast _ (concatenate S4x8192x4x512 3
    [⟨S4x8192x4x256, (Host.dotGeneral dot_S4x8192x4x256_S256x256_S4x8192x4x256_3_0_012_1_n_n none U A : FVec Ideal S4x8192x4x256 .f32)⟩,
      ⟨S4x8192x4x256, (Host.dotGeneral dot_S4x8192x4x256_S256x256_S4x8192x4x256_3_0_012_1_n_n none U B : FVec Ideal S4x8192x4x256 .f32)⟩]
    concatenates_S4x8192x4x256_S4x8192x4x256_S4x8192x4x512_d3) shapeCasts_S4x8192x4x512_S4x8192x2048
/-- What the reference computes of its argument. -/
def result (P : FVec Ideal S4x8192x4096 .bf16) : FVec Ideal S4x8192x2048 .f32 := products (groups P) (Host.cos angle) (Host.negf (Host.sin angle))

theorem groups_at (P : FVec Ideal S4x8192x4096 .bf16) (b : Fin 4) (r : Fin 8192) (g : Fin 4) (k : Fin 256) :
    groups P (ix4 b r g k) = (P (ix3 b r ⟨3072 + (g.val * 256 + k.val), by omega⟩) : EReal) := by
  pointwise [groups]

theorem products_at (U : FVec Ideal S4x8192x4x256 .f32) (A B : FVec Ideal S256x256 .f32) (b : Fin 4) (r : Fin 8192) (g : Fin 4) (d : Fin 512) :
    products U A B (ix3 b r ⟨g.val * 512 + d.val, by omega⟩) = ∑ k : Fin 256, (U (ix4 b r g k) : EReal) * beside A B k d := by
  unfold products
  refine (shapeCast_apply _ _ _ (ix4 b r g d) ?_).trans ?_
  · have e1 : (S4x8192x4x512.rowMajor (ix4 b r g d)).val = ((b.val * 8192 + r.val) * 4 + g.val) * 512 + d.val := Shape.rowMajor_val_four _
    have e2 : (S4x8192x2048.rowMajor (ix3 b r ⟨g.val * 512 + d.val, by omega⟩)).val = (b.val * 8192 + r.val) * 2048 + (g.val * 512 + d.val) :=
      Shape.rowMajor_val_three _
    rw [e1, e2]
    omega
  by_cases h : d.val < 256
  · simp only [beside, dif_pos h]
    pointwise []
    rw [dif_pos h]
  · simp only [beside, dif_neg h]
    pointwise []
    rw [dif_neg h]

/-- The reference's result at an index. -/
theorem result_at (P : FVec Ideal S4x8192x4096 .bf16) (b : Fin 4) (r : Fin 8192) (g : Fin 4) (d : Fin 512) :
    result P (ix3 b r ⟨g.val * 512 + d.val, by omega⟩)
      = ∑ k : Fin 256, (P (ix3 b r ⟨3072 + (g.val * 256 + k.val), by omega⟩) : EReal) * beside (Host.cos angle) (Host.negf (Host.sin angle)) k d := by
  unfold result
  rw [products_at]
  simp only [groups_at]

end Cert.WaveReferenceIdeal.Hand

namespace Cert.WaveKernelIdeal.Hand

open Cert.WaveKernelIdeal Cert.WaveKernelIdeal.Gen Idealize.ShloMosaic Idealize.ShloMosaic.TcCoe Idealize.SL.Sem
open Cert.WaveReferenceIdeal.Hand (angle beside group)

/-- What a grid point stores, at an index. -/
theorem out_at (x0 : Vec Ideal S1x512x256 .bf16) (x1 : Vec Ideal S256x512 .bf16) (r : Fin 512) (n : Fin 512) :
    out0_2 (F := Ideal) x0 x1 (ix3 0 r n) = ∑ k : Fin 256, (x0 (ix3 0 r k) : EReal) * x1 (ix2 k n) := by
  unfold out0_2
  canon_tiles x h
  pointwise [k0_pay1]
  obtain rfl : r = x 1 := Fin.ext h1
  obtain rfl : n = x 2 := Fin.ext h2
  rfl

theorem index0 : ∀ t : Fin cfg0.N, win0_0.index t 0 = t.val / 64 ∧ win0_0.index t 1 = t.val / 4 % 16 ∧ win0_0.index t 2 = 12 + t.val % 4 := by decide +kernel
theorem index1 : ∀ t : Fin cfg0.N, win0_1.index t 0 = 0 ∧ win0_1.index t 1 = 0 := by decide +kernel
theorem index2 : ∀ t : Fin cfg0.N, win0_2.index t 0 = t.val / 64 ∧ win0_2.index t 1 = t.val / 4 % 16 ∧ win0_2.index t 2 = t.val % 4 := by decide +kernel

variable (m : (ℓ : Loc nD τ sig) → Buf (Elt Ideal) ℓ) (c : Dev nD)

/-- The image of a grid point. -/
def image (t : Fin cfg0.N) : Fin 4 := ⟨t.val / 64, by have : t.val < 256 := t.isLt; omega⟩
/-- The position of a grid point's row `r`. -/
def row (t : Fin cfg0.N) (r : Fin 512) : Fin 8192 := ⟨t.val / 4 % 16 * 512 + r.val, by omega⟩
/-- The group of a grid point. -/
def part (t : Fin cfg0.N) : Fin 4 := ⟨t.val % 4, by omega⟩

/-- The host's table: the cosines and the negated sines. -/
theorem table_at (k : Fin 256) (n : Fin 512) :
    (V m c main_v17 : S256x512.Idx → EReal) (ix2 k n) = beside (Host.cos angle) (Host.negf (Host.sin angle)) k n := by
  have e : (V m c main_v17 : FVec Ideal S256x512 .bf16) = truncf .bf16 (concatenate S256x512 1
      [⟨S256x256, (Host.cos angle : FVec Ideal S256x256 .f32)⟩, ⟨S256x256, (Host.negf (Host.sin angle) : FVec Ideal S256x256 .f32)⟩]
      concatenates_S256x256_S256x256_S256x512_d1 : FVec Ideal S256x512 .f32) bitsLt_bf16_f32 := by
    show StableHlo.after _ _ _ = _
    after_reads_simp
    rfl
  rw [e]
  generalize (Host.cos angle : FVec Ideal S256x256 .f32) = A
  generalize (Host.negf (Host.sin angle) : FVec Ideal S256x256 .f32) = B
  pointwise [beside]

theorem block0_at (t : Fin cfg0.N) (r : Fin 512) (k : Fin 256) :
    (iblk m c 0 t (ix3 0 r k) : EReal)
      = (m (c, Proc.tc.devRef main_arg0) : S4x8192x4096.Idx → EReal) (ix3 (image t) (row t r) ⟨3072 + ((part t).val * 256 + k.val), by omega⟩) := by
  obtain ⟨e0, e1, e2⟩ := index0 t
  blk_ext [iblk, image, row, part] <;> simp only [e0, e1, e2] <;> omega
theorem block1_at (t : Fin cfg0.N) (k : Fin 256) (n : Fin 512) :
    (iblk m c 1 t (ix2 k n) : EReal) = beside (Host.cos angle) (Host.negf (Host.sin angle)) k n := by
  obtain ⟨e0, e1⟩ := index1 t
  rw [← table_at m c]
  blk_ext [iblk] <;> simp only [e0, e1] <;> omega
theorem place_at (t : Fin cfg0.N) (r : Fin 512) (n : Fin 512) :
    (win0_2.blk t).view.emb (ix3 0 r n) = (ix3 (image t) (row t r) ⟨(part t).val * 512 + n.val, by omega⟩ : S4x8192x2048.Idx) := by
  obtain ⟨e0, e1, e2⟩ := index2 t
  blk_ext [image, row, part] <;> simp only [e0, e1, e2] <;> omega

/-- The kernel's result is the reference's. -/
theorem final : ((dats m 0 c).arrAt 2 cfg0.N : S4x8192x2048.Idx → EReal) = Cert.WaveReferenceIdeal.Hand.result (m (c, Proc.tc.devRef main_arg0)) := by
  refine (dats m 0 c).arrAt_eq_of_covers 2 _ (by decide +kernel) fun t _ y => ?_
  blk_simp
  rw [after0_2]
  idx_vars y
  obtain rfl : y0 = 0 := by omega
  rw [out_at]
  refine Eq.trans ?_ (congrArg _ (place_at t y1 y2).symm)
  rw [Cert.WaveReferenceIdeal.Hand.result_at]
  simp only [block0_at, block1_at]

end Cert.WaveKernelIdeal.Hand

end
-- ==== Proof.L.CtxWave.lean ====
module

public import proofs.«01_k».proof.Proof.Gen.CtxWaveKernelIdeal.Value
public import proofs.«01_k».proof.Proof.Gen.CtxWaveReferenceIdeal.Run
public import proofs.«01_k».proof.Proof.L.Wave
public import Idealize.ShloMosaic.Lib.Pointwise
public import Idealize.ShloMosaic.Lib.Pipeline.ValueKit
public import Idealize.ShloMosaic.Lib.StableHlo.RunRead

/-! The same transform of the channels at the context's rows. -/

@[expose] public section

set_option maxRecDepth 16384

noncomputable section

namespace Cert.CtxWaveReferenceIdeal.Hand

open Cert.CtxWaveReferenceIdeal Cert.CtxWaveReferenceIdeal.Gen Idealize.ShloMosaic Idealize.ShloMosaic.TcCoe Idealize.SL.Sem
open Cert.WaveReferenceIdeal.Hand (angle beside group)

/-- The last 1024 columns by groups. -/
def groups (P : FVec Ideal S4x256x4096 .bf16) : FVec Ideal S4x256x4x256 .f32 :=
  shapeCast _ (extf .f32 (extractStridedSlice S4x256x1024 ![0, 0, 3072] P slices_S4x256x4096_S4x256x1024_0_0_3072) bitsLt_bf16_f32)
    shapeCasts_S4x256x1024_S4x256x4x256
/-- The products of the groups with two tables. -/
def products (U : FVec Ideal S4x256x4x256 .f32) (A B : FVec Ideal S256x256 .f32) : FVec Ideal S4x256x2048 .f32 :=
  shapeCast _ (concatenate S4x256x4x512 3
    [⟨S4x256x4x256, (Host.dotGeneral dot_S4x256x4x256_S256x256_S4x256x4x256_3_0_012_1_n_n none U A : FVec Ideal S4x256x4x256 .f32)⟩,
      ⟨S4x256x4x256, (Host.dotGeneral dot_S4x256x4x256_S256x256_S4x256x4x256_3_0_012_1_n_n none U B : FVec Ideal S4x256x4x256 .f32)⟩]
    concatenates_S4x256x4x256_S4x256x4x256_S4x256x4x512_d3) shapeCasts_S4x256x4x512_S4x256x2048
/-- What the reference computes of its argument. -/
def result (P : FVec Ideal S4x256x4096 .bf16) : FVec Ideal S4x256x2048 .f32 := products (groups P) (Host.cos angle) (Host.negf (Host.sin angle))

theorem groups_at (P : FVec Ideal S4x256x4096 .bf16) (b : Fin 4) (r : Fin 256) (g : Fin 4) (k : Fin 256) :
    groups P (ix4 b r g k) = (P (ix3 b r ⟨3072 + (g.val * 256 + k.val), by omega⟩) : EReal) := by
  pointwise [groups]

theorem products_at (U : FVec Ideal S4x256x4x256 .f32) (A B : FVec Ideal S256x256 .f32) (b : Fin 4) (r : Fin 256) (g : Fin 4) (d : Fin 512) :
    products U A B (ix3 b r ⟨g.val * 512 + d.val, by omega⟩) = ∑ k : Fin 256, (U (ix4 b r g k) : EReal) * beside A B k d := by
  unfold products
  refine (shapeCast_apply _ _ _ (ix4 b r g d) ?_).trans ?_
  · have e1 : (S4x256x4x512.rowMajor (ix4 b r g d)).val = ((b.val * 256 + r.val) * 4 + g.val) * 512 + d.val := Shape.rowMajor_val_four _
    have e2 : (S4x256x2048.rowMajor (ix3 b r ⟨g.val * 512 + d.val, by omega⟩)).val = (b.val * 256 + r.val) * 2048 + (g.val * 512 + d.val) :=
      Shape.rowMajor_val_three _
    rw [e1, e2]
    omega
  by_cases h : d.val < 256
  · simp only [beside, dif_pos h]
    pointwise []
    rw [dif_pos h]
  · simp only [beside, dif_neg h]
    pointwise []
    rw [dif_neg h]

/-- The reference's result at an index. -/
theorem result_at (P : FVec Ideal S4x256x4096 .bf16) (b : Fin 4) (r : Fin 256) (g : Fin 4) (d : Fin 512) :
    result P (ix3 b r ⟨g.val * 512 + d.val, by omega⟩)
      = ∑ k : Fin 256, (P (ix3 b r ⟨3072 + (g.val * 256 + k.val), by omega⟩) : EReal) * beside (Host.cos angle) (Host.negf (Host.sin angle)) k d := by
  unfold result
  rw [products_at]
  simp only [groups_at]

end Cert.CtxWaveReferenceIdeal.Hand

namespace Cert.CtxWaveKernelIdeal.Hand

open Cert.CtxWaveKernelIdeal Cert.CtxWaveKernelIdeal.Gen Idealize.ShloMosaic Idealize.ShloMosaic.TcCoe Idealize.SL.Sem
open Cert.WaveReferenceIdeal.Hand (angle beside group)

/-- What a grid point stores, at an index. -/
theorem out_at (x0 : Vec Ideal S1x256x256 .bf16) (x1 : Vec Ideal S256x512 .bf16) (r : Fin 256) (n : Fin 512) :
    out0_2 (F := Ideal) x0 x1 (ix3 0 r n) = ∑ k : Fin 256, (x0 (ix3 0 r k) : EReal) * x1 (ix2 k n) := by
  unfold out0_2
  canon_tiles x h
  pointwise [k0_pay1]
  obtain rfl : r = x 1 := Fin.ext h1
  obtain rfl : n = x 2 := Fin.ext h2
  rfl

theorem index0 : ∀ t : Fin cfg0.N, win0_0.index t 0 = t.val / 4 ∧ win0_0.index t 1 = 0 ∧ win0_0.index t 2 = 12 + t.val % 4 := by decide +kernel
theorem index1 : ∀ t : Fin cfg0.N, win0_1.index t 0 = 0 ∧ win0_1.index t 1 = 0 := by decide +kernel
theorem index2 : ∀ t : Fin cfg0.N, win0_2.index t 0 = t.val / 4 ∧ win0_2.index t 1 = 0 ∧ win0_2.index t 2 = t.val % 4 := by decide +kernel

variable (m : (ℓ : Loc nD τ sig) → Buf (Elt Ideal) ℓ) (c : Dev nD)

/-- The image of a grid point. -/
def image (t : Fin cfg0.N) : Fin 4 := ⟨t.val / 4, by have : t.val < 16 := t.isLt; omega⟩
/-- The position of a grid point's row `r`. -/
def row (t : Fin cfg0.N) (r : Fin 256) : Fin 256 := ⟨0 * 256 + r.val, by omega⟩
/-- The group of a grid point. -/
def part (t : Fin cfg0.N) : Fin 4 := ⟨t.val % 4, by omega⟩

/-- The host's table: the cosines and the negated sines. -/
theorem table_at (k : Fin 256) (n : Fin 512) :
    (V m c main_v17 : S256x512.Idx → EReal) (ix2 k n) = beside (Host.cos angle) (Host.negf (Host.sin angle)) k n := by
  have e : (V m c main_v17 : FVec Ideal S256x512 .bf16) = truncf .bf16 (concatenate S256x512 1
      [⟨S256x256, (Host.cos angle : FVec Ideal S256x256 .f32)⟩, ⟨S256x256, (Host.negf (Host.sin angle) : FVec Ideal S256x256 .f32)⟩]
      concatenates_S256x256_S256x256_S256x512_d1 : FVec Ideal S256x512 .f32) bitsLt_bf16_f32 := by
    show StableHlo.after _ _ _ = _
    after_reads_simp
    rfl
  rw [e]
  generalize (Host.cos angle : FVec Ideal S256x256 .f32) = A
  generalize (Host.negf (Host.sin angle) : FVec Ideal S256x256 .f32) = B
  pointwise [beside]

theorem block0_at (t : Fin cfg0.N) (r : Fin 256) (k : Fin 256) :
    (iblk m c 0 t (ix3 0 r k) : EReal)
      = (m (c, Proc.tc.devRef main_arg0) : S4x256x4096.Idx → EReal) (ix3 (image t) (row t r) ⟨3072 + ((part t).val * 256 + k.val), by omega⟩) := by
  obtain ⟨e0, e1, e2⟩ := index0 t
  blk_ext [iblk, image, row, part] <;> simp only [e0, e1, e2] <;> omega
theorem block1_at (t : Fin cfg0.N) (k : Fin 256) (n : Fin 512) :
    (iblk m c 1 t (ix2 k n) : EReal) = beside (Host.cos angle) (Host.negf (Host.sin angle)) k n := by
  obtain ⟨e0, e1⟩ := index1 t
  rw [← table_at m c]
  blk_ext [iblk] <;> simp only [e0, e1] <;> omega
theorem place_at (t : Fin cfg0.N) (r : Fin 256) (n : Fin 512) :
    (win0_2.blk t).view.emb (ix3 0 r n) = (ix3 (image t) (row t r) ⟨(part t).val * 512 + n.val, by omega⟩ : S4x256x2048.Idx) := by
  obtain ⟨e0, e1, e2⟩ := index2 t
  blk_ext [image, row, part] <;> simp only [e0, e1, e2] <;> omega

/-- The kernel's result is the reference's. -/
theorem final : ((dats m 0 c).arrAt 2 cfg0.N : S4x256x2048.Idx → EReal) = Cert.CtxWaveReferenceIdeal.Hand.result (m (c, Proc.tc.devRef main_arg0)) := by
  refine (dats m 0 c).arrAt_eq_of_covers 2 _ (by decide +kernel) fun t _ y => ?_
  blk_simp
  rw [after0_2]
  idx_vars y
  obtain rfl : y0 = 0 := by omega
  rw [out_at]
  refine Eq.trans ?_ (congrArg _ (place_at t y1 y2).symm)
  rw [Cert.CtxWaveReferenceIdeal.Hand.result_at]
  simp only [block0_at, block1_at]

end Cert.CtxWaveKernelIdeal.Hand

end
-- ==== Proof.L.CtxReal.lean ====
module

public import proofs.«01_k».proof.Proof.Gen.CtxRealKernelIdeal.Value
public import proofs.«01_k».proof.Proof.Gen.CtxRealReferenceIdeal.Run
public import proofs.«01_k».proof.Proof.L.Wave
public import Idealize.ShloMosaic.Lib.Pointwise
public import Idealize.ShloMosaic.Lib.Pipeline.ValueKit
public import Idealize.ShloMosaic.Lib.StableHlo.RunRead

/-! The sum over the context's positions that ends its Fourier mixing: the real part of the transform along the positions, scaled.
The kernel stacks the two column halves of a group and multiplies by both tables side by side. -/

@[expose] public section

set_option maxRecDepth 16384

noncomputable section

namespace Cert.CtxRealReferenceIdeal.Hand

open Cert.CtxRealReferenceIdeal Cert.CtxRealReferenceIdeal.Gen Idealize.ShloMosaic Idealize.ShloMosaic.TcCoe Idealize.SL.Sem
open Cert.WaveReferenceIdeal.Hand (angle beside)

/-- The columns by groups. -/
def groups (Z : FVec Ideal S4x256x2048 .f32) : FVec Ideal S4x256x4x512 .f32 := shapeCast _ Z shapeCasts_S4x256x2048_S4x256x4x512
/-- The sums over the positions with two tables, the first half of a group with the one and the second half with the other, scaled. -/
def sums (U : FVec Ideal S4x256x4x512 .f32) (A B : FVec Ideal S256x256 .f32) : FVec Ideal S4x256x1024 .f32 :=
  shapeCast _ (mulf (addf
    (transpose S4x256x4x256 [0, 3, 1, 2] (Host.dotGeneral dot_S4x256x4x256_S256x256_S4x4x256x256_1_1_023_0_n_n none
      (extractStridedSlice S4x256x4x256 ![0, 0, 0, 0] U slices_S4x256x4x512_S4x256x4x256_0_0_0_0) A : FVec Ideal S4x4x256x256 .f32) transposes_S4x4x256x256_S4x256x4x256_0_3_1_2)
    (transpose S4x256x4x256 [0, 3, 1, 2] (Host.dotGeneral dot_S4x256x4x256_S256x256_S4x4x256x256_1_1_023_0_n_n none
      (extractStridedSlice S4x256x4x256 ![0, 0, 0, 256] U slices_S4x256x4x512_S4x256x4x256_0_0_0_256) B : FVec Ideal S4x4x256x256 .f32) transposes_S4x4x256x256_S4x256x4x256_0_3_1_2))
    (broadcastInDim S4x256x4x256 ![] bcast_S_S4x256x4x256 (constant S_ .f32 0x3B800000#32))) shapeCasts_S4x256x4x256_S4x256x1024
/-- What the reference computes of its argument. -/
def result (Z : FVec Ideal S4x256x2048 .f32) : FVec Ideal S4x256x1024 .f32 := sums (groups Z) (Host.cos angle) (Host.sin angle)

theorem groups_at (Z : FVec Ideal S4x256x2048 .f32) (b : Fin 4) (r : Fin 256) (g : Fin 4) (d : Fin 512) :
    groups Z (ix4 b r g d) = Z (ix3 b r ⟨g.val * 512 + d.val, by omega⟩) := by
  unfold groups
  refine shapeCast_apply _ _ _ _ ?_
  have e1 : (S4x256x4x512.rowMajor (ix4 b r g d)).val = ((b.val * 256 + r.val) * 4 + g.val) * 512 + d.val := Shape.rowMajor_val_four _
  have e2 : (S4x256x2048.rowMajor (ix3 b r ⟨g.val * 512 + d.val, by omega⟩)).val = (b.val * 256 + r.val) * 2048 + (g.val * 512 + d.val) :=
    Shape.rowMajor_val_three _
  rw [e1, e2]
  omega

theorem sums_at (U : FVec Ideal S4x256x4x512 .f32) (A B : FVec Ideal S256x256 .f32) (b : Fin 4) (r : Fin 256) (g : Fin 4) (d : Fin 256) :
    sums U A B (ix3 b r ⟨g.val * 256 + d.val, by omega⟩)
      = ((∑ k : Fin 256, (U (ix4 b k g ⟨d.val, by omega⟩) : EReal) * A (ix2 r k)) + ∑ k : Fin 256, (U (ix4 b k g ⟨256 + d.val, by omega⟩) : EReal) * B (ix2 r k))
        * Ideal.ofBits .f32 0x3B800000#32 := by
  unfold sums
  refine (shapeCast_apply _ _ _ (ix4 b r g d) ?_).trans ?_
  · have e1 : (S4x256x4x256.rowMajor (ix4 b r g d)).val = ((b.val * 256 + r.val) * 4 + g.val) * 256 + d.val := Shape.rowMajor_val_four _
    have e2 : (S4x256x1024.rowMajor (ix3 b r ⟨g.val * 256 + d.val, by omega⟩)).val = (b.val * 256 + r.val) * 1024 + (g.val * 256 + d.val) :=
      Shape.rowMajor_val_three _
    rw [e1, e2]
    omega
  pointwise []

/-- The reference's result at an index. -/
theorem result_at (Z : FVec Ideal S4x256x2048 .f32) (b : Fin 4) (r : Fin 256) (g : Fin 4) (d : Fin 256) :
    result Z (ix3 b r ⟨g.val * 256 + d.val, by omega⟩)
      = ((∑ k : Fin 256, (Z (ix3 b k ⟨g.val * 512 + d.val, by omega⟩) : EReal) * (Host.cos angle : FVec Ideal S256x256 .f32) (ix2 r k))
          + ∑ k : Fin 256, (Z (ix3 b k ⟨g.val * 512 + (256 + d.val), by omega⟩) : EReal) * (Host.sin angle : FVec Ideal S256x256 .f32) (ix2 r k))
        * Ideal.ofBits .f32 0x3B800000#32 := by
  unfold result
  rw [sums_at]
  simp only [groups_at]

end Cert.CtxRealReferenceIdeal.Hand

namespace Cert.CtxRealKernelIdeal.Hand

open Cert.CtxRealKernelIdeal Cert.CtxRealKernelIdeal.Gen Idealize.ShloMosaic Idealize.ShloMosaic.TcCoe Idealize.SL.Sem
open Cert.WaveReferenceIdeal.Hand (angle beside)

/-- The two column halves of a block, one below the other. -/
def stacked (x0 : Vec Ideal S1x256x512 .f32) (k : Fin 512) (n : Fin 256) : EReal :=
  if h : k.val < 256 then x0 (ix3 0 ⟨k.val, h⟩ ⟨n.val, by omega⟩) else x0 (ix3 0 ⟨k.val - 256, by omega⟩ ⟨256 + n.val, by omega⟩)

/-- What a grid point stores, at an index. -/
theorem out_at (x0 : Vec Ideal S1x256x512 .f32) (x1 : Vec Ideal S256x512 .bf16) (r : Fin 256) (n : Fin 256) :
    out0_2 (F := Ideal) x0 x1 (ix3 0 r n) = (∑ k : Fin 512, (x1 (ix2 r k) : EReal) * stacked x0 k n) * Ideal.ofBits .f32 0x3B800000#32 := by
  unfold out0_2
  canon_tiles x h
  pointwise [k0_pay1, stacked]
  obtain rfl : r = x 1 := Fin.ext h1
  obtain rfl : n = x 2 := Fin.ext h2
  rfl

theorem index0 : ∀ t : Fin cfg0.N, win0_0.index t 0 = t.val / 4 ∧ win0_0.index t 1 = 0 ∧ win0_0.index t 2 = t.val % 4 := by decide +kernel
theorem index1 : ∀ t : Fin cfg0.N, win0_1.index t 0 = 0 ∧ win0_1.index t 1 = 0 := by decide +kernel
theorem index2 : ∀ t : Fin cfg0.N, win0_2.index t 0 = t.val / 4 ∧ win0_2.index t 1 = 0 ∧ win0_2.index t 2 = t.val % 4 := by decide +kernel

variable (m : (ℓ : Loc nD τ sig) → Buf (Elt Ideal) ℓ) (c : Dev nD)

/-- The image of a grid point. -/
def image (t : Fin cfg0.N) : Fin 4 := ⟨t.val / 4, by have : t.val < 16 := t.isLt; omega⟩
/-- The group of a grid point. -/
def part (t : Fin cfg0.N) : Fin 4 := ⟨t.val % 4, by omega⟩

/-- The host's table: the cosines and the sines. -/
theorem table_at (k : Fin 256) (n : Fin 512) :
    (V m c main_v16 : S256x512.Idx → EReal) (ix2 k n) = beside (Host.cos angle) (Host.sin angle) k n := by
  have e : (V m c main_v16 : FVec Ideal S256x512 .bf16) = truncf .bf16 (concatenate S256x512 1
      [⟨S256x256, (Host.cos angle : FVec Ideal S256x256 .f32)⟩, ⟨S256x256, (Host.sin angle : FVec Ideal S256x256 .f32)⟩]
      concatenates_S256x256_S256x256_S256x512_d1 : FVec Ideal S256x512 .f32) bitsLt_bf16_f32 := by
    show StableHlo.after _ _ _ = _
    after_reads_simp
    rfl
  rw [e]
  generalize (Host.cos angle : FVec Ideal S256x256 .f32) = A
  generalize (Host.sin angle : FVec Ideal S256x256 .f32) = B
  pointwise [beside]

theorem block0_at (t : Fin cfg0.N) (r : Fin 256) (k : Fin 512) :
    (iblk m c 0 t (ix3 0 r k) : EReal)
      = (m (c, Proc.tc.devRef main_arg0) : S4x256x2048.Idx → EReal) (ix3 (image t) r ⟨(part t).val * 512 + k.val, by omega⟩) := by
  obtain ⟨e0, e1, e2⟩ := index0 t
  blk_ext [iblk, image, part] <;> simp only [e0, e1, e2] <;> omega
theorem block1_at (t : Fin cfg0.N) (k : Fin 256) (n : Fin 512) :
    (iblk m c 1 t (ix2 k n) : EReal) = beside (Host.cos angle) (Host.sin angle) k n := by
  obtain ⟨e0, e1⟩ := index1 t
  rw [← table_at m c]
  blk_ext [iblk] <;> simp only [e0, e1] <;> omega
theorem place_at (t : Fin cfg0.N) (r : Fin 256) (n : Fin 256) :
    (win0_2.blk t).view.emb (ix3 0 r n) = (ix3 (image t) r ⟨(part t).val * 256 + n.val, by omega⟩ : S4x256x1024.Idx) := by
  obtain ⟨e0, e1, e2⟩ := index2 t
  blk_ext [image, part] <;> simp only [e0, e1, e2] <;> omega

/-- A product of tables side by side with halves one below the other is the sum of the two products. -/
theorem split_sum (A B : FVec Ideal S256x256 .f32) (x0 : Vec Ideal S1x256x512 .f32) (r n : Fin 256) :
    (∑ k : Fin 512, beside A B r k * stacked x0 k n)
      = (∑ k : Fin 256, (x0 (ix3 0 k ⟨n.val, by omega⟩) : EReal) * A (ix2 r k)) + ∑ k : Fin 256, (x0 (ix3 0 k ⟨256 + n.val, by omega⟩) : EReal) * B (ix2 r k) := by
  refine (Fin.sum_univ_add (a := 256) (b := 256) fun k => beside A B r k * stacked x0 k n).trans ?_
  congr 1
  · refine Finset.sum_congr rfl fun k _ => ?_
    have h : (Fin.castAdd 256 k).val < 256 := k.isLt
    simp only [beside, stacked, dif_pos h]
    exact mul_comm _ _
  · refine Finset.sum_congr rfl fun k _ => ?_
    have h : ¬ (Fin.natAdd 256 k).val < 256 := by simp
    have e : (⟨(Fin.natAdd 256 k).val - 256, by omega⟩ : Fin 256) = k := Fin.ext (by simp)
    simp only [beside, stacked, dif_neg h, e]
    exact mul_comm _ _

/-- The kernel's result is the reference's. -/
theorem final : ((dats m 0 c).arrAt 2 cfg0.N : S4x256x1024.Idx → EReal) = Cert.CtxRealReferenceIdeal.Hand.result (m (c, Proc.tc.devRef main_arg0)) := by
  refine (dats m 0 c).arrAt_eq_of_covers 2 _ (by decide +kernel) fun t _ y => ?_
  blk_simp
  rw [after0_2]
  idx_vars y
  obtain rfl : y0 = 0 := by omega
  rw [out_at]
  refine Eq.trans ?_ (congrArg _ (place_at t y1 y2).symm)
  rw [Cert.CtxRealReferenceIdeal.Hand.result_at]
  simp only [block1_at]
  rw [split_sum]
  simp only [block0_at]

end Cert.CtxRealKernelIdeal.Hand

end
-- ==== Proof.L.Early.lean ====
module

public import proofs.«01_k».proof.Proof.Gen.EarlyKernelIdeal.Value
public import proofs.«01_k».proof.Proof.Gen.EarlyReferenceIdeal.Run
public import Idealize.ShloMosaic.Lib.Pointwise
public import Idealize.ShloMosaic.Lib.Pipeline.ValueKit
public import Idealize.ShloMosaic.Lib.StableHlo.RunRead

/-! The first half of the transform along the image's positions: of each residue of 128, the transform of 64 values, turned by an angle of its own.
A grid step of the kernel takes eight residues, each by a product of one table of both rows of tables with the halves of its block one below the other. -/

@[expose] public section

set_option maxRecDepth 16384

noncomputable section

namespace Cert.EarlyReferenceIdeal.Hand

open Cert.EarlyReferenceIdeal Cert.EarlyReferenceIdeal.Gen Idealize.ShloMosaic Idealize.ShloMosaic.TcCoe Idealize.SL.Sem

/-- The angles of the transform of 64 values: `2π (i j mod 64) / 64`. -/
def angle : FVec Ideal S64x64 .f32 :=
  Host.divf (mulf (broadcastInDim S64x64 ![] bcast_S_S64x64 (constant S_ .f32 0x40C90FDB#32)) (sitofp .f32 (Host.remsi
    (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![] bcast_S_S64x64 (constantI S_ 32 64#32))))) (broadcastInDim S64x64 ![] bcast_S_S64x64 (constant S_ .f32 0x42800000#32))
/-- The angles of the turns: `2π i j / 8192`. -/
def turn : FVec Ideal S64x128 .f32 :=
  Host.divf (mulf (broadcastInDim S64x128 ![] bcast_S_S64x128 (constant S_ .f32 0x40C90FDB#32)) (sitofp .f32
    (muli (broadcastInDim S64x128 ![0, 1] bcast_S64x1_S64x128_0_1 (broadcastInDim S64x1 ![0] bcast_S64_S64x1_0 (iotaInDim S64 32 0)))
      (broadcastInDim S64x128 ![0, 1] bcast_S1x128_S64x128_0_1 (broadcastInDim S1x128 ![1] bcast_S128_S1x128_1 (iotaInDim S128 32 0)))))) (broadcastInDim S64x128 ![] bcast_S_S64x128 (constant S_ .f32 0x46000000#32))
/-- The positions by their residue modulo 128, the columns by groups. -/
def groups (Z : FVec Ideal S4x8192x2048 .f32) : FVec Ideal S4x64x128x4x512 .f32 := shapeCast _ Z shapeCasts_S4x8192x2048_S4x64x128x4x512
/-- The sums with two tables, the first half of the columns with the one and the second half with the other. -/
def along (U : FVec Ideal S4x64x128x4x512 .f32) (A B : FVec Ideal S64x64 .f32) : FVec Ideal S4x4x64x128x256 .f32 :=
  addf
    (transpose S4x4x64x128x256 [0, 2, 4, 1, 3] (Host.dotGeneral dot_S4x64x128x4x256_S64x64_S4x128x4x256x64_1_1_0234_0_n_n none
      (extractStridedSlice S4x64x128x4x256 ![0, 0, 0, 0, 0] U slices_S4x64x128x4x512_S4x64x128x4x256_0_0_0_0_0) A : FVec Ideal S4x128x4x256x64 .f32) transposes_S4x128x4x256x64_S4x4x64x128x256_0_2_4_1_3)
    (transpose S4x4x64x128x256 [0, 2, 4, 1, 3] (Host.dotGeneral dot_S4x64x128x4x256_S64x64_S4x128x4x256x64_1_1_0234_0_n_n none
      (extractStridedSlice S4x64x128x4x256 ![0, 0, 0, 0, 256] U slices_S4x64x128x4x512_S4x64x128x4x256_0_0_0_0_256) B : FVec Ideal S4x128x4x256x64 .f32) transposes_S4x128x4x256x64_S4x4x64x128x256_0_2_4_1_3)
/-- An angle's cosine or sine at all images, groups and columns. -/
def spread (T : FVec Ideal S64x128 .f32) : FVec Ideal S4x4x64x128x256 .f32 :=
  broadcastInDim S4x4x64x128x256 ![0, 1, 2, 3, 4] bcast_S1x1x64x128x1_S4x4x64x128x256_0_1_2_3_4
    (broadcastInDim S1x1x64x128x1 ![2, 3, 4] bcast_S64x128x1_S1x1x64x128x1_2_3_4 (broadcastInDim S64x128x1 ![0, 1] bcast_S64x128_S64x128x1_0_1 T))
/-- Real and imaginary parts turned, side by side. -/
def turned (X Y : FVec Ideal S4x4x64x128x256 .f32) (C S : FVec Ideal S64x128 .f32) : FVec Ideal S4x4x64x128x512 .f32 :=
  concatenate S4x4x64x128x512 4
    [⟨S4x4x64x128x256, (addf (mulf X (spread C)) (mulf Y (spread S)) : FVec Ideal S4x4x64x128x256 .f32)⟩,
      ⟨S4x4x64x128x256, (subf (mulf Y (spread C)) (mulf X (spread S)) : FVec Ideal S4x4x64x128x256 .f32)⟩]
    concatenates_S4x4x64x128x256_S4x4x64x128x256_S4x4x64x128x512_d4
/-- What the reference computes of its argument. -/
def result (Z : FVec Ideal S4x8192x2048 .f32) : FVec Ideal S4x4x64x128x512 .f32 :=
  turned (along (groups Z) (Host.cos angle) (Host.sin angle)) (along (groups Z) (Host.negf (Host.sin angle)) (Host.cos angle)) (Host.cos turn) (Host.sin turn)

/-- The sums of the rows `a` with two tables. -/
def both (A B : FVec Ideal S64x64 .f32) (a : Fin 64 → Fin 512 → EReal) (q : Fin 64) (n : Fin 256) : EReal :=
  (∑ k : Fin 64, a k ⟨n.val, by omega⟩ * A (ix2 q k)) + ∑ k : Fin 64, a k ⟨256 + n.val, by omega⟩ * B (ix2 q k)
/-- A real and an imaginary part turned, side by side. -/
def pair (x y : Fin 256 → EReal) (c s : EReal) (d : Fin 512) : EReal :=
  if h : d.val < 256 then x ⟨d.val, h⟩ * c + y ⟨d.val, h⟩ * s else y ⟨d.val - 256, by omega⟩ * c - x ⟨d.val - 256, by omega⟩ * s

theorem groups_at (Z : FVec Ideal S4x8192x2048 .f32) (b : Fin 4) (k : Fin 64) (p : Fin 128) (g : Fin 4) (d : Fin 512) :
    groups Z (ix5 b k p g d) = Z (ix3 b ⟨k.val * 128 + p.val, by omega⟩ ⟨g.val * 512 + d.val, by omega⟩) := by
  unfold groups
  refine shapeCast_apply _ _ _ _ ?_
  have e1 : (S4x64x128x4x512.rowMajor (ix5 b k p g d)).val = (((b.val * 64 + k.val) * 128 + p.val) * 4 + g.val) * 512 + d.val := Shape.rowMajor_val_five _
  have e2 : (S4x8192x2048.rowMajor (ix3 b ⟨k.val * 128 + p.val, by omega⟩ ⟨g.val * 512 + d.val, by omega⟩)).val
      = (b.val * 8192 + (k.val * 128 + p.val)) * 2048 + (g.val * 512 + d.val) := Shape.rowMajor_val_three _
  rw [e1, e2]
  omega
theorem along_at (U : FVec Ideal S4x64x128x4x512 .f32) (A B : FVec Ideal S64x64 .f32) (b g : Fin 4) (q : Fin 64) (p : Fin 128) (n : Fin 256) :
    along U A B (ix5 b g q p n) = both A B (fun k d => U (ix5 b k p g d)) q n := by
  pointwise [along, both]
theorem turned_at (X Y : FVec Ideal S4x4x64x128x256 .f32) (C S : FVec Ideal S64x128 .f32) (b g : Fin 4) (q : Fin 64) (p : Fin 128) (d : Fin 512) :
    turned X Y C S (ix5 b g q p d) = pair (fun n => X (ix5 b g q p n)) (fun n => Y (ix5 b g q p n)) (C (ix2 q p)) (S (ix2 q p)) d := by
  pointwise [turned, spread, pair]

/-- The reference's result at an index. -/
theorem result_at (Z : FVec Ideal S4x8192x2048 .f32) (b g : Fin 4) (q : Fin 64) (p : Fin 128) (d : Fin 512) :
    result Z (ix5 b g q p d)
      = pair (both (Host.cos angle) (Host.sin angle) (fun k d => Z (ix3 b ⟨k.val * 128 + p.val, by omega⟩ ⟨g.val * 512 + d.val, by omega⟩)) q)
          (both (Host.negf (Host.sin angle)) (Host.cos angle) (fun k d => Z (ix3 b ⟨k.val * 128 + p.val, by omega⟩ ⟨g.val * 512 + d.val, by omega⟩)) q)
          ((Host.cos turn : FVec Ideal S64x128 .f32) (ix2 q p)) ((Host.sin turn : FVec Ideal S64x128 .f32) (ix2 q p)) d := by
  unfold result
  rw [turned_at]
  simp only [along_at, groups_at]

end Cert.EarlyReferenceIdeal.Hand

namespace Cert.EarlyKernelIdeal.Hand

open Cert.EarlyKernelIdeal Cert.EarlyKernelIdeal.Gen Idealize.ShloMosaic Idealize.ShloMosaic.TcCoe Idealize.SL.Sem
open Cert.EarlyReferenceIdeal.Hand (angle turn both pair)

/-- A grid point's result, with every piece stated by the same two functions. -/
theorem out_eq (x0 : Vec Ideal S1x64x8x512 .f32) (x1 : Vec Ideal S128x128 .bf16) (x2 x3 : Vec Ideal S8x64x128 .f32) :
    out0_4 (F := Ideal) x0 x1 x2 x3 = View.canon [⟨r0_32, k0_pay9 (View.ld x0 r0_29) (View.ld x1 r0_1) (View.ld x2 r0_30) (View.ld x3 r0_30)⟩,
      ⟨r0_31, k0_pay8 (View.ld x0 r0_29) (View.ld x1 r0_1) (View.ld x2 r0_30) (View.ld x3 r0_30)⟩,
      ⟨r0_28, k0_pay9 (View.ld x0 r0_25) (View.ld x1 r0_1) (View.ld x2 r0_26) (View.ld x3 r0_26)⟩,
      ⟨r0_27, k0_pay8 (View.ld x0 r0_25) (View.ld x1 r0_1) (View.ld x2 r0_26) (View.ld x3 r0_26)⟩,
      ⟨r0_24, k0_pay9 (View.ld x0 r0_21) (View.ld x1 r0_1) (View.ld x2 r0_22) (View.ld x3 r0_22)⟩,
      ⟨r0_23, k0_pay8 (View.ld x0 r0_21) (View.ld x1 r0_1) (View.ld x2 r0_22) (View.ld x3 r0_22)⟩,
      ⟨r0_20, k0_pay9 (View.ld x0 r0_17) (View.ld x1 r0_1) (View.ld x2 r0_18) (View.ld x3 r0_18)⟩,
      ⟨r0_19, k0_pay8 (View.ld x0 r0_17) (View.ld x1 r0_1) (View.ld x2 r0_18) (View.ld x3 r0_18)⟩,
      ⟨r0_16, k0_pay9 (View.ld x0 r0_13) (View.ld x1 r0_1) (View.ld x2 r0_14) (View.ld x3 r0_14)⟩,
      ⟨r0_15, k0_pay8 (View.ld x0 r0_13) (View.ld x1 r0_1) (View.ld x2 r0_14) (View.ld x3 r0_14)⟩,
      ⟨r0_12, k0_pay9 (View.ld x0 r0_9) (View.ld x1 r0_1) (View.ld x2 r0_10) (View.ld x3 r0_10)⟩,
      ⟨r0_11, k0_pay8 (View.ld x0 r0_9) (View.ld x1 r0_1) (View.ld x2 r0_10) (View.ld x3 r0_10)⟩,
      ⟨r0_8, k0_pay9 (View.ld x0 r0_5) (View.ld x1 r0_1) (View.ld x2 r0_6) (View.ld x3 r0_6)⟩,
      ⟨r0_7, k0_pay8 (View.ld x0 r0_5) (View.ld x1 r0_1) (View.ld x2 r0_6) (View.ld x3 r0_6)⟩,
      ⟨r0_4, k0_pay9 (View.ld x0 r0_0) (View.ld x1 r0_1) (View.ld x2 r0_2) (View.ld x3 r0_2)⟩,
      ⟨r0_3, k0_pay8 (View.ld x0 r0_0) (View.ld x1 r0_1) (View.ld x2 r0_2) (View.ld x3 r0_2)⟩] := by
  rfl

/-- The two column halves of a block, one below the other. -/
def stacked (a : Fin 64 → Fin 512 → EReal) (k : Fin 128) (n : Fin 256) : EReal :=
  if h : k.val < 64 then a ⟨k.val, h⟩ ⟨n.val, by omega⟩ else a ⟨k.val - 64, by omega⟩ ⟨256 + n.val, by omega⟩
/-- Two tables of 64 columns side by side. -/
def beside (A B : FVec Ideal S64x64 .f32) (q : Fin 64) (k : Fin 128) : EReal :=
  if h : k.val < 64 then A (ix2 q ⟨k.val, h⟩) else B (ix2 q ⟨k.val - 64, by omega⟩)
/-- The product of a table's row with a block. -/
def product (f : Vec Ideal S128x128 .bf16) (a : Fin 64 → Fin 512 → EReal) (i : Fin 128) (n : Fin 256) : EReal :=
  ∑ k : Fin 128, (f (ix2 i k) : EReal) * stacked a k n

theorem product_at (v0 : Vec Ideal S1x64x1x512 .f32) (v6 : Vec Ideal S128x128 .bf16) (i : Fin 128) (n : Fin 256) :
    k0_pay3 v0 v6 (ix2 i n) = product v6 (fun k d => v0 (ix4 0 k 0 d)) i n := by
  pointwise [k0_pay3, product, stacked]
theorem upper_at (v0 : Vec Ideal S1x64x1x512 .f32) (v6 : Vec Ideal S128x128 .bf16) (q : Fin 64) (n : Fin 256) :
    k0_pay4 v0 v6 (ix2 q n) = product v6 (fun k d => v0 (ix4 0 k 0 d)) ⟨q.val, by omega⟩ n := by
  rw [← product_at]
  generalize hK : k0_pay3 v0 v6 = K
  unfold k0_pay4
  rw [hK]
  pointwise []
theorem lower_at (v0 : Vec Ideal S1x64x1x512 .f32) (v6 : Vec Ideal S128x128 .bf16) (q : Fin 64) (n : Fin 256) :
    k0_pay5 v0 v6 (ix2 q n) = product v6 (fun k d => v0 (ix4 0 k 0 d)) ⟨64 + q.val, by omega⟩ n := by
  rw [← product_at]
  generalize hK : k0_pay3 v0 v6 = K
  unfold k0_pay5
  rw [hK]
  pointwise []
/-- The turns' table has the same entry at every column. -/
theorem lanes_at (v : Vec Ideal S1x64x128 .f32) (t : Fin 64 → EReal) (ht : ∀ q l, v (ix3 0 q l) = t q) (q : Fin 64) (n : Fin 256) :
    k0_pay6 v (ix2 q n) = t q ∧ k0_pay7 v (ix2 q n) = t q := by
  constructor
  · pointwise [k0_pay6]
    split <;> exact ht _ _
  · pointwise [k0_pay7]
    split <;> exact ht _ _

theorem re_at (v0 : Vec Ideal S1x64x1x512 .f32) (v6 : Vec Ideal S128x128 .bf16) (v11 v14 : Vec Ideal S1x64x128 .f32) (c s : Fin 64 → EReal)
    (hc : ∀ q l, v11 (ix3 0 q l) = c q) (hs : ∀ q l, v14 (ix3 0 q l) = s q) (q : Fin 64) (n : Fin 256) :
    k0_pay8 v0 v6 v11 v14 (ix5 0 0 q 0 n) = product v6 (fun k d => v0 (ix4 0 k 0 d)) ⟨q.val, by omega⟩ n * c q
      + product v6 (fun k d => v0 (ix4 0 k 0 d)) ⟨64 + q.val, by omega⟩ n * s q := by
  rw [← upper_at, ← lower_at, ← (lanes_at v11 c hc q n).1, ← (lanes_at v14 s hs q n).2]
  unfold k0_pay8
  generalize k0_pay4 v0 v6 = A
  generalize k0_pay5 v0 v6 = B
  generalize k0_pay6 v11 = C
  generalize k0_pay7 v14 = S
  pointwise []
theorem im_at (v0 : Vec Ideal S1x64x1x512 .f32) (v6 : Vec Ideal S128x128 .bf16) (v11 v14 : Vec Ideal S1x64x128 .f32) (c s : Fin 64 → EReal)
    (hc : ∀ q l, v11 (ix3 0 q l) = c q) (hs : ∀ q l, v14 (ix3 0 q l) = s q) (q : Fin 64) (n : Fin 256) :
    k0_pay9 v0 v6 v11 v14 (ix5 0 0 q 0 n) = product v6 (fun k d => v0 (ix4 0 k 0 d)) ⟨64 + q.val, by omega⟩ n * c q
      - product v6 (fun k d => v0 (ix4 0 k 0 d)) ⟨q.val, by omega⟩ n * s q := by
  rw [← upper_at, ← lower_at, ← (lanes_at v11 c hc q n).1, ← (lanes_at v14 s hs q n).2]
  unfold k0_pay9
  generalize k0_pay4 v0 v6 = A
  generalize k0_pay5 v0 v6 = B
  generalize k0_pay6 v11 = C
  generalize k0_pay7 v14 = S
  pointwise []

/-- One of the eight residues of a block. -/
def rows (j : Fin 8) (x : Vec Ideal S1x64x8x512 .f32) : Vec Ideal S1x64x1x512 .f32 := fun i => x (ix4 0 (i 1) j (i 3))
/-- The turns of one of the eight residues. -/
def turns (j : Fin 8) (x : Vec Ideal S8x64x128 .f32) : Vec Ideal S1x64x128 .f32 := fun i => x (ix3 j (i 1) (i 2))
/-- Pieces of real and of imaginary parts, side by side. -/
def laid (G H : Fin 8 → Vec Ideal S1x1x64x1x256 .f32) (j : Fin 8) (q : Fin 64) (d : Fin 512) : EReal :=
  if h : d.val < 256 then G j (ix5 0 0 q 0 ⟨d.val, h⟩) else H j (ix5 0 0 q 0 ⟨d.val - 256, by omega⟩)

/-- An entry of a residue's piece of real parts. -/
theorem at_re (H G : Fin 8 → Vec Ideal S1x1x64x1x256 .f32) (j k : Fin 8) (q : Fin 64) (d : Fin 512) (x : S1x1x64x1x256.Idx)
    (P : Vec Ideal S1x1x64x1x256 .f32) (hP : P = G k) (h2 : q.val = (x 2).val) (h3 : j.val = k.val + (x 3).val) (h4 : d.val = (x 4).val) :
    P x = laid G H j q d := by
  idx_vars x
  have h2' : q = x2 := Fin.ext h2
  have h3' : j.val = k.val + x3.val := h3
  have h4' : d.val = x4.val := h4
  have l0 : x0.val < 1 := x0.isLt
  have l1 : x1.val < 1 := x1.isLt
  have l3 : x3.val < 1 := x3.isLt
  have l4 : x4.val < 256 := x4.isLt
  have hj : j = k := Fin.ext (by omega)
  have e0 : x0 = 0 := Fin.ext (show x0.val = 0 by omega)
  have e1 : x1 = 0 := Fin.ext (show x1.val = 0 by omega)
  have e3 : x3 = 0 := Fin.ext (show x3.val = 0 by omega)
  have hd : d.val < 256 := by omega
  have e4 : x4 = (⟨d.val, hd⟩ : Fin 256) := Fin.ext h4'.symm
  subst hP h2' hj e0 e1 e3 e4
  unfold laid
  rw [dif_pos hd]
/-- An entry of a residue's piece of imaginary parts. -/
theorem at_im (G H : Fin 8 → Vec Ideal S1x1x64x1x256 .f32) (j k : Fin 8) (q : Fin 64) (d : Fin 512) (x : S1x1x64x1x256.Idx)
    (P : Vec Ideal S1x1x64x1x256 .f32) (hP : P = H k) (h2 : q.val = (x 2).val) (h3 : j.val = k.val + (x 3).val) (h4 : d.val = 256 + (x 4).val) :
    P x = laid G H j q d := by
  idx_vars x
  have h2' : q = x2 := Fin.ext h2
  have h3' : j.val = k.val + x3.val := h3
  have h4' : d.val = 256 + x4.val := h4
  have l0 : x0.val < 1 := x0.isLt
  have l1 : x1.val < 1 := x1.isLt
  have l3 : x3.val < 1 := x3.isLt
  have hj : j = k := Fin.ext (by omega)
  have e0 : x0 = 0 := Fin.ext (show x0.val = 0 by omega)
  have e1 : x1 = 0 := Fin.ext (show x1.val = 0 by omega)
  have e3 : x3 = 0 := Fin.ext (show x3.val = 0 by omega)
  have hd : ¬ d.val < 256 := by omega
  have e4 : x4 = (⟨d.val - 256, by omega⟩ : Fin 256) := Fin.ext (show x4.val = d.val - 256 by omega)
  subst hP h2' hj e0 e1 e3
  unfold laid
  rw [dif_neg hd]
  exact congrArg (fun z => H j (ix5 0 0 q 0 z)) e4

/-- What a grid point stores, by pieces. -/
theorem out_piece (x0 : Vec Ideal S1x64x8x512 .f32) (x1 : Vec Ideal S128x128 .bf16) (x2 x3 : Vec Ideal S8x64x128 .f32) (q : Fin 64) (j : Fin 8) (d : Fin 512) :
    out0_4 (F := Ideal) x0 x1 x2 x3 (ix5 0 0 q j d)
      = laid (fun j => k0_pay8 (rows j x0) x1 (turns j x2) (turns j x3)) (fun j => k0_pay9 (rows j x0) x1 (turns j x2) (turns j x3)) j q d := by
  rw [out_eq]
  canon_tiles x h
  case piece0 =>
    refine at_im _ (fun j => k0_pay9 (rows j x0) x1 (turns j x2) (turns j x3)) j 7 q d x _ ?_ h2 h3 h4
    congr 1 <;> (funext i; idx_vars i; pointwise [rows, turns]; blk_ext)
  case piece1 =>
    refine at_re _ (fun j => k0_pay8 (rows j x0) x1 (turns j x2) (turns j x3)) j 7 q d x _ ?_ h2 h3 h4
    congr 1 <;> (funext i; idx_vars i; pointwise [rows, turns]; blk_ext)
  case piece2 =>
    refine at_im _ (fun j => k0_pay9 (rows j x0) x1 (turns j x2) (turns j x3)) j 6 q d x _ ?_ h2 h3 h4
    congr 1 <;> (funext i; idx_vars i; pointwise [rows, turns]; blk_ext)
  case piece3 =>
    refine at_re _ (fun j => k0_pay8 (rows j x0) x1 (turns j x2) (turns j x3)) j 6 q d x _ ?_ h2 h3 h4
    congr 1 <;> (funext i; idx_vars i; pointwise [rows, turns]; blk_ext)
  case piece4 =>
    refine at_im _ (fun j => k0_pay9 (rows j x0) x1 (turns j x2) (turns j x3)) j 5 q d x _ ?_ h2 h3 h4
    congr 1 <;> (funext i; idx_vars i; pointwise [rows, turns]; blk_ext)
  case piece5 =>
    refine at_re _ (fun j => k0_pay8 (rows j x0) x1 (turns j x2) (turns j x3)) j 5 q d x _ ?_ h2 h3 h4
    congr 1 <;> (funext i; idx_vars i; pointwise [rows, turns]; blk_ext)
  case piece6 =>
    refine at_im _ (fun j => k0_pay9 (rows j x0) x1 (turns j x2) (turns j x3)) j 4 q d x _ ?_ h2 h3 h4
    congr 1 <;> (funext i; idx_vars i; pointwise [rows, turns]; blk_ext)
  case piece7 =>
    refine at_re _ (fun j => k0_pay8 (rows j x0) x1 (turns j x2) (turns j x3)) j 4 q d x _ ?_ h2 h3 h4
    congr 1 <;> (funext i; idx_vars i; pointwise [rows, turns]; blk_ext)
  case piece8 =>
    refine at_im _ (fun j => k0_pay9 (rows j x0) x1 (turns j x2) (turns j x3)) j 3 q d x _ ?_ h2 h3 h4
    congr 1 <;> (funext i; idx_vars i; pointwise [rows, turns]; blk_ext)
  case piece9 =>
    refine at_re _ (fun j => k0_pay8 (rows j x0) x1 (turns j x2) (turns j x3)) j 3 q d x _ ?_ h2 h3 h4
    congr 1 <;> (funext i; idx_vars i; pointwise [rows, turns]; blk_ext)
  case piece10 =>
    refine at_im _ (fun j => k0_pay9 (rows j x0) x1 (turns j x2) (turns j x3)) j 2 q d x _ ?_ h2 h3 h4
    congr 1 <;> (funext i; idx_vars i; pointwise [rows, turns]; blk_ext)
  case piece11 =>
    refine at_re _ (fun j => k0_pay8 (rows j x0) x1 (turns j x2) (turns j x3)) j 2 q d x _ ?_ h2 h3 h4
    congr 1 <;> (funext i; idx_vars i; pointwise [rows, turns]; blk_ext)
  case piece12 =>
    refine at_im _ (fun j => k0_pay9 (rows j x0) x1 (turns j x2) (turns j x3)) j 1 q d x _ ?_ h2 h3 h4
    congr 1 <;> (funext i; idx_vars i; pointwise [rows, turns]; blk_ext)
  case piece13 =>
    refine at_re _ (fun j => k0_pay8 (rows j x0) x1 (turns j x2) (turns j x3)) j 1 q d x _ ?_ h2 h3 h4
    congr 1 <;> (funext i; idx_vars i; pointwise [rows, turns]; blk_ext)
  case piece14 =>
    refine at_im _ (fun j => k0_pay9 (rows j x0) x1 (turns j x2) (turns j x3)) j 0 q d x _ ?_ h2 (h3.trans (Nat.zero_add _).symm) h4
    congr 1 <;> (funext i; idx_vars i; pointwise [rows, turns]; blk_ext)
  case piece15 =>
    refine at_re _ (fun j => k0_pay8 (rows j x0) x1 (turns j x2) (turns j x3)) j 0 q d x _ ?_ h2 (h3.trans (Nat.zero_add _).symm) h4
    congr 1 <;> (funext i; idx_vars i; pointwise [rows, turns]; blk_ext)

/-- What a grid point stores, at an index. -/
theorem out_at (x0 : Vec Ideal S1x64x8x512 .f32) (x1 : Vec Ideal S128x128 .bf16) (x2 x3 : Vec Ideal S8x64x128 .f32) (c s : Fin 8 → Fin 64 → EReal)
    (hc : ∀ j q l, x2 (ix3 j q l) = c j q) (hs : ∀ j q l, x3 (ix3 j q l) = s j q) (q : Fin 64) (j : Fin 8) (d : Fin 512) :
    out0_4 (F := Ideal) x0 x1 x2 x3 (ix5 0 0 q j d)
      = pair (product x1 (fun k d => x0 (ix4 0 k j d)) ⟨q.val, by omega⟩) (product x1 (fun k d => x0 (ix4 0 k j d)) ⟨64 + q.val, by omega⟩) (c j q) (s j q) d := by
  rw [out_piece]
  unfold laid pair
  split
  · exact re_at (rows j x0) x1 (turns j x2) (turns j x3) (c j) (s j) (fun q l => hc j q l) (fun q l => hs j q l) q _
  · exact im_at (rows j x0) x1 (turns j x2) (turns j x3) (c j) (s j) (fun q l => hc j q l) (fun q l => hs j q l) q _

theorem index0 : ∀ t : Fin cfg0.N, win0_0.index t 0 = t.val / 64 ∧ win0_0.index t 1 = 0 ∧ win0_0.index t 2 = t.val % 16
    ∧ win0_0.index t 3 = t.val / 16 % 4 := by decide +kernel
theorem index1 : ∀ t : Fin cfg0.N, win0_1.index t 0 = 0 ∧ win0_1.index t 1 = 0 := by decide +kernel
theorem index2 : ∀ t : Fin cfg0.N, win0_2.index t 0 = t.val % 16 ∧ win0_2.index t 1 = 0 ∧ win0_2.index t 2 = 0 := by decide +kernel
theorem index3 : ∀ t : Fin cfg0.N, win0_3.index t 0 = t.val % 16 ∧ win0_3.index t 1 = 0 ∧ win0_3.index t 2 = 0 := by decide +kernel
theorem index4 : ∀ t : Fin cfg0.N, win0_4.index t 0 = t.val / 64 ∧ win0_4.index t 1 = t.val / 16 % 4 ∧ win0_4.index t 2 = 0
    ∧ win0_4.index t 3 = t.val % 16 ∧ win0_4.index t 4 = 0 := by decide +kernel

variable (m : (ℓ : Loc nD τ sig) → Buf (Elt Ideal) ℓ) (c : Dev nD)

/-- The image of a grid point. -/
def image (t : Fin cfg0.N) : Fin 4 := ⟨t.val / 64, by have : t.val < 256 := t.isLt; omega⟩
/-- The group of a grid point. -/
def part (t : Fin cfg0.N) : Fin 4 := ⟨t.val / 16 % 4, by omega⟩
/-- A residue of a grid point. -/
def residue (t : Fin cfg0.N) (j : Fin 8) : Fin 128 := ⟨t.val % 16 * 8 + j.val, by omega⟩

/-- The kernel's table: cosines and sines above, negated sines and cosines below. -/
def table (A B N : FVec Ideal S64x64 .f32) (i k : Fin 128) : EReal :=
  if h : i.val < 64 then beside A B ⟨i.val, h⟩ k else beside N A ⟨i.val - 64, by omega⟩ k

/-- The host's table. -/
theorem table_at (i k : Fin 128) :
    (V m c main_v19 : S128x128.Idx → EReal) (ix2 i k) = table (Host.cos angle) (Host.sin angle) (Host.negf (Host.sin angle)) i k := by
  have e : (V m c main_v19 : FVec Ideal S128x128 .bf16) = truncf .bf16 (concatenate S128x128 0
      [⟨S64x128, (concatenate S64x128 1 [⟨S64x64, (Host.cos angle : FVec Ideal S64x64 .f32)⟩, ⟨S64x64, (Host.sin angle : FVec Ideal S64x64 .f32)⟩]
          concatenates_S64x64_S64x64_S64x128_d1 : FVec Ideal S64x128 .f32)⟩,
        ⟨S64x128, (concatenate S64x128 1 [⟨S64x64, (Host.negf (Host.sin angle) : FVec Ideal S64x64 .f32)⟩, ⟨S64x64, (Host.cos angle : FVec Ideal S64x64 .f32)⟩]
          concatenates_S64x64_S64x64_S64x128_d1 : FVec Ideal S64x128 .f32)⟩]
      concatenates_S64x128_S64x128_S128x128_d0 : FVec Ideal S128x128 .f32) bitsLt_bf16_f32 := by
    show StableHlo.after _ _ _ = _
    after_reads_simp
    rfl
  rw [e]
  generalize (Host.negf (Host.sin angle) : FVec Ideal S64x64 .f32) = N
  generalize (Host.cos angle : FVec Ideal S64x64 .f32) = A
  generalize (Host.sin angle : FVec Ideal S64x64 .f32) = B
  pointwise [table, beside]

/-- The angles of the turns as the kernel's host lays them out. -/
def flipped : FVec Ideal S128x64 .f32 :=
  Host.divf (mulf (broadcastInDim S128x64 ![] bcast_S_S128x64 (constant S_ .f32 0x40C90FDB#32)) (sitofp .f32
    (muli (broadcastInDim S128x64 ![0, 1] bcast_S128x1_S128x64_0_1 (broadcastInDim S128x1 ![0] bcast_S128_S128x1_0 (iotaInDim S128 32 0)))
      (broadcastInDim S128x64 ![0, 1] bcast_S1x64_S128x64_0_1 (broadcastInDim S1x64 ![1] bcast_S64_S1x64_1 (iotaInDim S64 32 0)))))) (broadcastInDim S128x64 ![] bcast_S_S128x64 (constant S_ .f32 0x46000000#32))
theorem flipped_at (p : Fin 128) (q : Fin 64) : flipped (ix2 p q) = turn (ix2 q p) := by
  pointwise [flipped, turn]
  rw [show IntOp.muli (BitVec.ofNat 32 p.val) (BitVec.ofNat 32 q.val) = IntOp.muli (BitVec.ofNat 32 q.val) (BitVec.ofNat 32 p.val) from
    BitVec.mul_comm _ _]

theorem cosines_at (p : Fin 128) (q : Fin 64) (l : Fin 128) :
    (V m c main_v34 : S128x64x128.Idx → EReal) (ix3 p q l) = (Host.cos turn : FVec Ideal S64x128 .f32) (ix2 q p) := by
  have e : (V m c main_v34 : FVec Ideal S128x64x128 .f32) = broadcastInDim S128x64x128 ![0, 1, 2] bcast_S128x64x1_S128x64x128_0_1_2
      (broadcastInDim S128x64x1 ![0, 1] bcast_S128x64_S128x64x1_0_1 (Host.cos flipped : FVec Ideal S128x64 .f32)) := by
    show StableHlo.after _ _ _ = _
    after_reads_simp
    rfl
  rw [e]
  have f := flipped_at p q
  generalize flipped = A at *
  generalize turn = B at *
  pointwise []
  rw [f]
theorem sines_at (p : Fin 128) (q : Fin 64) (l : Fin 128) :
    (V m c main_v37 : S128x64x128.Idx → EReal) (ix3 p q l) = (Host.sin turn : FVec Ideal S64x128 .f32) (ix2 q p) := by
  have e : (V m c main_v37 : FVec Ideal S128x64x128 .f32) = broadcastInDim S128x64x128 ![0, 1, 2] bcast_S128x64x1_S128x64x128_0_1_2
      (broadcastInDim S128x64x1 ![0, 1] bcast_S128x64_S128x64x1_0_1 (Host.sin flipped : FVec Ideal S128x64 .f32)) := by
    show StableHlo.after _ _ _ = _
    after_reads_simp
    rfl
  rw [e]
  have f := flipped_at p q
  generalize flipped = A at *
  generalize turn = B at *
  pointwise []
  rw [f]
theorem reshaped_at (Z : FVec Ideal S4x8192x2048 .f32) (b : Fin 4) (k : Fin 64) (p : Fin 128) (d : Fin 2048) :
    (shapeCast S4x64x128x2048 Z shapeCasts_S4x8192x2048_S4x64x128x2048) (ix4 b k p d) = Z (ix3 b ⟨k.val * 128 + p.val, by omega⟩ d) := by
  refine shapeCast_apply _ _ _ _ ?_
  have e1 : (S4x64x128x2048.rowMajor (ix4 b k p d)).val = ((b.val * 64 + k.val) * 128 + p.val) * 2048 + d.val := Shape.rowMajor_val_four _
  have e2 : (S4x8192x2048.rowMajor (ix3 b ⟨k.val * 128 + p.val, by omega⟩ d)).val = (b.val * 8192 + (k.val * 128 + p.val)) * 2048 + d.val :=
    Shape.rowMajor_val_three _
  rw [e1, e2]
  omega
/-- The argument with its positions by their residue modulo 128. -/
theorem argument_at (b : Fin 4) (k : Fin 64) (p : Fin 128) (d : Fin 2048) :
    (V m c main_v38 : S4x64x128x2048.Idx → EReal) (ix4 b k p d)
      = (m (c, Proc.tc.devRef main_arg0) : S4x8192x2048.Idx → EReal) (ix3 b ⟨k.val * 128 + p.val, by omega⟩ d) := by
  have e : (V m c main_v38 : FVec Ideal S4x64x128x2048 .f32)
      = shapeCast _ (m (c, Proc.tc.devRef main_arg0) : FVec Ideal S4x8192x2048 .f32) shapeCasts_S4x8192x2048_S4x64x128x2048 := by
    show StableHlo.after _ _ _ = _
    after_reads_simp
    rfl
  rw [e]
  exact reshaped_at _ b k p d

theorem block0_at (t : Fin cfg0.N) (k : Fin 64) (j : Fin 8) (d : Fin 512) :
    (iblk m c 0 t (ix4 0 k j d) : EReal) = (m (c, Proc.tc.devRef main_arg0) : S4x8192x2048.Idx → EReal)
        (ix3 (image t) ⟨k.val * 128 + (residue t j).val, by omega⟩ ⟨(part t).val * 512 + d.val, by omega⟩) := by
  obtain ⟨e0, e1, e2, e3⟩ := index0 t
  rw [← argument_at m c]
  blk_ext [iblk, image, part, residue] <;> simp only [e0, e1, e2, e3] <;> omega
theorem block1_at (t : Fin cfg0.N) (i k : Fin 128) :
    (iblk m c 1 t (ix2 i k) : EReal) = table (Host.cos angle) (Host.sin angle) (Host.negf (Host.sin angle)) i k := by
  obtain ⟨e0, e1⟩ := index1 t
  rw [← table_at m c]
  blk_ext [iblk] <;> simp only [e0, e1] <;> omega
theorem block2_at (t : Fin cfg0.N) (j : Fin 8) (q : Fin 64) (l : Fin 128) :
    (iblk m c 2 t (ix3 j q l) : EReal) = (Host.cos turn : FVec Ideal S64x128 .f32) (ix2 q (residue t j)) := by
  obtain ⟨e0, e1, e2⟩ := index2 t
  rw [← cosines_at m c _ _ l]
  blk_ext [iblk, residue] <;> simp only [e0, e1, e2] <;> omega
theorem block3_at (t : Fin cfg0.N) (j : Fin 8) (q : Fin 64) (l : Fin 128) :
    (iblk m c 3 t (ix3 j q l) : EReal) = (Host.sin turn : FVec Ideal S64x128 .f32) (ix2 q (residue t j)) := by
  obtain ⟨e0, e1, e2⟩ := index3 t
  rw [← sines_at m c _ _ l]
  blk_ext [iblk, residue] <;> simp only [e0, e1, e2] <;> omega
theorem place_at (t : Fin cfg0.N) (q : Fin 64) (j : Fin 8) (d : Fin 512) :
    (win0_4.blk t).view.emb (ix5 0 0 q j d) = (ix5 (image t) (part t) q (residue t j) d : S4x4x64x128x512.Idx) := by
  obtain ⟨e0, e1, e2, e3, e4⟩ := index4 t
  blk_ext [image, part, residue] <;> simp only [e0, e1, e2, e3, e4] <;> omega

/-- A product of tables side by side with halves one below the other is the sum of the two products. -/
theorem split_sum (A B : FVec Ideal S64x64 .f32) (a : Fin 64 → Fin 512 → EReal) (q : Fin 64) (n : Fin 256) :
    (∑ k : Fin 128, beside A B q k * stacked a k n) = both A B a q n := by
  refine (Fin.sum_univ_add (a := 64) (b := 64) fun k => beside A B q k * stacked a k n).trans ?_
  unfold both
  congr 1
  · refine Finset.sum_congr rfl fun k _ => ?_
    have h : (Fin.castAdd 64 k).val < 64 := k.isLt
    simp only [beside, stacked, dif_pos h]
    exact mul_comm _ _
  · refine Finset.sum_congr rfl fun k _ => ?_
    have h : ¬ (Fin.natAdd 64 k).val < 64 := by simp
    have e : (⟨(Fin.natAdd 64 k).val - 64, by omega⟩ : Fin 64) = k := Fin.ext (by simp)
    simp only [beside, stacked, dif_neg h, e]
    exact mul_comm _ _
/-- The upper and the lower half of the products with the kernel's table. -/
theorem products_at (A B N : FVec Ideal S64x64 .f32) (f : Vec Ideal S128x128 .bf16) (hf : ∀ i k, (f (ix2 i k) : EReal) = table A B N i k)
    (a : Fin 64 → Fin 512 → EReal) (q : Fin 64) :
    product f a ⟨q.val, by omega⟩ = both A B a q ∧ product f a ⟨64 + q.val, by omega⟩ = both N A a q := by
  constructor
  · funext n
    rw [← split_sum]
    unfold product
    refine Finset.sum_congr rfl fun k _ => ?_
    rw [hf]
    unfold table
    rw [dif_pos (show q.val < 64 from q.isLt)]
  · funext n
    rw [← split_sum]
    unfold product
    refine Finset.sum_congr rfl fun k _ => ?_
    rw [hf]
    unfold table
    rw [dif_neg (show ¬ 64 + q.val < 64 by omega)]
    have e : (⟨64 + q.val - 64, by omega⟩ : Fin 64) = q := Fin.ext (show 64 + q.val - 64 = q.val by omega)
    exact congrArg (fun z => beside N A z k * _) e

/-- The kernel's result is the reference's. -/
theorem final : ((dats m 0 c).arrAt 4 cfg0.N : S4x4x64x128x512.Idx → EReal) = Cert.EarlyReferenceIdeal.Hand.result (m (c, Proc.tc.devRef main_arg0)) := by
  refine (dats m 0 c).arrAt_eq_of_covers 4 _ (by decide +kernel) fun t _ y => ?_
  blk_simp
  rw [after0_4]
  idx_vars y
  obtain rfl : y0 = 0 := by omega
  obtain rfl : y1 = 0 := by omega
  rw [out_at _ _ _ _ (fun j q => (Host.cos turn : FVec Ideal S64x128 .f32) (ix2 q (residue t j))) (fun j q => (Host.sin turn : FVec Ideal S64x128 .f32) (ix2 q (residue t j)))
    (block2_at m c t) (block3_at m c t)]
  refine Eq.trans ?_ (congrArg _ (place_at t y2 y3 y4).symm)
  rw [Cert.EarlyReferenceIdeal.Hand.result_at]
  obtain ⟨p1, p2⟩ := products_at _ _ _ _ (block1_at m c t) (fun k d => iblk m c 0 t (ix4 0 k y3 d)) y2
  refine (congrArg₂ (fun x y => pair x y _ _ y4) p1 p2).trans ?_
  simp only [block0_at]

end Cert.EarlyKernelIdeal.Hand

end
-- ==== Proof.L.Late.lean ====
module

public import proofs.«01_k».proof.Proof.Gen.LateKernelIdeal.Value
public import proofs.«01_k».proof.Proof.Gen.LateReferenceIdeal.Run
public import Idealize.ShloMosaic.Lib.Pointwise
public import Idealize.ShloMosaic.Lib.Pipeline.ValueKit
public import Idealize.ShloMosaic.Lib.StableHlo.RunRead

/-! The second half of the transform along the image's positions: of each residue of 64, the transform of 128 values, whose real part is kept and scaled.
A grid step of the kernel takes eight residues, each by a product of both tables side by side with the halves of its block one below the other. -/

@[expose] public section

set_option maxRecDepth 16384

noncomputable section

namespace Cert.LateReferenceIdeal.Hand

open Cert.LateReferenceIdeal Cert.LateReferenceIdeal.Gen Idealize.ShloMosaic Idealize.ShloMosaic.TcCoe Idealize.SL.Sem

/-- The angles of the transform of 128 values: `2π (i j mod 128) / 128`. -/
def angle : FVec Ideal S128x128 .f32 :=
  Host.divf (mulf (broadcastInDim S128x128 ![] bcast_S_S128x128 (constant S_ .f32 0x40C90FDB#32)) (sitofp .f32 (Host.remsi
    (muli (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
    (broadcastInDim S128x128 ![] bcast_S_S128x128 (constantI S_ 32 128#32))))) (broadcastInDim S128x128 ![] bcast_S_S128x128 (constant S_ .f32 0x43000000#32))
/-- Two tables of 128 columns side by side. -/
def beside (A B : FVec Ideal S128x128 .f32) (k : Fin 128) (j : Fin 256) : EReal :=
  if h : j.val < 128 then A (ix2 k ⟨j.val, h⟩) else B (ix2 k ⟨j.val - 128, by omega⟩)
/-- The sums with two tables, the first half of the columns with the one and the second half with the other, scaled. -/
def sums (U : FVec Ideal S4x4x64x128x512 .f32) (A B : FVec Ideal S128x128 .f32) : FVec Ideal S4x128x64x1024 .f32 :=
  shapeCast _ (mulf (addf
    (transpose S4x128x64x4x256 [0, 4, 2, 1, 3] (Host.dotGeneral dot_S4x4x64x128x256_S128x128_S4x4x64x256x128_3_1_0124_0_n_n none
      (extractStridedSlice S4x4x64x128x256 ![0, 0, 0, 0, 0] U slices_S4x4x64x128x512_S4x4x64x128x256_0_0_0_0_0) A : FVec Ideal S4x4x64x256x128 .f32) transposes_S4x4x64x256x128_S4x128x64x4x256_0_4_2_1_3)
    (transpose S4x128x64x4x256 [0, 4, 2, 1, 3] (Host.dotGeneral dot_S4x4x64x128x256_S128x128_S4x4x64x256x128_3_1_0124_0_n_n none
      (extractStridedSlice S4x4x64x128x256 ![0, 0, 0, 0, 256] U slices_S4x4x64x128x512_S4x4x64x128x256_0_0_0_0_256) B : FVec Ideal S4x4x64x256x128 .f32) transposes_S4x4x64x256x128_S4x128x64x4x256_0_4_2_1_3))
    (broadcastInDim S4x128x64x4x256 ![] bcast_S_S4x128x64x4x256 (constant S_ .f32 0x3A3504F3#32))) shapeCasts_S4x128x64x4x256_S4x128x64x1024
/-- What the reference computes of its argument. -/
def result (U : FVec Ideal S4x4x64x128x512 .f32) : FVec Ideal S4x128x64x1024 .f32 := sums U (Host.cos angle) (Host.sin angle)

/-- The sums at an index. -/
theorem sums_at (U : FVec Ideal S4x4x64x128x512 .f32) (A B : FVec Ideal S128x128 .f32) (b : Fin 4) (r : Fin 128) (q : Fin 64) (g : Fin 4) (d : Fin 256) :
    sums U A B (ix4 b r q ⟨g.val * 256 + d.val, by omega⟩)
      = ((∑ k : Fin 128, (U (ix5 b g q k ⟨d.val, by omega⟩) : EReal) * A (ix2 r k)) + ∑ k : Fin 128, (U (ix5 b g q k ⟨256 + d.val, by omega⟩) : EReal) * B (ix2 r k))
        * Ideal.ofBits .f32 0x3A3504F3#32 := by
  unfold sums
  refine (shapeCast_apply _ _ _ (ix5 b r q g d) ?_).trans ?_
  · have e1 : (S4x128x64x4x256.rowMajor (ix5 b r q g d)).val = (((b.val * 128 + r.val) * 64 + q.val) * 4 + g.val) * 256 + d.val := Shape.rowMajor_val_five _
    have e2 : (S4x128x64x1024.rowMajor (ix4 b r q ⟨g.val * 256 + d.val, by omega⟩)).val = ((b.val * 128 + r.val) * 64 + q.val) * 1024 + (g.val * 256 + d.val) :=
      Shape.rowMajor_val_four _
    rw [e1, e2]
    omega
  pointwise []

end Cert.LateReferenceIdeal.Hand

namespace Cert.LateKernelIdeal.Hand

open Cert.LateKernelIdeal Cert.LateKernelIdeal.Gen Idealize.ShloMosaic Idealize.ShloMosaic.TcCoe Idealize.SL.Sem
open Cert.LateReferenceIdeal.Hand (angle beside)

/-- A grid point's result, with every piece stated by the same function. -/
theorem out_eq (x0 : Vec Ideal S1x1x8x128x512 .f32) (x1 : Vec Ideal S128x256 .bf16) :
    out0_2 (F := Ideal) x0 x1 = View.canon [⟨r0_16, k0_pay3 (View.ld x0 r0_15) (View.ld x1 r0_1)⟩,
      ⟨r0_14, k0_pay3 (View.ld x0 r0_13) (View.ld x1 r0_1)⟩,
      ⟨r0_12, k0_pay3 (View.ld x0 r0_11) (View.ld x1 r0_1)⟩,
      ⟨r0_10, k0_pay3 (View.ld x0 r0_9) (View.ld x1 r0_1)⟩,
      ⟨r0_8, k0_pay3 (View.ld x0 r0_7) (View.ld x1 r0_1)⟩,
      ⟨r0_6, k0_pay3 (View.ld x0 r0_5) (View.ld x1 r0_1)⟩,
      ⟨r0_4, k0_pay3 (View.ld x0 r0_3) (View.ld x1 r0_1)⟩,
      ⟨r0_2, k0_pay3 (View.ld x0 r0_0) (View.ld x1 r0_1)⟩] := by
  rfl

/-- The two column halves of a block, one below the other. -/
def stacked (a : Fin 128 → Fin 512 → EReal) (k n : Fin 256) : EReal :=
  if h : k.val < 128 then a ⟨k.val, h⟩ ⟨n.val, by omega⟩ else a ⟨k.val - 128, by omega⟩ ⟨256 + n.val, by omega⟩

theorem piece_at (v0 : Vec Ideal S1x1x1x128x512 .f32) (v6 : Vec Ideal S128x256 .bf16) (r : Fin 128) (n : Fin 256) :
    k0_pay3 v0 v6 (ix4 0 r 0 n) = (∑ k : Fin 256, (v6 (ix2 r k) : EReal) * stacked (fun k n => v0 (ix5 0 0 0 k n)) k n) * Ideal.ofBits .f32 0x3A3504F3#32 := by
  pointwise [k0_pay3, stacked]

/-- One of the eight residues of a block. -/
def rows (j : Fin 8) (x : Vec Ideal S1x1x8x128x512 .f32) : Vec Ideal S1x1x1x128x512 .f32 := fun i => x (ix5 0 0 j (i 3) (i 4))

/-- An entry of the piece of residue `k`, found by its third coordinate. -/
theorem at_piece (G : Fin 8 → Vec Ideal S1x128x1x256 .f32) (j k : Fin 8) (r : Fin 128) (n : Fin 256) (x : S1x128x1x256.Idx)
    (P : Vec Ideal S1x128x1x256 .f32) (hP : P = G k) (h1 : r.val = (x 1).val) (h2 : j.val = k.val + (x 2).val) (h3 : n.val = (x 3).val) :
    P x = G j (ix4 0 r 0 n) := by
  idx_vars x
  have h1' : r = x1 := Fin.ext h1
  have h3' : n = x3 := Fin.ext h3
  have h2' : j.val = k.val + x2.val := h2
  have l0 : x0.val < 1 := x0.isLt
  have l2 : x2.val < 1 := x2.isLt
  have hj : j = k := Fin.ext (by omega)
  have h0 : x0 = 0 := Fin.ext (show x0.val = 0 by omega)
  have h0' : x2 = 0 := Fin.ext (show x2.val = 0 by omega)
  subst hP h1' h3' hj h0 h0'
  rfl

/-- What a grid point stores, at an index. -/
theorem out_piece (x0 : Vec Ideal S1x1x8x128x512 .f32) (x1 : Vec Ideal S128x256 .bf16) (r : Fin 128) (j : Fin 8) (n : Fin 256) :
    out0_2 (F := Ideal) x0 x1 (ix4 0 r j n) = k0_pay3 (rows j x0) x1 (ix4 0 r 0 n) := by
  rw [out_eq]
  canon_tiles x h
  case piece0 =>
    refine at_piece (fun j => k0_pay3 (rows j x0) x1) j 7 r n x _ ?_ h1 h2 h3
    congr 1 <;> (funext i; idx_vars i; pointwise [rows]; blk_ext)
  case piece1 =>
    refine at_piece (fun j => k0_pay3 (rows j x0) x1) j 6 r n x _ ?_ h1 h2 h3
    congr 1 <;> (funext i; idx_vars i; pointwise [rows]; blk_ext)
  case piece2 =>
    refine at_piece (fun j => k0_pay3 (rows j x0) x1) j 5 r n x _ ?_ h1 h2 h3
    congr 1 <;> (funext i; idx_vars i; pointwise [rows]; blk_ext)
  case piece3 =>
    refine at_piece (fun j => k0_pay3 (rows j x0) x1) j 4 r n x _ ?_ h1 h2 h3
    congr 1 <;> (funext i; idx_vars i; pointwise [rows]; blk_ext)
  case piece4 =>
    refine at_piece (fun j => k0_pay3 (rows j x0) x1) j 3 r n x _ ?_ h1 h2 h3
    congr 1 <;> (funext i; idx_vars i; pointwise [rows]; blk_ext)
  case piece5 =>
    refine at_piece (fun j => k0_pay3 (rows j x0) x1) j 2 r n x _ ?_ h1 h2 h3
    congr 1 <;> (funext i; idx_vars i; pointwise [rows]; blk_ext)
  case piece6 =>
    refine at_piece (fun j => k0_pay3 (rows j x0) x1) j 1 r n x _ ?_ h1 h2 h3
    congr 1 <;> (funext i; idx_vars i; pointwise [rows]; blk_ext)
  case piece7 =>
    refine at_piece (fun j => k0_pay3 (rows j x0) x1) j 0 r n x _ ?_ h1 (h2.trans (Nat.zero_add _).symm) h3
    congr 1 <;> (funext i; idx_vars i; pointwise [rows]; blk_ext)

theorem out_at (x0 : Vec Ideal S1x1x8x128x512 .f32) (x1 : Vec Ideal S128x256 .bf16) (r : Fin 128) (j : Fin 8) (n : Fin 256) :
    out0_2 (F := Ideal) x0 x1 (ix4 0 r j n)
      = (∑ k : Fin 256, (x1 (ix2 r k) : EReal) * stacked (fun k n => x0 (ix5 0 0 j k n)) k n) * Ideal.ofBits .f32 0x3A3504F3#32 :=
  (out_piece x0 x1 r j n).trans (piece_at (rows j x0) x1 r n)

theorem index0 : ∀ t : Fin cfg0.N, win0_0.index t 0 = t.val / 32 ∧ win0_0.index t 1 = t.val / 8 % 4 ∧ win0_0.index t 2 = t.val % 8
    ∧ win0_0.index t 3 = 0 ∧ win0_0.index t 4 = 0 := by decide +kernel
theorem index1 : ∀ t : Fin cfg0.N, win0_1.index t 0 = 0 ∧ win0_1.index t 1 = 0 := by decide +kernel
theorem index2 : ∀ t : Fin cfg0.N, win0_2.index t 0 = t.val / 32 ∧ win0_2.index t 1 = 0 ∧ win0_2.index t 2 = t.val % 8
    ∧ win0_2.index t 3 = t.val / 8 % 4 := by decide +kernel

variable (m : (ℓ : Loc nD τ sig) → Buf (Elt Ideal) ℓ) (c : Dev nD)

/-- The image of a grid point. -/
def image (t : Fin cfg0.N) : Fin 4 := ⟨t.val / 32, by have : t.val < 128 := t.isLt; omega⟩
/-- The group of a grid point. -/
def part (t : Fin cfg0.N) : Fin 4 := ⟨t.val / 8 % 4, by omega⟩
/-- A residue of a grid point. -/
def residue (t : Fin cfg0.N) (j : Fin 8) : Fin 64 := ⟨t.val % 8 * 8 + j.val, by omega⟩

/-- The host's table: the cosines and the sines. -/
theorem table_at (k : Fin 128) (n : Fin 256) :
    (V m c main_v16 : S128x256.Idx → EReal) (ix2 k n) = beside (Host.cos angle) (Host.sin angle) k n := by
  have e : (V m c main_v16 : FVec Ideal S128x256 .bf16) = truncf .bf16 (concatenate S128x256 1
      [⟨S128x128, (Host.cos angle : FVec Ideal S128x128 .f32)⟩, ⟨S128x128, (Host.sin angle : FVec Ideal S128x128 .f32)⟩]
      concatenates_S128x128_S128x128_S128x256_d1 : FVec Ideal S128x256 .f32) bitsLt_bf16_f32 := by
    show StableHlo.after _ _ _ = _
    after_reads_simp
    rfl
  rw [e]
  generalize (Host.cos angle : FVec Ideal S128x128 .f32) = A
  generalize (Host.sin angle : FVec Ideal S128x128 .f32) = B
  pointwise [beside]

theorem block0_at (t : Fin cfg0.N) (j : Fin 8) (r : Fin 128) (k : Fin 512) :
    (iblk m c 0 t (ix5 0 0 j r k) : EReal)
      = (m (c, Proc.tc.devRef main_arg0) : S4x4x64x128x512.Idx → EReal) (ix5 (image t) (part t) (residue t j) r k) := by
  obtain ⟨e0, e1, e2, e3, e4⟩ := index0 t
  blk_ext [iblk, image, part, residue] <;> simp only [e0, e1, e2, e3, e4] <;> omega
theorem block1_at (t : Fin cfg0.N) (k : Fin 128) (n : Fin 256) :
    (iblk m c 1 t (ix2 k n) : EReal) = beside (Host.cos angle) (Host.sin angle) k n := by
  obtain ⟨e0, e1⟩ := index1 t
  rw [← table_at m c]
  blk_ext [iblk] <;> simp only [e0, e1] <;> omega
theorem place_at (t : Fin cfg0.N) (r : Fin 128) (j : Fin 8) (n : Fin 256) :
    (win0_2.blk t).view.emb (ix4 0 r j n) = (ix4 (image t) r (residue t j) ⟨(part t).val * 256 + n.val, by omega⟩ : S4x128x64x1024.Idx) := by
  obtain ⟨e0, e1, e2, e3⟩ := index2 t
  blk_ext [image, part, residue] <;> simp only [e0, e1, e2, e3] <;> omega

/-- A product of tables side by side with halves one below the other is the sum of the two products. -/
theorem split_sum (A B : FVec Ideal S128x128 .f32) (a : Fin 128 → Fin 512 → EReal) (r : Fin 128) (n : Fin 256) :
    (∑ k : Fin 256, beside A B r k * stacked a k n)
      = (∑ k : Fin 128, a k ⟨n.val, by omega⟩ * A (ix2 r k)) + ∑ k : Fin 128, a k ⟨256 + n.val, by omega⟩ * B (ix2 r k) := by
  refine (Fin.sum_univ_add (a := 128) (b := 128) fun k => beside A B r k * stacked a k n).trans ?_
  congr 1
  · refine Finset.sum_congr rfl fun k _ => ?_
    have h : (Fin.castAdd 128 k).val < 128 := k.isLt
    simp only [beside, stacked, dif_pos h]
    exact mul_comm _ _
  · refine Finset.sum_congr rfl fun k _ => ?_
    have h : ¬ (Fin.natAdd 128 k).val < 128 := by simp
    have e : (⟨(Fin.natAdd 128 k).val - 128, by omega⟩ : Fin 128) = k := Fin.ext (by simp)
    simp only [beside, stacked, dif_neg h, e]
    exact mul_comm _ _

/-- The kernel's result is the reference's. -/
theorem final : ((dats m 0 c).arrAt 2 cfg0.N : S4x128x64x1024.Idx → EReal) = Cert.LateReferenceIdeal.Hand.result (m (c, Proc.tc.devRef main_arg0)) := by
  refine (dats m 0 c).arrAt_eq_of_covers 2 _ (by decide +kernel) fun t _ y => ?_
  blk_simp
  rw [after0_2]
  idx_vars y
  obtain rfl : y0 = 0 := by omega
  rw [out_at]
  refine Eq.trans ?_ (congrArg _ (place_at t y1 y2 y3).symm)
  unfold Cert.LateReferenceIdeal.Hand.result
  rw [Cert.LateReferenceIdeal.Hand.sums_at]
  simp only [block1_at]
  rw [split_sum]
  simp only [block0_at]

end Cert.LateKernelIdeal.Hand

end
-- ==== Proof.lean ====
/-
  The certificate: the frames of every kernel and reference, and over the extended reals the equality of kernel and reference for the
  neighbourhood attention, for the projections around the mixing layers and for the last norm.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutTwoKernel
public import proofs.«01_k».proof.Proof.Gen.OutTwoKernel.Skeleton
public import proofs.«01_k».proof.Proof.Gen.OutTwoKernel.Launch
public import proofs.«01_k».proof.Proof.Gen.OutTwoKernel.Points
public import proofs.«01_k».proof.Proof.Gen.OutTwoKernel.Frame
public import proofs.«01_k».proof.Proof.Gen.OutTwoKernelIdeal
public import proofs.«01_k».proof.Proof.Gen.OutTwoKernelIdeal.Skeleton
public import proofs.«01_k».proof.Proof.Gen.OutTwoKernelIdeal.Launch
public import proofs.«01_k».proof.Proof.Gen.OutTwoKernelIdeal.Points
public import proofs.«01_k».proof.Proof.Gen.OutTwoKernelIdeal.Frame
public import proofs.«01_k».proof.Proof.Gen.OutTwoKernelIdeal.Value
public import proofs.«01_k».proof.Proof.Gen.OutTwoReferenceIdeal
public import proofs.«01_k».proof.Proof.Gen.OutTwoReferenceIdeal.Run
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalKernelIdeal.Value
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateKernelIdeal.Value
public import proofs.«01_k».proof.Proof.Gen.GateReferenceIdeal.Run
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaKernelIdeal.Value
public import proofs.«01_k».proof.Proof.Gen.AdaReferenceIdeal.Run
public import proofs.«01_k».proof.Proof.Gen.CtxKernel
public import proofs.«01_k».proof.Proof.Gen.CtxKernel.Skeleton
public import proofs.«01_k».proof.Proof.Gen.CtxKernel.Launch
public import proofs.«01_k».proof.Proof.Gen.CtxKernel.Points
public import proofs.«01_k».proof.Proof.Gen.CtxKernel.Frame
public import proofs.«01_k».proof.Proof.Gen.CtxKernelIdeal
public import proofs.«01_k».proof.Proof.Gen.CtxKernelIdeal.Skeleton
public import proofs.«01_k».proof.Proof.Gen.CtxKernelIdeal.Launch
public import proofs.«01_k».proof.Proof.Gen.CtxKernelIdeal.Points
public import proofs.«01_k».proof.Proof.Gen.CtxKernelIdeal.Frame
public import proofs.«01_k».proof.Proof.Gen.CtxReferenceIdeal
public import proofs.«01_k».proof.Proof.Gen.CtxKernelIdeal.Value
public import proofs.«01_k».proof.Proof.Gen.CtxReferenceIdeal.Run
public import proofs.«01_k».proof.Proof.Gen.FinalReferenceIdeal
public import proofs.«01_k».proof.Proof.Gen.FinalReferenceIdeal.Run
public import proofs.«01_k».proof.Proof.Gen.CtxQkvKernel
public import proofs.«01_k».proof.Proof.Gen.CtxQkvKernel.Skeleton
public import proofs.«01_k».proof.Proof.Gen.CtxQkvKernel.Launch
public import proofs.«01_k».proof.Proof.Gen.CtxQkvKernel.Points
public import proofs.«01_k».proof.Proof.Gen.CtxQkvKernel.Frame
public import proofs.«01_k».proof.Proof.Gen.CtxQkvKernelIdeal
public import proofs.«01_k».proof.Proof.Gen.CtxQkvKernelIdeal.Skeleton
public import proofs.«01_k».proof.Proof.Gen.CtxQkvKernelIdeal.Launch
public import proofs.«01_k».proof.Proof.Gen.CtxQkvKernelIdeal.Points
public import proofs.«01_k».proof.Proof.Gen.CtxQkvKernelIdeal.Frame
public import proofs.«01_k».proof.Proof.Gen.CtxQkvKernelIdeal.Value
public import proofs.«01_k».proof.Proof.Gen.CtxQkvReferenceIdeal
public import proofs.«01_k».proof.Proof.Gen.CtxQkvReferenceIdeal.Run
public import proofs.«01_k».proof.Proof.Gen.CtxInKernel
public import proofs.«01_k».proof.Proof.Gen.CtxInKernel.Skeleton
public import proofs.«01_k».proof.Proof.Gen.CtxInKernel.Launch
public import proofs.«01_k».proof.Proof.Gen.CtxInKernel.Points
public import proofs.«01_k».proof.Proof.Gen.CtxInKernel.Frame
public import proofs.«01_k».proof.Proof.Gen.CtxInKernelIdeal
public import proofs.«01_k».proof.Proof.Gen.CtxInKernelIdeal.Skeleton
public import proofs.«01_k».proof.Proof.Gen.CtxInKernelIdeal.Launch
public import proofs.«01_k».proof.Proof.Gen.CtxInKernelIdeal.Points
public import proofs.«01_k».proof.Proof.Gen.CtxInKernelIdeal.Frame
public import proofs.«01_k».proof.Proof.Gen.CtxInReferenceIdeal
public import proofs.«01_k».proof.Proof.Gen.CtxInReferenceIdeal.Run
public import proofs.«01_k».proof.Proof.Gen.CtxOutKernel
public import proofs.«01_k».proof.Proof.Gen.CtxOutKernel.Skeleton
public import proofs.«01_k».proof.Proof.Gen.CtxOutKernel.Launch
public import proofs.«01_k».proof.Proof.Gen.CtxOutKernel.Points
public import proofs.«01_k».proof.Proof.Gen.CtxOutKernel.Frame
public import proofs.«01_k».proof.Proof.Gen.CtxOutKernelIdeal
public import proofs.«01_k».proof.Proof.Gen.CtxOutKernelIdeal.Skeleton
public import proofs.«01_k».proof.Proof.Gen.CtxOutKernelIdeal.Launch
public import proofs.«01_k».proof.Proof.Gen.CtxOutKernelIdeal.Points
public import proofs.«01_k».proof.Proof.Gen.CtxOutKernelIdeal.Frame
public import proofs.«01_k».proof.Proof.Gen.CtxOutKernelIdeal.Value
public import proofs.«01_k».proof.Proof.Gen.CtxOutReferenceIdeal
public import proofs.«01_k».proof.Proof.Gen.CtxOutReferenceIdeal.Run
public import proofs.«01_k».proof.Proof.Gen.CtxOutTwoKernel
public import proofs.«01_k».proof.Proof.Gen.CtxOutTwoKernel.Skeleton
public import proofs.«01_k».proof.Proof.Gen.CtxOutTwoKernel.Launch
public import proofs.«01_k».proof.Proof.Gen.CtxOutTwoKernel.Points
public import proofs.«01_k».proof.Proof.Gen.CtxOutTwoKernel.Frame
public import proofs.«01_k».proof.Proof.Gen.CtxOutTwoKernelIdeal
public import proofs.«01_k».proof.Proof.Gen.CtxOutTwoKernelIdeal.Skeleton
public import proofs.«01_k».proof.Proof.Gen.CtxOutTwoKernelIdeal.Launch
public import proofs.«01_k».proof.Proof.Gen.CtxOutTwoKernelIdeal.Points
public import proofs.«01_k».proof.Proof.Gen.CtxOutTwoKernelIdeal.Frame
public import proofs.«01_k».proof.Proof.Gen.CtxOutTwoKernelIdeal.Value
public import proofs.«01_k».proof.Proof.Gen.CtxOutTwoReferenceIdeal
public import proofs.«01_k».proof.Proof.Gen.CtxOutTwoReferenceIdeal.Run
public import proofs.«01_k».proof.Proof.Gen.CtxGateKernel
public import proofs.«01_k».proof.Proof.Gen.CtxGateKernel.Skeleton
public import proofs.«01_k».proof.Proof.Gen.CtxGateKernel.Launch
public import proofs.«01_k».proof.Proof.Gen.CtxGateKernel.Points
public import proofs.«01_k».proof.Proof.Gen.CtxGateKernel.Frame
public import proofs.«01_k».proof.Proof.Gen.CtxGateKernelIdeal
public import proofs.«01_k».proof.Proof.Gen.CtxGateKernelIdeal.Skeleton
public import proofs.«01_k».proof.Proof.Gen.CtxGateKernelIdeal.Launch
public import proofs.«01_k».proof.Proof.Gen.CtxGateKernelIdeal.Points
public import proofs.«01_k».proof.Proof.Gen.CtxGateKernelIdeal.Frame
public import proofs.«01_k».proof.Proof.Gen.CtxGateReferenceIdeal
public import proofs.«01_k».proof.Proof.Gen.CtxGateKernelIdeal.Value
public import proofs.«01_k».proof.Proof.Gen.CtxGateReferenceIdeal.Run
public import proofs.«01_k».proof.Proof.Gen.WaveKernel
public import proofs.«01_k».proof.Proof.Gen.WaveKernel.Skeleton
public import proofs.«01_k».proof.Proof.Gen.WaveKernel.Launch
public import proofs.«01_k».proof.Proof.Gen.WaveKernel.Points
public import proofs.«01_k».proof.Proof.Gen.WaveKernel.Frame
public import proofs.«01_k».proof.Proof.Gen.WaveKernelIdeal
public import proofs.«01_k».proof.Proof.Gen.WaveKernelIdeal.Skeleton
public import proofs.«01_k».proof.Proof.Gen.WaveKernelIdeal.Launch
public import proofs.«01_k».proof.Proof.Gen.WaveKernelIdeal.Points
public import proofs.«01_k».proof.Proof.Gen.WaveKernelIdeal.Frame
public import proofs.«01_k».proof.Proof.Gen.WaveReferenceIdeal
public import proofs.«01_k».proof.Proof.Gen.WaveKernelIdeal.Value
public import proofs.«01_k».proof.Proof.Gen.WaveReferenceIdeal.Run
public import proofs.«01_k».proof.Proof.Gen.CtxWaveKernel
public import proofs.«01_k».proof.Proof.Gen.CtxWaveKernel.Skeleton
public import proofs.«01_k».proof.Proof.Gen.CtxWaveKernel.Launch
public import proofs.«01_k».proof.Proof.Gen.CtxWaveKernel.Points
public import proofs.«01_k».proof.Proof.Gen.CtxWaveKernel.Frame
public import proofs.«01_k».proof.Proof.Gen.CtxWaveKernelIdeal
public import proofs.«01_k».proof.Proof.Gen.CtxWaveKernelIdeal.Skeleton
public import proofs.«01_k».proof.Proof.Gen.CtxWaveKernelIdeal.Launch
public import proofs.«01_k».proof.Proof.Gen.CtxWaveKernelIdeal.Points
public import proofs.«01_k».proof.Proof.Gen.CtxWaveKernelIdeal.Frame
public import proofs.«01_k».proof.Proof.Gen.CtxWaveReferenceIdeal
public import proofs.«01_k».proof.Proof.Gen.CtxWaveKernelIdeal.Value
public import proofs.«01_k».proof.Proof.Gen.CtxWaveReferenceIdeal.Run
public import proofs.«01_k».proof.Proof.Gen.CtxRealKernel
public import proofs.«01_k».proof.Proof.Gen.CtxRealKernel.Skeleton
public import proofs.«01_k».proof.Proof.Gen.CtxRealKernel.Launch
public import proofs.«01_k».proof.Proof.Gen.CtxRealKernel.Points
public import proofs.«01_k».proof.Proof.Gen.CtxRealKernel.Frame
public import proofs.«01_k».proof.Proof.Gen.CtxRealKernelIdeal
public import proofs.«01_k».proof.Proof.Gen.CtxRealKernelIdeal.Skeleton
public import proofs.«01_k».proof.Proof.Gen.CtxRealKernelIdeal.Launch
public import proofs.«01_k».proof.Proof.Gen.CtxRealKernelIdeal.Points
public import proofs.«01_k».proof.Proof.Gen.CtxRealKernelIdeal.Frame
public import proofs.«01_k».proof.Proof.Gen.CtxRealReferenceIdeal
public import proofs.«01_k».proof.Proof.Gen.CtxRealKernelIdeal.Value
public import proofs.«01_k».proof.Proof.Gen.CtxRealReferenceIdeal.Run
public import proofs.«01_k».proof.Proof.Gen.EarlyKernel
public import proofs.«01_k».proof.Proof.Gen.EarlyKernel.Skeleton
public import proofs.«01_k».proof.Proof.Gen.EarlyKernel.Launch
public import proofs.«01_k».proof.Proof.Gen.EarlyKernel.Points
public import proofs.«01_k».proof.Proof.Gen.EarlyKernel.Frame
public import proofs.«01_k».proof.Proof.Gen.EarlyKernelIdeal
public import proofs.«01_k».proof.Proof.Gen.EarlyKernelIdeal.Skeleton
public import proofs.«01_k».proof.Proof.Gen.EarlyKernelIdeal.Launch
public import proofs.«01_k».proof.Proof.Gen.EarlyKernelIdeal.Points
public import proofs.«01_k».proof.Proof.Gen.EarlyKernelIdeal.Frame
public import proofs.«01_k».proof.Proof.Gen.EarlyReferenceIdeal
public import proofs.«01_k».proof.Proof.Gen.EarlyKernelIdeal.Value
public import proofs.«01_k».proof.Proof.Gen.EarlyReferenceIdeal.Run
public import proofs.«01_k».proof.Proof.Gen.LateKernel
public import proofs.«01_k».proof.Proof.Gen.LateKernel.Skeleton
public import proofs.«01_k».proof.Proof.Gen.LateKernel.Launch
public import proofs.«01_k».proof.Proof.Gen.LateKernel.Points
public import proofs.«01_k».proof.Proof.Gen.LateKernel.Frame
public import proofs.«01_k».proof.Proof.Gen.LateKernelIdeal
public import proofs.«01_k».proof.Proof.Gen.LateKernelIdeal.Skeleton
public import proofs.«01_k».proof.Proof.Gen.LateKernelIdeal.Launch
public import proofs.«01_k».proof.Proof.Gen.LateKernelIdeal.Points
public import proofs.«01_k».proof.Proof.Gen.LateKernelIdeal.Frame
public import proofs.«01_k».proof.Proof.Gen.LateReferenceIdeal
public import proofs.«01_k».proof.Proof.Gen.LateKernelIdeal.Value
public import proofs.«01_k».proof.Proof.Gen.LateReferenceIdeal.Run
public import proofs.«01_k».proof.Proof.K.Final
public import proofs.«01_k».proof.Proof.L.InFrame
public import proofs.«01_k».proof.Proof.L.InCopy
public import proofs.«01_k».proof.Proof.L.In
public import proofs.«01_k».proof.Proof.L.Qkv
public import proofs.«01_k».proof.Proof.L.Out
public import proofs.«01_k».proof.Proof.L.OutTwo
public import proofs.«01_k».proof.Proof.L.Final
public import proofs.«01_k».proof.Proof.L.Gate
public import proofs.«01_k».proof.Proof.L.Ada
public import proofs.«01_k».proof.Proof.L.Ctx
public import proofs.«01_k».proof.Proof.L.CtxInFrame
public import proofs.«01_k».proof.Proof.L.CtxInCopy
public import proofs.«01_k».proof.Proof.L.CtxIn
public import proofs.«01_k».proof.Proof.L.CtxQkv
public import proofs.«01_k».proof.Proof.L.CtxOut
public import proofs.«01_k».proof.Proof.L.CtxOutTwo
public import proofs.«01_k».proof.Proof.L.CtxGate
public import proofs.«01_k».proof.Proof.L.Wave
public import proofs.«01_k».proof.Proof.L.CtxWave
public import proofs.«01_k».proof.Proof.L.CtxReal
public import proofs.«01_k».proof.Proof.L.Early
public import proofs.«01_k».proof.Proof.L.Late
public import Idealize.ShloMosaic.Adequacy
public import Idealize.ShloMosaic.Init

@[expose] public section

noncomputable section

namespace Cert.Proof

open Idealize.ShloMosaic Idealize.SL.Sem

/-- The reference runs, leaving its arguments unchanged and every semaphore counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- Over reals, kernel and reference compute the same attention. -/
theorem same_attention : Cert.algebraic_KernelIdeal_ReferenceIdeal_pre_all_finite (hKernelIdeal := Cert.KernelIdeal.Gen.facts)
    (hReferenceIdeal := Cert.ReferenceIdeal.Gen.facts) (hPre_all_finite := Cert.Pre_all_finite.Hand.facts) := by
  intro m g m' g' hpre hargs
  haveI := Cert.Pre_all_finite.Hand.facts
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨⟨a0, h0⟩, ⟨a1, h1⟩, a2, h2⟩ := Cert.Pre_all_finite.Hand.fn_reals _ _ _ (hpre c)
  refine ((Cert.ReferenceIdeal.Hand.res_eq m' c).trans ?_).trans (Cert.KernelIdeal.Hand.final m c a0 a1 a2 h0 h1 h2).symm
  obtain ⟨e0, e1, e2⟩ := hargs c
  exact congr (congrArg₂ _ (e0.trans h0) (e1.trans h1)) (e2.trans h2)

/-- The reference of the query, key and value projection runs, leaving its arguments unchanged and every semaphore counter at zero. -/
theorem frame_reference_qkv (m : (ℓ : Loc Cert.QkvReferenceIdeal.nD Cert.QkvReferenceIdeal.τ Cert.QkvReferenceIdeal.sig) → Buf (Elt Ideal) ℓ) (g : Dev Cert.QkvReferenceIdeal.nD → PrngReg) :
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0) :=
  (θ_run Cert.QkvReferenceIdeal.defs _ _).mono (fun r h => ⟨fun c => (h c).2, sem_eq_zero_of_no_sems (by decide) r.2⟩) (Cert.QkvReferenceIdeal.Value.run m g)

/-- Over the extended reals, kernel and reference compute the same projection to queries, keys and values. -/
theorem same_qkv : Cert.algebraic_QkvKernelIdeal_QkvReferenceIdeal (hQkvKernelIdeal := Cert.QkvKernelIdeal.Gen.facts)
    (hQkvReferenceIdeal := Cert.QkvReferenceIdeal.Gen.facts) := by
  intro m g m' g' _ hargs
  refine ⟨fun c => (Cert.QkvKernelIdeal.Gen.dats m 0 c).arrAt 6 Cert.QkvKernelIdeal.cfg0.N, Cert.QkvKernelIdeal.Value.run_blocks m g, ?_⟩
  refine (θ_run Cert.QkvReferenceIdeal.defs _ _).mono (fun r h c => ⟨(h c).1.trans ?_, (h c).2⟩) (Cert.QkvReferenceIdeal.Value.run m' g')
  obtain ⟨e0, e1, e2, e3, e4⟩ := hargs c
  refine Eq.trans ?_ (Cert.QkvKernelIdeal.Hand.final m c).symm
  refine Eq.trans (b := Cert.QkvReferenceIdeal.Hand.result (m' (c, Proc.tc.devRef Cert.QkvReferenceIdeal.main_arg0)) (m' (c, Proc.tc.devRef Cert.QkvReferenceIdeal.main_arg1)) (m' (c, Proc.tc.devRef Cert.QkvReferenceIdeal.main_arg2)) (m' (c, Proc.tc.devRef Cert.QkvReferenceIdeal.main_arg3)) (m' (c, Proc.tc.devRef Cert.QkvReferenceIdeal.main_arg4))) rfl ?_
  exact congr (congr (congr (congr (congrArg _ e0) e1) e2) e3) e4

/-- The reference of the even layers' in-projection runs, leaving its arguments unchanged and every semaphore counter at zero. -/
theorem frame_reference_in (m : (ℓ : Loc Cert.InReferenceIdeal.nD Cert.InReferenceIdeal.τ Cert.InReferenceIdeal.sig) → Buf (Elt Ideal) ℓ) (g : Dev Cert.InReferenceIdeal.nD → PrngReg) :
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0) :=
  (θ_run Cert.InReferenceIdeal.defs _ _).mono (fun r h => ⟨fun c => (h c).2.2, sem_eq_zero_of_no_sems (by decide) r.2⟩) (Cert.InReferenceIdeal.Value.run m g)

/-- Over the extended reals, kernel and reference compute the same two results of the even layers' in-projection. -/
theorem same_in : Cert.algebraic_InKernelIdeal_InReferenceIdeal (hInKernelIdeal := Cert.InKernelIdeal.Gen.facts)
    (hInReferenceIdeal := Cert.InReferenceIdeal.Gen.facts) := by
  intro m g m' g' _ hargs
  refine ⟨fun c => (Cert.InKernelIdeal.Hand.dats m 0 c).arrAt 7 Cert.InKernelIdeal.cfg0.N, fun c => (Cert.InKernelIdeal.Hand.dats m 0 c).arrAt 8 Cert.InKernelIdeal.cfg0.N,
    Cert.InKernelIdeal.Hand.run_blocks m g, ?_⟩
  refine (θ_run Cert.InReferenceIdeal.defs _ _).mono (fun r h c => ⟨(h c).1.trans ?_, (h c).2.1.trans ?_, (h c).2.2⟩) (Cert.InReferenceIdeal.Value.run m' g')
  all_goals
    obtain ⟨e0, e1, e2, e3, e4⟩ := hargs c
    have e : Cert.InReferenceIdeal.Hand.product (m' (c, Proc.tc.devRef Cert.InReferenceIdeal.main_arg0)) (m' (c, Proc.tc.devRef Cert.InReferenceIdeal.main_arg1)) (m' (c, Proc.tc.devRef Cert.InReferenceIdeal.main_arg2)) (m' (c, Proc.tc.devRef Cert.InReferenceIdeal.main_arg3)) (m' (c, Proc.tc.devRef Cert.InReferenceIdeal.main_arg4)) = Cert.InKernelIdeal.Hand.product m c :=
      congr (congr (congr (congr (congrArg _ e0) e1) e2) e3) e4
  · exact Eq.trans (b := Cert.InReferenceIdeal.Hand.wide (Cert.InReferenceIdeal.Hand.product (m' (c, Proc.tc.devRef Cert.InReferenceIdeal.main_arg0)) (m' (c, Proc.tc.devRef Cert.InReferenceIdeal.main_arg1)) (m' (c, Proc.tc.devRef Cert.InReferenceIdeal.main_arg2)) (m' (c, Proc.tc.devRef Cert.InReferenceIdeal.main_arg3)) (m' (c, Proc.tc.devRef Cert.InReferenceIdeal.main_arg4)))) rfl ((congrArg _ e).trans (Cert.InKernelIdeal.Hand.wide_final m c).symm)
  · exact Eq.trans (b := Cert.InReferenceIdeal.Hand.narrow (Cert.InReferenceIdeal.Hand.product (m' (c, Proc.tc.devRef Cert.InReferenceIdeal.main_arg0)) (m' (c, Proc.tc.devRef Cert.InReferenceIdeal.main_arg1)) (m' (c, Proc.tc.devRef Cert.InReferenceIdeal.main_arg2)) (m' (c, Proc.tc.devRef Cert.InReferenceIdeal.main_arg3)) (m' (c, Proc.tc.devRef Cert.InReferenceIdeal.main_arg4)))) rfl ((congrArg _ e).trans (Cert.InKernelIdeal.Hand.narrow_final m c).symm)

/-- The reference of the output projection after the attention runs, leaving its arguments unchanged and every semaphore counter at zero. -/
theorem frame_reference_out (m : (ℓ : Loc Cert.OutReferenceIdeal.nD Cert.OutReferenceIdeal.τ Cert.OutReferenceIdeal.sig) → Buf (Elt Ideal) ℓ) (g : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0) :=
  (θ_run Cert.OutReferenceIdeal.defs _ _).mono (fun r h => ⟨fun c => (h c).2, sem_eq_zero_of_no_sems (by decide) r.2⟩) (Cert.OutReferenceIdeal.Value.run m g)

/-- Over the extended reals, kernel and reference compute the same output projection after the attention. -/
theorem same_out : Cert.algebraic_OutKernelIdeal_OutReferenceIdeal (hOutKernelIdeal := Cert.OutKernelIdeal.Gen.facts)
    (hOutReferenceIdeal := Cert.OutReferenceIdeal.Gen.facts) := by
  intro m g m' g' _ hargs
  refine ⟨fun c => (Cert.OutKernelIdeal.Gen.dats m 0 c).arrAt 4 Cert.OutKernelIdeal.cfg0.N, Cert.OutKernelIdeal.Value.run_blocks m g, ?_⟩
  refine (θ_run Cert.OutReferenceIdeal.defs _ _).mono (fun r h c => ⟨(h c).1.trans ?_, (h c).2⟩) (Cert.OutReferenceIdeal.Value.run m' g')
  obtain ⟨e0, e1, e2, e3⟩ := hargs c
  refine Eq.trans ?_ (Cert.OutKernelIdeal.Hand.final m c).symm
  refine Eq.trans (b := Cert.OutReferenceIdeal.Hand.result (m' (c, Proc.tc.devRef Cert.OutReferenceIdeal.main_arg0)) (m' (c, Proc.tc.devRef Cert.OutReferenceIdeal.main_arg1)) (m' (c, Proc.tc.devRef Cert.OutReferenceIdeal.main_arg2)) (m' (c, Proc.tc.devRef Cert.OutReferenceIdeal.main_arg3))) rfl ?_
  exact congr (congr (congr (congrArg _ e0) e1) e2) e3

/-- The reference of the output projection after linear attention and Fourier mixing runs, leaving its arguments unchanged and every semaphore counter at zero. -/
theorem frame_reference_outTwo (m : (ℓ : Loc Cert.OutTwoReferenceIdeal.nD Cert.OutTwoReferenceIdeal.τ Cert.OutTwoReferenceIdeal.sig) → Buf (Elt Ideal) ℓ) (g : Dev Cert.OutTwoReferenceIdeal.nD → PrngReg) :
    θ_run (Cert.OutTwoReferenceIdeal.defs (F := Ideal)) (onTc (τ := Cert.OutTwoReferenceIdeal.τ) (Cert.OutTwoReferenceIdeal.main (F := Ideal))) ⟨m, fun _ => 0, g⟩ (fun r => (∀ c : Dev Cert.OutTwoReferenceIdeal.nD,
      r.2.mem ((c.tc : Thread Cert.OutTwoReferenceIdeal.nD Cert.OutTwoReferenceIdeal.τ).loc Cert.OutTwoReferenceIdeal.main_arg0) = m ((c.tc : Thread Cert.OutTwoReferenceIdeal.nD Cert.OutTwoReferenceIdeal.τ).loc Cert.OutTwoReferenceIdeal.main_arg0)
      ∧ r.2.mem ((c.tc : Thread Cert.OutTwoReferenceIdeal.nD Cert.OutTwoReferenceIdeal.τ).loc Cert.OutTwoReferenceIdeal.main_arg1) = m ((c.tc : Thread Cert.OutTwoReferenceIdeal.nD Cert.OutTwoReferenceIdeal.τ).loc Cert.OutTwoReferenceIdeal.main_arg1)
      ∧ r.2.mem ((c.tc : Thread Cert.OutTwoReferenceIdeal.nD Cert.OutTwoReferenceIdeal.τ).loc Cert.OutTwoReferenceIdeal.main_arg2) = m ((c.tc : Thread Cert.OutTwoReferenceIdeal.nD Cert.OutTwoReferenceIdeal.τ).loc Cert.OutTwoReferenceIdeal.main_arg2)
      ∧ r.2.mem ((c.tc : Thread Cert.OutTwoReferenceIdeal.nD Cert.OutTwoReferenceIdeal.τ).loc Cert.OutTwoReferenceIdeal.main_arg3) = m ((c.tc : Thread Cert.OutTwoReferenceIdeal.nD Cert.OutTwoReferenceIdeal.τ).loc Cert.OutTwoReferenceIdeal.main_arg3)
      ∧ r.2.mem ((c.tc : Thread Cert.OutTwoReferenceIdeal.nD Cert.OutTwoReferenceIdeal.τ).loc Cert.OutTwoReferenceIdeal.main_arg4) = m ((c.tc : Thread Cert.OutTwoReferenceIdeal.nD Cert.OutTwoReferenceIdeal.τ).loc Cert.OutTwoReferenceIdeal.main_arg4))
      ∧ r.2.sem = fun _ => 0) :=
  (θ_run Cert.OutTwoReferenceIdeal.defs _ _).mono (fun r h => ⟨fun c => (h c).2, sem_eq_zero_of_no_sems (by decide) r.2⟩) (Cert.OutTwoReferenceIdeal.Value.run m g)

/-- Over the extended reals, kernel and reference compute the same output projection after linear attention and Fourier mixing. -/
theorem same_outTwo : Cert.algebraic_OutTwoKernelIdeal_OutTwoReferenceIdeal (hOutTwoKernelIdeal := Cert.OutTwoKernelIdeal.Gen.facts)
    (hOutTwoReferenceIdeal := Cert.OutTwoReferenceIdeal.Gen.facts) := by
  intro m g m' g' _ hargs
  refine ⟨fun c => (Cert.OutTwoKernelIdeal.Gen.dats m 0 c).arrAt 6 Cert.OutTwoKernelIdeal.cfg0.N, Cert.OutTwoKernelIdeal.Value.run_blocks m g, ?_⟩
  refine (θ_run Cert.OutTwoReferenceIdeal.defs _ _).mono (fun r h c => ⟨(h c).1.trans ?_, (h c).2⟩) (Cert.OutTwoReferenceIdeal.Value.run m' g')
  obtain ⟨e0, e1, e2, e3, e4⟩ := hargs c
  refine Eq.trans ?_ (Cert.OutTwoKernelIdeal.Hand.final m c).symm
  refine Eq.trans (b := Cert.OutTwoReferenceIdeal.Hand.result (m' (c, Proc.tc.devRef Cert.OutTwoReferenceIdeal.main_arg0)) (m' (c, Proc.tc.devRef Cert.OutTwoReferenceIdeal.main_arg1)) (m' (c, Proc.tc.devRef Cert.OutTwoReferenceIdeal.main_arg2)) (m' (c, Proc.tc.devRef Cert.OutTwoReferenceIdeal.main_arg3)) (m' (c, Proc.tc.devRef Cert.OutTwoReferenceIdeal.main_arg4))) rfl ?_
  exact congr (congr (congr (congr (congrArg _ e0) e1) e2) e3) e4

/-- The reference of the last norm runs, leaving its arguments unchanged and every semaphore counter at zero. -/
theorem frame_reference_final (m : (ℓ : Loc Cert.FinalReferenceIdeal.nD Cert.FinalReferenceIdeal.τ Cert.FinalReferenceIdeal.sig) → Buf (Elt Ideal) ℓ) (g : Dev Cert.FinalReferenceIdeal.nD → PrngReg) :
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0) :=
  (θ_run Cert.FinalReferenceIdeal.defs _ _).mono (fun r h => ⟨fun c => (h c).2, sem_eq_zero_of_no_sems (by decide) r.2⟩) (Cert.FinalReferenceIdeal.Value.run m g)

/-- Over the extended reals, kernel and reference compute the same last norm. -/
theorem same_final : Cert.algebraic_FinalKernelIdeal_FinalReferenceIdeal (hFinalKernelIdeal := Cert.FinalKernelIdeal.Gen.facts)
    (hFinalReferenceIdeal := Cert.FinalReferenceIdeal.Gen.facts) := by
  intro m g m' g' _ hargs
  refine ⟨fun c => (Cert.FinalKernelIdeal.Gen.dats m 0 c).arrAt 2 Cert.FinalKernelIdeal.cfg0.N, Cert.FinalKernelIdeal.Value.run_blocks m g, ?_⟩
  refine (θ_run Cert.FinalReferenceIdeal.defs _ _).mono (fun r h c => ⟨(h c).1.trans ?_, (h c).2⟩) (Cert.FinalReferenceIdeal.Value.run m' g')
  obtain ⟨e0, e1⟩ := hargs c
  refine Eq.trans ?_ (Cert.FinalKernelIdeal.Hand.final m c).symm
  refine Eq.trans (b := Cert.FinalReferenceIdeal.Hand.result (m' (c, Proc.tc.devRef Cert.FinalReferenceIdeal.main_arg0)) (m' (c, Proc.tc.devRef Cert.FinalReferenceIdeal.main_arg1))) rfl ?_
  exact congr (congrArg _ e0) e1

/-- The reference of the linear attention's gated output runs, leaving its arguments unchanged and every semaphore counter at zero. -/
theorem frame_reference_gate (m : (ℓ : Loc Cert.GateReferenceIdeal.nD Cert.GateReferenceIdeal.τ Cert.GateReferenceIdeal.sig) → Buf (Elt Ideal) ℓ) (g : Dev Cert.GateReferenceIdeal.nD → PrngReg) :
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0) :=
  (θ_run Cert.GateReferenceIdeal.defs _ _).mono (fun r h => ⟨fun c => (h c).2, sem_eq_zero_of_no_sems (by decide) r.2⟩) (Cert.GateReferenceIdeal.Value.run m g)

/-- Over the extended reals, kernel and reference compute the same gated output of the linear attention. -/
theorem same_gate : Cert.algebraic_GateKernelIdeal_GateReferenceIdeal (hGateKernelIdeal := Cert.GateKernelIdeal.Gen.facts)
    (hGateReferenceIdeal := Cert.GateReferenceIdeal.Gen.facts) := by
  intro m g m' g' _ hargs
  refine ⟨fun c => (Cert.GateKernelIdeal.Gen.dats m 0 c).arrAt 4 Cert.GateKernelIdeal.cfg0.N, Cert.GateKernelIdeal.Value.run_blocks m g, ?_⟩
  refine (θ_run Cert.GateReferenceIdeal.defs _ _).mono (fun r h c => ⟨(h c).1.trans ?_, (h c).2⟩) (Cert.GateReferenceIdeal.Value.run m' g')
  obtain ⟨e0, e1, e2, e3⟩ := hargs c
  refine Eq.trans ?_ (Cert.GateKernelIdeal.Hand.final m c).symm
  refine Eq.trans (b := Cert.GateReferenceIdeal.Hand.result (m' (c, Proc.tc.devRef Cert.GateReferenceIdeal.main_arg0)) (m' (c, Proc.tc.devRef Cert.GateReferenceIdeal.main_arg1)) (m' (c, Proc.tc.devRef Cert.GateReferenceIdeal.main_arg2)) (m' (c, Proc.tc.devRef Cert.GateReferenceIdeal.main_arg3))) rfl ?_
  exact congr (congr (congr (congrArg _ e0) e1) e2) e3

/-- The reference of the modulation vectors runs, leaving its arguments unchanged and every semaphore counter at zero. -/
theorem frame_reference_ada (m : (ℓ : Loc Cert.AdaReferenceIdeal.nD Cert.AdaReferenceIdeal.τ Cert.AdaReferenceIdeal.sig) → Buf (Elt Ideal) ℓ) (g : Dev Cert.AdaReferenceIdeal.nD → PrngReg) :
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0) :=
  (θ_run Cert.AdaReferenceIdeal.defs _ _).mono (fun r h => ⟨fun c => (h c).2, sem_eq_zero_of_no_sems (by decide) r.2⟩) (Cert.AdaReferenceIdeal.Value.run m g)

/-- Over the extended reals, kernel and reference compute the same modulation vectors. -/
theorem same_ada : Cert.algebraic_AdaKernelIdeal_AdaReferenceIdeal (hAdaKernelIdeal := Cert.AdaKernelIdeal.Gen.facts)
    (hAdaReferenceIdeal := Cert.AdaReferenceIdeal.Gen.facts) := by
  intro m g m' g' _ hargs
  refine ⟨fun c => (Cert.AdaKernelIdeal.Gen.dats m 0 c).arrAt 3 Cert.AdaKernelIdeal.cfg0.N, Cert.AdaKernelIdeal.Value.run_blocks m g, ?_⟩
  refine (θ_run Cert.AdaReferenceIdeal.defs _ _).mono (fun r h c => ⟨(h c).1.trans ?_, (h c).2⟩) (Cert.AdaReferenceIdeal.Value.run m' g')
  obtain ⟨e0, e1, e2, e3⟩ := hargs c
  refine Eq.trans ?_ (Cert.AdaKernelIdeal.Hand.final m c).symm
  refine Eq.trans (b := Cert.AdaReferenceIdeal.Hand.result (Cert.AdaReferenceIdeal.Hand.cond (m' (c, Proc.tc.devRef Cert.AdaReferenceIdeal.main_arg0)) (m' (c, Proc.tc.devRef Cert.AdaReferenceIdeal.main_arg1))) (m' (c, Proc.tc.devRef Cert.AdaReferenceIdeal.main_arg2)) (m' (c, Proc.tc.devRef Cert.AdaReferenceIdeal.main_arg3))) rfl ?_
  exact congr (congr (congrArg _ (congrArg₂ _ e0 e1)) e2) e3

/-- The reference of the context's attention runs, leaving its arguments unchanged and every semaphore counter at zero. -/
theorem frame_reference_ctx (m : (ℓ : Loc Cert.CtxReferenceIdeal.nD Cert.CtxReferenceIdeal.τ Cert.CtxReferenceIdeal.sig) → Buf (Elt Ideal) ℓ) (g : Dev Cert.CtxReferenceIdeal.nD → PrngReg) :
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0) :=
  (θ_run Cert.CtxReferenceIdeal.defs _ _).mono (fun r h => ⟨fun c => (h c).2, sem_eq_zero_of_no_sems (by decide) r.2⟩) (Cert.CtxReferenceIdeal.Value.run m g)

/-- Over reals, kernel and reference compute the same attention of the context. -/
theorem same_ctx : Cert.algebraic_CtxKernelIdeal_CtxReferenceIdeal_pre_finite_ctx (hCtxKernelIdeal := Cert.CtxKernelIdeal.Gen.facts)
    (hCtxReferenceIdeal := Cert.CtxReferenceIdeal.Gen.facts) (hPre_finite_ctx := Cert.Pre_finite_ctx.Hand.facts) := by
  intro m g m' g' hpre hargs
  haveI := Cert.Pre_finite_ctx.Hand.facts
  refine ⟨fun c => (Cert.CtxKernelIdeal.Gen.dats m 0 c).arrAt 3 Cert.CtxKernelIdeal.cfg0.N, Cert.CtxKernelIdeal.Value.run_blocks m g, ?_⟩
  refine (θ_run Cert.CtxReferenceIdeal.defs _ _).mono (fun r h c => ⟨(h c).1.trans ?_, (h c).2⟩) (Cert.CtxReferenceIdeal.Value.run m' g')
  obtain ⟨a, ha⟩ := Cert.Pre_finite_ctx.Hand.fn_reals _ (hpre c)
  refine Eq.trans ?_ (Cert.CtxKernelIdeal.Hand.final m c a ha).symm
  refine Eq.trans (b := Cert.CtxReferenceIdeal.Hand.result (m' (c, Proc.tc.devRef Cert.CtxReferenceIdeal.main_arg0))) rfl ?_
  exact congrArg _ ((hargs c).trans ha)

/-- The reference of the query, key and value projection for the context's rows runs, leaving its arguments unchanged and every semaphore counter at zero. -/
theorem frame_reference_ctxQkv (m : (ℓ : Loc Cert.CtxQkvReferenceIdeal.nD Cert.CtxQkvReferenceIdeal.τ Cert.CtxQkvReferenceIdeal.sig) → Buf (Elt Ideal) ℓ) (g : Dev Cert.CtxQkvReferenceIdeal.nD → PrngReg) :
    θ_run (Cert.CtxQkvReferenceIdeal.defs (F := Ideal)) (onTc (τ := Cert.CtxQkvReferenceIdeal.τ) (Cert.CtxQkvReferenceIdeal.main (F := Ideal))) ⟨m, fun _ => 0, g⟩ (fun r => (∀ c : Dev Cert.CtxQkvReferenceIdeal.nD,
      r.2.mem ((c.tc : Thread Cert.CtxQkvReferenceIdeal.nD Cert.CtxQkvReferenceIdeal.τ).loc Cert.CtxQkvReferenceIdeal.main_arg0) = m ((c.tc : Thread Cert.CtxQkvReferenceIdeal.nD Cert.CtxQkvReferenceIdeal.τ).loc Cert.CtxQkvReferenceIdeal.main_arg0)
      ∧ r.2.mem ((c.tc : Thread Cert.CtxQkvReferenceIdeal.nD Cert.CtxQkvReferenceIdeal.τ).loc Cert.CtxQkvReferenceIdeal.main_arg1) = m ((c.tc : Thread Cert.CtxQkvReferenceIdeal.nD Cert.CtxQkvReferenceIdeal.τ).loc Cert.CtxQkvReferenceIdeal.main_arg1)
      ∧ r.2.mem ((c.tc : Thread Cert.CtxQkvReferenceIdeal.nD Cert.CtxQkvReferenceIdeal.τ).loc Cert.CtxQkvReferenceIdeal.main_arg2) = m ((c.tc : Thread Cert.CtxQkvReferenceIdeal.nD Cert.CtxQkvReferenceIdeal.τ).loc Cert.CtxQkvReferenceIdeal.main_arg2)
      ∧ r.2.mem ((c.tc : Thread Cert.CtxQkvReferenceIdeal.nD Cert.CtxQkvReferenceIdeal.τ).loc Cert.CtxQkvReferenceIdeal.main_arg3) = m ((c.tc : Thread Cert.CtxQkvReferenceIdeal.nD Cert.CtxQkvReferenceIdeal.τ).loc Cert.CtxQkvReferenceIdeal.main_arg3)
      ∧ r.2.mem ((c.tc : Thread Cert.CtxQkvReferenceIdeal.nD Cert.CtxQkvReferenceIdeal.τ).loc Cert.CtxQkvReferenceIdeal.main_arg4) = m ((c.tc : Thread Cert.CtxQkvReferenceIdeal.nD Cert.CtxQkvReferenceIdeal.τ).loc Cert.CtxQkvReferenceIdeal.main_arg4))
      ∧ r.2.sem = fun _ => 0) :=
  (θ_run Cert.CtxQkvReferenceIdeal.defs _ _).mono (fun r h => ⟨fun c => (h c).2, sem_eq_zero_of_no_sems (by decide) r.2⟩) (Cert.CtxQkvReferenceIdeal.Value.run m g)

/-- Over the extended reals, kernel and reference compute the same projection to queries, keys and values for the context's rows. -/
theorem same_ctxQkv : Cert.algebraic_CtxQkvKernelIdeal_CtxQkvReferenceIdeal (hCtxQkvKernelIdeal := Cert.CtxQkvKernelIdeal.Gen.facts)
    (hCtxQkvReferenceIdeal := Cert.CtxQkvReferenceIdeal.Gen.facts) := by
  intro m g m' g' _ hargs
  refine ⟨fun c => (Cert.CtxQkvKernelIdeal.Gen.dats m 0 c).arrAt 6 Cert.CtxQkvKernelIdeal.cfg0.N, Cert.CtxQkvKernelIdeal.Value.run_blocks m g, ?_⟩
  refine (θ_run Cert.CtxQkvReferenceIdeal.defs _ _).mono (fun r h c => ⟨(h c).1.trans ?_, (h c).2⟩) (Cert.CtxQkvReferenceIdeal.Value.run m' g')
  obtain ⟨e0, e1, e2, e3, e4⟩ := hargs c
  refine Eq.trans ?_ (Cert.CtxQkvKernelIdeal.Hand.final m c).symm
  refine Eq.trans (b := Cert.CtxQkvReferenceIdeal.Hand.result (m' (c, Proc.tc.devRef Cert.CtxQkvReferenceIdeal.main_arg0)) (m' (c, Proc.tc.devRef Cert.CtxQkvReferenceIdeal.main_arg1)) (m' (c, Proc.tc.devRef Cert.CtxQkvReferenceIdeal.main_arg2)) (m' (c, Proc.tc.devRef Cert.CtxQkvReferenceIdeal.main_arg3)) (m' (c, Proc.tc.devRef Cert.CtxQkvReferenceIdeal.main_arg4))) rfl ?_
  exact congr (congr (congr (congr (congrArg _ e0) e1) e2) e3) e4

/-- The reference of the even layers' in-projection for the context's rows runs, leaving its arguments unchanged and every semaphore counter at zero. -/
theorem frame_reference_ctxIn (m : (ℓ : Loc Cert.CtxInReferenceIdeal.nD Cert.CtxInReferenceIdeal.τ Cert.CtxInReferenceIdeal.sig) → Buf (Elt Ideal) ℓ) (g : Dev Cert.CtxInReferenceIdeal.nD → PrngReg) :
    θ_run (Cert.CtxInReferenceIdeal.defs (F := Ideal)) (onTc (τ := Cert.CtxInReferenceIdeal.τ) (Cert.CtxInReferenceIdeal.main (F := Ideal))) ⟨m, fun _ => 0, g⟩ (fun r => (∀ c : Dev Cert.CtxInReferenceIdeal.nD,
      r.2.mem ((c.tc : Thread Cert.CtxInReferenceIdeal.nD Cert.CtxInReferenceIdeal.τ).loc Cert.CtxInReferenceIdeal.main_arg0) = m ((c.tc : Thread Cert.CtxInReferenceIdeal.nD Cert.CtxInReferenceIdeal.τ).loc Cert.CtxInReferenceIdeal.main_arg0)
      ∧ r.2.mem ((c.tc : Thread Cert.CtxInReferenceIdeal.nD Cert.CtxInReferenceIdeal.τ).loc Cert.CtxInReferenceIdeal.main_arg1) = m ((c.tc : Thread Cert.CtxInReferenceIdeal.nD Cert.CtxInReferenceIdeal.τ).loc Cert.CtxInReferenceIdeal.main_arg1)
      ∧ r.2.mem ((c.tc : Thread Cert.CtxInReferenceIdeal.nD Cert.CtxInReferenceIdeal.τ).loc Cert.CtxInReferenceIdeal.main_arg2) = m ((c.tc : Thread Cert.CtxInReferenceIdeal.nD Cert.CtxInReferenceIdeal.τ).loc Cert.CtxInReferenceIdeal.main_arg2)
      ∧ r.2.mem ((c.tc : Thread Cert.CtxInReferenceIdeal.nD Cert.CtxInReferenceIdeal.τ).loc Cert.CtxInReferenceIdeal.main_arg3) = m ((c.tc : Thread Cert.CtxInReferenceIdeal.nD Cert.CtxInReferenceIdeal.τ).loc Cert.CtxInReferenceIdeal.main_arg3)
      ∧ r.2.mem ((c.tc : Thread Cert.CtxInReferenceIdeal.nD Cert.CtxInReferenceIdeal.τ).loc Cert.CtxInReferenceIdeal.main_arg4) = m ((c.tc : Thread Cert.CtxInReferenceIdeal.nD Cert.CtxInReferenceIdeal.τ).loc Cert.CtxInReferenceIdeal.main_arg4))
      ∧ r.2.sem = fun _ => 0) :=
  (θ_run Cert.CtxInReferenceIdeal.defs _ _).mono (fun r h => ⟨fun c => (h c).2.2, sem_eq_zero_of_no_sems (by decide) r.2⟩) (Cert.CtxInReferenceIdeal.Value.run m g)

/-- Over the extended reals, kernel and reference compute the same two results of the even layers' in-projection for the context's rows. -/
theorem same_ctxIn : Cert.algebraic_CtxInKernelIdeal_CtxInReferenceIdeal (hCtxInKernelIdeal := Cert.CtxInKernelIdeal.Gen.facts)
    (hCtxInReferenceIdeal := Cert.CtxInReferenceIdeal.Gen.facts) := by
  intro m g m' g' _ hargs
  refine ⟨fun c => (Cert.CtxInKernelIdeal.Hand.dats m 0 c).arrAt 7 Cert.CtxInKernelIdeal.cfg0.N, fun c => (Cert.CtxInKernelIdeal.Hand.dats m 0 c).arrAt 8 Cert.CtxInKernelIdeal.cfg0.N,
    Cert.CtxInKernelIdeal.Hand.run_blocks m g, ?_⟩
  refine (θ_run Cert.CtxInReferenceIdeal.defs _ _).mono (fun r h c => ⟨(h c).1.trans ?_, (h c).2.1.trans ?_, (h c).2.2⟩) (Cert.CtxInReferenceIdeal.Value.run m' g')
  all_goals
    obtain ⟨e0, e1, e2, e3, e4⟩ := hargs c
    have e : Cert.CtxInReferenceIdeal.Hand.product (m' (c, Proc.tc.devRef Cert.CtxInReferenceIdeal.main_arg0)) (m' (c, Proc.tc.devRef Cert.CtxInReferenceIdeal.main_arg1)) (m' (c, Proc.tc.devRef Cert.CtxInReferenceIdeal.main_arg2)) (m' (c, Proc.tc.devRef Cert.CtxInReferenceIdeal.main_arg3)) (m' (c, Proc.tc.devRef Cert.CtxInReferenceIdeal.main_arg4)) = Cert.CtxInKernelIdeal.Hand.product m c :=
      congr (congr (congr (congr (congrArg _ e0) e1) e2) e3) e4
  · exact Eq.trans (b := Cert.CtxInReferenceIdeal.Hand.wide (Cert.CtxInReferenceIdeal.Hand.product (m' (c, Proc.tc.devRef Cert.CtxInReferenceIdeal.main_arg0)) (m' (c, Proc.tc.devRef Cert.CtxInReferenceIdeal.main_arg1)) (m' (c, Proc.tc.devRef Cert.CtxInReferenceIdeal.main_arg2)) (m' (c, Proc.tc.devRef Cert.CtxInReferenceIdeal.main_arg3)) (m' (c, Proc.tc.devRef Cert.CtxInReferenceIdeal.main_arg4)))) rfl ((congrArg _ e).trans (Cert.CtxInKernelIdeal.Hand.wide_final m c).symm)
  · exact Eq.trans (b := Cert.CtxInReferenceIdeal.Hand.narrow (Cert.CtxInReferenceIdeal.Hand.product (m' (c, Proc.tc.devRef Cert.CtxInReferenceIdeal.main_arg0)) (m' (c, Proc.tc.devRef Cert.CtxInReferenceIdeal.main_arg1)) (m' (c, Proc.tc.devRef Cert.CtxInReferenceIdeal.main_arg2)) (m' (c, Proc.tc.devRef Cert.CtxInReferenceIdeal.main_arg3)) (m' (c, Proc.tc.devRef Cert.CtxInReferenceIdeal.main_arg4)))) rfl ((congrArg _ e).trans (Cert.CtxInKernelIdeal.Hand.narrow_final m c).symm)

/-- The reference of the output projection after the attention for the context's rows runs, leaving its arguments unchanged and every semaphore counter at zero. -/
theorem frame_reference_ctxOut (m : (ℓ : Loc Cert.CtxOutReferenceIdeal.nD Cert.CtxOutReferenceIdeal.τ Cert.CtxOutReferenceIdeal.sig) → Buf (Elt Ideal) ℓ) (g : Dev Cert.CtxOutReferenceIdeal.nD → PrngReg) :
    θ_run (Cert.CtxOutReferenceIdeal.defs (F := Ideal)) (onTc (τ := Cert.CtxOutReferenceIdeal.τ) (Cert.CtxOutReferenceIdeal.main (F := Ideal))) ⟨m, fun _ => 0, g⟩ (fun r => (∀ c : Dev Cert.CtxOutReferenceIdeal.nD,
      r.2.mem ((c.tc : Thread Cert.CtxOutReferenceIdeal.nD Cert.CtxOutReferenceIdeal.τ).loc Cert.CtxOutReferenceIdeal.main_arg0) = m ((c.tc : Thread Cert.CtxOutReferenceIdeal.nD Cert.CtxOutReferenceIdeal.τ).loc Cert.CtxOutReferenceIdeal.main_arg0)
      ∧ r.2.mem ((c.tc : Thread Cert.CtxOutReferenceIdeal.nD Cert.CtxOutReferenceIdeal.τ).loc Cert.CtxOutReferenceIdeal.main_arg1) = m ((c.tc : Thread Cert.CtxOutReferenceIdeal.nD Cert.CtxOutReferenceIdeal.τ).loc Cert.CtxOutReferenceIdeal.main_arg1)
      ∧ r.2.mem ((c.tc : Thread Cert.CtxOutReferenceIdeal.nD Cert.CtxOutReferenceIdeal.τ).loc Cert.CtxOutReferenceIdeal.main_arg2) = m ((c.tc : Thread Cert.CtxOutReferenceIdeal.nD Cert.CtxOutReferenceIdeal.τ).loc Cert.CtxOutReferenceIdeal.main_arg2)
      ∧ r.2.mem ((c.tc : Thread Cert.CtxOutReferenceIdeal.nD Cert.CtxOutReferenceIdeal.τ).loc Cert.CtxOutReferenceIdeal.main_arg3) = m ((c.tc : Thread Cert.CtxOutReferenceIdeal.nD Cert.CtxOutReferenceIdeal.τ).loc Cert.CtxOutReferenceIdeal.main_arg3))
      ∧ r.2.sem = fun _ => 0) :=
  (θ_run Cert.CtxOutReferenceIdeal.defs _ _).mono (fun r h => ⟨fun c => (h c).2, sem_eq_zero_of_no_sems (by decide) r.2⟩) (Cert.CtxOutReferenceIdeal.Value.run m g)

/-- Over the extended reals, kernel and reference compute the same output projection after the attention for the context's rows. -/
theorem same_ctxOut : Cert.algebraic_CtxOutKernelIdeal_CtxOutReferenceIdeal (hCtxOutKernelIdeal := Cert.CtxOutKernelIdeal.Gen.facts)
    (hCtxOutReferenceIdeal := Cert.CtxOutReferenceIdeal.Gen.facts) := by
  intro m g m' g' _ hargs
  refine ⟨fun c => (Cert.CtxOutKernelIdeal.Gen.dats m 0 c).arrAt 4 Cert.CtxOutKernelIdeal.cfg0.N, Cert.CtxOutKernelIdeal.Value.run_blocks m g, ?_⟩
  refine (θ_run Cert.CtxOutReferenceIdeal.defs _ _).mono (fun r h c => ⟨(h c).1.trans ?_, (h c).2⟩) (Cert.CtxOutReferenceIdeal.Value.run m' g')
  obtain ⟨e0, e1, e2, e3⟩ := hargs c
  refine Eq.trans ?_ (Cert.CtxOutKernelIdeal.Hand.final m c).symm
  refine Eq.trans (b := Cert.CtxOutReferenceIdeal.Hand.result (m' (c, Proc.tc.devRef Cert.CtxOutReferenceIdeal.main_arg0)) (m' (c, Proc.tc.devRef Cert.CtxOutReferenceIdeal.main_arg1)) (m' (c, Proc.tc.devRef Cert.CtxOutReferenceIdeal.main_arg2)) (m' (c, Proc.tc.devRef Cert.CtxOutReferenceIdeal.main_arg3))) rfl ?_
  exact congr (congr (congr (congrArg _ e0) e1) e2) e3

/-- The reference of the output projection after linear attention and Fourier mixing for the context's rows runs, leaving its arguments unchanged and every semaphore counter at zero. -/
theorem frame_reference_ctxOutTwo (m : (ℓ : Loc Cert.CtxOutTwoReferenceIdeal.nD Cert.CtxOutTwoReferenceIdeal.τ Cert.CtxOutTwoReferenceIdeal.sig) → Buf (Elt Ideal) ℓ) (g : Dev Cert.CtxOutTwoReferenceIdeal.nD → PrngReg) :
    θ_run (Cert.CtxOutTwoReferenceIdeal.defs (F := Ideal)) (onTc (τ := Cert.CtxOutTwoReferenceIdeal.τ) (Cert.CtxOutTwoReferenceIdeal.main (F := Ideal))) ⟨m, fun _ => 0, g⟩ (fun r => (∀ c : Dev Cert.CtxOutTwoReferenceIdeal.nD,
      r.2.mem ((c.tc : Thread Cert.CtxOutTwoReferenceIdeal.nD Cert.CtxOutTwoReferenceIdeal.τ).loc Cert.CtxOutTwoReferenceIdeal.main_arg0) = m ((c.tc : Thread Cert.CtxOutTwoReferenceIdeal.nD Cert.CtxOutTwoReferenceIdeal.τ).loc Cert.CtxOutTwoReferenceIdeal.main_arg0)
      ∧ r.2.mem ((c.tc : Thread Cert.CtxOutTwoReferenceIdeal.nD Cert.CtxOutTwoReferenceIdeal.τ).loc Cert.CtxOutTwoReferenceIdeal.main_arg1) = m ((c.tc : Thread Cert.CtxOutTwoReferenceIdeal.nD Cert.CtxOutTwoReferenceIdeal.τ).loc Cert.CtxOutTwoReferenceIdeal.main_arg1)
      ∧ r.2.mem ((c.tc : Thread Cert.CtxOutTwoReferenceIdeal.nD Cert.CtxOutTwoReferenceIdeal.τ).loc Cert.CtxOutTwoReferenceIdeal.main_arg2) = m ((c.tc : Thread Cert.CtxOutTwoReferenceIdeal.nD Cert.CtxOutTwoReferenceIdeal.τ).loc Cert.CtxOutTwoReferenceIdeal.main_arg2)
      ∧ r.2.mem ((c.tc : Thread Cert.CtxOutTwoReferenceIdeal.nD Cert.CtxOutTwoReferenceIdeal.τ).loc Cert.CtxOutTwoReferenceIdeal.main_arg3) = m ((c.tc : Thread Cert.CtxOutTwoReferenceIdeal.nD Cert.CtxOutTwoReferenceIdeal.τ).loc Cert.CtxOutTwoReferenceIdeal.main_arg3)
      ∧ r.2.mem ((c.tc : Thread Cert.CtxOutTwoReferenceIdeal.nD Cert.CtxOutTwoReferenceIdeal.τ).loc Cert.CtxOutTwoReferenceIdeal.main_arg4) = m ((c.tc : Thread Cert.CtxOutTwoReferenceIdeal.nD Cert.CtxOutTwoReferenceIdeal.τ).loc Cert.CtxOutTwoReferenceIdeal.main_arg4))
      ∧ r.2.sem = fun _ => 0) :=
  (θ_run Cert.CtxOutTwoReferenceIdeal.defs _ _).mono (fun r h => ⟨fun c => (h c).2, sem_eq_zero_of_no_sems (by decide) r.2⟩) (Cert.CtxOutTwoReferenceIdeal.Value.run m g)

/-- Over the extended reals, kernel and reference compute the same output projection after linear attention and Fourier mixing for the context's rows. -/
theorem same_ctxOutTwo : Cert.algebraic_CtxOutTwoKernelIdeal_CtxOutTwoReferenceIdeal (hCtxOutTwoKernelIdeal := Cert.CtxOutTwoKernelIdeal.Gen.facts)
    (hCtxOutTwoReferenceIdeal := Cert.CtxOutTwoReferenceIdeal.Gen.facts) := by
  intro m g m' g' _ hargs
  refine ⟨fun c => (Cert.CtxOutTwoKernelIdeal.Gen.dats m 0 c).arrAt 6 Cert.CtxOutTwoKernelIdeal.cfg0.N, Cert.CtxOutTwoKernelIdeal.Value.run_blocks m g, ?_⟩
  refine (θ_run Cert.CtxOutTwoReferenceIdeal.defs _ _).mono (fun r h c => ⟨(h c).1.trans ?_, (h c).2⟩) (Cert.CtxOutTwoReferenceIdeal.Value.run m' g')
  obtain ⟨e0, e1, e2, e3, e4⟩ := hargs c
  refine Eq.trans ?_ (Cert.CtxOutTwoKernelIdeal.Hand.final m c).symm
  refine Eq.trans (b := Cert.CtxOutTwoReferenceIdeal.Hand.result (m' (c, Proc.tc.devRef Cert.CtxOutTwoReferenceIdeal.main_arg0)) (m' (c, Proc.tc.devRef Cert.CtxOutTwoReferenceIdeal.main_arg1)) (m' (c, Proc.tc.devRef Cert.CtxOutTwoReferenceIdeal.main_arg2)) (m' (c, Proc.tc.devRef Cert.CtxOutTwoReferenceIdeal.main_arg3)) (m' (c, Proc.tc.devRef Cert.CtxOutTwoReferenceIdeal.main_arg4))) rfl ?_
  exact congr (congr (congr (congr (congrArg _ e0) e1) e2) e3) e4

/-- The reference of the linear attention's gated output for the context's rows runs, leaving its arguments unchanged and every semaphore counter at zero. -/
theorem frame_reference_ctxGate (m : (ℓ : Loc Cert.CtxGateReferenceIdeal.nD Cert.CtxGateReferenceIdeal.τ Cert.CtxGateReferenceIdeal.sig) → Buf (Elt Ideal) ℓ) (g : Dev Cert.CtxGateReferenceIdeal.nD → PrngReg) :
    θ_run (Cert.CtxGateReferenceIdeal.defs (F := Ideal)) (onTc (τ := Cert.CtxGateReferenceIdeal.τ) (Cert.CtxGateReferenceIdeal.main (F := Ideal))) ⟨m, fun _ => 0, g⟩ (fun r => (∀ c : Dev Cert.CtxGateReferenceIdeal.nD,
      r.2.mem ((c.tc : Thread Cert.CtxGateReferenceIdeal.nD Cert.CtxGateReferenceIdeal.τ).loc Cert.CtxGateReferenceIdeal.main_arg0) = m ((c.tc : Thread Cert.CtxGateReferenceIdeal.nD Cert.CtxGateReferenceIdeal.τ).loc Cert.CtxGateReferenceIdeal.main_arg0)
      ∧ r.2.mem ((c.tc : Thread Cert.CtxGateReferenceIdeal.nD Cert.CtxGateReferenceIdeal.τ).loc Cert.CtxGateReferenceIdeal.main_arg1) = m ((c.tc : Thread Cert.CtxGateReferenceIdeal.nD Cert.CtxGateReferenceIdeal.τ).loc Cert.CtxGateReferenceIdeal.main_arg1)
      ∧ r.2.mem ((c.tc : Thread Cert.CtxGateReferenceIdeal.nD Cert.CtxGateReferenceIdeal.τ).loc Cert.CtxGateReferenceIdeal.main_arg2) = m ((c.tc : Thread Cert.CtxGateReferenceIdeal.nD Cert.CtxGateReferenceIdeal.τ).loc Cert.CtxGateReferenceIdeal.main_arg2)
      ∧ r.2.mem ((c.tc : Thread Cert.CtxGateReferenceIdeal.nD Cert.CtxGateReferenceIdeal.τ).loc Cert.CtxGateReferenceIdeal.main_arg3) = m ((c.tc : Thread Cert.CtxGateReferenceIdeal.nD Cert.CtxGateReferenceIdeal.τ).loc Cert.CtxGateReferenceIdeal.main_arg3))
      ∧ r.2.sem = fun _ => 0) :=
  (θ_run Cert.CtxGateReferenceIdeal.defs _ _).mono (fun r h => ⟨fun c => (h c).2, sem_eq_zero_of_no_sems (by decide) r.2⟩) (Cert.CtxGateReferenceIdeal.Value.run m g)

/-- Over the extended reals, kernel and reference compute the same gated output of the linear attention for the context's rows. -/
theorem same_ctxGate : Cert.algebraic_CtxGateKernelIdeal_CtxGateReferenceIdeal (hCtxGateKernelIdeal := Cert.CtxGateKernelIdeal.Gen.facts)
    (hCtxGateReferenceIdeal := Cert.CtxGateReferenceIdeal.Gen.facts) := by
  intro m g m' g' _ hargs
  refine ⟨fun c => (Cert.CtxGateKernelIdeal.Gen.dats m 0 c).arrAt 4 Cert.CtxGateKernelIdeal.cfg0.N, Cert.CtxGateKernelIdeal.Value.run_blocks m g, ?_⟩
  refine (θ_run Cert.CtxGateReferenceIdeal.defs _ _).mono (fun r h c => ⟨(h c).1.trans ?_, (h c).2⟩) (Cert.CtxGateReferenceIdeal.Value.run m' g')
  obtain ⟨e0, e1, e2, e3⟩ := hargs c
  refine Eq.trans ?_ (Cert.CtxGateKernelIdeal.Hand.final m c).symm
  refine Eq.trans (b := Cert.CtxGateReferenceIdeal.Hand.result (m' (c, Proc.tc.devRef Cert.CtxGateReferenceIdeal.main_arg0)) (m' (c, Proc.tc.devRef Cert.CtxGateReferenceIdeal.main_arg1)) (m' (c, Proc.tc.devRef Cert.CtxGateReferenceIdeal.main_arg2)) (m' (c, Proc.tc.devRef Cert.CtxGateReferenceIdeal.main_arg3))) rfl ?_
  exact congr (congr (congr (congrArg _ e0) e1) e2) e3

/-- The reference of the transform of the channels' groups runs, leaving its argument unchanged and every semaphore counter at zero. -/
theorem frame_reference_wave (m : (ℓ : Loc Cert.WaveReferenceIdeal.nD Cert.WaveReferenceIdeal.τ Cert.WaveReferenceIdeal.sig) → Buf (Elt Ideal) ℓ) (g : Dev Cert.WaveReferenceIdeal.nD → PrngReg) :
    θ_run (Cert.WaveReferenceIdeal.defs (F := Ideal)) (onTc (τ := Cert.WaveReferenceIdeal.τ) (Cert.WaveReferenceIdeal.main (F := Ideal))) ⟨m, fun _ => 0, g⟩ (fun r => (∀ c : Dev Cert.WaveReferenceIdeal.nD,
      r.2.mem ((c.tc : Thread Cert.WaveReferenceIdeal.nD Cert.WaveReferenceIdeal.τ).loc Cert.WaveReferenceIdeal.main_arg0) = m ((c.tc : Thread Cert.WaveReferenceIdeal.nD Cert.WaveReferenceIdeal.τ).loc Cert.WaveReferenceIdeal.main_arg0))
      ∧ r.2.sem = fun _ => 0) :=
  (θ_run Cert.WaveReferenceIdeal.defs _ _).mono (fun r h => ⟨fun c => (h c).2, sem_eq_zero_of_no_sems (by decide) r.2⟩) (Cert.WaveReferenceIdeal.Value.run m g)

/-- Over the extended reals, kernel and reference compute the same of the transform of the channels' groups. -/
theorem same_wave : Cert.algebraic_WaveKernelIdeal_WaveReferenceIdeal (hWaveKernelIdeal := Cert.WaveKernelIdeal.Gen.facts)
    (hWaveReferenceIdeal := Cert.WaveReferenceIdeal.Gen.facts) := by
  intro m g m' g' _ hargs
  refine ⟨fun c => (Cert.WaveKernelIdeal.Gen.dats m 0 c).arrAt 2 Cert.WaveKernelIdeal.cfg0.N, Cert.WaveKernelIdeal.Value.run_blocks m g, ?_⟩
  refine (θ_run Cert.WaveReferenceIdeal.defs _ _).mono (fun r h c => ⟨(h c).1.trans ?_, (h c).2⟩) (Cert.WaveReferenceIdeal.Value.run m' g')
  refine Eq.trans ?_ (Cert.WaveKernelIdeal.Hand.final m c).symm
  refine Eq.trans (b := Cert.WaveReferenceIdeal.Hand.result (m' (c, Proc.tc.devRef Cert.WaveReferenceIdeal.main_arg0))) rfl ?_
  exact congrArg _ (hargs c)

/-- The reference of the transform of the channels' groups for the context's rows runs, leaving its argument unchanged and every semaphore counter at zero. -/
theorem frame_reference_ctxWave (m : (ℓ : Loc Cert.CtxWaveReferenceIdeal.nD Cert.CtxWaveReferenceIdeal.τ Cert.CtxWaveReferenceIdeal.sig) → Buf (Elt Ideal) ℓ) (g : Dev Cert.CtxWaveReferenceIdeal.nD → PrngReg) :
    θ_run (Cert.CtxWaveReferenceIdeal.defs (F := Ideal)) (onTc (τ := Cert.CtxWaveReferenceIdeal.τ) (Cert.CtxWaveReferenceIdeal.main (F := Ideal))) ⟨m, fun _ => 0, g⟩ (fun r => (∀ c : Dev Cert.CtxWaveReferenceIdeal.nD,
      r.2.mem ((c.tc : Thread Cert.CtxWaveReferenceIdeal.nD Cert.CtxWaveReferenceIdeal.τ).loc Cert.CtxWaveReferenceIdeal.main_arg0) = m ((c.tc : Thread Cert.CtxWaveReferenceIdeal.nD Cert.CtxWaveReferenceIdeal.τ).loc Cert.CtxWaveReferenceIdeal.main_arg0))
      ∧ r.2.sem = fun _ => 0) :=
  (θ_run Cert.CtxWaveReferenceIdeal.defs _ _).mono (fun r h => ⟨fun c => (h c).2, sem_eq_zero_of_no_sems (by decide) r.2⟩) (Cert.CtxWaveReferenceIdeal.Value.run m g)

/-- Over the extended reals, kernel and reference compute the same of the transform of the channels' groups for the context's rows. -/
theorem same_ctxWave : Cert.algebraic_CtxWaveKernelIdeal_CtxWaveReferenceIdeal (hCtxWaveKernelIdeal := Cert.CtxWaveKernelIdeal.Gen.facts)
    (hCtxWaveReferenceIdeal := Cert.CtxWaveReferenceIdeal.Gen.facts) := by
  intro m g m' g' _ hargs
  refine ⟨fun c => (Cert.CtxWaveKernelIdeal.Gen.dats m 0 c).arrAt 2 Cert.CtxWaveKernelIdeal.cfg0.N, Cert.CtxWaveKernelIdeal.Value.run_blocks m g, ?_⟩
  refine (θ_run Cert.CtxWaveReferenceIdeal.defs _ _).mono (fun r h c => ⟨(h c).1.trans ?_, (h c).2⟩) (Cert.CtxWaveReferenceIdeal.Value.run m' g')
  refine Eq.trans ?_ (Cert.CtxWaveKernelIdeal.Hand.final m c).symm
  refine Eq.trans (b := Cert.CtxWaveReferenceIdeal.Hand.result (m' (c, Proc.tc.devRef Cert.CtxWaveReferenceIdeal.main_arg0))) rfl ?_
  exact congrArg _ (hargs c)

/-- The reference of the transform of the positions for the context's rows runs, leaving its argument unchanged and every semaphore counter at zero. -/
theorem frame_reference_ctxReal (m : (ℓ : Loc Cert.CtxRealReferenceIdeal.nD Cert.CtxRealReferenceIdeal.τ Cert.CtxRealReferenceIdeal.sig) → Buf (Elt Ideal) ℓ) (g : Dev Cert.CtxRealReferenceIdeal.nD → PrngReg) :
    θ_run (Cert.CtxRealReferenceIdeal.defs (F := Ideal)) (onTc (τ := Cert.CtxRealReferenceIdeal.τ) (Cert.CtxRealReferenceIdeal.main (F := Ideal))) ⟨m, fun _ => 0, g⟩ (fun r => (∀ c : Dev Cert.CtxRealReferenceIdeal.nD,
      r.2.mem ((c.tc : Thread Cert.CtxRealReferenceIdeal.nD Cert.CtxRealReferenceIdeal.τ).loc Cert.CtxRealReferenceIdeal.main_arg0) = m ((c.tc : Thread Cert.CtxRealReferenceIdeal.nD Cert.CtxRealReferenceIdeal.τ).loc Cert.CtxRealReferenceIdeal.main_arg0))
      ∧ r.2.sem = fun _ => 0) :=
  (θ_run Cert.CtxRealReferenceIdeal.defs _ _).mono (fun r h => ⟨fun c => (h c).2, sem_eq_zero_of_no_sems (by decide) r.2⟩) (Cert.CtxRealReferenceIdeal.Value.run m g)

/-- Over the extended reals, kernel and reference compute the same of the transform of the positions for the context's rows. -/
theorem same_ctxReal : Cert.algebraic_CtxRealKernelIdeal_CtxRealReferenceIdeal (hCtxRealKernelIdeal := Cert.CtxRealKernelIdeal.Gen.facts)
    (hCtxRealReferenceIdeal := Cert.CtxRealReferenceIdeal.Gen.facts) := by
  intro m g m' g' _ hargs
  refine ⟨fun c => (Cert.CtxRealKernelIdeal.Gen.dats m 0 c).arrAt 2 Cert.CtxRealKernelIdeal.cfg0.N, Cert.CtxRealKernelIdeal.Value.run_blocks m g, ?_⟩
  refine (θ_run Cert.CtxRealReferenceIdeal.defs _ _).mono (fun r h c => ⟨(h c).1.trans ?_, (h c).2⟩) (Cert.CtxRealReferenceIdeal.Value.run m' g')
  refine Eq.trans ?_ (Cert.CtxRealKernelIdeal.Hand.final m c).symm
  refine Eq.trans (b := Cert.CtxRealReferenceIdeal.Hand.result (m' (c, Proc.tc.devRef Cert.CtxRealReferenceIdeal.main_arg0))) rfl ?_
  exact congrArg _ (hargs c)

/-- The reference of the first half of the transform of the positions runs, leaving its argument unchanged and every semaphore counter at zero. -/
theorem frame_reference_early (m : (ℓ : Loc Cert.EarlyReferenceIdeal.nD Cert.EarlyReferenceIdeal.τ Cert.EarlyReferenceIdeal.sig) → Buf (Elt Ideal) ℓ) (g : Dev Cert.EarlyReferenceIdeal.nD → PrngReg) :
    θ_run (Cert.EarlyReferenceIdeal.defs (F := Ideal)) (onTc (τ := Cert.EarlyReferenceIdeal.τ) (Cert.EarlyReferenceIdeal.main (F := Ideal))) ⟨m, fun _ => 0, g⟩ (fun r => (∀ c : Dev Cert.EarlyReferenceIdeal.nD,
      r.2.mem ((c.tc : Thread Cert.EarlyReferenceIdeal.nD Cert.EarlyReferenceIdeal.τ).loc Cert.EarlyReferenceIdeal.main_arg0) = m ((c.tc : Thread Cert.EarlyReferenceIdeal.nD Cert.EarlyReferenceIdeal.τ).loc Cert.EarlyReferenceIdeal.main_arg0))
      ∧ r.2.sem = fun _ => 0) :=
  (θ_run Cert.EarlyReferenceIdeal.defs _ _).mono (fun r h => ⟨fun c => (h c).2, sem_eq_zero_of_no_sems (by decide) r.2⟩) (Cert.EarlyReferenceIdeal.Value.run m g)

/-- Over the extended reals, kernel and reference compute the same of the first half of the transform of the positions. -/
theorem same_early : Cert.algebraic_EarlyKernelIdeal_EarlyReferenceIdeal (hEarlyKernelIdeal := Cert.EarlyKernelIdeal.Gen.facts)
    (hEarlyReferenceIdeal := Cert.EarlyReferenceIdeal.Gen.facts) := by
  intro m g m' g' _ hargs
  refine ⟨fun c => (Cert.EarlyKernelIdeal.Gen.dats m 0 c).arrAt 4 Cert.EarlyKernelIdeal.cfg0.N, Cert.EarlyKernelIdeal.Value.run_blocks m g, ?_⟩
  refine (θ_run Cert.EarlyReferenceIdeal.defs _ _).mono (fun r h c => ⟨(h c).1.trans ?_, (h c).2⟩) (Cert.EarlyReferenceIdeal.Value.run m' g')
  refine Eq.trans ?_ (Cert.EarlyKernelIdeal.Hand.final m c).symm
  refine Eq.trans (b := Cert.EarlyReferenceIdeal.Hand.result (m' (c, Proc.tc.devRef Cert.EarlyReferenceIdeal.main_arg0))) rfl ?_
  exact congrArg _ (hargs c)

/-- The reference of the second half of the transform of the positions runs, leaving its argument unchanged and every semaphore counter at zero. -/
theorem frame_reference_late (m : (ℓ : Loc Cert.LateReferenceIdeal.nD Cert.LateReferenceIdeal.τ Cert.LateReferenceIdeal.sig) → Buf (Elt Ideal) ℓ) (g : Dev Cert.LateReferenceIdeal.nD → PrngReg) :
    θ_run (Cert.LateReferenceIdeal.defs (F := Ideal)) (onTc (τ := Cert.LateReferenceIdeal.τ) (Cert.LateReferenceIdeal.main (F := Ideal))) ⟨m, fun _ => 0, g⟩ (fun r => (∀ c : Dev Cert.LateReferenceIdeal.nD,
      r.2.mem ((c.tc : Thread Cert.LateReferenceIdeal.nD Cert.LateReferenceIdeal.τ).loc Cert.LateReferenceIdeal.main_arg0) = m ((c.tc : Thread Cert.LateReferenceIdeal.nD Cert.LateReferenceIdeal.τ).loc Cert.LateReferenceIdeal.main_arg0))
      ∧ r.2.sem = fun _ => 0) :=
  (θ_run Cert.LateReferenceIdeal.defs _ _).mono (fun r h => ⟨fun c => (h c).2, sem_eq_zero_of_no_sems (by decide) r.2⟩) (Cert.LateReferenceIdeal.Value.run m g)

/-- Over the extended reals, kernel and reference compute the same of the second half of the transform of the positions. -/
theorem same_late : Cert.algebraic_LateKernelIdeal_LateReferenceIdeal (hLateKernelIdeal := Cert.LateKernelIdeal.Gen.facts)
    (hLateReferenceIdeal := Cert.LateReferenceIdeal.Gen.facts) := by
  intro m g m' g' _ hargs
  refine ⟨fun c => (Cert.LateKernelIdeal.Gen.dats m 0 c).arrAt 2 Cert.LateKernelIdeal.cfg0.N, Cert.LateKernelIdeal.Value.run_blocks m g, ?_⟩
  refine (θ_run Cert.LateReferenceIdeal.defs _ _).mono (fun r h c => ⟨(h c).1.trans ?_, (h c).2⟩) (Cert.LateReferenceIdeal.Value.run m' g')
  refine Eq.trans ?_ (Cert.LateKernelIdeal.Hand.final m c).symm
  refine Eq.trans (b := Cert.LateReferenceIdeal.Hand.result (m' (c, Proc.tc.devRef Cert.LateReferenceIdeal.main_arg0))) rfl ?_
  exact congrArg _ (hargs c)

theorem claim : Cert.Claim := ⟨Cert.Kernel.Gen.facts, Cert.KernelIdeal.Gen.facts, Cert.ReferenceIdeal.Gen.facts, Cert.QkvKernel.Gen.facts, Cert.QkvKernelIdeal.Gen.facts, Cert.QkvReferenceIdeal.Gen.facts, Cert.InKernel.Gen.facts, Cert.InKernelIdeal.Gen.facts, Cert.InReferenceIdeal.Gen.facts, Cert.OutKernel.Gen.facts, Cert.OutKernelIdeal.Gen.facts, Cert.OutReferenceIdeal.Gen.facts, Cert.OutTwoKernel.Gen.facts, Cert.OutTwoKernelIdeal.Gen.facts, Cert.OutTwoReferenceIdeal.Gen.facts, Cert.FinalKernel.Gen.facts, Cert.FinalKernelIdeal.Gen.facts, Cert.FinalReferenceIdeal.Gen.facts, Cert.GateKernel.Gen.facts, Cert.GateKernelIdeal.Gen.facts, Cert.GateReferenceIdeal.Gen.facts, Cert.AdaKernel.Gen.facts, Cert.AdaKernelIdeal.Gen.facts, Cert.AdaReferenceIdeal.Gen.facts, Cert.CtxKernel.Gen.facts, Cert.CtxKernelIdeal.Gen.facts, Cert.CtxReferenceIdeal.Gen.facts,
  Cert.CtxQkvKernel.Gen.facts, Cert.CtxQkvKernelIdeal.Gen.facts, Cert.CtxQkvReferenceIdeal.Gen.facts, Cert.CtxInKernel.Gen.facts, Cert.CtxInKernelIdeal.Gen.facts, Cert.CtxInReferenceIdeal.Gen.facts, Cert.CtxOutKernel.Gen.facts, Cert.CtxOutKernelIdeal.Gen.facts, Cert.CtxOutReferenceIdeal.Gen.facts, Cert.CtxOutTwoKernel.Gen.facts, Cert.CtxOutTwoKernelIdeal.Gen.facts, Cert.CtxOutTwoReferenceIdeal.Gen.facts, Cert.CtxGateKernel.Gen.facts, Cert.CtxGateKernelIdeal.Gen.facts, Cert.CtxGateReferenceIdeal.Gen.facts,
  Cert.WaveKernel.Gen.facts, Cert.WaveKernelIdeal.Gen.facts, Cert.WaveReferenceIdeal.Gen.facts, Cert.CtxWaveKernel.Gen.facts, Cert.CtxWaveKernelIdeal.Gen.facts, Cert.CtxWaveReferenceIdeal.Gen.facts, Cert.CtxRealKernel.Gen.facts, Cert.CtxRealKernelIdeal.Gen.facts, Cert.CtxRealReferenceIdeal.Gen.facts, Cert.EarlyKernel.Gen.facts, Cert.EarlyKernelIdeal.Gen.facts, Cert.EarlyReferenceIdeal.Gen.facts, Cert.LateKernel.Gen.facts, Cert.LateKernelIdeal.Gen.facts, Cert.LateReferenceIdeal.Gen.facts,
  Cert.Pre_all_finite.Hand.facts, Cert.Pre_finite_ctx.Hand.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.QkvKernel.Gen.frame m ρ,
  fun m ρ _ => Cert.QkvKernelIdeal.Gen.frame m ρ,
  fun m ρ _ => frame_reference_qkv m ρ,
  fun m ρ _ => Cert.InKernel.Hand.frame m ρ,
  fun m ρ _ => Cert.InKernelIdeal.Hand.frame m ρ,
  fun m ρ _ => frame_reference_in m ρ,
  fun m ρ _ => Cert.OutKernel.Gen.frame m ρ,
  fun m ρ _ => Cert.OutKernelIdeal.Gen.frame m ρ,
  fun m ρ _ => frame_reference_out m ρ,
  fun m ρ _ => Cert.OutTwoKernel.Gen.frame m ρ,
  fun m ρ _ => Cert.OutTwoKernelIdeal.Gen.frame m ρ,
  fun m ρ _ => frame_reference_outTwo m ρ,
  fun m ρ _ => Cert.FinalKernel.Gen.frame m ρ,
  fun m ρ _ => Cert.FinalKernelIdeal.Gen.frame m ρ,
  fun m ρ _ => frame_reference_final m ρ,
  fun m ρ _ => Cert.GateKernel.Gen.frame m ρ,
  fun m ρ _ => Cert.GateKernelIdeal.Gen.frame m ρ,
  fun m ρ _ => frame_reference_gate m ρ,
  fun m ρ _ => Cert.AdaKernel.Gen.frame m ρ,
  fun m ρ _ => Cert.AdaKernelIdeal.Gen.frame m ρ,
  fun m ρ _ => frame_reference_ada m ρ,
  fun m ρ _ => Cert.CtxKernel.Gen.frame m ρ,
  fun m ρ _ => Cert.CtxKernelIdeal.Gen.frame m ρ,
  fun m ρ _ => Cert.CtxKernelIdeal.Gen.frame m ρ,
  fun m ρ _ => frame_reference_ctx m ρ,
  fun m ρ _ => frame_reference_ctx m ρ,
  fun m ρ _ => Cert.CtxQkvKernel.Gen.frame m ρ,
  fun m ρ _ => Cert.CtxQkvKernelIdeal.Gen.frame m ρ,
  fun m ρ _ => frame_reference_ctxQkv m ρ,
  fun m ρ _ => Cert.CtxInKernel.Hand.frame m ρ,
  fun m ρ _ => Cert.CtxInKernelIdeal.Hand.frame m ρ,
  fun m ρ _ => frame_reference_ctxIn m ρ,
  fun m ρ _ => Cert.CtxOutKernel.Gen.frame m ρ,
  fun m ρ _ => Cert.CtxOutKernelIdeal.Gen.frame m ρ,
  fun m ρ _ => frame_reference_ctxOut m ρ,
  fun m ρ _ => Cert.CtxOutTwoKernel.Gen.frame m ρ,
  fun m ρ _ => Cert.CtxOutTwoKernelIdeal.Gen.frame m ρ,
  fun m ρ _ => frame_reference_ctxOutTwo m ρ,
  fun m ρ _ => Cert.CtxGateKernel.Gen.frame m ρ,
  fun m ρ _ => Cert.CtxGateKernelIdeal.Gen.frame m ρ,
  fun m ρ _ => frame_reference_ctxGate m ρ,
  fun m ρ _ => Cert.WaveKernel.Gen.frame m ρ,
  fun m ρ _ => Cert.WaveKernelIdeal.Gen.frame m ρ,
  fun m ρ _ => frame_reference_wave m ρ,
  fun m ρ _ => Cert.CtxWaveKernel.Gen.frame m ρ,
  fun m ρ _ => Cert.CtxWaveKernelIdeal.Gen.frame m ρ,
  fun m ρ _ => frame_reference_ctxWave m ρ,
  fun m ρ _ => Cert.CtxRealKernel.Gen.frame m ρ,
  fun m ρ _ => Cert.CtxRealKernelIdeal.Gen.frame m ρ,
  fun m ρ _ => frame_reference_ctxReal m ρ,
  fun m ρ _ => Cert.EarlyKernel.Gen.frame m ρ,
  fun m ρ _ => Cert.EarlyKernelIdeal.Gen.frame m ρ,
  fun m ρ _ => frame_reference_early m ρ,
  fun m ρ _ => Cert.LateKernel.Gen.frame m ρ,
  fun m ρ _ => Cert.LateKernelIdeal.Gen.frame m ρ,
  fun m ρ _ => frame_reference_late m ρ,
  trivial,
  same_attention,
  trivial,
  same_qkv,
  trivial,
  same_in,
  trivial,
  same_out,
  trivial,
  same_outTwo,
  trivial,
  same_final,
  trivial,
  same_gate,
  trivial,
  same_ada,
  trivial,
  same_ctx,
  trivial,
  same_ctxQkv,
  trivial,
  same_ctxIn,
  trivial,
  same_ctxOut,
  trivial,
  same_ctxOutTwo,
  trivial,
  same_ctxGate,
  trivial,
  same_wave,
  trivial,
  same_ctxWave,
  trivial,
  same_ctxReal,
  trivial,
  same_early,
  trivial,
  same_late⟩

end Cert.Proof

end
